-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Gather (m : (ℓ : Loc Cert.Gather.nD Cert.Gather.τ Cert.Gather.sig) → Buf (Elt Bits) ℓ) : Prop :=
  True

def Pre_GatherReference (m : (ℓ : Loc Cert.GatherReference.nD Cert.GatherReference.τ Cert.GatherReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal_pre_codes_in_range [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)
      ∧ m' ((c.tc : Thread Cert.GatherReference.nD Cert.GatherReference.τ).loc Cert.GatherReference.main_arg2) = m ((c.tc : Thread Cert.Gather.nD Cert.Gather.τ).loc Cert.Gather.main_arg2)) →
    ∃ (v0 : (c : Dev Cert.Gather.nD) → Buf (Elt Bits) ((c.tc : Thread Cert.Gather.nD Cert.Gather.τ).loc Cert.Gather.main_v3)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v3) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v242) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1)
          ∧ r.2.mem ((c.tc : Thread Cert.GatherReference.nD Cert.GatherReference.τ).loc Cert.GatherReference.main_arg2) = m' ((c.tc : Thread Cert.GatherReference.nD Cert.GatherReference.τ).loc Cert.GatherReference.main_arg2))

def Claim : Prop :=
  ∃ (hKernel : Cert.Kernel.Facts) (hKernelIdeal : Cert.KernelIdeal.Facts) (hReferenceIdeal : Cert.ReferenceIdeal.Facts) (hGather : Cert.Gather.Facts) (hGatherReference : Cert.GatherReference.Facts) (hPre_codes_in_range : Cert.Pre_codes_in_range.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ quiescent_Gather (hGather := hGather)
    ∧ quiescent_GatherReference (hGatherReference := hGatherReference)
    ∧ preserves_Kernel_KernelIdeal
    ∧ algebraic_KernelIdeal_ReferenceIdeal_pre_codes_in_range (hKernelIdeal := hKernelIdeal) (hReferenceIdeal := hReferenceIdeal) (hPre_codes_in_range := hPre_codes_in_range)
    ∧ bitexact_Gather_GatherReference (hGather := hGather) (hGatherReference := hGatherReference)
-- ==== Pre_codes_in_range.lean ====
abbrev S96x1x2560 : Shape := ⟨3, ![96, 1, 2560]⟩
abbrev S80x40x5x8x128 : Shape := ⟨5, ![80, 40, 5, 8, 128]⟩
abbrev S512x4 : Shape := ⟨2, ![512, 4]⟩
abbrev S64x4 : Shape := ⟨2, ![64, 4]⟩
abbrev S2560 : Shape := ⟨1, ![2560]⟩
abbrev S80x40x1x8x128 : Shape := ⟨5, ![80, 40, 1, 8, 128]⟩
abbrev S80x40x8x128 : Shape := ⟨4, ![80, 40, 8, 128]⟩
abbrev S80x128x40x8 : Shape := ⟨4, ![80, 128, 40, 8]⟩
abbrev S10240x320 : Shape := ⟨2, ![10240, 320]⟩
abbrev S10240x316 : Shape := ⟨2, ![10240, 316]⟩
abbrev S_ : Shape := ⟨0, ![]⟩

class Facts : Prop where
  slices_S80x40x5x8x128_S80x40x1x8x128_0_0_4_0_0 : S80x40x5x8x128.Slices ![0, 0, 4, 0, 0] S80x40x1x8x128
  shapeCasts_S80x40x1x8x128_S80x40x8x128 : S80x40x1x8x128.ShapeCasts S80x40x8x128
  transposes_S80x40x8x128_S80x128x40x8_0_3_1_2 : S80x40x8x128.Transposes [0, 3, 1, 2] S80x128x40x8
  shapeCasts_S80x128x40x8_S10240x320 : S80x128x40x8.ShapeCasts S10240x320
  slices_S10240x320_S10240x316_0_4 : S10240x320.Slices ![0, 4] S10240x316
  bcast_S_S10240x316 : S_.BroadcastsInDim S10240x316 (![] : Fin 0 → Fin S10240x316.rank)

variable [Facts]

def fn {F : FTy → Type} [FloatOps F] (main_arg0 : FVec F S96x1x2560 .bf16) (main_arg1 : IVec S80x40x5x8x128 32) (main_arg2 : IVec S512x4 32) (main_arg3 : IVec S64x4 32) (main_arg4 : FVec F S2560 .f32) (main_arg5 : FVec F S2560 .f32) : IVec S10240x316 1 :=
  let main_v0 : IVec S80x40x1x8x128 32 := (extractStridedSlice S80x40x1x8x128 ![0, 0, 4, 0, 0] · slices_S80x40x5x8x128_S80x40x1x8x128_0_0_4_0_0) main_arg1
  let main_v1 : IVec S80x40x8x128 32 := shapeCast S80x40x8x128 main_v0 shapeCasts_S80x40x1x8x128_S80x40x8x128
  let main_v2 : IVec S80x128x40x8 32 := (transpose S80x128x40x8 [0, 3, 1, 2] · transposes_S80x40x8x128_S80x128x40x8_0_3_1_2) main_v1
  let main_v3 : IVec S10240x320 32 := shapeCast S10240x320 main_v2 shapeCasts_S80x128x40x8_S10240x320
  let main_v4 : IVec S10240x316 32 := (extractStridedSlice S10240x316 ![0, 4] · slices_S10240x320_S10240x316_0_4) main_v3
  let main_c : IVec S_ 32 := constantI S_ 32 0#32
  let main_v5 : IVec S10240x316 32 := broadcastInDim S10240x316 ![] bcast_S_S10240x316 main_c
  let main_v6 : IVec S10240x316 1 := cmpi .sge main_v4 main_v5
  let main_c_0 : IVec S_ 32 := constantI S_ 32 32768#32
  let main_v7 : IVec S10240x316 32 := broadcastInDim S10240x316 ![] bcast_S_S10240x316 main_c_0
  let main_v8 : IVec S10240x316 1 := cmpi .slt main_v4 main_v7
  let main_v9 : IVec S10240x316 1 := andi main_v6 main_v8
  main_v9
-- ==== Kernel.lean ====
abbrev S96x1x2560 : Shape := ⟨3, ![96, 1, 2560]⟩
abbrev S80x40x5x8x128 : Shape := ⟨5, ![80, 40, 5, 8, 128]⟩
abbrev S512x4 : Shape := ⟨2, ![512, 4]⟩
abbrev S64x4 : Shape := ⟨2, ![64, 4]⟩
abbrev S2560 : Shape := ⟨1, ![2560]⟩
abbrev S96x40x8x4x2 : Shape := ⟨5, ![96, 40, 8, 4, 2]⟩
abbrev S96x40x4x8x2 : Shape := ⟨5, ![96, 40, 4, 8, 2]⟩
abbrev S96x2560 : Shape := ⟨2, ![96, 2560]⟩
abbrev S4x512 : Shape := ⟨2, ![4, 512]⟩
abbrev S4x4x1x128 : Shape := ⟨4, ![4, 4, 1, 128]⟩
abbrev S4x4x8x128 : Shape := ⟨4, ![4, 4, 8, 128]⟩
abbrev S4x64 : Shape := ⟨2, ![4, 64]⟩
abbrev S_ : Shape := ⟨0, ![]⟩
abbrev S4x128 : Shape := ⟨2, ![4, 128]⟩
abbrev S4x1x128 : Shape := ⟨3, ![4, 1, 128]⟩
abbrev S4x8x128 : Shape := ⟨3, ![4, 8, 128]⟩
abbrev S40x8x8 : Shape := ⟨3, ![40, 8, 8]⟩
abbrev S40x8x8x1 : Shape := ⟨4, ![40, 8, 8, 1]⟩
abbrev S40x8x8x128 : Shape := ⟨4, ![40, 8, 8, 128]⟩
abbrev S96x10240 : Shape := ⟨2, ![96, 10240]⟩
abbrev S2x40x5x8x128 : Shape := ⟨5, ![2, 40, 5, 8, 128]⟩
abbrev S96x256 : Shape := ⟨2, ![96, 256]⟩
abbrev S2560x256 : Shape := ⟨2, ![2560, 256]⟩
abbrev S1x1x1x8x128 : Shape := ⟨5, ![1, 1, 1, 8, 128]⟩
abbrev S8x128 : Shape := ⟨2, ![8, 128]⟩
abbrev S1x1x8x128 : Shape := ⟨4, ![1, 1, 8, 128]⟩
abbrev S8x128x1 : Shape := ⟨3, ![8, 128, 1]⟩
abbrev S1x8x128 : Shape := ⟨3, ![1, 8, 128]⟩
abbrev S16x128 : Shape := ⟨2, ![16, 128]⟩

abbrev nBuf : Space → Nat
  | .hbm => 27
  | .vmem => 10
  | .smem => 0
  | _ => 0

abbrev bufTy : (tb : Table) → Fin (tcTables nBuf tb) → BufTy
  | .hbm, ⟨0, _⟩ => ⟨S96x1x2560, .bf16⟩
  | .hbm, ⟨1, _⟩ => ⟨S80x40x5x8x128, .i32⟩
  | .hbm, ⟨2, _⟩ => ⟨S512x4, .i32⟩
  | .hbm, ⟨3, _⟩ => ⟨S64x4, .i32⟩
  | .hbm, ⟨4, _⟩ => ⟨S2560, .f32⟩
  | .hbm, ⟨5, _⟩ => ⟨S2560, .f32⟩
  | .hbm, ⟨6, _⟩ => ⟨S96x40x8x4x2, .bf16⟩
  | .hbm, ⟨7, _⟩ => ⟨S96x40x4x8x2, .bf16⟩
  | .hbm, ⟨8, _⟩ => ⟨S96x2560, .bf16⟩
  | .hbm, ⟨9, _⟩ => ⟨S4x512, .i32⟩
  | .hbm, ⟨10, _⟩ => ⟨S4x4x1x128, .i32⟩
  | .hbm, ⟨11, _⟩ => ⟨S4x4x8x128, .i32⟩
  | .hbm, ⟨12, _⟩ => ⟨S4x64, .i32⟩
  | .hbm, ⟨13, _⟩ => ⟨S_, .i32⟩
  | .hbm, ⟨14, _⟩ => ⟨S_, .i32⟩
  | .hbm, ⟨15, _⟩ => ⟨S4x128, .i32⟩
  | .hbm, ⟨16, _⟩ => ⟨S4x1x128, .i32⟩
  | .hbm, ⟨17, _⟩ => ⟨S4x8x128, .i32⟩
  | .hbm, ⟨18, _⟩ => ⟨S40x8x8, .f32⟩
  | .hbm, ⟨19, _⟩ => ⟨S40x8x8, .f32⟩
  | .hbm, ⟨20, _⟩ => ⟨S40x8x8x1, .f32⟩
  | .hbm, ⟨21, _⟩ => ⟨S40x8x8x128, .f32⟩
  | .hbm, ⟨22, _⟩ => ⟨S40x8x8, .f32⟩
  | .hbm, ⟨23, _⟩ => ⟨S40x8x8, .f32⟩
  | .hbm, ⟨24, _⟩ => ⟨S40x8x8x1, .f32⟩
  | .hbm, ⟨25, _⟩ => ⟨S40x8x8x128, .f32⟩
  | .hbm, ⟨26, _⟩ => ⟨S96x10240, .bf16⟩
  | .local _ .vmem, ⟨0, _⟩ => ⟨S96x2560, .bf16⟩
  | .local _ .vmem, ⟨1, _⟩ => ⟨S2x40x5x8x128, .i32⟩
  | .local _ .vmem, ⟨2, _⟩ => ⟨S2x40x5x8x128, .i32⟩
  | .local _ .vmem, ⟨3, _⟩ => ⟨S4x4x8x128, .i32⟩
  | .local _ .vmem, ⟨4, _⟩ => ⟨S4x8x128, .i32⟩
  | .local _ .vmem, ⟨5, _⟩ => ⟨S40x8x8x128, .f32⟩
  | .local _ .vmem, ⟨6, _⟩ => ⟨S40x8x8x128, .f32⟩
  | .local _ .vmem, ⟨7, _⟩ => ⟨S96x256, .bf16⟩
  | .local _ .vmem, ⟨8, _⟩ => ⟨S96x256, .bf16⟩
  | .local _ .vmem, ⟨9, _⟩ => ⟨S2560x256, .bf16⟩
  | _, _ => ⟨S96x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [BitOps F]

abbrev grid0 : Pipeline.Grid := ⟨1, ![40], ![false]⟩

def k0_mult1 : BitVec 32 :=
  let c0_i32_57 : BitVec 32 := 0#32
  c0_i32_57
def k0_mult2 : BitVec 32 :=
  let c16_i32_118 : BitVec 32 := 16#32
  c16_i32_118
def k0_mult3 : BitVec 32 :=
  let c32_i32 : BitVec 32 := 32#32
  c32_i32
def k0_mult4 : BitVec 32 :=
  let c48_i32 : BitVec 32 := 48#32
  c48_i32
def k0_mult5 : BitVec 32 :=
  let c0_i32_308 : BitVec 32 := 0#32
  c0_i32_308
def k0_mult6 : BitVec 32 :=
  let c16_i32_368 : BitVec 32 := 16#32
  c16_i32_368
def k0_mult7 : BitVec 32 :=
  let c32_i32_429 : BitVec 32 := 32#32
  c32_i32_429
def k0_mult8 : BitVec 32 :=
  let c48_i32_490 : BitVec 32 := 48#32
  c48_i32_490
@[reducible] def k0_t1_loop : Scf.Loop 32 :=
  let c1_i32 : BitVec 32 := 1#32
  let c39_i32 : BitVec 32 := 39#32
  let v856 : BitVec 32 := Scalar.addi c1_i32 c39_i32
  let c1_i32_492 : BitVec 32 := 1#32
  ⟨c1_i32, v856, c1_i32_492⟩
def k0_off1 (k0_t1 : Fin k0_t1_loop.trips) : Fin 5 → Nat :=
  let c0_500 : Index := 0#32
  let c1_i32 : BitVec 32 := 1#32
  let c1_i32_492 : BitVec 32 := 1#32
  let arg9 : BitVec 32 := Scf.iv c1_i32 c1_i32_492 k0_t1
  let v863 : Index := Scalar.indexCast arg9
  let c4_501 : Index := 4#32
  let c0_502 : Index := 0#32
  let c0_503 : Index := 0#32
  ![0, v863.toNat, 4, 0, 0]
def k0_off2 (k0_t1 : Fin k0_t1_loop.trips) : Fin 5 → Nat :=
  let c0_540 : Index := 0#32
  let c1_i32 : BitVec 32 := 1#32
  let c1_i32_492 : BitVec 32 := 1#32
  let arg9 : BitVec 32 := Scf.iv c1_i32 c1_i32_492 k0_t1
  let v933 : Index := Scalar.indexCast arg9
  let c0_541 : Index := 0#32
  let c0_542 : Index := 0#32
  let c0_543 : Index := 0#32
  ![0, v933.toNat, 0, 0, 0]
def k0_off3 (k0_t1 : Fin k0_t1_loop.trips) : Fin 4 → Nat :=
  let c1_i32 : BitVec 32 := 1#32
  let c1_i32_492 : BitVec 32 := 1#32
  let arg9 : BitVec 32 := Scf.iv c1_i32 c1_i32_492 k0_t1
  let v947 : Index := Scalar.indexCast arg9
  let c0_547 : Index := 0#32
  let c0_548 : Index := 0#32
  let c0_549 : Index := 0#32
  ![v947.toNat, 0, 0, 0]
def k0_off4 (k0_t1 : Fin k0_t1_loop.trips) : Fin 4 → Nat :=
  let c1_i32 : BitVec 32 := 1#32
  let c1_i32_492 : BitVec 32 := 1#32
  let arg9 : BitVec 32 := Scf.iv c1_i32 c1_i32_492 k0_t1
  let v966 : Index := Scalar.indexCast arg9
  let c1_556 : Index := 1#32
  let c0_557 : Index := 0#32
  let c0_558 : Index := 0#32
  ![v966.toNat, 1, 0, 0]
def k0_mult9 (k0_t1 : Fin k0_t1_loop.trips) : BitVec 32 :=
  let c1_i32 : BitVec 32 := 1#32
  let c1_i32_492 : BitVec 32 := 1#32
  let arg9 : BitVec 32 := Scf.iv c1_i32 c1_i32_492 k0_t1
  let c4_i32_562 : BitVec 32 := 4#32
  let v975 : BitVec 32 := Scalar.muli arg9 c4_i32_562
  let c0_i32_563 : BitVec 32 := 0#32
  let v976 : BitVec 32 := Scalar.addi v975 c0_i32_563
  let c2_i32 : BitVec 32 := 2#32
  let v977 : BitVec 32 := Scalar.muli v976 c2_i32
  let c8_i32 : BitVec 32 := 8#32
  let v978 : BitVec 32 := Scalar.muli v977 c8_i32
  v978
def k0_off5 (k0_t1 : Fin k0_t1_loop.trips) (c0_i32_563 : BitVec 32) : Fin 2 → Nat :=
  let c1_i32 : BitVec 32 := 1#32
  let c1_i32_492 : BitVec 32 := 1#32
  let arg9 : BitVec 32 := Scf.iv c1_i32 c1_i32_492 k0_t1
  let c4_i32_562 : BitVec 32 := 4#32
  let v975 : BitVec 32 := Scalar.muli arg9 c4_i32_562
  let v976 : BitVec 32 := Scalar.addi v975 c0_i32_563
  let c2_i32 : BitVec 32 := 2#32
  let v977 : BitVec 32 := Scalar.muli v976 c2_i32
  let c8_i32 : BitVec 32 := 8#32
  let v978 : BitVec 32 := Scalar.muli v977 c8_i32
  let v979 : BitVec 32 := v978
  let v981 : Index := Scalar.indexCast v979
  let c0_564 : Index := 0#32
  ![v981.toNat, 0]
def k0_off6 (k0_t1 : Fin k0_t1_loop.trips) : Fin 5 → Nat :=
  let c0_594 : Index := 0#32
  let c1_i32 : BitVec 32 := 1#32
  let c1_i32_492 : BitVec 32 := 1#32
  let arg9 : BitVec 32 := Scf.iv c1_i32 c1_i32_492 k0_t1
  let v1038 : Index := Scalar.indexCast arg9
  let c1_595 : Index := 1#32
  let c0_596 : Index := 0#32
  let c0_597 : Index := 0#32
  ![0, v1038.toNat, 1, 0, 0]
def k0_off7 (k0_t1 : Fin k0_t1_loop.trips) : Fin 4 → Nat :=
  let c1_i32 : BitVec 32 := 1#32
  let c1_i32_492 : BitVec 32 := 1#32
  let arg9 : BitVec 32 := Scf.iv c1_i32 c1_i32_492 k0_t1
  let v1052 : Index := Scalar.indexCast arg9
  let c2_601 : Index := 2#32
  let c0_602 : Index := 0#32
  let c0_603 : Index := 0#32
  ![v1052.toNat, 2, 0, 0]
def k0_off8 (k0_t1 : Fin k0_t1_loop.trips) : Fin 4 → Nat :=
  let c1_i32 : BitVec 32 := 1#32
  let c1_i32_492 : BitVec 32 := 1#32
  let arg9 : BitVec 32 := Scf.iv c1_i32 c1_i32_492 k0_t1
  let v1071 : Index := Scalar.indexCast arg9
  let c3_610 : Index := 3#32
  let c0_611 : Index := 0#32
  let c0_612 : Index := 0#32
  ![v1071.toNat, 3, 0, 0]
def k0_mult10 (k0_t1 : Fin k0_t1_loop.trips) : BitVec 32 :=
  let c1_i32 : BitVec 32 := 1#32
  let c1_i32_492 : BitVec 32 := 1#32
  let arg9 : BitVec 32 := Scf.iv c1_i32 c1_i32_492 k0_t1
  let c4_i32_616 : BitVec 32 := 4#32
  let v1080 : BitVec 32 := Scalar.muli arg9 c4_i32_616
  let c1_i32_617 : BitVec 32 := 1#32
  let v1081 : BitVec 32 := Scalar.addi v1080 c1_i32_617
  let c2_i32_618 : BitVec 32 := 2#32
  let v1082 : BitVec 32 := Scalar.muli v1081 c2_i32_618
  let c8_i32_619 : BitVec 32 := 8#32
  let v1083 : BitVec 32 := Scalar.muli v1082 c8_i32_619
  v1083
def k0_off9 (k0_t1 : Fin k0_t1_loop.trips) : Fin 5 → Nat :=
  let c0_650 : Index := 0#32
  let c1_i32 : BitVec 32 := 1#32
  let c1_i32_492 : BitVec 32 := 1#32
  let arg9 : BitVec 32 := Scf.iv c1_i32 c1_i32_492 k0_t1
  let v1143 : Index := Scalar.indexCast arg9
  let c2_651 : Index := 2#32
  let c0_652 : Index := 0#32
  let c0_653 : Index := 0#32
  ![0, v1143.toNat, 2, 0, 0]
def k0_off10 (k0_t1 : Fin k0_t1_loop.trips) : Fin 4 → Nat :=
  let c1_i32 : BitVec 32 := 1#32
  let c1_i32_492 : BitVec 32 := 1#32
  let arg9 : BitVec 32 := Scf.iv c1_i32 c1_i32_492 k0_t1
  let v1157 : Index := Scalar.indexCast arg9
  let c4_657 : Index := 4#32
  let c0_658 : Index := 0#32
  let c0_659 : Index := 0#32
  ![v1157.toNat, 4, 0, 0]
def k0_off11 (k0_t1 : Fin k0_t1_loop.trips) : Fin 4 → Nat :=
  let c1_i32 : BitVec 32 := 1#32
  let c1_i32_492 : BitVec 32 := 1#32
  let arg9 : BitVec 32 := Scf.iv c1_i32 c1_i32_492 k0_t1
  let v1176 : Index := Scalar.indexCast arg9
  let c5_666 : Index := 5#32
  let c0_667 : Index := 0#32
  let c0_668 : Index := 0#32
  ![v1176.toNat, 5, 0, 0]
def k0_mult11 (k0_t1 : Fin k0_t1_loop.trips) : BitVec 32 :=
  let c1_i32 : BitVec 32 := 1#32
  let c1_i32_492 : BitVec 32 := 1#32
  let arg9 : BitVec 32 := Scf.iv c1_i32 c1_i32_492 k0_t1
  let c4_i32_672 : BitVec 32 := 4#32
  let v1185 : BitVec 32 := Scalar.muli arg9 c4_i32_672
  let c2_i32_673 : BitVec 32 := 2#32
  let v1186 : BitVec 32 := Scalar.addi v1185 c2_i32_673
  let c2_i32_674 : BitVec 32 := 2#32
  let v1187 : BitVec 32 := Scalar.muli v1186 c2_i32_674
  let c8_i32_675 : BitVec 32 := 8#32
  let v1188 : BitVec 32 := Scalar.muli v1187 c8_i32_675
  v1188
def k0_off12 (k0_t1 : Fin k0_t1_loop.trips) : Fin 5 → Nat :=
  let c0_706 : Index := 0#32
  let c1_i32 : BitVec 32 := 1#32
  let c1_i32_492 : BitVec 32 := 1#32
  let arg9 : BitVec 32 := Scf.iv c1_i32 c1_i32_492 k0_t1
  let v1248 : Index := Scalar.indexCast arg9
  let c3_707 : Index := 3#32
  let c0_708 : Index := 0#32
  let c0_709 : Index := 0#32
  ![0, v1248.toNat, 3, 0, 0]
def k0_off13 (k0_t1 : Fin k0_t1_loop.trips) : Fin 4 → Nat :=
  let c1_i32 : BitVec 32 := 1#32
  let c1_i32_492 : BitVec 32 := 1#32
  let arg9 : BitVec 32 := Scf.iv c1_i32 c1_i32_492 k0_t1
  let v1262 : Index := Scalar.indexCast arg9
  let c6_713 : Index := 6#32
  let c0_714 : Index := 0#32
  let c0_715 : Index := 0#32
  ![v1262.toNat, 6, 0, 0]
def k0_off14 (k0_t1 : Fin k0_t1_loop.trips) : Fin 4 → Nat :=
  let c1_i32 : BitVec 32 := 1#32
  let c1_i32_492 : BitVec 32 := 1#32
  let arg9 : BitVec 32 := Scf.iv c1_i32 c1_i32_492 k0_t1
  let v1281 : Index := Scalar.indexCast arg9
  let c7_722 : Index := 7#32
  let c0_723 : Index := 0#32
  let c0_724 : Index := 0#32
  ![v1281.toNat, 7, 0, 0]
def k0_mult12 (k0_t1 : Fin k0_t1_loop.trips) : BitVec 32 :=
  let c1_i32 : BitVec 32 := 1#32
  let c1_i32_492 : BitVec 32 := 1#32
  let arg9 : BitVec 32 := Scf.iv c1_i32 c1_i32_492 k0_t1
  let c4_i32_728 : BitVec 32 := 4#32
  let v1290 : BitVec 32 := Scalar.muli arg9 c4_i32_728
  let c3_i32 : BitVec 32 := 3#32
  let v1291 : BitVec 32 := Scalar.addi v1290 c3_i32
  let c2_i32_729 : BitVec 32 := 2#32
  let v1292 : BitVec 32 := Scalar.muli v1291 c2_i32_729
  let c8_i32_730 : BitVec 32 := 8#32
  let v1293 : BitVec 32 := Scalar.muli v1292 c8_i32_730
  v1293
def k0_off15 (k0_t1 : Fin k0_t1_loop.trips) : Fin 5 → Nat :=
  let c1_732 : Index := 1#32
  let c1_i32 : BitVec 32 := 1#32
  let c1_i32_492 : BitVec 32 := 1#32
  let arg9 : BitVec 32 := Scf.iv c1_i32 c1_i32_492 k0_t1
  let v1300 : Index := Scalar.indexCast arg9
  let c4_733 : Index := 4#32
  let c0_734 : Index := 0#32
  let c0_735 : Index := 0#32
  ![1, v1300.toNat, 4, 0, 0]
def k0_off16 (k0_t1 : Fin k0_t1_loop.trips) : Fin 5 → Nat :=
  let c1_772 : Index := 1#32
  let c1_i32 : BitVec 32 := 1#32
  let c1_i32_492 : BitVec 32 := 1#32
  let arg9 : BitVec 32 := Scf.iv c1_i32 c1_i32_492 k0_t1
  let v1370 : Index := Scalar.indexCast arg9
  let c0_773 : Index := 0#32
  let c0_774 : Index := 0#32
  let c0_775 : Index := 0#32
  ![1, v1370.toNat, 0, 0, 0]
def k0_mult13 (k0_t1 : Fin k0_t1_loop.trips) : BitVec 32 :=
  let c1_i32 : BitVec 32 := 1#32
  let c1_i32_492 : BitVec 32 := 1#32
  let arg9 : BitVec 32 := Scf.iv c1_i32 c1_i32_492 k0_t1
  let c4_i32_794 : BitVec 32 := 4#32
  let v1412 : BitVec 32 := Scalar.muli arg9 c4_i32_794
  let c0_i32_795 : BitVec 32 := 0#32
  let v1413 : BitVec 32 := Scalar.addi v1412 c0_i32_795
  let c2_i32_796 : BitVec 32 := 2#32
  let v1414 : BitVec 32 := Scalar.muli v1413 c2_i32_796
  let c8_i32_797 : BitVec 32 := 8#32
  let v1415 : BitVec 32 := Scalar.muli v1414 c8_i32_797
  v1415
def k0_off17 (k0_t1 : Fin k0_t1_loop.trips) (c0_i32_795 : BitVec 32) : Fin 2 → Nat :=
  let c1_i32 : BitVec 32 := 1#32
  let c1_i32_492 : BitVec 32 := 1#32
  let arg9 : BitVec 32 := Scf.iv c1_i32 c1_i32_492 k0_t1
  let c4_i32_794 : BitVec 32 := 4#32
  let v1412 : BitVec 32 := Scalar.muli arg9 c4_i32_794
  let v1413 : BitVec 32 := Scalar.addi v1412 c0_i32_795
  let c2_i32_796 : BitVec 32 := 2#32
  let v1414 : BitVec 32 := Scalar.muli v1413 c2_i32_796
  let c8_i32_797 : BitVec 32 := 8#32
  let v1415 : BitVec 32 := Scalar.muli v1414 c8_i32_797
  let v1416 : BitVec 32 := v1415
  let v1418 : Index := Scalar.indexCast v1416
  let c128_798 : Index := 128#32
  ![v1418.toNat, 128]
def k0_off18 (k0_t1 : Fin k0_t1_loop.trips) : Fin 5 → Nat :=
  let c1_828 : Index := 1#32
  let c1_i32 : BitVec 32 := 1#32
  let c1_i32_492 : BitVec 32 := 1#32
  let arg9 : BitVec 32 := Scf.iv c1_i32 c1_i32_492 k0_t1
  let v1475 : Index := Scalar.indexCast arg9
  let c1_829 : Index := 1#32
  let c0_830 : Index := 0#32
  let c0_831 : Index := 0#32
  ![1, v1475.toNat, 1, 0, 0]
def k0_mult14 (k0_t1 : Fin k0_t1_loop.trips) : BitVec 32 :=
  let c1_i32 : BitVec 32 := 1#32
  let c1_i32_492 : BitVec 32 := 1#32
  let arg9 : BitVec 32 := Scf.iv c1_i32 c1_i32_492 k0_t1
  let c4_i32_850 : BitVec 32 := 4#32
  let v1517 : BitVec 32 := Scalar.muli arg9 c4_i32_850
  let c1_i32_851 : BitVec 32 := 1#32
  let v1518 : BitVec 32 := Scalar.addi v1517 c1_i32_851
  let c2_i32_852 : BitVec 32 := 2#32
  let v1519 : BitVec 32 := Scalar.muli v1518 c2_i32_852
  let c8_i32_853 : BitVec 32 := 8#32
  let v1520 : BitVec 32 := Scalar.muli v1519 c8_i32_853
  v1520
def k0_off19 (k0_t1 : Fin k0_t1_loop.trips) : Fin 5 → Nat :=
  let c1_884 : Index := 1#32
  let c1_i32 : BitVec 32 := 1#32
  let c1_i32_492 : BitVec 32 := 1#32
  let arg9 : BitVec 32 := Scf.iv c1_i32 c1_i32_492 k0_t1
  let v1580 : Index := Scalar.indexCast arg9
  let c2_885 : Index := 2#32
  let c0_886 : Index := 0#32
  let c0_887 : Index := 0#32
  ![1, v1580.toNat, 2, 0, 0]
def k0_mult15 (k0_t1 : Fin k0_t1_loop.trips) : BitVec 32 :=
  let c1_i32 : BitVec 32 := 1#32
  let c1_i32_492 : BitVec 32 := 1#32
  let arg9 : BitVec 32 := Scf.iv c1_i32 c1_i32_492 k0_t1
  let c4_i32_906 : BitVec 32 := 4#32
  let v1622 : BitVec 32 := Scalar.muli arg9 c4_i32_906
  let c2_i32_907 : BitVec 32 := 2#32
  let v1623 : BitVec 32 := Scalar.addi v1622 c2_i32_907
  let c2_i32_908 : BitVec 32 := 2#32
  let v1624 : BitVec 32 := Scalar.muli v1623 c2_i32_908
  let c8_i32_909 : BitVec 32 := 8#32
  let v1625 : BitVec 32 := Scalar.muli v1624 c8_i32_909
  v1625
def k0_off20 (k0_t1 : Fin k0_t1_loop.trips) : Fin 5 → Nat :=
  let c1_940 : Index := 1#32
  let c1_i32 : BitVec 32 := 1#32
  let c1_i32_492 : BitVec 32 := 1#32
  let arg9 : BitVec 32 := Scf.iv c1_i32 c1_i32_492 k0_t1
  let v1685 : Index := Scalar.indexCast arg9
  let c3_941 : Index := 3#32
  let c0_942 : Index := 0#32
  let c0_943 : Index := 0#32
  ![1, v1685.toNat, 3, 0, 0]
def k0_mult16 (k0_t1 : Fin k0_t1_loop.trips) : BitVec 32 :=
  let c1_i32 : BitVec 32 := 1#32
  let c1_i32_492 : BitVec 32 := 1#32
  let arg9 : BitVec 32 := Scf.iv c1_i32 c1_i32_492 k0_t1
  let c4_i32_962 : BitVec 32 := 4#32
  let v1727 : BitVec 32 := Scalar.muli arg9 c4_i32_962
  let c3_i32_963 : BitVec 32 := 3#32
  let v1728 : BitVec 32 := Scalar.addi v1727 c3_i32_963
  let c2_i32_964 : BitVec 32 := 2#32
  let v1729 : BitVec 32 := Scalar.muli v1728 c2_i32_964
  let c8_i32_965 : BitVec 32 := 8#32
  let v1730 : BitVec 32 := Scalar.muli v1729 c8_i32_965
  v1730
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x40x5x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x8x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x8x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S96x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S96x1x2560 : Shape := ⟨3, ![96, 1, 2560]⟩
abbrev S80x40x5x8x128 : Shape := ⟨5, ![80, 40, 5, 8, 128]⟩
abbrev S512x4 : Shape := ⟨2, ![512, 4]⟩
abbrev S64x4 : Shape := ⟨2, ![64, 4]⟩
abbrev S2560 : Shape := ⟨1, ![2560]⟩
abbrev S80x40x4x8x128 : Shape := ⟨5, ![80, 40, 4, 8, 128]⟩
abbrev S80x40x4x8x128x2 : Shape := ⟨6, ![80, 40, 4, 8, 128, 2]⟩
abbrev S4x2x80x128x40x8 : Shape := ⟨6, ![4, 2, 80, 128, 40, 8]⟩
abbrev S8x10240x320 : Shape := ⟨3, ![8, 10240, 320]⟩
abbrev S80x40x1x8x128 : Shape := ⟨5, ![80, 40, 1, 8, 128]⟩
abbrev S80x40x8x128 : Shape := ⟨4, ![80, 40, 8, 128]⟩
abbrev S80x128x40x8 : Shape := ⟨4, ![80, 128, 40, 8]⟩
abbrev S10240x320 : Shape := ⟨2, ![10240, 320]⟩
abbrev S_ : Shape := ⟨0, ![]⟩
abbrev S512x4x2 : Shape := ⟨3, ![512, 4, 2]⟩
abbrev S512x8 : Shape := ⟨2, ![512, 8]⟩
abbrev S64x4x2 : Shape := ⟨3, ![64, 4, 2]⟩
abbrev S64x8 : Shape := ⟨2, ![64, 8]⟩
abbrev S512x1x8 : Shape := ⟨3, ![512, 1, 8]⟩
abbrev S1x64x8 : Shape := ⟨3, ![1, 64, 8]⟩
abbrev S512x64x8 : Shape := ⟨3, ![512, 64, 8]⟩
abbrev S32768x8 : Shape := ⟨2, ![32768, 8]⟩
abbrev S8x32768 : Shape := ⟨2, ![8, 32768]⟩
abbrev S10240x316 : Shape := ⟨2, ![10240, 316]⟩
abbrev S10240x316x1 : Shape := ⟨3, ![10240, 316, 1]⟩
abbrev S8x10240x316 : Shape := ⟨3, ![8, 10240, 316]⟩
abbrev S2528 : Shape := ⟨1, ![2528]⟩
abbrev S316x8 : Shape := ⟨2, ![316, 8]⟩
abbrev S8x316 : Shape := ⟨2, ![8, 316]⟩
abbrev S8x1x316 : Shape := ⟨3, ![8, 1, 316]⟩
abbrev S32 : Shape := ⟨1, ![32]⟩
abbrev S4x8 : Shape := ⟨2, ![4, 8]⟩
abbrev S8x4 : Shape := ⟨2, ![8, 4]⟩
abbrev S8x1x4 : Shape := ⟨3, ![8, 1, 4]⟩
abbrev S8x10240x4 : Shape := ⟨3, ![8, 10240, 4]⟩
abbrev S96x1x32 : Shape := ⟨3, ![96, 1, 32]⟩
abbrev S96x1x4x8 : Shape := ⟨4, ![96, 1, 4, 8]⟩
abbrev S96x1x2528 : Shape := ⟨3, ![96, 1, 2528]⟩
abbrev S96x1x316x8 : Shape := ⟨4, ![96, 1, 316, 8]⟩
abbrev S96x1x10240 : Shape := ⟨3, ![96, 1, 10240]⟩
abbrev S96x10240 : Shape := ⟨2, ![96, 10240]⟩

abbrev nBuf : Space → Nat
  | .hbm => 79
  | .vmem => 0
  | .smem => 0
  | _ => 0

abbrev bufTy : (tb : Table) → Fin (tcTables nBuf tb) → BufTy
  | .hbm, ⟨0, _⟩ => ⟨S96x1x2560, .bf16⟩
  | .hbm, ⟨1, _⟩ => ⟨S80x40x5x8x128, .i32⟩
  | .hbm, ⟨2, _⟩ => ⟨S512x4, .i32⟩
  | .hbm, ⟨3, _⟩ => ⟨S64x4, .i32⟩
  | .hbm, ⟨4, _⟩ => ⟨S2560, .f32⟩
  | .hbm, ⟨5, _⟩ => ⟨S2560, .f32⟩
  | .hbm, ⟨6, _⟩ => ⟨S80x40x4x8x128, .i32⟩
  | .hbm, ⟨7, _⟩ => ⟨S80x40x4x8x128x2, .bf16⟩
  | .hbm, ⟨8, _⟩ => ⟨S4x2x80x128x40x8, .bf16⟩
  | .hbm, ⟨9, _⟩ => ⟨S8x10240x320, .bf16⟩
  | .hbm, ⟨10, _⟩ => ⟨S8x10240x320, .f32⟩
  | .hbm, ⟨11, _⟩ => ⟨S80x40x1x8x128, .i32⟩
  | .hbm, ⟨12, _⟩ => ⟨S80x40x8x128, .i32⟩
  | .hbm, ⟨13, _⟩ => ⟨S80x128x40x8, .i32⟩
  | .hbm, ⟨14, _⟩ => ⟨S10240x320, .i32⟩
  | .hbm, ⟨15, _⟩ => ⟨S_, .i32⟩
  | .hbm, ⟨16, _⟩ => ⟨S10240x320, .i32⟩
  | .hbm, ⟨17, _⟩ => ⟨S10240x320, .i32⟩
  | .hbm, ⟨18, _⟩ => ⟨S_, .i32⟩
  | .hbm, ⟨19, _⟩ => ⟨S10240x320, .i32⟩
  | .hbm, ⟨20, _⟩ => ⟨S10240x320, .i32⟩
  | .hbm, ⟨21, _⟩ => ⟨S512x4x2, .bf16⟩
  | .hbm, ⟨22, _⟩ => ⟨S512x8, .bf16⟩
  | .hbm, ⟨23, _⟩ => ⟨S512x8, .f32⟩
  | .hbm, ⟨24, _⟩ => ⟨S64x4x2, .bf16⟩
  | .hbm, ⟨25, _⟩ => ⟨S64x8, .bf16⟩
  | .hbm, ⟨26, _⟩ => ⟨S64x8, .f32⟩
  | .hbm, ⟨27, _⟩ => ⟨S512x1x8, .f32⟩
  | .hbm, ⟨28, _⟩ => ⟨S1x64x8, .f32⟩
  | .hbm, ⟨29, _⟩ => ⟨S512x64x8, .f32⟩
  | .hbm, ⟨30, _⟩ => ⟨S512x64x8, .f32⟩
  | .hbm, ⟨31, _⟩ => ⟨S512x64x8, .f32⟩
  | .hbm, ⟨32, _⟩ => ⟨S32768x8, .f32⟩
  | .hbm, ⟨33, _⟩ => ⟨S8x32768, .f32⟩
  | .hbm, ⟨34, _⟩ => ⟨S_, .i32⟩
  | .hbm, ⟨35, _⟩ => ⟨S10240x320, .i32⟩
  | .hbm, ⟨36, _⟩ => ⟨S10240x320, .i32⟩
  | .hbm, ⟨37, _⟩ => ⟨S10240x320, .i32⟩
  | .hbm, ⟨38, _⟩ => ⟨S10240x316, .i32⟩
  | .hbm, ⟨39, _⟩ => ⟨S10240x316x1, .i32⟩
  | .hbm, ⟨40, _⟩ => ⟨S8x10240x316, .f32⟩
  | .hbm, ⟨41, _⟩ => ⟨S2528, .f32⟩
  | .hbm, ⟨42, _⟩ => ⟨S316x8, .f32⟩
  | .hbm, ⟨43, _⟩ => ⟨S8x316, .f32⟩
  | .hbm, ⟨44, _⟩ => ⟨S8x1x316, .f32⟩
  | .hbm, ⟨45, _⟩ => ⟨S2528, .f32⟩
  | .hbm, ⟨46, _⟩ => ⟨S316x8, .f32⟩
  | .hbm, ⟨47, _⟩ => ⟨S8x316, .f32⟩
  | .hbm, ⟨48, _⟩ => ⟨S8x1x316, .f32⟩
  | .hbm, ⟨49, _⟩ => ⟨S8x10240x316, .f32⟩
  | .hbm, ⟨50, _⟩ => ⟨S8x10240x316, .f32⟩
  | .hbm, ⟨51, _⟩ => ⟨S8x10240x316, .f32⟩
  | .hbm, ⟨52, _⟩ => ⟨S8x10240x316, .f32⟩
  | .hbm, ⟨53, _⟩ => ⟨S8x10240x316, .f32⟩
  | .hbm, ⟨54, _⟩ => ⟨S8x10240x316, .f32⟩
  | .hbm, ⟨55, _⟩ => ⟨S8x10240x316, .bf16⟩
  | .hbm, ⟨56, _⟩ => ⟨S32, .f32⟩
  | .hbm, ⟨57, _⟩ => ⟨S4x8, .f32⟩
  | .hbm, ⟨58, _⟩ => ⟨S8x4, .f32⟩
  | .hbm, ⟨59, _⟩ => ⟨S8x1x4, .f32⟩
  | .hbm, ⟨60, _⟩ => ⟨S32, .f32⟩
  | .hbm, ⟨61, _⟩ => ⟨S4x8, .f32⟩
  | .hbm, ⟨62, _⟩ => ⟨S8x4, .f32⟩
  | .hbm, ⟨63, _⟩ => ⟨S8x1x4, .f32⟩
  | .hbm, ⟨64, _⟩ => ⟨S8x10240x4, .f32⟩
  | .hbm, ⟨65, _⟩ => ⟨S8x10240x4, .f32⟩
  | .hbm, ⟨66, _⟩ => ⟨S8x10240x4, .f32⟩
  | .hbm, ⟨67, _⟩ => ⟨S8x10240x4, .f32⟩
  | .hbm, ⟨68, _⟩ => ⟨S8x10240x4, .f32⟩
  | .hbm, ⟨69, _⟩ => ⟨S8x10240x4, .bf16⟩
  | .hbm, ⟨70, _⟩ => ⟨S96x1x32, .bf16⟩
  | .hbm, ⟨71, _⟩ => ⟨S96x1x4x8, .bf16⟩
  | .hbm, ⟨72, _⟩ => ⟨S96x1x2528, .bf16⟩
  | .hbm, ⟨73, _⟩ => ⟨S96x1x316x8, .bf16⟩
  | .hbm, ⟨74, _⟩ => ⟨S96x1x10240, .f32⟩
  | .hbm, ⟨75, _⟩ => ⟨S96x1x10240, .f32⟩
  | .hbm, ⟨76, _⟩ => ⟨S96x1x10240, .f32⟩
  | .hbm, ⟨77, _⟩ => ⟨S96x1x10240, .bf16⟩
  | .hbm, ⟨78, _⟩ => ⟨S96x10240, .bf16⟩
  | _, _ => ⟨S96x1x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩

abbrev nD : Nat := 1
abbrev τ : Topo := Topo.v7x

variable {F : FTy → Type} [FloatOps F]
-- ==== Gather.lean ====
abbrev S10240x278 : Shape := ⟨2, ![10240, 278]⟩
abbrev S8192x4 : Shape := ⟨2, ![8192, 4]⟩
abbrev S1024x4 : Shape := ⟨2, ![1024, 4]⟩
abbrev S9216x4 : Shape := ⟨2, ![9216, 4]⟩
abbrev S4x9216 : Shape := ⟨2, ![4, 9216]⟩
abbrev S36864 : Shape := ⟨1, ![36864]⟩
abbrev S80x40x5x8x128 : Shape := ⟨5, ![80, 40, 5, 8, 128]⟩
abbrev S128x278 : Shape := ⟨2, ![128, 278]⟩
abbrev S2x5x8x128 : Shape := ⟨4, ![2, 5, 8, 128]⟩
abbrev S2 : Shape := ⟨1, ![2]⟩
abbrev S_ : Shape := ⟨0, ![]⟩
abbrev S16 : Shape := ⟨1, ![16]⟩
abbrev S1x5x8x128 : Shape := ⟨4, ![1, 5, 8, 128]⟩
abbrev S5x8x128 : Shape := ⟨3, ![5, 8, 128]⟩
abbrev S1x1x5x8x128 : Shape := ⟨5, ![1, 1, 5, 8, 128]⟩
abbrev S1 : Shape := ⟨1, ![1]⟩
abbrev S9216 : Shape := ⟨1, ![9216]⟩
abbrev S1x1x1x16 : Shape := ⟨4, ![1, 1, 1, 16]⟩

abbrev nBuf : Table → Nat
  | .hbm => 7
  | .local .scVector .vmem => 3
  | _ => 0

abbrev bufTy : (tb : Table) → Fin (nBuf tb) → BufTy
  | .hbm, ⟨0, _⟩ => ⟨S10240x278, .i32⟩
  | .hbm, ⟨1, _⟩ => ⟨S8192x4, .i32⟩
  | .hbm, ⟨2, _⟩ => ⟨S1024x4, .i32⟩
  | .hbm, ⟨3, _⟩ => ⟨S9216x4, .i32⟩
  | .hbm, ⟨4, _⟩ => ⟨S4x9216, .i32⟩
  | .hbm, ⟨5, _⟩ => ⟨S36864, .i32⟩
  | .hbm, ⟨6, _⟩ => ⟨S80x40x5x8x128, .i32⟩
  | .local .scVector .vmem, ⟨0, _⟩ => ⟨S36864, .i32⟩
  | .local .scVector .vmem, ⟨1, _⟩ => ⟨S128x278, .i32⟩
  | .local .scVector .vmem, ⟨2, _⟩ => ⟨S2x5x8x128, .i32⟩
  | _, _ => ⟨S10240x278, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c5_i32 : BitVec 32 := 5#32
  let v3 : BitVec 32 := Scalar.addi c0_i32 c5_i32
  let c1_i32 : BitVec 32 := 1#32
  ⟨c0_i32, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_3 : BitVec 32 := 5#32
  let v6 : BitVec 32 := Scalar.muli v1 c5_i32_3
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v4 : BitVec 32 := Scalar.muli arg9 c1_i32_1
  let v5 : BitVec 32 := Scalar.addi c0_i32_2 v4
  let v7 : BitVec 32 := Scalar.addi v6 v5
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c2_i32_4 : BitVec 32 := 2#32
  let c0_i32_7 : BitVec 32 := 0#32
  let v14 : BitVec 1 := Scalar.cmpi .sgt c2_i32_4 c0_i32_7
  let v15 : BitVec 32 := Scalar.extui v14
  let c0_i32_8 : BitVec 32 := 0#32
  let v16 : BitVec 1 := Scalar.cmpi .slt c2_i32_4 c0_i32_8
  let v17 : BitVec 32 := Scalar.extui v16
  let v18 : BitVec 32 := Scalar.subi v15 v17
  let v19 : BitVec 1 := Scalar.cmpi .ne v13 v18
  let v20 : BitVec 32 := Scalar.remsi v7 c2_i32_4
  let c0_i32_9 : BitVec 32 := 0#32
  let v21 : BitVec 1 := Scalar.cmpi .ne v20 c0_i32_9
  let v22 : BitVec 1 := Scalar.andi v19 v21
  let v8 : BitVec 32 := Scalar.divsi v7 c2_i32_4
  let c1_i32_10 : BitVec 32 := 1#32
  let v23 : BitVec 32 := Scalar.subi v8 c1_i32_10
  let v24 : BitVec 32 := Scalar.select v22 v23 v8
  let c128_i32 : BitVec 32 := 128#32
  let v35 : BitVec 32 := Scalar.muli v24 c128_i32
  let c0_i32_50_r1 : BitVec 32 := 0#32
  ![v35.toNat, 0]
@[reducible] def k0_t2_loop : Scf.Loop 32 :=
  let c0_i32_17 : BitVec 32 := 0#32
  let c20_i32 : BitVec 32 := 20#32
  let v36 : BitVec 32 := Scalar.addi c0_i32_17 c20_i32
  let c1_i32_18 : BitVec 32 := 1#32
  ⟨c0_i32_17, v36, c1_i32_18⟩
def k0_cond1 (k0_t2 : Fin k0_t2_loop.trips) : BitVec 1 :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_59 : BitVec 32 := 2#32
  let v71 : BitVec 1 := Scalar.cmpi .sge v58 c2_i32_59
  let v72 : BitVec 32 := Scalar.extui v71
  let c0_i32_60 : BitVec 32 := 0#32
  let v73 : BitVec 1 := Scalar.cmpi .ne v72 c0_i32_60
  v73

def k0_off2 (k0_t2 : Fin k0_t2_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let c0_i32_77 : BitVec 32 := 0#32
  let c0_i32_78 : BitVec 32 := 0#32
  let c0_i32_79 : BitVec 32 := 0#32
  ![v70.toNat, 0, 0, 0]
def k0_off3 (i : grid0.Coords) (k0_t1 : Fin k0_t1_loop.trips) (k0_t2 : Fin k0_t2_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_3 : BitVec 32 := 5#32
  let v6 : BitVec 32 := Scalar.muli v1 c5_i32_3
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v4 : BitVec 32 := Scalar.muli arg9 c1_i32_1
  let v5 : BitVec 32 := Scalar.addi c0_i32_2 v4
  let v7 : BitVec 32 := Scalar.addi v6 v5
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c2_i32_4 : BitVec 32 := 2#32
  let c0_i32_7 : BitVec 32 := 0#32
  let v14 : BitVec 1 := Scalar.cmpi .sgt c2_i32_4 c0_i32_7
  let v15 : BitVec 32 := Scalar.extui v14
  let c0_i32_8 : BitVec 32 := 0#32
  let v16 : BitVec 1 := Scalar.cmpi .slt c2_i32_4 c0_i32_8
  let v17 : BitVec 32 := Scalar.extui v16
  let v18 : BitVec 32 := Scalar.subi v15 v17
  let v19 : BitVec 1 := Scalar.cmpi .ne v13 v18
  let v20 : BitVec 32 := Scalar.remsi v7 c2_i32_4
  let c0_i32_9 : BitVec 32 := 0#32
  let v21 : BitVec 1 := Scalar.cmpi .ne v20 c0_i32_9
  let v22 : BitVec 1 := Scalar.andi v19 v21
  let v8 : BitVec 32 := Scalar.divsi v7 c2_i32_4
  let c1_i32_10 : BitVec 32 := 1#32
  let v23 : BitVec 32 := Scalar.subi v8 c1_i32_10
  let v24 : BitVec 32 := Scalar.select v22 v23 v8
  let c2_i32_11 : BitVec 32 := 2#32
  let c0_i32_12 : BitVec 32 := 0#32
  let v25 : BitVec 1 := Scalar.cmpi .eq c2_i32_11 c0_i32_12
  let c1_i32_13 : BitVec 32 := 1#32
  let v26 : BitVec 32 := Scalar.select v25 c1_i32_13 c2_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c20_i32_52 : BitVec 32 := 20#32
  let v59 : BitVec 32 := Scalar.muli v34 c20_i32_52
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let v60 : BitVec 32 := Scalar.addi v59 v58
  let c0_i32_80 : BitVec 32 := 0#32
  let c0_i32_81 : BitVec 32 := 0#32
  let c0_i32_82 : BitVec 32 := 0#32
  ![v24.toNat, v60.toNat, 0, 0, 0]
def k0_off4 (k0_t2 : Fin k0_t2_loop.trips) : Fin 1 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  ![v70.toNat]
def k0_cond2 (i : grid0.Coords) (k0_t1 : Fin k0_t1_loop.trips) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_3 : BitVec 32 := 5#32
  let v6 : BitVec 32 := Scalar.muli v1 c5_i32_3
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v4 : BitVec 32 := Scalar.muli arg9 c1_i32_1
  let v5 : BitVec 32 := Scalar.addi c0_i32_2 v4
  let v7 : BitVec 32 := Scalar.addi v6 v5
  let c2_i32_11 : BitVec 32 := 2#32
  let c0_i32_12 : BitVec 32 := 0#32
  let v25 : BitVec 1 := Scalar.cmpi .eq c2_i32_11 c0_i32_12
  let c1_i32_13 : BitVec 32 := 1#32
  let v26 : BitVec 32 := Scalar.select v25 c1_i32_13 c2_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c20_i32_52 : BitVec 32 := 20#32
  let v59 : BitVec 32 := Scalar.muli v34 c20_i32_52
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let v60 : BitVec 32 := Scalar.addi v59 v58
  let c0_i32_61 : BitVec 32 := 0#32
  let v74 : BitVec 1 := Scalar.cmpi .eq v60 c0_i32_61
  let v75 : BitVec 32 := Scalar.extui v74
  let c0_i32_62 : BitVec 32 := 0#32
  let v76 : BitVec 1 := Scalar.cmpi .ne v75 c0_i32_62
  v76

@[reducible] def k0_t3_loop : Scf.Loop 32 :=
  let c0_i32_77 : BitVec 32 := 0#32
  let c8_i32 : BitVec 32 := 8#32
  let v92 : BitVec 32 := Scalar.addi c0_i32_77 c8_i32
  let c1_i32_78 : BitVec 32 := 1#32
  ⟨c0_i32_77, v92, c1_i32_78⟩

def k0_chk1 (i : grid0.Coords) (k0_t1 : Fin k0_t1_loop.trips) (k0_t2 : Fin k0_t2_loop.trips) (v97 : IVec S16 32) (v100 : IVec S16 32) : Prop :=
  (∀ (k0_h2 : k0_cond2 i k0_t1 k0_t2 = 1#1), ∀ a x, ((![v97, v100] : Fin 2 → IVec S16 32) a x).toNat < S128x278.size a)
theorem k0_idx1_inb : ∀ (i : grid0.Coords) (k0_t1 : Fin k0_t1_loop.trips) (k0_t2 : Fin k0_t2_loop.trips) (v97 : IVec S16 32) (v100 : IVec S16 32) (k0_hw1 : k0_chk1 i k0_t1 k0_t2 v97 v100), ∀ (k0_h2 : k0_cond2 i k0_t1 k0_t2 = 1#1), ∀ a x, ((![v97, v100] : Fin 2 → IVec S16 32) a x).toNat < S128x278.size a := fun i k0_t1 k0_t2 v97 v100 k0_hw1 k0_h2 => k0_hw1 k0_h2

def k0_chk2 (i : grid0.Coords) (k0_t1 : Fin k0_t1_loop.trips) (k0_t2 : Fin k0_t2_loop.trips) (v97 : IVec S16 32) (v104 : IVec S16 32) : Prop :=
  (∀ (k0_h2 : k0_cond2 i k0_t1 k0_t2 = 1#1), ∀ a x, ((![v97, v104] : Fin 2 → IVec S16 32) a x).toNat < S128x278.size a)
theorem k0_idx2_inb : ∀ (i : grid0.Coords) (k0_t1 : Fin k0_t1_loop.trips) (k0_t2 : Fin k0_t2_loop.trips) (v97 : IVec S16 32) (v104 : IVec S16 32) (k0_hw2 : k0_chk2 i k0_t1 k0_t2 v97 v104), ∀ (k0_h2 : k0_cond2 i k0_t1 k0_t2 = 1#1), ∀ a x, ((![v97, v104] : Fin 2 → IVec S16 32) a x).toNat < S128x278.size a := fun i k0_t1 k0_t2 v97 v104 k0_hw2 k0_h2 => k0_hw2 k0_h2

def k0_chk3 (i : grid0.Coords) (k0_t1 : Fin k0_t1_loop.trips) (k0_t2 : Fin k0_t2_loop.trips) (v97 : IVec S16 32) (v108 : IVec S16 32) : Prop :=
  (∀ (k0_h2 : k0_cond2 i k0_t1 k0_t2 = 1#1), ∀ a x, ((![v97, v108] : Fin 2 → IVec S16 32) a x).toNat < S128x278.size a)
theorem k0_idx3_inb : ∀ (i : grid0.Coords) (k0_t1 : Fin k0_t1_loop.trips) (k0_t2 : Fin k0_t2_loop.trips) (v97 : IVec S16 32) (v108 : IVec S16 32) (k0_hw3 : k0_chk3 i k0_t1 k0_t2 v97 v108), ∀ (k0_h2 : k0_cond2 i k0_t1 k0_t2 = 1#1), ∀ a x, ((![v97, v108] : Fin 2 → IVec S16 32) a x).toNat < S128x278.size a := fun i k0_t1 k0_t2 v97 v108 k0_hw3 k0_h2 => k0_hw3 k0_h2

def k0_chk4 (i : grid0.Coords) (k0_t1 : Fin k0_t1_loop.trips) (k0_t2 : Fin k0_t2_loop.trips) (v97 : IVec S16 32) (v112 : IVec S16 32) : Prop :=
  (∀ (k0_h2 : k0_cond2 i k0_t1 k0_t2 = 1#1), ∀ a x, ((![v97, v112] : Fin 2 → IVec S16 32) a x).toNat < S128x278.size a)
theorem k0_idx4_inb : ∀ (i : grid0.Coords) (k0_t1 : Fin k0_t1_loop.trips) (k0_t2 : Fin k0_t2_loop.trips) (v97 : IVec S16 32) (v112 : IVec S16 32) (k0_hw4 : k0_chk4 i k0_t1 k0_t2 v97 v112), ∀ (k0_h2 : k0_cond2 i k0_t1 k0_t2 = 1#1), ∀ a x, ((![v97, v112] : Fin 2 → IVec S16 32) a x).toNat < S128x278.size a := fun i k0_t1 k0_t2 v97 v112 k0_hw4 k0_h2 => k0_hw4 k0_h2

def k0_chk5 (i : grid0.Coords) (k0_t1 : Fin k0_t1_loop.trips) (k0_t2 : Fin k0_t2_loop.trips) (v97 : IVec S16 32) (v116 : IVec S16 32) : Prop :=
  (∀ (k0_h2 : k0_cond2 i k0_t1 k0_t2 = 1#1), ∀ a x, ((![v97, v116] : Fin 2 → IVec S16 32) a x).toNat < S128x278.size a)
theorem k0_idx5_inb : ∀ (i : grid0.Coords) (k0_t1 : Fin k0_t1_loop.trips) (k0_t2 : Fin k0_t2_loop.trips) (v97 : IVec S16 32) (v116 : IVec S16 32) (k0_hw5 : k0_chk5 i k0_t1 k0_t2 v97 v116), ∀ (k0_h2 : k0_cond2 i k0_t1 k0_t2 = 1#1), ∀ a x, ((![v97, v116] : Fin 2 → IVec S16 32) a x).toNat < S128x278.size a := fun i k0_t1 k0_t2 v97 v116 k0_hw5 k0_h2 => k0_hw5 k0_h2

def k0_chk6 (i : grid0.Coords) (k0_t1 : Fin k0_t1_loop.trips) (k0_t2 : Fin k0_t2_loop.trips) (v97 : IVec S16 32) (v120 : IVec S16 32) : Prop :=
  (∀ (k0_h2 : k0_cond2 i k0_t1 k0_t2 = 1#1), ∀ a x, ((![v97, v120] : Fin 2 → IVec S16 32) a x).toNat < S128x278.size a)
theorem k0_idx6_inb : ∀ (i : grid0.Coords) (k0_t1 : Fin k0_t1_loop.trips) (k0_t2 : Fin k0_t2_loop.trips) (v97 : IVec S16 32) (v120 : IVec S16 32) (k0_hw6 : k0_chk6 i k0_t1 k0_t2 v97 v120), ∀ (k0_h2 : k0_cond2 i k0_t1 k0_t2 = 1#1), ∀ a x, ((![v97, v120] : Fin 2 → IVec S16 32) a x).toNat < S128x278.size a := fun i k0_t1 k0_t2 v97 v120 k0_hw6 k0_h2 => k0_hw6 k0_h2

def k0_chk7 (i : grid0.Coords) (k0_t1 : Fin k0_t1_loop.trips) (k0_t2 : Fin k0_t2_loop.trips) (v97 : IVec S16 32) (v124 : IVec S16 32) : Prop :=
  (∀ (k0_h2 : k0_cond2 i k0_t1 k0_t2 = 1#1), ∀ a x, ((![v97, v124] : Fin 2 → IVec S16 32) a x).toNat < S128x278.size a)
theorem k0_idx7_inb : ∀ (i : grid0.Coords) (k0_t1 : Fin k0_t1_loop.trips) (k0_t2 : Fin k0_t2_loop.trips) (v97 : IVec S16 32) (v124 : IVec S16 32) (k0_hw7 : k0_chk7 i k0_t1 k0_t2 v97 v124), ∀ (k0_h2 : k0_cond2 i k0_t1 k0_t2 = 1#1), ∀ a x, ((![v97, v124] : Fin 2 → IVec S16 32) a x).toNat < S128x278.size a := fun i k0_t1 k0_t2 v97 v124 k0_hw7 k0_h2 => k0_hw7 k0_h2

def k0_chk8 (i : grid0.Coords) (k0_t1 : Fin k0_t1_loop.trips) (k0_t2 : Fin k0_t2_loop.trips) (v97 : IVec S16 32) (v128 : IVec S16 32) : Prop :=
  (∀ (k0_h2 : k0_cond2 i k0_t1 k0_t2 = 1#1), ∀ a x, ((![v97, v128] : Fin 2 → IVec S16 32) a x).toNat < S128x278.size a)
theorem k0_idx8_inb : ∀ (i : grid0.Coords) (k0_t1 : Fin k0_t1_loop.trips) (k0_t2 : Fin k0_t2_loop.trips) (v97 : IVec S16 32) (v128 : IVec S16 32) (k0_hw8 : k0_chk8 i k0_t1 k0_t2 v97 v128), ∀ (k0_h2 : k0_cond2 i k0_t1 k0_t2 = 1#1), ∀ a x, ((![v97, v128] : Fin 2 → IVec S16 32) a x).toNat < S128x278.size a := fun i k0_t1 k0_t2 v97 v128 k0_hw8 k0_h2 => k0_hw8 k0_h2
def k0_off5 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v138 : Index := Scalar.indexCast v70
  let c0_i32_99 : BitVec 32 := 0#32
  let v139 : Index := Scalar.indexCast c0_i32_99
  let c0_i32_100 : BitVec 32 := 0#32
  let v140 : Index := Scalar.indexCast c0_i32_100
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_98 : BitVec 32 := 16#32
  let v137 : BitVec 32 := Scalar.muli v94 c16_i32_98
  let v141 : Index := Scalar.indexCast v137
  ![v138.toNat, 0, 0, v141.toNat]
def k0_off6 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v146 : Index := Scalar.indexCast v70
  let c1_i32_102 : BitVec 32 := 1#32
  let v147 : Index := Scalar.indexCast c1_i32_102
  let c0_i32_103 : BitVec 32 := 0#32
  let v148 : Index := Scalar.indexCast c0_i32_103
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_101 : BitVec 32 := 16#32
  let v145 : BitVec 32 := Scalar.muli v94 c16_i32_101
  let v149 : Index := Scalar.indexCast v145
  ![v146.toNat, 1, 0, v149.toNat]
def k0_off7 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v154 : Index := Scalar.indexCast v70
  let c2_i32_105 : BitVec 32 := 2#32
  let v155 : Index := Scalar.indexCast c2_i32_105
  let c0_i32_106 : BitVec 32 := 0#32
  let v156 : Index := Scalar.indexCast c0_i32_106
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_104 : BitVec 32 := 16#32
  let v153 : BitVec 32 := Scalar.muli v94 c16_i32_104
  let v157 : Index := Scalar.indexCast v153
  ![v154.toNat, 2, 0, v157.toNat]

def k0_chk9 (i : grid0.Coords) (k0_t1 : Fin k0_t1_loop.trips) (k0_t2 : Fin k0_t2_loop.trips) (v133 : IVec S16 32) : Prop :=
  (∀ (k0_h2 : k0_cond2 i k0_t1 k0_t2 = 1#1), ∀ a x, ((![v133] : Fin 1 → IVec S16 32) a x).toNat < S9216.size a) ∧
  (∀ (k0_h2 : k0_cond2 i k0_t1 k0_t2 = 1#1), ∀ a x, ((![v133] : Fin 1 → IVec S16 32) a x).toNat < S9216.size a) ∧
  (∀ (k0_h2 : k0_cond2 i k0_t1 k0_t2 = 1#1), ∀ a x, ((![v133] : Fin 1 → IVec S16 32) a x).toNat < S9216.size a) ∧
  (∀ (k0_h2 : k0_cond2 i k0_t1 k0_t2 = 1#1), ∀ a x, ((![v133] : Fin 1 → IVec S16 32) a x).toNat < S9216.size a)
theorem k0_idx9_inb : ∀ (i : grid0.Coords) (k0_t1 : Fin k0_t1_loop.trips) (k0_t2 : Fin k0_t2_loop.trips) (v133 : IVec S16 32) (k0_hw9 : k0_chk9 i k0_t1 k0_t2 v133), ∀ (k0_h2 : k0_cond2 i k0_t1 k0_t2 = 1#1), ∀ a x, ((![v133] : Fin 1 → IVec S16 32) a x).toNat < S9216.size a := fun i k0_t1 k0_t2 v133 k0_hw9 k0_h2 => k0_hw9.1 k0_h2
theorem k0_idx10_inb : ∀ (i : grid0.Coords) (k0_t1 : Fin k0_t1_loop.trips) (k0_t2 : Fin k0_t2_loop.trips) (v133 : IVec S16 32) (k0_hw9 : k0_chk9 i k0_t1 k0_t2 v133), ∀ (k0_h2 : k0_cond2 i k0_t1 k0_t2 = 1#1), ∀ a x, ((![v133] : Fin 1 → IVec S16 32) a x).toNat < S9216.size a := fun i k0_t1 k0_t2 v133 k0_hw9 k0_h2 => k0_hw9.2.1 k0_h2
theorem k0_idx11_inb : ∀ (i : grid0.Coords) (k0_t1 : Fin k0_t1_loop.trips) (k0_t2 : Fin k0_t2_loop.trips) (v133 : IVec S16 32) (k0_hw9 : k0_chk9 i k0_t1 k0_t2 v133), ∀ (k0_h2 : k0_cond2 i k0_t1 k0_t2 = 1#1), ∀ a x, ((![v133] : Fin 1 → IVec S16 32) a x).toNat < S9216.size a := fun i k0_t1 k0_t2 v133 k0_hw9 k0_h2 => k0_hw9.2.2.1 k0_h2
theorem k0_idx12_inb : ∀ (i : grid0.Coords) (k0_t1 : Fin k0_t1_loop.trips) (k0_t2 : Fin k0_t2_loop.trips) (v133 : IVec S16 32) (k0_hw9 : k0_chk9 i k0_t1 k0_t2 v133), ∀ (k0_h2 : k0_cond2 i k0_t1 k0_t2 = 1#1), ∀ a x, ((![v133] : Fin 1 → IVec S16 32) a x).toNat < S9216.size a := fun i k0_t1 k0_t2 v133 k0_hw9 k0_h2 => k0_hw9.2.2.2 k0_h2
def k0_off8 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v162 : Index := Scalar.indexCast v70
  let c3_i32_108 : BitVec 32 := 3#32
  let v163 : Index := Scalar.indexCast c3_i32_108
  let c0_i32_109 : BitVec 32 := 0#32
  let v164 : Index := Scalar.indexCast c0_i32_109
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_107 : BitVec 32 := 16#32
  let v161 : BitVec 32 := Scalar.muli v94 c16_i32_107
  let v165 : Index := Scalar.indexCast v161
  ![v162.toNat, 3, 0, v165.toNat]
def k0_off9 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v168 : Index := Scalar.indexCast v70
  let c4_i32_111 : BitVec 32 := 4#32
  let v169 : Index := Scalar.indexCast c4_i32_111
  let c0_i32_112 : BitVec 32 := 0#32
  let v170 : Index := Scalar.indexCast c0_i32_112
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_110 : BitVec 32 := 16#32
  let v167 : BitVec 32 := Scalar.muli v94 c16_i32_110
  let v171 : Index := Scalar.indexCast v167
  ![v168.toNat, 4, 0, v171.toNat]
def k0_off10 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v183 : Index := Scalar.indexCast v70
  let c0_i32_118 : BitVec 32 := 0#32
  let v184 : Index := Scalar.indexCast c0_i32_118
  let c1_i32_119 : BitVec 32 := 1#32
  let v185 : Index := Scalar.indexCast c1_i32_119
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_117 : BitVec 32 := 16#32
  let v182 : BitVec 32 := Scalar.muli v94 c16_i32_117
  let v186 : Index := Scalar.indexCast v182
  ![v183.toNat, 0, 1, v186.toNat]
def k0_off11 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v191 : Index := Scalar.indexCast v70
  let c1_i32_122 : BitVec 32 := 1#32
  let v192 : Index := Scalar.indexCast c1_i32_122
  let c1_i32_123 : BitVec 32 := 1#32
  let v193 : Index := Scalar.indexCast c1_i32_123
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_121 : BitVec 32 := 16#32
  let v190 : BitVec 32 := Scalar.muli v94 c16_i32_121
  let v194 : Index := Scalar.indexCast v190
  ![v191.toNat, 1, 1, v194.toNat]
def k0_off12 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v199 : Index := Scalar.indexCast v70
  let c2_i32_126 : BitVec 32 := 2#32
  let v200 : Index := Scalar.indexCast c2_i32_126
  let c1_i32_127 : BitVec 32 := 1#32
  let v201 : Index := Scalar.indexCast c1_i32_127
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_125 : BitVec 32 := 16#32
  let v198 : BitVec 32 := Scalar.muli v94 c16_i32_125
  let v202 : Index := Scalar.indexCast v198
  ![v199.toNat, 2, 1, v202.toNat]

def k0_chk10 (i : grid0.Coords) (k0_t1 : Fin k0_t1_loop.trips) (k0_t2 : Fin k0_t2_loop.trips) (v178 : IVec S16 32) : Prop :=
  (∀ (k0_h2 : k0_cond2 i k0_t1 k0_t2 = 1#1), ∀ a x, ((![v178] : Fin 1 → IVec S16 32) a x).toNat < S9216.size a) ∧
  (∀ (k0_h2 : k0_cond2 i k0_t1 k0_t2 = 1#1), ∀ a x, ((![v178] : Fin 1 → IVec S16 32) a x).toNat < S9216.size a) ∧
  (∀ (k0_h2 : k0_cond2 i k0_t1 k0_t2 = 1#1), ∀ a x, ((![v178] : Fin 1 → IVec S16 32) a x).toNat < S9216.size a) ∧
  (∀ (k0_h2 : k0_cond2 i k0_t1 k0_t2 = 1#1), ∀ a x, ((![v178] : Fin 1 → IVec S16 32) a x).toNat < S9216.size a)
theorem k0_idx13_inb : ∀ (i : grid0.Coords) (k0_t1 : Fin k0_t1_loop.trips) (k0_t2 : Fin k0_t2_loop.trips) (v178 : IVec S16 32) (k0_hw10 : k0_chk10 i k0_t1 k0_t2 v178), ∀ (k0_h2 : k0_cond2 i k0_t1 k0_t2 = 1#1), ∀ a x, ((![v178] : Fin 1 → IVec S16 32) a x).toNat < S9216.size a := fun i k0_t1 k0_t2 v178 k0_hw10 k0_h2 => k0_hw10.1 k0_h2
theorem k0_idx14_inb : ∀ (i : grid0.Coords) (k0_t1 : Fin k0_t1_loop.trips) (k0_t2 : Fin k0_t2_loop.trips) (v178 : IVec S16 32) (k0_hw10 : k0_chk10 i k0_t1 k0_t2 v178), ∀ (k0_h2 : k0_cond2 i k0_t1 k0_t2 = 1#1), ∀ a x, ((![v178] : Fin 1 → IVec S16 32) a x).toNat < S9216.size a := fun i k0_t1 k0_t2 v178 k0_hw10 k0_h2 => k0_hw10.2.1 k0_h2
theorem k0_idx15_inb : ∀ (i : grid0.Coords) (k0_t1 : Fin k0_t1_loop.trips) (k0_t2 : Fin k0_t2_loop.trips) (v178 : IVec S16 32) (k0_hw10 : k0_chk10 i k0_t1 k0_t2 v178), ∀ (k0_h2 : k0_cond2 i k0_t1 k0_t2 = 1#1), ∀ a x, ((![v178] : Fin 1 → IVec S16 32) a x).toNat < S9216.size a := fun i k0_t1 k0_t2 v178 k0_hw10 k0_h2 => k0_hw10.2.2.1 k0_h2
theorem k0_idx16_inb : ∀ (i : grid0.Coords) (k0_t1 : Fin k0_t1_loop.trips) (k0_t2 : Fin k0_t2_loop.trips) (v178 : IVec S16 32) (k0_hw10 : k0_chk10 i k0_t1 k0_t2 v178), ∀ (k0_h2 : k0_cond2 i k0_t1 k0_t2 = 1#1), ∀ a x, ((![v178] : Fin 1 → IVec S16 32) a x).toNat < S9216.size a := fun i k0_t1 k0_t2 v178 k0_hw10 k0_h2 => k0_hw10.2.2.2 k0_h2
def k0_off13 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v207 : Index := Scalar.indexCast v70
  let c3_i32_130 : BitVec 32 := 3#32
  let v208 : Index := Scalar.indexCast c3_i32_130
  let c1_i32_131 : BitVec 32 := 1#32
  let v209 : Index := Scalar.indexCast c1_i32_131
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_129 : BitVec 32 := 16#32
  let v206 : BitVec 32 := Scalar.muli v94 c16_i32_129
  let v210 : Index := Scalar.indexCast v206
  ![v207.toNat, 3, 1, v210.toNat]
def k0_off14 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v213 : Index := Scalar.indexCast v70
  let c4_i32_133 : BitVec 32 := 4#32
  let v214 : Index := Scalar.indexCast c4_i32_133
  let c1_i32_134 : BitVec 32 := 1#32
  let v215 : Index := Scalar.indexCast c1_i32_134
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_132 : BitVec 32 := 16#32
  let v212 : BitVec 32 := Scalar.muli v94 c16_i32_132
  let v216 : Index := Scalar.indexCast v212
  ![v213.toNat, 4, 1, v216.toNat]
def k0_off15 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v228 : Index := Scalar.indexCast v70
  let c0_i32_141 : BitVec 32 := 0#32
  let v229 : Index := Scalar.indexCast c0_i32_141
  let c2_i32_142 : BitVec 32 := 2#32
  let v230 : Index := Scalar.indexCast c2_i32_142
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_140 : BitVec 32 := 16#32
  let v227 : BitVec 32 := Scalar.muli v94 c16_i32_140
  let v231 : Index := Scalar.indexCast v227
  ![v228.toNat, 0, 2, v231.toNat]
def k0_off16 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v236 : Index := Scalar.indexCast v70
  let c1_i32_145 : BitVec 32 := 1#32
  let v237 : Index := Scalar.indexCast c1_i32_145
  let c2_i32_146 : BitVec 32 := 2#32
  let v238 : Index := Scalar.indexCast c2_i32_146
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_144 : BitVec 32 := 16#32
  let v235 : BitVec 32 := Scalar.muli v94 c16_i32_144
  let v239 : Index := Scalar.indexCast v235
  ![v236.toNat, 1, 2, v239.toNat]
def k0_off17 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v244 : Index := Scalar.indexCast v70
  let c2_i32_149 : BitVec 32 := 2#32
  let v245 : Index := Scalar.indexCast c2_i32_149
  let c2_i32_150 : BitVec 32 := 2#32
  let v246 : Index := Scalar.indexCast c2_i32_150
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_148 : BitVec 32 := 16#32
  let v243 : BitVec 32 := Scalar.muli v94 c16_i32_148
  let v247 : Index := Scalar.indexCast v243
  ![v244.toNat, 2, 2, v247.toNat]

def k0_chk11 (i : grid0.Coords) (k0_t1 : Fin k0_t1_loop.trips) (k0_t2 : Fin k0_t2_loop.trips) (v223 : IVec S16 32) : Prop :=
  (∀ (k0_h2 : k0_cond2 i k0_t1 k0_t2 = 1#1), ∀ a x, ((![v223] : Fin 1 → IVec S16 32) a x).toNat < S9216.size a) ∧
  (∀ (k0_h2 : k0_cond2 i k0_t1 k0_t2 = 1#1), ∀ a x, ((![v223] : Fin 1 → IVec S16 32) a x).toNat < S9216.size a) ∧
  (∀ (k0_h2 : k0_cond2 i k0_t1 k0_t2 = 1#1), ∀ a x, ((![v223] : Fin 1 → IVec S16 32) a x).toNat < S9216.size a) ∧
  (∀ (k0_h2 : k0_cond2 i k0_t1 k0_t2 = 1#1), ∀ a x, ((![v223] : Fin 1 → IVec S16 32) a x).toNat < S9216.size a)
theorem k0_idx17_inb : ∀ (i : grid0.Coords) (k0_t1 : Fin k0_t1_loop.trips) (k0_t2 : Fin k0_t2_loop.trips) (v223 : IVec S16 32) (k0_hw11 : k0_chk11 i k0_t1 k0_t2 v223), ∀ (k0_h2 : k0_cond2 i k0_t1 k0_t2 = 1#1), ∀ a x, ((![v223] : Fin 1 → IVec S16 32) a x).toNat < S9216.size a := fun i k0_t1 k0_t2 v223 k0_hw11 k0_h2 => k0_hw11.1 k0_h2
theorem k0_idx18_inb : ∀ (i : grid0.Coords) (k0_t1 : Fin k0_t1_loop.trips) (k0_t2 : Fin k0_t2_loop.trips) (v223 : IVec S16 32) (k0_hw11 : k0_chk11 i k0_t1 k0_t2 v223), ∀ (k0_h2 : k0_cond2 i k0_t1 k0_t2 = 1#1), ∀ a x, ((![v223] : Fin 1 → IVec S16 32) a x).toNat < S9216.size a := fun i k0_t1 k0_t2 v223 k0_hw11 k0_h2 => k0_hw11.2.1 k0_h2
theorem k0_idx19_inb : ∀ (i : grid0.Coords) (k0_t1 : Fin k0_t1_loop.trips) (k0_t2 : Fin k0_t2_loop.trips) (v223 : IVec S16 32) (k0_hw11 : k0_chk11 i k0_t1 k0_t2 v223), ∀ (k0_h2 : k0_cond2 i k0_t1 k0_t2 = 1#1), ∀ a x, ((![v223] : Fin 1 → IVec S16 32) a x).toNat < S9216.size a := fun i k0_t1 k0_t2 v223 k0_hw11 k0_h2 => k0_hw11.2.2.1 k0_h2
theorem k0_idx20_inb : ∀ (i : grid0.Coords) (k0_t1 : Fin k0_t1_loop.trips) (k0_t2 : Fin k0_t2_loop.trips) (v223 : IVec S16 32) (k0_hw11 : k0_chk11 i k0_t1 k0_t2 v223), ∀ (k0_h2 : k0_cond2 i k0_t1 k0_t2 = 1#1), ∀ a x, ((![v223] : Fin 1 → IVec S16 32) a x).toNat < S9216.size a := fun i k0_t1 k0_t2 v223 k0_hw11 k0_h2 => k0_hw11.2.2.2 k0_h2
def k0_off18 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v252 : Index := Scalar.indexCast v70
  let c3_i32_153 : BitVec 32 := 3#32
  let v253 : Index := Scalar.indexCast c3_i32_153
  let c2_i32_154 : BitVec 32 := 2#32
  let v254 : Index := Scalar.indexCast c2_i32_154
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_152 : BitVec 32 := 16#32
  let v251 : BitVec 32 := Scalar.muli v94 c16_i32_152
  let v255 : Index := Scalar.indexCast v251
  ![v252.toNat, 3, 2, v255.toNat]
def k0_off19 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v258 : Index := Scalar.indexCast v70
  let c4_i32_156 : BitVec 32 := 4#32
  let v259 : Index := Scalar.indexCast c4_i32_156
  let c2_i32_157 : BitVec 32 := 2#32
  let v260 : Index := Scalar.indexCast c2_i32_157
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_155 : BitVec 32 := 16#32
  let v257 : BitVec 32 := Scalar.muli v94 c16_i32_155
  let v261 : Index := Scalar.indexCast v257
  ![v258.toNat, 4, 2, v261.toNat]
def k0_off20 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v276 : Index := Scalar.indexCast v70
  let c0_i32_164 : BitVec 32 := 0#32
  let v277 : Index := Scalar.indexCast c0_i32_164
  let c3_i32_165 : BitVec 32 := 3#32
  let v278 : Index := Scalar.indexCast c3_i32_165
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_163 : BitVec 32 := 16#32
  let v275 : BitVec 32 := Scalar.muli v94 c16_i32_163
  let v279 : Index := Scalar.indexCast v275
  ![v276.toNat, 0, 3, v279.toNat]
def k0_off21 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v284 : Index := Scalar.indexCast v70
  let c1_i32_168 : BitVec 32 := 1#32
  let v285 : Index := Scalar.indexCast c1_i32_168
  let c3_i32_169 : BitVec 32 := 3#32
  let v286 : Index := Scalar.indexCast c3_i32_169
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_167 : BitVec 32 := 16#32
  let v283 : BitVec 32 := Scalar.muli v94 c16_i32_167
  let v287 : Index := Scalar.indexCast v283
  ![v284.toNat, 1, 3, v287.toNat]
def k0_off22 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v292 : Index := Scalar.indexCast v70
  let c2_i32_172 : BitVec 32 := 2#32
  let v293 : Index := Scalar.indexCast c2_i32_172
  let c3_i32_173 : BitVec 32 := 3#32
  let v294 : Index := Scalar.indexCast c3_i32_173
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_171 : BitVec 32 := 16#32
  let v291 : BitVec 32 := Scalar.muli v94 c16_i32_171
  let v295 : Index := Scalar.indexCast v291
  ![v292.toNat, 2, 3, v295.toNat]

def k0_chk12 (i : grid0.Coords) (k0_t1 : Fin k0_t1_loop.trips) (k0_t2 : Fin k0_t2_loop.trips) (v271 : IVec S16 32) : Prop :=
  (∀ (k0_h2 : k0_cond2 i k0_t1 k0_t2 = 1#1), ∀ a x, ((![v271] : Fin 1 → IVec S16 32) a x).toNat < S9216.size a) ∧
  (∀ (k0_h2 : k0_cond2 i k0_t1 k0_t2 = 1#1), ∀ a x, ((![v271] : Fin 1 → IVec S16 32) a x).toNat < S9216.size a) ∧
  (∀ (k0_h2 : k0_cond2 i k0_t1 k0_t2 = 1#1), ∀ a x, ((![v271] : Fin 1 → IVec S16 32) a x).toNat < S9216.size a) ∧
  (∀ (k0_h2 : k0_cond2 i k0_t1 k0_t2 = 1#1), ∀ a x, ((![v271] : Fin 1 → IVec S16 32) a x).toNat < S9216.size a)
theorem k0_idx21_inb : ∀ (i : grid0.Coords) (k0_t1 : Fin k0_t1_loop.trips) (k0_t2 : Fin k0_t2_loop.trips) (v271 : IVec S16 32) (k0_hw12 : k0_chk12 i k0_t1 k0_t2 v271), ∀ (k0_h2 : k0_cond2 i k0_t1 k0_t2 = 1#1), ∀ a x, ((![v271] : Fin 1 → IVec S16 32) a x).toNat < S9216.size a := fun i k0_t1 k0_t2 v271 k0_hw12 k0_h2 => k0_hw12.1 k0_h2
theorem k0_idx22_inb : ∀ (i : grid0.Coords) (k0_t1 : Fin k0_t1_loop.trips) (k0_t2 : Fin k0_t2_loop.trips) (v271 : IVec S16 32) (k0_hw12 : k0_chk12 i k0_t1 k0_t2 v271), ∀ (k0_h2 : k0_cond2 i k0_t1 k0_t2 = 1#1), ∀ a x, ((![v271] : Fin 1 → IVec S16 32) a x).toNat < S9216.size a := fun i k0_t1 k0_t2 v271 k0_hw12 k0_h2 => k0_hw12.2.1 k0_h2
theorem k0_idx23_inb : ∀ (i : grid0.Coords) (k0_t1 : Fin k0_t1_loop.trips) (k0_t2 : Fin k0_t2_loop.trips) (v271 : IVec S16 32) (k0_hw12 : k0_chk12 i k0_t1 k0_t2 v271), ∀ (k0_h2 : k0_cond2 i k0_t1 k0_t2 = 1#1), ∀ a x, ((![v271] : Fin 1 → IVec S16 32) a x).toNat < S9216.size a := fun i k0_t1 k0_t2 v271 k0_hw12 k0_h2 => k0_hw12.2.2.1 k0_h2
theorem k0_idx24_inb : ∀ (i : grid0.Coords) (k0_t1 : Fin k0_t1_loop.trips) (k0_t2 : Fin k0_t2_loop.trips) (v271 : IVec S16 32) (k0_hw12 : k0_chk12 i k0_t1 k0_t2 v271), ∀ (k0_h2 : k0_cond2 i k0_t1 k0_t2 = 1#1), ∀ a x, ((![v271] : Fin 1 → IVec S16 32) a x).toNat < S9216.size a := fun i k0_t1 k0_t2 v271 k0_hw12 k0_h2 => k0_hw12.2.2.2 k0_h2
def k0_off23 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v300 : Index := Scalar.indexCast v70
  let c3_i32_176 : BitVec 32 := 3#32
  let v301 : Index := Scalar.indexCast c3_i32_176
  let c3_i32_177 : BitVec 32 := 3#32
  let v302 : Index := Scalar.indexCast c3_i32_177
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_175 : BitVec 32 := 16#32
  let v299 : BitVec 32 := Scalar.muli v94 c16_i32_175
  let v303 : Index := Scalar.indexCast v299
  ![v300.toNat, 3, 3, v303.toNat]
def k0_off24 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v306 : Index := Scalar.indexCast v70
  let c4_i32_179 : BitVec 32 := 4#32
  let v307 : Index := Scalar.indexCast c4_i32_179
  let c3_i32_180 : BitVec 32 := 3#32
  let v308 : Index := Scalar.indexCast c3_i32_180
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_178 : BitVec 32 := 16#32
  let v305 : BitVec 32 := Scalar.muli v94 c16_i32_178
  let v309 : Index := Scalar.indexCast v305
  ![v306.toNat, 4, 3, v309.toNat]
def k0_off25 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v325 : Index := Scalar.indexCast v70
  let c0_i32_184 : BitVec 32 := 0#32
  let v326 : Index := Scalar.indexCast c0_i32_184
  let c4_i32_185 : BitVec 32 := 4#32
  let v327 : Index := Scalar.indexCast c4_i32_185
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_183 : BitVec 32 := 16#32
  let v324 : BitVec 32 := Scalar.muli v94 c16_i32_183
  let v328 : Index := Scalar.indexCast v324
  ![v325.toNat, 0, 4, v328.toNat]
def k0_off26 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v333 : Index := Scalar.indexCast v70
  let c1_i32_188 : BitVec 32 := 1#32
  let v334 : Index := Scalar.indexCast c1_i32_188
  let c4_i32_189 : BitVec 32 := 4#32
  let v335 : Index := Scalar.indexCast c4_i32_189
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_187 : BitVec 32 := 16#32
  let v332 : BitVec 32 := Scalar.muli v94 c16_i32_187
  let v336 : Index := Scalar.indexCast v332
  ![v333.toNat, 1, 4, v336.toNat]
def k0_off27 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v341 : Index := Scalar.indexCast v70
  let c2_i32_192 : BitVec 32 := 2#32
  let v342 : Index := Scalar.indexCast c2_i32_192
  let c4_i32_193 : BitVec 32 := 4#32
  let v343 : Index := Scalar.indexCast c4_i32_193
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_191 : BitVec 32 := 16#32
  let v340 : BitVec 32 := Scalar.muli v94 c16_i32_191
  let v344 : Index := Scalar.indexCast v340
  ![v341.toNat, 2, 4, v344.toNat]

def k0_chk13 (i : grid0.Coords) (k0_t1 : Fin k0_t1_loop.trips) (k0_t2 : Fin k0_t2_loop.trips) (v314 : IVec S16 32) : Prop :=
  (∀ (k0_h2 : k0_cond2 i k0_t1 k0_t2 = 1#1), ∀ a x, ((![v314] : Fin 1 → IVec S16 32) a x).toNat < S9216.size a) ∧
  (∀ (k0_h2 : k0_cond2 i k0_t1 k0_t2 = 1#1), ∀ a x, ((![v314] : Fin 1 → IVec S16 32) a x).toNat < S9216.size a) ∧
  (∀ (k0_h2 : k0_cond2 i k0_t1 k0_t2 = 1#1), ∀ a x, ((![v314] : Fin 1 → IVec S16 32) a x).toNat < S9216.size a) ∧
  (∀ (k0_h2 : k0_cond2 i k0_t1 k0_t2 = 1#1), ∀ a x, ((![v314] : Fin 1 → IVec S16 32) a x).toNat < S9216.size a)
theorem k0_idx25_inb : ∀ (i : grid0.Coords) (k0_t1 : Fin k0_t1_loop.trips) (k0_t2 : Fin k0_t2_loop.trips) (v314 : IVec S16 32) (k0_hw13 : k0_chk13 i k0_t1 k0_t2 v314), ∀ (k0_h2 : k0_cond2 i k0_t1 k0_t2 = 1#1), ∀ a x, ((![v314] : Fin 1 → IVec S16 32) a x).toNat < S9216.size a := fun i k0_t1 k0_t2 v314 k0_hw13 k0_h2 => k0_hw13.1 k0_h2
theorem k0_idx26_inb : ∀ (i : grid0.Coords) (k0_t1 : Fin k0_t1_loop.trips) (k0_t2 : Fin k0_t2_loop.trips) (v314 : IVec S16 32) (k0_hw13 : k0_chk13 i k0_t1 k0_t2 v314), ∀ (k0_h2 : k0_cond2 i k0_t1 k0_t2 = 1#1), ∀ a x, ((![v314] : Fin 1 → IVec S16 32) a x).toNat < S9216.size a := fun i k0_t1 k0_t2 v314 k0_hw13 k0_h2 => k0_hw13.2.1 k0_h2
theorem k0_idx27_inb : ∀ (i : grid0.Coords) (k0_t1 : Fin k0_t1_loop.trips) (k0_t2 : Fin k0_t2_loop.trips) (v314 : IVec S16 32) (k0_hw13 : k0_chk13 i k0_t1 k0_t2 v314), ∀ (k0_h2 : k0_cond2 i k0_t1 k0_t2 = 1#1), ∀ a x, ((![v314] : Fin 1 → IVec S16 32) a x).toNat < S9216.size a := fun i k0_t1 k0_t2 v314 k0_hw13 k0_h2 => k0_hw13.2.2.1 k0_h2
theorem k0_idx28_inb : ∀ (i : grid0.Coords) (k0_t1 : Fin k0_t1_loop.trips) (k0_t2 : Fin k0_t2_loop.trips) (v314 : IVec S16 32) (k0_hw13 : k0_chk13 i k0_t1 k0_t2 v314), ∀ (k0_h2 : k0_cond2 i k0_t1 k0_t2 = 1#1), ∀ a x, ((![v314] : Fin 1 → IVec S16 32) a x).toNat < S9216.size a := fun i k0_t1 k0_t2 v314 k0_hw13 k0_h2 => k0_hw13.2.2.2 k0_h2
def k0_off28 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v349 : Index := Scalar.indexCast v70
  let c3_i32_196 : BitVec 32 := 3#32
  let v350 : Index := Scalar.indexCast c3_i32_196
  let c4_i32_197 : BitVec 32 := 4#32
  let v351 : Index := Scalar.indexCast c4_i32_197
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_195 : BitVec 32 := 16#32
  let v348 : BitVec 32 := Scalar.muli v94 c16_i32_195
  let v352 : Index := Scalar.indexCast v348
  ![v349.toNat, 3, 4, v352.toNat]
def k0_off29 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v355 : Index := Scalar.indexCast v70
  let c4_i32_199 : BitVec 32 := 4#32
  let v356 : Index := Scalar.indexCast c4_i32_199
  let c4_i32_200 : BitVec 32 := 4#32
  let v357 : Index := Scalar.indexCast c4_i32_200
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_198 : BitVec 32 := 16#32
  let v354 : BitVec 32 := Scalar.muli v94 c16_i32_198
  let v358 : Index := Scalar.indexCast v354
  ![v355.toNat, 4, 4, v358.toNat]
def k0_off30 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v371 : Index := Scalar.indexCast v70
  let c0_i32_206 : BitVec 32 := 0#32
  let v372 : Index := Scalar.indexCast c0_i32_206
  let c5_i32_207 : BitVec 32 := 5#32
  let v373 : Index := Scalar.indexCast c5_i32_207
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_205 : BitVec 32 := 16#32
  let v370 : BitVec 32 := Scalar.muli v94 c16_i32_205
  let v374 : Index := Scalar.indexCast v370
  ![v371.toNat, 0, 5, v374.toNat]
def k0_off31 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v379 : Index := Scalar.indexCast v70
  let c1_i32_210 : BitVec 32 := 1#32
  let v380 : Index := Scalar.indexCast c1_i32_210
  let c5_i32_211 : BitVec 32 := 5#32
  let v381 : Index := Scalar.indexCast c5_i32_211
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_209 : BitVec 32 := 16#32
  let v378 : BitVec 32 := Scalar.muli v94 c16_i32_209
  let v382 : Index := Scalar.indexCast v378
  ![v379.toNat, 1, 5, v382.toNat]
def k0_off32 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v387 : Index := Scalar.indexCast v70
  let c2_i32_214 : BitVec 32 := 2#32
  let v388 : Index := Scalar.indexCast c2_i32_214
  let c5_i32_215 : BitVec 32 := 5#32
  let v389 : Index := Scalar.indexCast c5_i32_215
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_213 : BitVec 32 := 16#32
  let v386 : BitVec 32 := Scalar.muli v94 c16_i32_213
  let v390 : Index := Scalar.indexCast v386
  ![v387.toNat, 2, 5, v390.toNat]

def k0_chk14 (i : grid0.Coords) (k0_t1 : Fin k0_t1_loop.trips) (k0_t2 : Fin k0_t2_loop.trips) (v363 : IVec S16 32) : Prop :=
  (∀ (k0_h2 : k0_cond2 i k0_t1 k0_t2 = 1#1), ∀ a x, ((![v363] : Fin 1 → IVec S16 32) a x).toNat < S9216.size a) ∧
  (∀ (k0_h2 : k0_cond2 i k0_t1 k0_t2 = 1#1), ∀ a x, ((![v363] : Fin 1 → IVec S16 32) a x).toNat < S9216.size a) ∧
  (∀ (k0_h2 : k0_cond2 i k0_t1 k0_t2 = 1#1), ∀ a x, ((![v363] : Fin 1 → IVec S16 32) a x).toNat < S9216.size a) ∧
  (∀ (k0_h2 : k0_cond2 i k0_t1 k0_t2 = 1#1), ∀ a x, ((![v363] : Fin 1 → IVec S16 32) a x).toNat < S9216.size a)
theorem k0_idx29_inb : ∀ (i : grid0.Coords) (k0_t1 : Fin k0_t1_loop.trips) (k0_t2 : Fin k0_t2_loop.trips) (v363 : IVec S16 32) (k0_hw14 : k0_chk14 i k0_t1 k0_t2 v363), ∀ (k0_h2 : k0_cond2 i k0_t1 k0_t2 = 1#1), ∀ a x, ((![v363] : Fin 1 → IVec S16 32) a x).toNat < S9216.size a := fun i k0_t1 k0_t2 v363 k0_hw14 k0_h2 => k0_hw14.1 k0_h2
theorem k0_idx30_inb : ∀ (i : grid0.Coords) (k0_t1 : Fin k0_t1_loop.trips) (k0_t2 : Fin k0_t2_loop.trips) (v363 : IVec S16 32) (k0_hw14 : k0_chk14 i k0_t1 k0_t2 v363), ∀ (k0_h2 : k0_cond2 i k0_t1 k0_t2 = 1#1), ∀ a x, ((![v363] : Fin 1 → IVec S16 32) a x).toNat < S9216.size a := fun i k0_t1 k0_t2 v363 k0_hw14 k0_h2 => k0_hw14.2.1 k0_h2
theorem k0_idx31_inb : ∀ (i : grid0.Coords) (k0_t1 : Fin k0_t1_loop.trips) (k0_t2 : Fin k0_t2_loop.trips) (v363 : IVec S16 32) (k0_hw14 : k0_chk14 i k0_t1 k0_t2 v363), ∀ (k0_h2 : k0_cond2 i k0_t1 k0_t2 = 1#1), ∀ a x, ((![v363] : Fin 1 → IVec S16 32) a x).toNat < S9216.size a := fun i k0_t1 k0_t2 v363 k0_hw14 k0_h2 => k0_hw14.2.2.1 k0_h2
theorem k0_idx32_inb : ∀ (i : grid0.Coords) (k0_t1 : Fin k0_t1_loop.trips) (k0_t2 : Fin k0_t2_loop.trips) (v363 : IVec S16 32) (k0_hw14 : k0_chk14 i k0_t1 k0_t2 v363), ∀ (k0_h2 : k0_cond2 i k0_t1 k0_t2 = 1#1), ∀ a x, ((![v363] : Fin 1 → IVec S16 32) a x).toNat < S9216.size a := fun i k0_t1 k0_t2 v363 k0_hw14 k0_h2 => k0_hw14.2.2.2 k0_h2
def k0_off33 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v395 : Index := Scalar.indexCast v70
  let c3_i32_218 : BitVec 32 := 3#32
  let v396 : Index := Scalar.indexCast c3_i32_218
  let c5_i32_219 : BitVec 32 := 5#32
  let v397 : Index := Scalar.indexCast c5_i32_219
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_217 : BitVec 32 := 16#32
  let v394 : BitVec 32 := Scalar.muli v94 c16_i32_217
  let v398 : Index := Scalar.indexCast v394
  ![v395.toNat, 3, 5, v398.toNat]
def k0_off34 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v401 : Index := Scalar.indexCast v70
  let c4_i32_221 : BitVec 32 := 4#32
  let v402 : Index := Scalar.indexCast c4_i32_221
  let c5_i32_222 : BitVec 32 := 5#32
  let v403 : Index := Scalar.indexCast c5_i32_222
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_220 : BitVec 32 := 16#32
  let v400 : BitVec 32 := Scalar.muli v94 c16_i32_220
  let v404 : Index := Scalar.indexCast v400
  ![v401.toNat, 4, 5, v404.toNat]
def k0_off35 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v415 : Index := Scalar.indexCast v70
  let c0_i32_227 : BitVec 32 := 0#32
  let v416 : Index := Scalar.indexCast c0_i32_227
  let c6_i32_228 : BitVec 32 := 6#32
  let v417 : Index := Scalar.indexCast c6_i32_228
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_226 : BitVec 32 := 16#32
  let v414 : BitVec 32 := Scalar.muli v94 c16_i32_226
  let v418 : Index := Scalar.indexCast v414
  ![v415.toNat, 0, 6, v418.toNat]
def k0_off36 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v423 : Index := Scalar.indexCast v70
  let c1_i32_231 : BitVec 32 := 1#32
  let v424 : Index := Scalar.indexCast c1_i32_231
  let c6_i32_232 : BitVec 32 := 6#32
  let v425 : Index := Scalar.indexCast c6_i32_232
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_230 : BitVec 32 := 16#32
  let v422 : BitVec 32 := Scalar.muli v94 c16_i32_230
  let v426 : Index := Scalar.indexCast v422
  ![v423.toNat, 1, 6, v426.toNat]
def k0_off37 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v431 : Index := Scalar.indexCast v70
  let c2_i32_235 : BitVec 32 := 2#32
  let v432 : Index := Scalar.indexCast c2_i32_235
  let c6_i32_236 : BitVec 32 := 6#32
  let v433 : Index := Scalar.indexCast c6_i32_236
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_234 : BitVec 32 := 16#32
  let v430 : BitVec 32 := Scalar.muli v94 c16_i32_234
  let v434 : Index := Scalar.indexCast v430
  ![v431.toNat, 2, 6, v434.toNat]

def k0_chk15 (i : grid0.Coords) (k0_t1 : Fin k0_t1_loop.trips) (k0_t2 : Fin k0_t2_loop.trips) (v407 : IVec S16 32) : Prop :=
  (∀ (k0_h2 : k0_cond2 i k0_t1 k0_t2 = 1#1), ∀ a x, ((![v407] : Fin 1 → IVec S16 32) a x).toNat < S9216.size a) ∧
  (∀ (k0_h2 : k0_cond2 i k0_t1 k0_t2 = 1#1), ∀ a x, ((![v407] : Fin 1 → IVec S16 32) a x).toNat < S9216.size a) ∧
  (∀ (k0_h2 : k0_cond2 i k0_t1 k0_t2 = 1#1), ∀ a x, ((![v407] : Fin 1 → IVec S16 32) a x).toNat < S9216.size a) ∧
  (∀ (k0_h2 : k0_cond2 i k0_t1 k0_t2 = 1#1), ∀ a x, ((![v407] : Fin 1 → IVec S16 32) a x).toNat < S9216.size a)
theorem k0_idx33_inb : ∀ (i : grid0.Coords) (k0_t1 : Fin k0_t1_loop.trips) (k0_t2 : Fin k0_t2_loop.trips) (v407 : IVec S16 32) (k0_hw15 : k0_chk15 i k0_t1 k0_t2 v407), ∀ (k0_h2 : k0_cond2 i k0_t1 k0_t2 = 1#1), ∀ a x, ((![v407] : Fin 1 → IVec S16 32) a x).toNat < S9216.size a := fun i k0_t1 k0_t2 v407 k0_hw15 k0_h2 => k0_hw15.1 k0_h2
theorem k0_idx34_inb : ∀ (i : grid0.Coords) (k0_t1 : Fin k0_t1_loop.trips) (k0_t2 : Fin k0_t2_loop.trips) (v407 : IVec S16 32) (k0_hw15 : k0_chk15 i k0_t1 k0_t2 v407), ∀ (k0_h2 : k0_cond2 i k0_t1 k0_t2 = 1#1), ∀ a x, ((![v407] : Fin 1 → IVec S16 32) a x).toNat < S9216.size a := fun i k0_t1 k0_t2 v407 k0_hw15 k0_h2 => k0_hw15.2.1 k0_h2
theorem k0_idx35_inb : ∀ (i : grid0.Coords) (k0_t1 : Fin k0_t1_loop.trips) (k0_t2 : Fin k0_t2_loop.trips) (v407 : IVec S16 32) (k0_hw15 : k0_chk15 i k0_t1 k0_t2 v407), ∀ (k0_h2 : k0_cond2 i k0_t1 k0_t2 = 1#1), ∀ a x, ((![v407] : Fin 1 → IVec S16 32) a x).toNat < S9216.size a := fun i k0_t1 k0_t2 v407 k0_hw15 k0_h2 => k0_hw15.2.2.1 k0_h2
theorem k0_idx36_inb : ∀ (i : grid0.Coords) (k0_t1 : Fin k0_t1_loop.trips) (k0_t2 : Fin k0_t2_loop.trips) (v407 : IVec S16 32) (k0_hw15 : k0_chk15 i k0_t1 k0_t2 v407), ∀ (k0_h2 : k0_cond2 i k0_t1 k0_t2 = 1#1), ∀ a x, ((![v407] : Fin 1 → IVec S16 32) a x).toNat < S9216.size a := fun i k0_t1 k0_t2 v407 k0_hw15 k0_h2 => k0_hw15.2.2.2 k0_h2
def k0_off38 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v439 : Index := Scalar.indexCast v70
  let c3_i32_239 : BitVec 32 := 3#32
  let v440 : Index := Scalar.indexCast c3_i32_239
  let c6_i32_240 : BitVec 32 := 6#32
  let v441 : Index := Scalar.indexCast c6_i32_240
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_238 : BitVec 32 := 16#32
  let v438 : BitVec 32 := Scalar.muli v94 c16_i32_238
  let v442 : Index := Scalar.indexCast v438
  ![v439.toNat, 3, 6, v442.toNat]
def k0_off39 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v445 : Index := Scalar.indexCast v70
  let c4_i32_242 : BitVec 32 := 4#32
  let v446 : Index := Scalar.indexCast c4_i32_242
  let c6_i32_243 : BitVec 32 := 6#32
  let v447 : Index := Scalar.indexCast c6_i32_243
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_241 : BitVec 32 := 16#32
  let v444 : BitVec 32 := Scalar.muli v94 c16_i32_241
  let v448 : Index := Scalar.indexCast v444
  ![v445.toNat, 4, 6, v448.toNat]
def k0_off40 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v464 : Index := Scalar.indexCast v70
  let c0_i32_249 : BitVec 32 := 0#32
  let v465 : Index := Scalar.indexCast c0_i32_249
  let c7_i32_250 : BitVec 32 := 7#32
  let v466 : Index := Scalar.indexCast c7_i32_250
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_248 : BitVec 32 := 16#32
  let v463 : BitVec 32 := Scalar.muli v94 c16_i32_248
  let v467 : Index := Scalar.indexCast v463
  ![v464.toNat, 0, 7, v467.toNat]
def k0_off41 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v472 : Index := Scalar.indexCast v70
  let c1_i32_253 : BitVec 32 := 1#32
  let v473 : Index := Scalar.indexCast c1_i32_253
  let c7_i32_254 : BitVec 32 := 7#32
  let v474 : Index := Scalar.indexCast c7_i32_254
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_252 : BitVec 32 := 16#32
  let v471 : BitVec 32 := Scalar.muli v94 c16_i32_252
  let v475 : Index := Scalar.indexCast v471
  ![v472.toNat, 1, 7, v475.toNat]
def k0_off42 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v480 : Index := Scalar.indexCast v70
  let c2_i32_257 : BitVec 32 := 2#32
  let v481 : Index := Scalar.indexCast c2_i32_257
  let c7_i32_258 : BitVec 32 := 7#32
  let v482 : Index := Scalar.indexCast c7_i32_258
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_256 : BitVec 32 := 16#32
  let v479 : BitVec 32 := Scalar.muli v94 c16_i32_256
  let v483 : Index := Scalar.indexCast v479
  ![v480.toNat, 2, 7, v483.toNat]

def k0_chk16 (i : grid0.Coords) (k0_t1 : Fin k0_t1_loop.trips) (k0_t2 : Fin k0_t2_loop.trips) (v456 : IVec S16 32) : Prop :=
  (∀ (k0_h2 : k0_cond2 i k0_t1 k0_t2 = 1#1), ∀ a x, ((![v456] : Fin 1 → IVec S16 32) a x).toNat < S9216.size a) ∧
  (∀ (k0_h2 : k0_cond2 i k0_t1 k0_t2 = 1#1), ∀ a x, ((![v456] : Fin 1 → IVec S16 32) a x).toNat < S9216.size a) ∧
  (∀ (k0_h2 : k0_cond2 i k0_t1 k0_t2 = 1#1), ∀ a x, ((![v456] : Fin 1 → IVec S16 32) a x).toNat < S9216.size a) ∧
  (∀ (k0_h2 : k0_cond2 i k0_t1 k0_t2 = 1#1), ∀ a x, ((![v456] : Fin 1 → IVec S16 32) a x).toNat < S9216.size a)
theorem k0_idx37_inb : ∀ (i : grid0.Coords) (k0_t1 : Fin k0_t1_loop.trips) (k0_t2 : Fin k0_t2_loop.trips) (v456 : IVec S16 32) (k0_hw16 : k0_chk16 i k0_t1 k0_t2 v456), ∀ (k0_h2 : k0_cond2 i k0_t1 k0_t2 = 1#1), ∀ a x, ((![v456] : Fin 1 → IVec S16 32) a x).toNat < S9216.size a := fun i k0_t1 k0_t2 v456 k0_hw16 k0_h2 => k0_hw16.1 k0_h2
theorem k0_idx38_inb : ∀ (i : grid0.Coords) (k0_t1 : Fin k0_t1_loop.trips) (k0_t2 : Fin k0_t2_loop.trips) (v456 : IVec S16 32) (k0_hw16 : k0_chk16 i k0_t1 k0_t2 v456), ∀ (k0_h2 : k0_cond2 i k0_t1 k0_t2 = 1#1), ∀ a x, ((![v456] : Fin 1 → IVec S16 32) a x).toNat < S9216.size a := fun i k0_t1 k0_t2 v456 k0_hw16 k0_h2 => k0_hw16.2.1 k0_h2
theorem k0_idx39_inb : ∀ (i : grid0.Coords) (k0_t1 : Fin k0_t1_loop.trips) (k0_t2 : Fin k0_t2_loop.trips) (v456 : IVec S16 32) (k0_hw16 : k0_chk16 i k0_t1 k0_t2 v456), ∀ (k0_h2 : k0_cond2 i k0_t1 k0_t2 = 1#1), ∀ a x, ((![v456] : Fin 1 → IVec S16 32) a x).toNat < S9216.size a := fun i k0_t1 k0_t2 v456 k0_hw16 k0_h2 => k0_hw16.2.2.1 k0_h2
theorem k0_idx40_inb : ∀ (i : grid0.Coords) (k0_t1 : Fin k0_t1_loop.trips) (k0_t2 : Fin k0_t2_loop.trips) (v456 : IVec S16 32) (k0_hw16 : k0_chk16 i k0_t1 k0_t2 v456), ∀ (k0_h2 : k0_cond2 i k0_t1 k0_t2 = 1#1), ∀ a x, ((![v456] : Fin 1 → IVec S16 32) a x).toNat < S9216.size a := fun i k0_t1 k0_t2 v456 k0_hw16 k0_h2 => k0_hw16.2.2.2 k0_h2
def k0_off43 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v488 : Index := Scalar.indexCast v70
  let c3_i32_261 : BitVec 32 := 3#32
  let v489 : Index := Scalar.indexCast c3_i32_261
  let c7_i32_262 : BitVec 32 := 7#32
  let v490 : Index := Scalar.indexCast c7_i32_262
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_260 : BitVec 32 := 16#32
  let v487 : BitVec 32 := Scalar.muli v94 c16_i32_260
  let v491 : Index := Scalar.indexCast v487
  ![v488.toNat, 3, 7, v491.toNat]
def k0_off44 (k0_t2 : Fin k0_t2_loop.trips) (k0_t3 : Fin k0_t3_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v494 : Index := Scalar.indexCast v70
  let c4_i32_264 : BitVec 32 := 4#32
  let v495 : Index := Scalar.indexCast c4_i32_264
  let c7_i32_265 : BitVec 32 := 7#32
  let v496 : Index := Scalar.indexCast c7_i32_265
  let c0_i32_81 : BitVec 32 := 0#32
  let c0_i32_77 : BitVec 32 := 0#32
  let c1_i32_78 : BitVec 32 := 1#32
  let arg11 : BitVec 32 := Scf.iv c0_i32_77 c1_i32_78 k0_t3
  let c1_i32_80 : BitVec 32 := 1#32
  let v93 : BitVec 32 := Scalar.muli arg11 c1_i32_80
  let v94 : BitVec 32 := Scalar.addi c0_i32_81 v93
  let c16_i32_263 : BitVec 32 := 16#32
  let v493 : BitVec 32 := Scalar.muli v94 c16_i32_263
  let v497 : Index := Scalar.indexCast v493
  ![v494.toNat, 4, 7, v497.toNat]
def k0_cond3 (i : grid0.Coords) (k0_t1 : Fin k0_t1_loop.trips) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_3 : BitVec 32 := 5#32
  let v6 : BitVec 32 := Scalar.muli v1 c5_i32_3
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v4 : BitVec 32 := Scalar.muli arg9 c1_i32_1
  let v5 : BitVec 32 := Scalar.addi c0_i32_2 v4
  let v7 : BitVec 32 := Scalar.addi v6 v5
  let c2_i32_11 : BitVec 32 := 2#32
  let c0_i32_12 : BitVec 32 := 0#32
  let v25 : BitVec 1 := Scalar.cmpi .eq c2_i32_11 c0_i32_12
  let c1_i32_13 : BitVec 32 := 1#32
  let v26 : BitVec 32 := Scalar.select v25 c1_i32_13 c2_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c20_i32_52 : BitVec 32 := 20#32
  let v59 : BitVec 32 := Scalar.muli v34 c20_i32_52
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let v60 : BitVec 32 := Scalar.addi v59 v58
  let c0_i32_63 : BitVec 32 := 0#32
  let v77 : BitVec 1 := Scalar.cmpi .sgt v60 c0_i32_63
  let v78 : BitVec 32 := Scalar.extui v77
  let c0_i32_64 : BitVec 32 := 0#32
  let v79 : BitVec 1 := Scalar.cmpi .ne v78 c0_i32_64
  v79

@[reducible] def k0_t4_loop : Scf.Loop 32 :=
  let c0_i32_77 : BitVec 32 := 0#32
  let c8_i32 : BitVec 32 := 8#32
  let v92 : BitVec 32 := Scalar.addi c0_i32_77 c8_i32
  let c1_i32_78 : BitVec 32 := 1#32
  ⟨c0_i32_77, v92, c1_i32_78⟩

def k0_chk17 (i : grid0.Coords) (k0_t1 : Fin k0_t1_loop.trips) (k0_t2 : Fin k0_t2_loop.trips) (v97 : IVec S16 32) (v100 : IVec S16 32) : Prop :=
  (∀ (k0_h3 : k0_cond3 i k0_t1 k0_t2 = 1#1), ∀ a x, ((![v97, v100] : Fin 2 → IVec S16 32) a x).toNat < S128x278.size a)
theorem k0_idx41_inb : ∀ (i : grid0.Coords) (k0_t1 : Fin k0_t1_loop.trips) (k0_t2 : Fin k0_t2_loop.trips) (v97 : IVec S16 32) (v100 : IVec S16 32) (k0_hw17 : k0_chk17 i k0_t1 k0_t2 v97 v100), ∀ (k0_h3 : k0_cond3 i k0_t1 k0_t2 = 1#1), ∀ a x, ((![v97, v100] : Fin 2 → IVec S16 32) a x).toNat < S128x278.size a := fun i k0_t1 k0_t2 v97 v100 k0_hw17 k0_h3 => k0_hw17 k0_h3

def k0_chk18 (i : grid0.Coords) (k0_t1 : Fin k0_t1_loop.trips) (k0_t2 : Fin k0_t2_loop.trips) (v97 : IVec S16 32) (v104 : IVec S16 32) : Prop :=
  (∀ (k0_h3 : k0_cond3 i k0_t1 k0_t2 = 1#1), ∀ a x, ((![v97, v104] : Fin 2 → IVec S16 32) a x).toNat < S128x278.size a)
theorem k0_idx42_inb : ∀ (i : grid0.Coords) (k0_t1 : Fin k0_t1_loop.trips) (k0_t2 : Fin k0_t2_loop.trips) (v97 : IVec S16 32) (v104 : IVec S16 32) (k0_hw18 : k0_chk18 i k0_t1 k0_t2 v97 v104), ∀ (k0_h3 : k0_cond3 i k0_t1 k0_t2 = 1#1), ∀ a x, ((![v97, v104] : Fin 2 → IVec S16 32) a x).toNat < S128x278.size a := fun i k0_t1 k0_t2 v97 v104 k0_hw18 k0_h3 => k0_hw18 k0_h3

def k0_chk19 (i : grid0.Coords) (k0_t1 : Fin k0_t1_loop.trips) (k0_t2 : Fin k0_t2_loop.trips) (v97 : IVec S16 32) (v108 : IVec S16 32) : Prop :=
  (∀ (k0_h3 : k0_cond3 i k0_t1 k0_t2 = 1#1), ∀ a x, ((![v97, v108] : Fin 2 → IVec S16 32) a x).toNat < S128x278.size a)
theorem k0_idx43_inb : ∀ (i : grid0.Coords) (k0_t1 : Fin k0_t1_loop.trips) (k0_t2 : Fin k0_t2_loop.trips) (v97 : IVec S16 32) (v108 : IVec S16 32) (k0_hw19 : k0_chk19 i k0_t1 k0_t2 v97 v108), ∀ (k0_h3 : k0_cond3 i k0_t1 k0_t2 = 1#1), ∀ a x, ((![v97, v108] : Fin 2 → IVec S16 32) a x).toNat < S128x278.size a := fun i k0_t1 k0_t2 v97 v108 k0_hw19 k0_h3 => k0_hw19 k0_h3

def k0_chk20 (i : grid0.Coords) (k0_t1 : Fin k0_t1_loop.trips) (k0_t2 : Fin k0_t2_loop.trips) (v97 : IVec S16 32) (v112 : IVec S16 32) : Prop :=
  (∀ (k0_h3 : k0_cond3 i k0_t1 k0_t2 = 1#1), ∀ a x, ((![v97, v112] : Fin 2 → IVec S16 32) a x).toNat < S128x278.size a)
theorem k0_idx44_inb : ∀ (i : grid0.Coords) (k0_t1 : Fin k0_t1_loop.trips) (k0_t2 : Fin k0_t2_loop.trips) (v97 : IVec S16 32) (v112 : IVec S16 32) (k0_hw20 : k0_chk20 i k0_t1 k0_t2 v97 v112), ∀ (k0_h3 : k0_cond3 i k0_t1 k0_t2 = 1#1), ∀ a x, ((![v97, v112] : Fin 2 → IVec S16 32) a x).toNat < S128x278.size a := fun i k0_t1 k0_t2 v97 v112 k0_hw20 k0_h3 => k0_hw20 k0_h3

def k0_chk21 (i : grid0.Coords) (k0_t1 : Fin k0_t1_loop.trips) (k0_t2 : Fin k0_t2_loop.trips) (v97 : IVec S16 32) (v116 : IVec S16 32) : Prop :=
  (∀ (k0_h3 : k0_cond3 i k0_t1 k0_t2 = 1#1), ∀ a x, ((![v97, v116] : Fin 2 → IVec S16 32) a x).toNat < S128x278.size a)
theorem k0_idx45_inb : ∀ (i : grid0.Coords) (k0_t1 : Fin k0_t1_loop.trips) (k0_t2 : Fin k0_t2_loop.trips) (v97 : IVec S16 32) (v116 : IVec S16 32) (k0_hw21 : k0_chk21 i k0_t1 k0_t2 v97 v116), ∀ (k0_h3 : k0_cond3 i k0_t1 k0_t2 = 1#1), ∀ a x, ((![v97, v116] : Fin 2 → IVec S16 32) a x).toNat < S128x278.size a := fun i k0_t1 k0_t2 v97 v116 k0_hw21 k0_h3 => k0_hw21 k0_h3

def k0_chk22 (i : grid0.Coords) (k0_t1 : Fin k0_t1_loop.trips) (k0_t2 : Fin k0_t2_loop.trips) (v97 : IVec S16 32) (v120 : IVec S16 32) : Prop :=
  (∀ (k0_h3 : k0_cond3 i k0_t1 k0_t2 = 1#1), ∀ a x, ((![v97, v120] : Fin 2 → IVec S16 32) a x).toNat < S128x278.size a)
theorem k0_idx46_inb : ∀ (i : grid0.Coords) (k0_t1 : Fin k0_t1_loop.trips) (k0_t2 : Fin k0_t2_loop.trips) (v97 : IVec S16 32) (v120 : IVec S16 32) (k0_hw22 : k0_chk22 i k0_t1 k0_t2 v97 v120), ∀ (k0_h3 : k0_cond3 i k0_t1 k0_t2 = 1#1), ∀ a x, ((![v97, v120] : Fin 2 → IVec S16 32) a x).toNat < S128x278.size a := fun i k0_t1 k0_t2 v97 v120 k0_hw22 k0_h3 => k0_hw22 k0_h3

def k0_chk23 (i : grid0.Coords) (k0_t1 : Fin k0_t1_loop.trips) (k0_t2 : Fin k0_t2_loop.trips) (v97 : IVec S16 32) (v124 : IVec S16 32) : Prop :=
  (∀ (k0_h3 : k0_cond3 i k0_t1 k0_t2 = 1#1), ∀ a x, ((![v97, v124] : Fin 2 → IVec S16 32) a x).toNat < S128x278.size a)
theorem k0_idx47_inb : ∀ (i : grid0.Coords) (k0_t1 : Fin k0_t1_loop.trips) (k0_t2 : Fin k0_t2_loop.trips) (v97 : IVec S16 32) (v124 : IVec S16 32) (k0_hw23 : k0_chk23 i k0_t1 k0_t2 v97 v124), ∀ (k0_h3 : k0_cond3 i k0_t1 k0_t2 = 1#1), ∀ a x, ((![v97, v124] : Fin 2 → IVec S16 32) a x).toNat < S128x278.size a := fun i k0_t1 k0_t2 v97 v124 k0_hw23 k0_h3 => k0_hw23 k0_h3

def k0_chk24 (i : grid0.Coords) (k0_t1 : Fin k0_t1_loop.trips) (k0_t2 : Fin k0_t2_loop.trips) (v97 : IVec S16 32) (v128 : IVec S16 32) : Prop :=
  (∀ (k0_h3 : k0_cond3 i k0_t1 k0_t2 = 1#1), ∀ a x, ((![v97, v128] : Fin 2 → IVec S16 32) a x).toNat < S128x278.size a)
theorem k0_idx48_inb : ∀ (i : grid0.Coords) (k0_t1 : Fin k0_t1_loop.trips) (k0_t2 : Fin k0_t2_loop.trips) (v97 : IVec S16 32) (v128 : IVec S16 32) (k0_hw24 : k0_chk24 i k0_t1 k0_t2 v97 v128), ∀ (k0_h3 : k0_cond3 i k0_t1 k0_t2 = 1#1), ∀ a x, ((![v97, v128] : Fin 2 → IVec S16 32) a x).toNat < S128x278.size a := fun i k0_t1 k0_t2 v97 v128 k0_hw24 k0_h3 => k0_hw24 k0_h3
def k0_off45 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v144 : Index := Scalar.indexCast v70
  let c0_i32_100 : BitVec 32 := 0#32
  let v145 : Index := Scalar.indexCast c0_i32_100
  let c0_i32_101 : BitVec 32 := 0#32
  let v146 : Index := Scalar.indexCast c0_i32_101
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_99 : BitVec 32 := 16#32
  let v143 : BitVec 32 := Scalar.muli v94 c16_i32_99
  let v147 : Index := Scalar.indexCast v143
  ![v144.toNat, 0, 0, v147.toNat]
def k0_off46 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v152 : Index := Scalar.indexCast v70
  let c1_i32_103 : BitVec 32 := 1#32
  let v153 : Index := Scalar.indexCast c1_i32_103
  let c0_i32_104 : BitVec 32 := 0#32
  let v154 : Index := Scalar.indexCast c0_i32_104
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_102 : BitVec 32 := 16#32
  let v151 : BitVec 32 := Scalar.muli v94 c16_i32_102
  let v155 : Index := Scalar.indexCast v151
  ![v152.toNat, 1, 0, v155.toNat]
def k0_off47 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v160 : Index := Scalar.indexCast v70
  let c2_i32_106 : BitVec 32 := 2#32
  let v161 : Index := Scalar.indexCast c2_i32_106
  let c0_i32_107 : BitVec 32 := 0#32
  let v162 : Index := Scalar.indexCast c0_i32_107
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_105 : BitVec 32 := 16#32
  let v159 : BitVec 32 := Scalar.muli v94 c16_i32_105
  let v163 : Index := Scalar.indexCast v159
  ![v160.toNat, 2, 0, v163.toNat]

def k0_chk25 (i : grid0.Coords) (k0_t1 : Fin k0_t1_loop.trips) (k0_t2 : Fin k0_t2_loop.trips) (v136 : IVec S16 32) : Prop :=
  (∀ (k0_h3 : k0_cond3 i k0_t1 k0_t2 = 1#1), ∀ a x, ((![v136] : Fin 1 → IVec S16 32) a x).toNat < S9216.size a) ∧
  (∀ (k0_h3 : k0_cond3 i k0_t1 k0_t2 = 1#1), ∀ a x, ((![v136] : Fin 1 → IVec S16 32) a x).toNat < S9216.size a) ∧
  (∀ (k0_h3 : k0_cond3 i k0_t1 k0_t2 = 1#1), ∀ a x, ((![v136] : Fin 1 → IVec S16 32) a x).toNat < S9216.size a) ∧
  (∀ (k0_h3 : k0_cond3 i k0_t1 k0_t2 = 1#1), ∀ a x, ((![v136] : Fin 1 → IVec S16 32) a x).toNat < S9216.size a)
theorem k0_idx49_inb : ∀ (i : grid0.Coords) (k0_t1 : Fin k0_t1_loop.trips) (k0_t2 : Fin k0_t2_loop.trips) (v136 : IVec S16 32) (k0_hw25 : k0_chk25 i k0_t1 k0_t2 v136), ∀ (k0_h3 : k0_cond3 i k0_t1 k0_t2 = 1#1), ∀ a x, ((![v136] : Fin 1 → IVec S16 32) a x).toNat < S9216.size a := fun i k0_t1 k0_t2 v136 k0_hw25 k0_h3 => k0_hw25.1 k0_h3
theorem k0_idx50_inb : ∀ (i : grid0.Coords) (k0_t1 : Fin k0_t1_loop.trips) (k0_t2 : Fin k0_t2_loop.trips) (v136 : IVec S16 32) (k0_hw25 : k0_chk25 i k0_t1 k0_t2 v136), ∀ (k0_h3 : k0_cond3 i k0_t1 k0_t2 = 1#1), ∀ a x, ((![v136] : Fin 1 → IVec S16 32) a x).toNat < S9216.size a := fun i k0_t1 k0_t2 v136 k0_hw25 k0_h3 => k0_hw25.2.1 k0_h3
theorem k0_idx51_inb : ∀ (i : grid0.Coords) (k0_t1 : Fin k0_t1_loop.trips) (k0_t2 : Fin k0_t2_loop.trips) (v136 : IVec S16 32) (k0_hw25 : k0_chk25 i k0_t1 k0_t2 v136), ∀ (k0_h3 : k0_cond3 i k0_t1 k0_t2 = 1#1), ∀ a x, ((![v136] : Fin 1 → IVec S16 32) a x).toNat < S9216.size a := fun i k0_t1 k0_t2 v136 k0_hw25 k0_h3 => k0_hw25.2.2.1 k0_h3
theorem k0_idx52_inb : ∀ (i : grid0.Coords) (k0_t1 : Fin k0_t1_loop.trips) (k0_t2 : Fin k0_t2_loop.trips) (v136 : IVec S16 32) (k0_hw25 : k0_chk25 i k0_t1 k0_t2 v136), ∀ (k0_h3 : k0_cond3 i k0_t1 k0_t2 = 1#1), ∀ a x, ((![v136] : Fin 1 → IVec S16 32) a x).toNat < S9216.size a := fun i k0_t1 k0_t2 v136 k0_hw25 k0_h3 => k0_hw25.2.2.2 k0_h3
def k0_off48 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v168 : Index := Scalar.indexCast v70
  let c3_i32_109 : BitVec 32 := 3#32
  let v169 : Index := Scalar.indexCast c3_i32_109
  let c0_i32_110 : BitVec 32 := 0#32
  let v170 : Index := Scalar.indexCast c0_i32_110
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_108 : BitVec 32 := 16#32
  let v167 : BitVec 32 := Scalar.muli v94 c16_i32_108
  let v171 : Index := Scalar.indexCast v167
  ![v168.toNat, 3, 0, v171.toNat]
def k0_off49 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v174 : Index := Scalar.indexCast v70
  let c4_i32_112 : BitVec 32 := 4#32
  let v175 : Index := Scalar.indexCast c4_i32_112
  let c0_i32_113 : BitVec 32 := 0#32
  let v176 : Index := Scalar.indexCast c0_i32_113
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_111 : BitVec 32 := 16#32
  let v173 : BitVec 32 := Scalar.muli v94 c16_i32_111
  let v177 : Index := Scalar.indexCast v173
  ![v174.toNat, 4, 0, v177.toNat]
def k0_off50 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v193 : Index := Scalar.indexCast v70
  let c0_i32_120 : BitVec 32 := 0#32
  let v194 : Index := Scalar.indexCast c0_i32_120
  let c1_i32_121 : BitVec 32 := 1#32
  let v195 : Index := Scalar.indexCast c1_i32_121
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_119 : BitVec 32 := 16#32
  let v192 : BitVec 32 := Scalar.muli v94 c16_i32_119
  let v196 : Index := Scalar.indexCast v192
  ![v193.toNat, 0, 1, v196.toNat]
def k0_off51 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v201 : Index := Scalar.indexCast v70
  let c1_i32_124 : BitVec 32 := 1#32
  let v202 : Index := Scalar.indexCast c1_i32_124
  let c1_i32_125 : BitVec 32 := 1#32
  let v203 : Index := Scalar.indexCast c1_i32_125
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_123 : BitVec 32 := 16#32
  let v200 : BitVec 32 := Scalar.muli v94 c16_i32_123
  let v204 : Index := Scalar.indexCast v200
  ![v201.toNat, 1, 1, v204.toNat]
def k0_off52 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v209 : Index := Scalar.indexCast v70
  let c2_i32_128 : BitVec 32 := 2#32
  let v210 : Index := Scalar.indexCast c2_i32_128
  let c1_i32_129 : BitVec 32 := 1#32
  let v211 : Index := Scalar.indexCast c1_i32_129
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_127 : BitVec 32 := 16#32
  let v208 : BitVec 32 := Scalar.muli v94 c16_i32_127
  let v212 : Index := Scalar.indexCast v208
  ![v209.toNat, 2, 1, v212.toNat]

def k0_chk26 (i : grid0.Coords) (k0_t1 : Fin k0_t1_loop.trips) (k0_t2 : Fin k0_t2_loop.trips) (v185 : IVec S16 32) : Prop :=
  (∀ (k0_h3 : k0_cond3 i k0_t1 k0_t2 = 1#1), ∀ a x, ((![v185] : Fin 1 → IVec S16 32) a x).toNat < S9216.size a) ∧
  (∀ (k0_h3 : k0_cond3 i k0_t1 k0_t2 = 1#1), ∀ a x, ((![v185] : Fin 1 → IVec S16 32) a x).toNat < S9216.size a) ∧
  (∀ (k0_h3 : k0_cond3 i k0_t1 k0_t2 = 1#1), ∀ a x, ((![v185] : Fin 1 → IVec S16 32) a x).toNat < S9216.size a) ∧
  (∀ (k0_h3 : k0_cond3 i k0_t1 k0_t2 = 1#1), ∀ a x, ((![v185] : Fin 1 → IVec S16 32) a x).toNat < S9216.size a)
theorem k0_idx53_inb : ∀ (i : grid0.Coords) (k0_t1 : Fin k0_t1_loop.trips) (k0_t2 : Fin k0_t2_loop.trips) (v185 : IVec S16 32) (k0_hw26 : k0_chk26 i k0_t1 k0_t2 v185), ∀ (k0_h3 : k0_cond3 i k0_t1 k0_t2 = 1#1), ∀ a x, ((![v185] : Fin 1 → IVec S16 32) a x).toNat < S9216.size a := fun i k0_t1 k0_t2 v185 k0_hw26 k0_h3 => k0_hw26.1 k0_h3
theorem k0_idx54_inb : ∀ (i : grid0.Coords) (k0_t1 : Fin k0_t1_loop.trips) (k0_t2 : Fin k0_t2_loop.trips) (v185 : IVec S16 32) (k0_hw26 : k0_chk26 i k0_t1 k0_t2 v185), ∀ (k0_h3 : k0_cond3 i k0_t1 k0_t2 = 1#1), ∀ a x, ((![v185] : Fin 1 → IVec S16 32) a x).toNat < S9216.size a := fun i k0_t1 k0_t2 v185 k0_hw26 k0_h3 => k0_hw26.2.1 k0_h3
theorem k0_idx55_inb : ∀ (i : grid0.Coords) (k0_t1 : Fin k0_t1_loop.trips) (k0_t2 : Fin k0_t2_loop.trips) (v185 : IVec S16 32) (k0_hw26 : k0_chk26 i k0_t1 k0_t2 v185), ∀ (k0_h3 : k0_cond3 i k0_t1 k0_t2 = 1#1), ∀ a x, ((![v185] : Fin 1 → IVec S16 32) a x).toNat < S9216.size a := fun i k0_t1 k0_t2 v185 k0_hw26 k0_h3 => k0_hw26.2.2.1 k0_h3
theorem k0_idx56_inb : ∀ (i : grid0.Coords) (k0_t1 : Fin k0_t1_loop.trips) (k0_t2 : Fin k0_t2_loop.trips) (v185 : IVec S16 32) (k0_hw26 : k0_chk26 i k0_t1 k0_t2 v185), ∀ (k0_h3 : k0_cond3 i k0_t1 k0_t2 = 1#1), ∀ a x, ((![v185] : Fin 1 → IVec S16 32) a x).toNat < S9216.size a := fun i k0_t1 k0_t2 v185 k0_hw26 k0_h3 => k0_hw26.2.2.2 k0_h3
def k0_off53 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v217 : Index := Scalar.indexCast v70
  let c3_i32_132 : BitVec 32 := 3#32
  let v218 : Index := Scalar.indexCast c3_i32_132
  let c1_i32_133 : BitVec 32 := 1#32
  let v219 : Index := Scalar.indexCast c1_i32_133
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_131 : BitVec 32 := 16#32
  let v216 : BitVec 32 := Scalar.muli v94 c16_i32_131
  let v220 : Index := Scalar.indexCast v216
  ![v217.toNat, 3, 1, v220.toNat]
def k0_off54 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v223 : Index := Scalar.indexCast v70
  let c4_i32_135 : BitVec 32 := 4#32
  let v224 : Index := Scalar.indexCast c4_i32_135
  let c1_i32_136 : BitVec 32 := 1#32
  let v225 : Index := Scalar.indexCast c1_i32_136
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_134 : BitVec 32 := 16#32
  let v222 : BitVec 32 := Scalar.muli v94 c16_i32_134
  let v226 : Index := Scalar.indexCast v222
  ![v223.toNat, 4, 1, v226.toNat]
def k0_off55 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v242 : Index := Scalar.indexCast v70
  let c0_i32_143 : BitVec 32 := 0#32
  let v243 : Index := Scalar.indexCast c0_i32_143
  let c2_i32_144 : BitVec 32 := 2#32
  let v244 : Index := Scalar.indexCast c2_i32_144
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_142 : BitVec 32 := 16#32
  let v241 : BitVec 32 := Scalar.muli v94 c16_i32_142
  let v245 : Index := Scalar.indexCast v241
  ![v242.toNat, 0, 2, v245.toNat]
def k0_off56 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v250 : Index := Scalar.indexCast v70
  let c1_i32_147 : BitVec 32 := 1#32
  let v251 : Index := Scalar.indexCast c1_i32_147
  let c2_i32_148 : BitVec 32 := 2#32
  let v252 : Index := Scalar.indexCast c2_i32_148
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_146 : BitVec 32 := 16#32
  let v249 : BitVec 32 := Scalar.muli v94 c16_i32_146
  let v253 : Index := Scalar.indexCast v249
  ![v250.toNat, 1, 2, v253.toNat]
def k0_off57 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v258 : Index := Scalar.indexCast v70
  let c2_i32_151 : BitVec 32 := 2#32
  let v259 : Index := Scalar.indexCast c2_i32_151
  let c2_i32_152 : BitVec 32 := 2#32
  let v260 : Index := Scalar.indexCast c2_i32_152
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_150 : BitVec 32 := 16#32
  let v257 : BitVec 32 := Scalar.muli v94 c16_i32_150
  let v261 : Index := Scalar.indexCast v257
  ![v258.toNat, 2, 2, v261.toNat]

def k0_chk27 (i : grid0.Coords) (k0_t1 : Fin k0_t1_loop.trips) (k0_t2 : Fin k0_t2_loop.trips) (v231 : IVec S16 32) : Prop :=
  (∀ (k0_h3 : k0_cond3 i k0_t1 k0_t2 = 1#1), ∀ a x, ((![v231] : Fin 1 → IVec S16 32) a x).toNat < S9216.size a) ∧
  (∀ (k0_h3 : k0_cond3 i k0_t1 k0_t2 = 1#1), ∀ a x, ((![v231] : Fin 1 → IVec S16 32) a x).toNat < S9216.size a) ∧
  (∀ (k0_h3 : k0_cond3 i k0_t1 k0_t2 = 1#1), ∀ a x, ((![v231] : Fin 1 → IVec S16 32) a x).toNat < S9216.size a) ∧
  (∀ (k0_h3 : k0_cond3 i k0_t1 k0_t2 = 1#1), ∀ a x, ((![v231] : Fin 1 → IVec S16 32) a x).toNat < S9216.size a)
theorem k0_idx57_inb : ∀ (i : grid0.Coords) (k0_t1 : Fin k0_t1_loop.trips) (k0_t2 : Fin k0_t2_loop.trips) (v231 : IVec S16 32) (k0_hw27 : k0_chk27 i k0_t1 k0_t2 v231), ∀ (k0_h3 : k0_cond3 i k0_t1 k0_t2 = 1#1), ∀ a x, ((![v231] : Fin 1 → IVec S16 32) a x).toNat < S9216.size a := fun i k0_t1 k0_t2 v231 k0_hw27 k0_h3 => k0_hw27.1 k0_h3
theorem k0_idx58_inb : ∀ (i : grid0.Coords) (k0_t1 : Fin k0_t1_loop.trips) (k0_t2 : Fin k0_t2_loop.trips) (v231 : IVec S16 32) (k0_hw27 : k0_chk27 i k0_t1 k0_t2 v231), ∀ (k0_h3 : k0_cond3 i k0_t1 k0_t2 = 1#1), ∀ a x, ((![v231] : Fin 1 → IVec S16 32) a x).toNat < S9216.size a := fun i k0_t1 k0_t2 v231 k0_hw27 k0_h3 => k0_hw27.2.1 k0_h3
theorem k0_idx59_inb : ∀ (i : grid0.Coords) (k0_t1 : Fin k0_t1_loop.trips) (k0_t2 : Fin k0_t2_loop.trips) (v231 : IVec S16 32) (k0_hw27 : k0_chk27 i k0_t1 k0_t2 v231), ∀ (k0_h3 : k0_cond3 i k0_t1 k0_t2 = 1#1), ∀ a x, ((![v231] : Fin 1 → IVec S16 32) a x).toNat < S9216.size a := fun i k0_t1 k0_t2 v231 k0_hw27 k0_h3 => k0_hw27.2.2.1 k0_h3
theorem k0_idx60_inb : ∀ (i : grid0.Coords) (k0_t1 : Fin k0_t1_loop.trips) (k0_t2 : Fin k0_t2_loop.trips) (v231 : IVec S16 32) (k0_hw27 : k0_chk27 i k0_t1 k0_t2 v231), ∀ (k0_h3 : k0_cond3 i k0_t1 k0_t2 = 1#1), ∀ a x, ((![v231] : Fin 1 → IVec S16 32) a x).toNat < S9216.size a := fun i k0_t1 k0_t2 v231 k0_hw27 k0_h3 => k0_hw27.2.2.2 k0_h3
def k0_off58 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v266 : Index := Scalar.indexCast v70
  let c3_i32_155 : BitVec 32 := 3#32
  let v267 : Index := Scalar.indexCast c3_i32_155
  let c2_i32_156 : BitVec 32 := 2#32
  let v268 : Index := Scalar.indexCast c2_i32_156
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_154 : BitVec 32 := 16#32
  let v265 : BitVec 32 := Scalar.muli v94 c16_i32_154
  let v269 : Index := Scalar.indexCast v265
  ![v266.toNat, 3, 2, v269.toNat]
def k0_off59 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v272 : Index := Scalar.indexCast v70
  let c4_i32_158 : BitVec 32 := 4#32
  let v273 : Index := Scalar.indexCast c4_i32_158
  let c2_i32_159 : BitVec 32 := 2#32
  let v274 : Index := Scalar.indexCast c2_i32_159
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_157 : BitVec 32 := 16#32
  let v271 : BitVec 32 := Scalar.muli v94 c16_i32_157
  let v275 : Index := Scalar.indexCast v271
  ![v272.toNat, 4, 2, v275.toNat]
def k0_off60 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v291 : Index := Scalar.indexCast v70
  let c0_i32_166 : BitVec 32 := 0#32
  let v292 : Index := Scalar.indexCast c0_i32_166
  let c3_i32_167 : BitVec 32 := 3#32
  let v293 : Index := Scalar.indexCast c3_i32_167
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_165 : BitVec 32 := 16#32
  let v290 : BitVec 32 := Scalar.muli v94 c16_i32_165
  let v294 : Index := Scalar.indexCast v290
  ![v291.toNat, 0, 3, v294.toNat]
def k0_off61 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v299 : Index := Scalar.indexCast v70
  let c1_i32_170 : BitVec 32 := 1#32
  let v300 : Index := Scalar.indexCast c1_i32_170
  let c3_i32_171 : BitVec 32 := 3#32
  let v301 : Index := Scalar.indexCast c3_i32_171
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_169 : BitVec 32 := 16#32
  let v298 : BitVec 32 := Scalar.muli v94 c16_i32_169
  let v302 : Index := Scalar.indexCast v298
  ![v299.toNat, 1, 3, v302.toNat]
def k0_off62 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v307 : Index := Scalar.indexCast v70
  let c2_i32_174 : BitVec 32 := 2#32
  let v308 : Index := Scalar.indexCast c2_i32_174
  let c3_i32_175 : BitVec 32 := 3#32
  let v309 : Index := Scalar.indexCast c3_i32_175
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_173 : BitVec 32 := 16#32
  let v306 : BitVec 32 := Scalar.muli v94 c16_i32_173
  let v310 : Index := Scalar.indexCast v306
  ![v307.toNat, 2, 3, v310.toNat]

def k0_chk28 (i : grid0.Coords) (k0_t1 : Fin k0_t1_loop.trips) (k0_t2 : Fin k0_t2_loop.trips) (v280 : IVec S16 32) : Prop :=
  (∀ (k0_h3 : k0_cond3 i k0_t1 k0_t2 = 1#1), ∀ a x, ((![v280] : Fin 1 → IVec S16 32) a x).toNat < S9216.size a) ∧
  (∀ (k0_h3 : k0_cond3 i k0_t1 k0_t2 = 1#1), ∀ a x, ((![v280] : Fin 1 → IVec S16 32) a x).toNat < S9216.size a) ∧
  (∀ (k0_h3 : k0_cond3 i k0_t1 k0_t2 = 1#1), ∀ a x, ((![v280] : Fin 1 → IVec S16 32) a x).toNat < S9216.size a) ∧
  (∀ (k0_h3 : k0_cond3 i k0_t1 k0_t2 = 1#1), ∀ a x, ((![v280] : Fin 1 → IVec S16 32) a x).toNat < S9216.size a)
theorem k0_idx61_inb : ∀ (i : grid0.Coords) (k0_t1 : Fin k0_t1_loop.trips) (k0_t2 : Fin k0_t2_loop.trips) (v280 : IVec S16 32) (k0_hw28 : k0_chk28 i k0_t1 k0_t2 v280), ∀ (k0_h3 : k0_cond3 i k0_t1 k0_t2 = 1#1), ∀ a x, ((![v280] : Fin 1 → IVec S16 32) a x).toNat < S9216.size a := fun i k0_t1 k0_t2 v280 k0_hw28 k0_h3 => k0_hw28.1 k0_h3
theorem k0_idx62_inb : ∀ (i : grid0.Coords) (k0_t1 : Fin k0_t1_loop.trips) (k0_t2 : Fin k0_t2_loop.trips) (v280 : IVec S16 32) (k0_hw28 : k0_chk28 i k0_t1 k0_t2 v280), ∀ (k0_h3 : k0_cond3 i k0_t1 k0_t2 = 1#1), ∀ a x, ((![v280] : Fin 1 → IVec S16 32) a x).toNat < S9216.size a := fun i k0_t1 k0_t2 v280 k0_hw28 k0_h3 => k0_hw28.2.1 k0_h3
theorem k0_idx63_inb : ∀ (i : grid0.Coords) (k0_t1 : Fin k0_t1_loop.trips) (k0_t2 : Fin k0_t2_loop.trips) (v280 : IVec S16 32) (k0_hw28 : k0_chk28 i k0_t1 k0_t2 v280), ∀ (k0_h3 : k0_cond3 i k0_t1 k0_t2 = 1#1), ∀ a x, ((![v280] : Fin 1 → IVec S16 32) a x).toNat < S9216.size a := fun i k0_t1 k0_t2 v280 k0_hw28 k0_h3 => k0_hw28.2.2.1 k0_h3
theorem k0_idx64_inb : ∀ (i : grid0.Coords) (k0_t1 : Fin k0_t1_loop.trips) (k0_t2 : Fin k0_t2_loop.trips) (v280 : IVec S16 32) (k0_hw28 : k0_chk28 i k0_t1 k0_t2 v280), ∀ (k0_h3 : k0_cond3 i k0_t1 k0_t2 = 1#1), ∀ a x, ((![v280] : Fin 1 → IVec S16 32) a x).toNat < S9216.size a := fun i k0_t1 k0_t2 v280 k0_hw28 k0_h3 => k0_hw28.2.2.2 k0_h3
def k0_off63 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v315 : Index := Scalar.indexCast v70
  let c3_i32_178 : BitVec 32 := 3#32
  let v316 : Index := Scalar.indexCast c3_i32_178
  let c3_i32_179 : BitVec 32 := 3#32
  let v317 : Index := Scalar.indexCast c3_i32_179
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_177 : BitVec 32 := 16#32
  let v314 : BitVec 32 := Scalar.muli v94 c16_i32_177
  let v318 : Index := Scalar.indexCast v314
  ![v315.toNat, 3, 3, v318.toNat]
def k0_off64 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v321 : Index := Scalar.indexCast v70
  let c4_i32_181 : BitVec 32 := 4#32
  let v322 : Index := Scalar.indexCast c4_i32_181
  let c3_i32_182 : BitVec 32 := 3#32
  let v323 : Index := Scalar.indexCast c3_i32_182
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_180 : BitVec 32 := 16#32
  let v320 : BitVec 32 := Scalar.muli v94 c16_i32_180
  let v324 : Index := Scalar.indexCast v320
  ![v321.toNat, 4, 3, v324.toNat]
def k0_off65 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v340 : Index := Scalar.indexCast v70
  let c0_i32_188 : BitVec 32 := 0#32
  let v341 : Index := Scalar.indexCast c0_i32_188
  let c4_i32_189 : BitVec 32 := 4#32
  let v342 : Index := Scalar.indexCast c4_i32_189
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_187 : BitVec 32 := 16#32
  let v339 : BitVec 32 := Scalar.muli v94 c16_i32_187
  let v343 : Index := Scalar.indexCast v339
  ![v340.toNat, 0, 4, v343.toNat]
def k0_off66 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v348 : Index := Scalar.indexCast v70
  let c1_i32_192 : BitVec 32 := 1#32
  let v349 : Index := Scalar.indexCast c1_i32_192
  let c4_i32_193 : BitVec 32 := 4#32
  let v350 : Index := Scalar.indexCast c4_i32_193
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_191 : BitVec 32 := 16#32
  let v347 : BitVec 32 := Scalar.muli v94 c16_i32_191
  let v351 : Index := Scalar.indexCast v347
  ![v348.toNat, 1, 4, v351.toNat]
def k0_off67 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v356 : Index := Scalar.indexCast v70
  let c2_i32_196 : BitVec 32 := 2#32
  let v357 : Index := Scalar.indexCast c2_i32_196
  let c4_i32_197 : BitVec 32 := 4#32
  let v358 : Index := Scalar.indexCast c4_i32_197
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_195 : BitVec 32 := 16#32
  let v355 : BitVec 32 := Scalar.muli v94 c16_i32_195
  let v359 : Index := Scalar.indexCast v355
  ![v356.toNat, 2, 4, v359.toNat]

def k0_chk29 (i : grid0.Coords) (k0_t1 : Fin k0_t1_loop.trips) (k0_t2 : Fin k0_t2_loop.trips) (v329 : IVec S16 32) : Prop :=
  (∀ (k0_h3 : k0_cond3 i k0_t1 k0_t2 = 1#1), ∀ a x, ((![v329] : Fin 1 → IVec S16 32) a x).toNat < S9216.size a) ∧
  (∀ (k0_h3 : k0_cond3 i k0_t1 k0_t2 = 1#1), ∀ a x, ((![v329] : Fin 1 → IVec S16 32) a x).toNat < S9216.size a) ∧
  (∀ (k0_h3 : k0_cond3 i k0_t1 k0_t2 = 1#1), ∀ a x, ((![v329] : Fin 1 → IVec S16 32) a x).toNat < S9216.size a) ∧
  (∀ (k0_h3 : k0_cond3 i k0_t1 k0_t2 = 1#1), ∀ a x, ((![v329] : Fin 1 → IVec S16 32) a x).toNat < S9216.size a)
theorem k0_idx65_inb : ∀ (i : grid0.Coords) (k0_t1 : Fin k0_t1_loop.trips) (k0_t2 : Fin k0_t2_loop.trips) (v329 : IVec S16 32) (k0_hw29 : k0_chk29 i k0_t1 k0_t2 v329), ∀ (k0_h3 : k0_cond3 i k0_t1 k0_t2 = 1#1), ∀ a x, ((![v329] : Fin 1 → IVec S16 32) a x).toNat < S9216.size a := fun i k0_t1 k0_t2 v329 k0_hw29 k0_h3 => k0_hw29.1 k0_h3
theorem k0_idx66_inb : ∀ (i : grid0.Coords) (k0_t1 : Fin k0_t1_loop.trips) (k0_t2 : Fin k0_t2_loop.trips) (v329 : IVec S16 32) (k0_hw29 : k0_chk29 i k0_t1 k0_t2 v329), ∀ (k0_h3 : k0_cond3 i k0_t1 k0_t2 = 1#1), ∀ a x, ((![v329] : Fin 1 → IVec S16 32) a x).toNat < S9216.size a := fun i k0_t1 k0_t2 v329 k0_hw29 k0_h3 => k0_hw29.2.1 k0_h3
theorem k0_idx67_inb : ∀ (i : grid0.Coords) (k0_t1 : Fin k0_t1_loop.trips) (k0_t2 : Fin k0_t2_loop.trips) (v329 : IVec S16 32) (k0_hw29 : k0_chk29 i k0_t1 k0_t2 v329), ∀ (k0_h3 : k0_cond3 i k0_t1 k0_t2 = 1#1), ∀ a x, ((![v329] : Fin 1 → IVec S16 32) a x).toNat < S9216.size a := fun i k0_t1 k0_t2 v329 k0_hw29 k0_h3 => k0_hw29.2.2.1 k0_h3
theorem k0_idx68_inb : ∀ (i : grid0.Coords) (k0_t1 : Fin k0_t1_loop.trips) (k0_t2 : Fin k0_t2_loop.trips) (v329 : IVec S16 32) (k0_hw29 : k0_chk29 i k0_t1 k0_t2 v329), ∀ (k0_h3 : k0_cond3 i k0_t1 k0_t2 = 1#1), ∀ a x, ((![v329] : Fin 1 → IVec S16 32) a x).toNat < S9216.size a := fun i k0_t1 k0_t2 v329 k0_hw29 k0_h3 => k0_hw29.2.2.2 k0_h3
def k0_off68 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v364 : Index := Scalar.indexCast v70
  let c3_i32_200 : BitVec 32 := 3#32
  let v365 : Index := Scalar.indexCast c3_i32_200
  let c4_i32_201 : BitVec 32 := 4#32
  let v366 : Index := Scalar.indexCast c4_i32_201
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_199 : BitVec 32 := 16#32
  let v363 : BitVec 32 := Scalar.muli v94 c16_i32_199
  let v367 : Index := Scalar.indexCast v363
  ![v364.toNat, 3, 4, v367.toNat]
def k0_off69 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v370 : Index := Scalar.indexCast v70
  let c4_i32_203 : BitVec 32 := 4#32
  let v371 : Index := Scalar.indexCast c4_i32_203
  let c4_i32_204 : BitVec 32 := 4#32
  let v372 : Index := Scalar.indexCast c4_i32_204
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_202 : BitVec 32 := 16#32
  let v369 : BitVec 32 := Scalar.muli v94 c16_i32_202
  let v373 : Index := Scalar.indexCast v369
  ![v370.toNat, 4, 4, v373.toNat]
def k0_off70 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v386 : Index := Scalar.indexCast v70
  let c0_i32_210 : BitVec 32 := 0#32
  let v387 : Index := Scalar.indexCast c0_i32_210
  let c5_i32_211 : BitVec 32 := 5#32
  let v388 : Index := Scalar.indexCast c5_i32_211
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_209 : BitVec 32 := 16#32
  let v385 : BitVec 32 := Scalar.muli v94 c16_i32_209
  let v389 : Index := Scalar.indexCast v385
  ![v386.toNat, 0, 5, v389.toNat]
def k0_off71 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v394 : Index := Scalar.indexCast v70
  let c1_i32_214 : BitVec 32 := 1#32
  let v395 : Index := Scalar.indexCast c1_i32_214
  let c5_i32_215 : BitVec 32 := 5#32
  let v396 : Index := Scalar.indexCast c5_i32_215
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_213 : BitVec 32 := 16#32
  let v393 : BitVec 32 := Scalar.muli v94 c16_i32_213
  let v397 : Index := Scalar.indexCast v393
  ![v394.toNat, 1, 5, v397.toNat]
def k0_off72 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v402 : Index := Scalar.indexCast v70
  let c2_i32_218 : BitVec 32 := 2#32
  let v403 : Index := Scalar.indexCast c2_i32_218
  let c5_i32_219 : BitVec 32 := 5#32
  let v404 : Index := Scalar.indexCast c5_i32_219
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_217 : BitVec 32 := 16#32
  let v401 : BitVec 32 := Scalar.muli v94 c16_i32_217
  let v405 : Index := Scalar.indexCast v401
  ![v402.toNat, 2, 5, v405.toNat]

def k0_chk30 (i : grid0.Coords) (k0_t1 : Fin k0_t1_loop.trips) (k0_t2 : Fin k0_t2_loop.trips) (v378 : IVec S16 32) : Prop :=
  (∀ (k0_h3 : k0_cond3 i k0_t1 k0_t2 = 1#1), ∀ a x, ((![v378] : Fin 1 → IVec S16 32) a x).toNat < S9216.size a) ∧
  (∀ (k0_h3 : k0_cond3 i k0_t1 k0_t2 = 1#1), ∀ a x, ((![v378] : Fin 1 → IVec S16 32) a x).toNat < S9216.size a) ∧
  (∀ (k0_h3 : k0_cond3 i k0_t1 k0_t2 = 1#1), ∀ a x, ((![v378] : Fin 1 → IVec S16 32) a x).toNat < S9216.size a) ∧
  (∀ (k0_h3 : k0_cond3 i k0_t1 k0_t2 = 1#1), ∀ a x, ((![v378] : Fin 1 → IVec S16 32) a x).toNat < S9216.size a)
theorem k0_idx69_inb : ∀ (i : grid0.Coords) (k0_t1 : Fin k0_t1_loop.trips) (k0_t2 : Fin k0_t2_loop.trips) (v378 : IVec S16 32) (k0_hw30 : k0_chk30 i k0_t1 k0_t2 v378), ∀ (k0_h3 : k0_cond3 i k0_t1 k0_t2 = 1#1), ∀ a x, ((![v378] : Fin 1 → IVec S16 32) a x).toNat < S9216.size a := fun i k0_t1 k0_t2 v378 k0_hw30 k0_h3 => k0_hw30.1 k0_h3
theorem k0_idx70_inb : ∀ (i : grid0.Coords) (k0_t1 : Fin k0_t1_loop.trips) (k0_t2 : Fin k0_t2_loop.trips) (v378 : IVec S16 32) (k0_hw30 : k0_chk30 i k0_t1 k0_t2 v378), ∀ (k0_h3 : k0_cond3 i k0_t1 k0_t2 = 1#1), ∀ a x, ((![v378] : Fin 1 → IVec S16 32) a x).toNat < S9216.size a := fun i k0_t1 k0_t2 v378 k0_hw30 k0_h3 => k0_hw30.2.1 k0_h3
theorem k0_idx71_inb : ∀ (i : grid0.Coords) (k0_t1 : Fin k0_t1_loop.trips) (k0_t2 : Fin k0_t2_loop.trips) (v378 : IVec S16 32) (k0_hw30 : k0_chk30 i k0_t1 k0_t2 v378), ∀ (k0_h3 : k0_cond3 i k0_t1 k0_t2 = 1#1), ∀ a x, ((![v378] : Fin 1 → IVec S16 32) a x).toNat < S9216.size a := fun i k0_t1 k0_t2 v378 k0_hw30 k0_h3 => k0_hw30.2.2.1 k0_h3
theorem k0_idx72_inb : ∀ (i : grid0.Coords) (k0_t1 : Fin k0_t1_loop.trips) (k0_t2 : Fin k0_t2_loop.trips) (v378 : IVec S16 32) (k0_hw30 : k0_chk30 i k0_t1 k0_t2 v378), ∀ (k0_h3 : k0_cond3 i k0_t1 k0_t2 = 1#1), ∀ a x, ((![v378] : Fin 1 → IVec S16 32) a x).toNat < S9216.size a := fun i k0_t1 k0_t2 v378 k0_hw30 k0_h3 => k0_hw30.2.2.2 k0_h3
def k0_off73 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v410 : Index := Scalar.indexCast v70
  let c3_i32_222 : BitVec 32 := 3#32
  let v411 : Index := Scalar.indexCast c3_i32_222
  let c5_i32_223 : BitVec 32 := 5#32
  let v412 : Index := Scalar.indexCast c5_i32_223
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_221 : BitVec 32 := 16#32
  let v409 : BitVec 32 := Scalar.muli v94 c16_i32_221
  let v413 : Index := Scalar.indexCast v409
  ![v410.toNat, 3, 5, v413.toNat]
def k0_off74 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v416 : Index := Scalar.indexCast v70
  let c4_i32_225 : BitVec 32 := 4#32
  let v417 : Index := Scalar.indexCast c4_i32_225
  let c5_i32_226 : BitVec 32 := 5#32
  let v418 : Index := Scalar.indexCast c5_i32_226
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_224 : BitVec 32 := 16#32
  let v415 : BitVec 32 := Scalar.muli v94 c16_i32_224
  let v419 : Index := Scalar.indexCast v415
  ![v416.toNat, 4, 5, v419.toNat]
def k0_off75 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v430 : Index := Scalar.indexCast v70
  let c0_i32_231 : BitVec 32 := 0#32
  let v431 : Index := Scalar.indexCast c0_i32_231
  let c6_i32_232 : BitVec 32 := 6#32
  let v432 : Index := Scalar.indexCast c6_i32_232
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_230 : BitVec 32 := 16#32
  let v429 : BitVec 32 := Scalar.muli v94 c16_i32_230
  let v433 : Index := Scalar.indexCast v429
  ![v430.toNat, 0, 6, v433.toNat]
def k0_off76 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v438 : Index := Scalar.indexCast v70
  let c1_i32_235 : BitVec 32 := 1#32
  let v439 : Index := Scalar.indexCast c1_i32_235
  let c6_i32_236 : BitVec 32 := 6#32
  let v440 : Index := Scalar.indexCast c6_i32_236
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_234 : BitVec 32 := 16#32
  let v437 : BitVec 32 := Scalar.muli v94 c16_i32_234
  let v441 : Index := Scalar.indexCast v437
  ![v438.toNat, 1, 6, v441.toNat]
def k0_off77 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v446 : Index := Scalar.indexCast v70
  let c2_i32_239 : BitVec 32 := 2#32
  let v447 : Index := Scalar.indexCast c2_i32_239
  let c6_i32_240 : BitVec 32 := 6#32
  let v448 : Index := Scalar.indexCast c6_i32_240
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_238 : BitVec 32 := 16#32
  let v445 : BitVec 32 := Scalar.muli v94 c16_i32_238
  let v449 : Index := Scalar.indexCast v445
  ![v446.toNat, 2, 6, v449.toNat]

def k0_chk31 (i : grid0.Coords) (k0_t1 : Fin k0_t1_loop.trips) (k0_t2 : Fin k0_t2_loop.trips) (v422 : IVec S16 32) : Prop :=
  (∀ (k0_h3 : k0_cond3 i k0_t1 k0_t2 = 1#1), ∀ a x, ((![v422] : Fin 1 → IVec S16 32) a x).toNat < S9216.size a) ∧
  (∀ (k0_h3 : k0_cond3 i k0_t1 k0_t2 = 1#1), ∀ a x, ((![v422] : Fin 1 → IVec S16 32) a x).toNat < S9216.size a) ∧
  (∀ (k0_h3 : k0_cond3 i k0_t1 k0_t2 = 1#1), ∀ a x, ((![v422] : Fin 1 → IVec S16 32) a x).toNat < S9216.size a) ∧
  (∀ (k0_h3 : k0_cond3 i k0_t1 k0_t2 = 1#1), ∀ a x, ((![v422] : Fin 1 → IVec S16 32) a x).toNat < S9216.size a)
theorem k0_idx73_inb : ∀ (i : grid0.Coords) (k0_t1 : Fin k0_t1_loop.trips) (k0_t2 : Fin k0_t2_loop.trips) (v422 : IVec S16 32) (k0_hw31 : k0_chk31 i k0_t1 k0_t2 v422), ∀ (k0_h3 : k0_cond3 i k0_t1 k0_t2 = 1#1), ∀ a x, ((![v422] : Fin 1 → IVec S16 32) a x).toNat < S9216.size a := fun i k0_t1 k0_t2 v422 k0_hw31 k0_h3 => k0_hw31.1 k0_h3
theorem k0_idx74_inb : ∀ (i : grid0.Coords) (k0_t1 : Fin k0_t1_loop.trips) (k0_t2 : Fin k0_t2_loop.trips) (v422 : IVec S16 32) (k0_hw31 : k0_chk31 i k0_t1 k0_t2 v422), ∀ (k0_h3 : k0_cond3 i k0_t1 k0_t2 = 1#1), ∀ a x, ((![v422] : Fin 1 → IVec S16 32) a x).toNat < S9216.size a := fun i k0_t1 k0_t2 v422 k0_hw31 k0_h3 => k0_hw31.2.1 k0_h3
theorem k0_idx75_inb : ∀ (i : grid0.Coords) (k0_t1 : Fin k0_t1_loop.trips) (k0_t2 : Fin k0_t2_loop.trips) (v422 : IVec S16 32) (k0_hw31 : k0_chk31 i k0_t1 k0_t2 v422), ∀ (k0_h3 : k0_cond3 i k0_t1 k0_t2 = 1#1), ∀ a x, ((![v422] : Fin 1 → IVec S16 32) a x).toNat < S9216.size a := fun i k0_t1 k0_t2 v422 k0_hw31 k0_h3 => k0_hw31.2.2.1 k0_h3
theorem k0_idx76_inb : ∀ (i : grid0.Coords) (k0_t1 : Fin k0_t1_loop.trips) (k0_t2 : Fin k0_t2_loop.trips) (v422 : IVec S16 32) (k0_hw31 : k0_chk31 i k0_t1 k0_t2 v422), ∀ (k0_h3 : k0_cond3 i k0_t1 k0_t2 = 1#1), ∀ a x, ((![v422] : Fin 1 → IVec S16 32) a x).toNat < S9216.size a := fun i k0_t1 k0_t2 v422 k0_hw31 k0_h3 => k0_hw31.2.2.2 k0_h3
def k0_off78 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v454 : Index := Scalar.indexCast v70
  let c3_i32_243 : BitVec 32 := 3#32
  let v455 : Index := Scalar.indexCast c3_i32_243
  let c6_i32_244 : BitVec 32 := 6#32
  let v456 : Index := Scalar.indexCast c6_i32_244
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_242 : BitVec 32 := 16#32
  let v453 : BitVec 32 := Scalar.muli v94 c16_i32_242
  let v457 : Index := Scalar.indexCast v453
  ![v454.toNat, 3, 6, v457.toNat]
def k0_off79 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v460 : Index := Scalar.indexCast v70
  let c4_i32_246 : BitVec 32 := 4#32
  let v461 : Index := Scalar.indexCast c4_i32_246
  let c6_i32_247 : BitVec 32 := 6#32
  let v462 : Index := Scalar.indexCast c6_i32_247
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_245 : BitVec 32 := 16#32
  let v459 : BitVec 32 := Scalar.muli v94 c16_i32_245
  let v463 : Index := Scalar.indexCast v459
  ![v460.toNat, 4, 6, v463.toNat]
def k0_off80 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v479 : Index := Scalar.indexCast v70
  let c0_i32_253 : BitVec 32 := 0#32
  let v480 : Index := Scalar.indexCast c0_i32_253
  let c7_i32_254 : BitVec 32 := 7#32
  let v481 : Index := Scalar.indexCast c7_i32_254
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_252 : BitVec 32 := 16#32
  let v478 : BitVec 32 := Scalar.muli v94 c16_i32_252
  let v482 : Index := Scalar.indexCast v478
  ![v479.toNat, 0, 7, v482.toNat]
def k0_off81 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v487 : Index := Scalar.indexCast v70
  let c1_i32_257 : BitVec 32 := 1#32
  let v488 : Index := Scalar.indexCast c1_i32_257
  let c7_i32_258 : BitVec 32 := 7#32
  let v489 : Index := Scalar.indexCast c7_i32_258
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_256 : BitVec 32 := 16#32
  let v486 : BitVec 32 := Scalar.muli v94 c16_i32_256
  let v490 : Index := Scalar.indexCast v486
  ![v487.toNat, 1, 7, v490.toNat]
def k0_off82 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v495 : Index := Scalar.indexCast v70
  let c2_i32_261 : BitVec 32 := 2#32
  let v496 : Index := Scalar.indexCast c2_i32_261
  let c7_i32_262 : BitVec 32 := 7#32
  let v497 : Index := Scalar.indexCast c7_i32_262
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_260 : BitVec 32 := 16#32
  let v494 : BitVec 32 := Scalar.muli v94 c16_i32_260
  let v498 : Index := Scalar.indexCast v494
  ![v495.toNat, 2, 7, v498.toNat]

def k0_chk32 (i : grid0.Coords) (k0_t1 : Fin k0_t1_loop.trips) (k0_t2 : Fin k0_t2_loop.trips) (v471 : IVec S16 32) : Prop :=
  (∀ (k0_h3 : k0_cond3 i k0_t1 k0_t2 = 1#1), ∀ a x, ((![v471] : Fin 1 → IVec S16 32) a x).toNat < S9216.size a) ∧
  (∀ (k0_h3 : k0_cond3 i k0_t1 k0_t2 = 1#1), ∀ a x, ((![v471] : Fin 1 → IVec S16 32) a x).toNat < S9216.size a) ∧
  (∀ (k0_h3 : k0_cond3 i k0_t1 k0_t2 = 1#1), ∀ a x, ((![v471] : Fin 1 → IVec S16 32) a x).toNat < S9216.size a) ∧
  (∀ (k0_h3 : k0_cond3 i k0_t1 k0_t2 = 1#1), ∀ a x, ((![v471] : Fin 1 → IVec S16 32) a x).toNat < S9216.size a)
theorem k0_idx77_inb : ∀ (i : grid0.Coords) (k0_t1 : Fin k0_t1_loop.trips) (k0_t2 : Fin k0_t2_loop.trips) (v471 : IVec S16 32) (k0_hw32 : k0_chk32 i k0_t1 k0_t2 v471), ∀ (k0_h3 : k0_cond3 i k0_t1 k0_t2 = 1#1), ∀ a x, ((![v471] : Fin 1 → IVec S16 32) a x).toNat < S9216.size a := fun i k0_t1 k0_t2 v471 k0_hw32 k0_h3 => k0_hw32.1 k0_h3
theorem k0_idx78_inb : ∀ (i : grid0.Coords) (k0_t1 : Fin k0_t1_loop.trips) (k0_t2 : Fin k0_t2_loop.trips) (v471 : IVec S16 32) (k0_hw32 : k0_chk32 i k0_t1 k0_t2 v471), ∀ (k0_h3 : k0_cond3 i k0_t1 k0_t2 = 1#1), ∀ a x, ((![v471] : Fin 1 → IVec S16 32) a x).toNat < S9216.size a := fun i k0_t1 k0_t2 v471 k0_hw32 k0_h3 => k0_hw32.2.1 k0_h3
theorem k0_idx79_inb : ∀ (i : grid0.Coords) (k0_t1 : Fin k0_t1_loop.trips) (k0_t2 : Fin k0_t2_loop.trips) (v471 : IVec S16 32) (k0_hw32 : k0_chk32 i k0_t1 k0_t2 v471), ∀ (k0_h3 : k0_cond3 i k0_t1 k0_t2 = 1#1), ∀ a x, ((![v471] : Fin 1 → IVec S16 32) a x).toNat < S9216.size a := fun i k0_t1 k0_t2 v471 k0_hw32 k0_h3 => k0_hw32.2.2.1 k0_h3
theorem k0_idx80_inb : ∀ (i : grid0.Coords) (k0_t1 : Fin k0_t1_loop.trips) (k0_t2 : Fin k0_t2_loop.trips) (v471 : IVec S16 32) (k0_hw32 : k0_chk32 i k0_t1 k0_t2 v471), ∀ (k0_h3 : k0_cond3 i k0_t1 k0_t2 = 1#1), ∀ a x, ((![v471] : Fin 1 → IVec S16 32) a x).toNat < S9216.size a := fun i k0_t1 k0_t2 v471 k0_hw32 k0_h3 => k0_hw32.2.2.2 k0_h3
def k0_off83 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v503 : Index := Scalar.indexCast v70
  let c3_i32_265 : BitVec 32 := 3#32
  let v504 : Index := Scalar.indexCast c3_i32_265
  let c7_i32_266 : BitVec 32 := 7#32
  let v505 : Index := Scalar.indexCast c7_i32_266
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_264 : BitVec 32 := 16#32
  let v502 : BitVec 32 := Scalar.muli v94 c16_i32_264
  let v506 : Index := Scalar.indexCast v502
  ![v503.toNat, 3, 7, v506.toNat]
def k0_off84 (k0_t2 : Fin k0_t2_loop.trips) (k0_t4 : Fin k0_t4_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let v509 : Index := Scalar.indexCast v70
  let c4_i32_268 : BitVec 32 := 4#32
  let v510 : Index := Scalar.indexCast c4_i32_268
  let c7_i32_269 : BitVec 32 := 7#32
  let v511 : Index := Scalar.indexCast c7_i32_269
  let c0_i32_81 : BitVec 32 := 0#32
  let c0_i32_77 : BitVec 32 := 0#32
  let c1_i32_78 : BitVec 32 := 1#32
  let arg11 : BitVec 32 := Scf.iv c0_i32_77 c1_i32_78 k0_t4
  let c1_i32_80 : BitVec 32 := 1#32
  let v93 : BitVec 32 := Scalar.muli arg11 c1_i32_80
  let v94 : BitVec 32 := Scalar.addi c0_i32_81 v93
  let c16_i32_267 : BitVec 32 := 16#32
  let v508 : BitVec 32 := Scalar.muli v94 c16_i32_267
  let v512 : Index := Scalar.indexCast v508
  ![v509.toNat, 4, 7, v512.toNat]
def k0_off85 (k0_t2 : Fin k0_t2_loop.trips) : Fin 4 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  let c0_i32_65 : BitVec 32 := 0#32
  let c0_i32_66 : BitVec 32 := 0#32
  let c0_i32_67 : BitVec 32 := 0#32
  ![v70.toNat, 0, 0, 0]
def k0_off86 (i : grid0.Coords) (k0_t1 : Fin k0_t1_loop.trips) (k0_t2 : Fin k0_t2_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_3 : BitVec 32 := 5#32
  let v6 : BitVec 32 := Scalar.muli v1 c5_i32_3
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v4 : BitVec 32 := Scalar.muli arg9 c1_i32_1
  let v5 : BitVec 32 := Scalar.addi c0_i32_2 v4
  let v7 : BitVec 32 := Scalar.addi v6 v5
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c2_i32_4 : BitVec 32 := 2#32
  let c0_i32_7 : BitVec 32 := 0#32
  let v14 : BitVec 1 := Scalar.cmpi .sgt c2_i32_4 c0_i32_7
  let v15 : BitVec 32 := Scalar.extui v14
  let c0_i32_8 : BitVec 32 := 0#32
  let v16 : BitVec 1 := Scalar.cmpi .slt c2_i32_4 c0_i32_8
  let v17 : BitVec 32 := Scalar.extui v16
  let v18 : BitVec 32 := Scalar.subi v15 v17
  let v19 : BitVec 1 := Scalar.cmpi .ne v13 v18
  let v20 : BitVec 32 := Scalar.remsi v7 c2_i32_4
  let c0_i32_9 : BitVec 32 := 0#32
  let v21 : BitVec 1 := Scalar.cmpi .ne v20 c0_i32_9
  let v22 : BitVec 1 := Scalar.andi v19 v21
  let v8 : BitVec 32 := Scalar.divsi v7 c2_i32_4
  let c1_i32_10 : BitVec 32 := 1#32
  let v23 : BitVec 32 := Scalar.subi v8 c1_i32_10
  let v24 : BitVec 32 := Scalar.select v22 v23 v8
  let c2_i32_11 : BitVec 32 := 2#32
  let c0_i32_12 : BitVec 32 := 0#32
  let v25 : BitVec 1 := Scalar.cmpi .eq c2_i32_11 c0_i32_12
  let c1_i32_13 : BitVec 32 := 1#32
  let v26 : BitVec 32 := Scalar.select v25 c1_i32_13 c2_i32_11
  let v27 : BitVec 32 := Scalar.remsi v7 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c20_i32_52 : BitVec 32 := 20#32
  let v59 : BitVec 32 := Scalar.muli v34 c20_i32_52
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let v60 : BitVec 32 := Scalar.addi v59 v58
  let c0_i32_68 : BitVec 32 := 0#32
  let c0_i32_69 : BitVec 32 := 0#32
  let c0_i32_70 : BitVec 32 := 0#32
  ![v24.toNat, v60.toNat, 0, 0, 0]
def k0_off87 (k0_t2 : Fin k0_t2_loop.trips) : Fin 1 → Nat :=
  let c0_i32_51 : BitVec 32 := 0#32
  let c0_i32_17 : BitVec 32 := 0#32
  let c1_i32_18 : BitVec 32 := 1#32
  let arg10 : BitVec 32 := Scf.iv c0_i32_17 c1_i32_18 k0_t2
  let c1_i32_50 : BitVec 32 := 1#32
  let v57 : BitVec 32 := Scalar.muli arg10 c1_i32_50
  let v58 : BitVec 32 := Scalar.addi c0_i32_51 v57
  let c2_i32_53 : BitVec 32 := 2#32
  let c0_i32_54 : BitVec 32 := 0#32
  let v61 : BitVec 1 := Scalar.cmpi .eq c2_i32_53 c0_i32_54
  let c1_i32_55 : BitVec 32 := 1#32
  let v62 : BitVec 32 := Scalar.select v61 c1_i32_55 c2_i32_53
  let v63 : BitVec 32 := Scalar.remsi v58 v62
  let c0_i32_57 : BitVec 32 := 0#32
  let v65 : BitVec 1 := Scalar.cmpi .slt v63 c0_i32_57
  let c0_i32_58 : BitVec 32 := 0#32
  let v66 : BitVec 1 := Scalar.cmpi .slt v62 c0_i32_58
  let v67 : BitVec 1 := Scalar.xori v65 v66
  let c0_i32_56 : BitVec 32 := 0#32
  let v64 : BitVec 1 := Scalar.cmpi .ne v63 c0_i32_56
  let v68 : BitVec 1 := Scalar.andi v67 v64
  let v69 : BitVec 32 := Scalar.addi v63 v62
  let v70 : BitVec 32 := Scalar.select v68 v69 v63
  ![v70.toNat]
def k0_off88 (i : grid0.Coords) (k0_t1 : Fin k0_t1_loop.trips) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_3 : BitVec 32 := 5#32
  let v6 : BitVec 32 := Scalar.muli v1 c5_i32_3
  let c0_i32_2 : BitVec 32 := 0#32
  let c0_i32 : BitVec 32 := 0#32
  let c1_i32 : BitVec 32 := 1#32
  let arg9 : BitVec 32 := Scf.iv c0_i32 c1_i32 k0_t1
  let c1_i32_1 : BitVec 32 := 1#32
  let v4 : BitVec 32 := Scalar.muli arg9 c1_i32_1
  let v5 : BitVec 32 := Scalar.addi c0_i32_2 v4
  let v7 : BitVec 32 := Scalar.addi v6 v5
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c2_i32_4 : BitVec 32 := 2#32
  let c0_i32_7 : BitVec 32 := 0#32
  let v14 : BitVec 1 := Scalar.cmpi .sgt c2_i32_4 c0_i32_7
  let v15 : BitVec 32 := Scalar.extui v14
  let c0_i32_8 : BitVec 32 := 0#32
  let v16 : BitVec 1 := Scalar.cmpi .slt c2_i32_4 c0_i32_8
  let v17 : BitVec 32 := Scalar.extui v16
  let v18 : BitVec 32 := Scalar.subi v15 v17
  let v19 : BitVec 1 := Scalar.cmpi .ne v13 v18
  let v20 : BitVec 32 := Scalar.remsi v7 c2_i32_4
  let c0_i32_9 : BitVec 32 := 0#32
  let v21 : BitVec 1 := Scalar.cmpi .ne v20 c0_i32_9
  let v22 : BitVec 1 := Scalar.andi v19 v21
  let v8 : BitVec 32 := Scalar.divsi v7 c2_i32_4
  let c1_i32_10 : BitVec 32 := 1#32
  let v23 : BitVec 32 := Scalar.subi v8 c1_i32_10
  let v24 : BitVec 32 := Scalar.select v22 v23 v8
  let c0_i32_21 : BitVec 32 := 0#32
  let c0_i32_26 : BitVec 32 := 0#32
  let c0_i32_27 : BitVec 32 := 0#32
  let c0_i32_28 : BitVec 32 := 0#32
  ![v24.toNat, 0, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S10240x278 : Shape := ⟨2, ![10240, 278]⟩
abbrev S8192x4 : Shape := ⟨2, ![8192, 4]⟩
abbrev S1024x4 : Shape := ⟨2, ![1024, 4]⟩
abbrev S10240x1 : Shape := ⟨2, ![10240, 1]⟩
abbrev S10240 : Shape := ⟨1, ![10240]⟩
abbrev S_ : Shape := ⟨0, ![]⟩
abbrev S10240x4 : Shape := ⟨2, ![10240, 4]⟩
abbrev S10240x282 : Shape := ⟨2, ![10240, 282]⟩
abbrev S10240x280 : Shape := ⟨2, ![10240, 280]⟩
abbrev S10240x40 : Shape := ⟨2, ![10240, 40]⟩
abbrev S10240x40x1 : Shape := ⟨3, ![10240, 40, 1]⟩
abbrev S10240x40x8 : Shape := ⟨3, ![10240, 40, 8]⟩
abbrev S10240x320 : Shape := ⟨2, ![10240, 320]⟩
abbrev S10240x316 : Shape := ⟨2, ![10240, 316]⟩
abbrev S10240x4x1 : Shape := ⟨3, ![10240, 4, 1]⟩
abbrev S10240x4x4 : Shape := ⟨3, ![10240, 4, 4]⟩
abbrev S10240x316x1 : Shape := ⟨3, ![10240, 316, 1]⟩
abbrev S10240x316x4 : Shape := ⟨3, ![10240, 316, 4]⟩
abbrev S10240x320x4 : Shape := ⟨3, ![10240, 320, 4]⟩
abbrev S10240x320x1 : Shape := ⟨3, ![10240, 320, 1]⟩
abbrev S10240x320x5 : Shape := ⟨3, ![10240, 320, 5]⟩
abbrev S80x128x40x8x5 : Shape := ⟨5, ![80, 128, 40, 8, 5]⟩
abbrev S80x40x5x8x128 : Shape := ⟨5, ![80, 40, 5, 8, 128]⟩

abbrev nBuf : Space → Nat
  | .hbm => 317
  | .vmem => 0
  | .smem => 0
  | _ => 0

abbrev hbmTy0_0 (i : Nat) : BufTy := match i % 128 with
  | 0 => ⟨S10240x278, .i32⟩
  | 1 => ⟨S8192x4, .i32⟩
  | 2 => ⟨S1024x4, .i32⟩
  | 3 => ⟨S10240x278, .i32⟩
  | 4 => ⟨S10240x1, .i32⟩
  | 5 => ⟨S10240, .i32⟩
  | 6 => ⟨S10240x1, .i32⟩
  | 7 => ⟨S10240, .i32⟩
  | 8 => ⟨S_, .i32⟩
  | 9 => ⟨S10240, .i32⟩
  | 10 => ⟨S10240, .i32⟩
  | 11 => ⟨S_, .i32⟩
  | 12 => ⟨S10240, .i32⟩
  | 13 => ⟨S10240, .i32⟩
  | 14 => ⟨S10240, .i32⟩
  | 15 => ⟨S10240x1, .i32⟩
  | 16 => ⟨S10240, .i32⟩
  | 17 => ⟨S10240x1, .i32⟩
  | 18 => ⟨S10240, .i32⟩
  | 19 => ⟨S_, .i32⟩
  | 20 => ⟨S10240, .i32⟩
  | 21 => ⟨S10240, .i32⟩
  | 22 => ⟨S_, .i32⟩
  | 23 => ⟨S10240, .i32⟩
  | 24 => ⟨S10240, .i32⟩
  | 25 => ⟨S10240, .i32⟩
  | 26 => ⟨S10240x1, .i32⟩
  | 27 => ⟨S10240, .i32⟩
  | 28 => ⟨S10240x1, .i32⟩
  | 29 => ⟨S10240, .i32⟩
  | 30 => ⟨S_, .i32⟩
  | 31 => ⟨S10240, .i32⟩
  | 32 => ⟨S10240, .i32⟩
  | 33 => ⟨S_, .i32⟩
  | 34 => ⟨S10240, .i32⟩
  | 35 => ⟨S10240, .i32⟩
  | 36 => ⟨S10240, .i32⟩
  | 37 => ⟨S10240x1, .i32⟩
  | 38 => ⟨S10240, .i32⟩
  | 39 => ⟨S10240x1, .i32⟩
  | 40 => ⟨S10240, .i32⟩
  | 41 => ⟨S_, .i32⟩
  | 42 => ⟨S10240, .i32⟩
  | 43 => ⟨S10240, .i32⟩
  | 44 => ⟨S_, .i32⟩
  | 45 => ⟨S10240, .i32⟩
  | 46 => ⟨S10240, .i32⟩
  | 47 => ⟨S10240, .i32⟩
  | 48 => ⟨S_, .i32⟩
  | 49 => ⟨S10240, .i32⟩
  | 50 => ⟨S10240, .i32⟩
  | 51 => ⟨S10240, .i32⟩
  | 52 => ⟨S10240x1, .i32⟩
  | 53 => ⟨S10240x1, .i32⟩
  | 54 => ⟨S10240x1, .i32⟩
  | 55 => ⟨S10240x1, .i32⟩
  | 56 => ⟨S10240x4, .i32⟩
  | 57 => ⟨S_, .i32⟩
  | 58 => ⟨S_, .i32⟩
  | 59 => ⟨S10240x282, .i32⟩
  | 60 => ⟨S10240x280, .i32⟩
  | 61 => ⟨S_, .i32⟩
  | 62 => ⟨S10240x280, .i32⟩
  | 63 => ⟨S10240x280, .i32⟩
  | 64 => ⟨S10240x280, .i32⟩
  | 65 => ⟨S_, .i32⟩
  | 66 => ⟨S10240x280, .i32⟩
  | 67 => ⟨S10240x280, .i32⟩
  | 68 => ⟨S10240x280, .i32⟩
  | 69 => ⟨S10240x40, .i32⟩
  | 70 => ⟨S10240x40, .i32⟩
  | 71 => ⟨S10240x40, .i32⟩
  | 72 => ⟨S10240x40, .i32⟩
  | 73 => ⟨S10240x40, .i32⟩
  | 74 => ⟨S10240x40, .i32⟩
  | 75 => ⟨S10240x40, .i32⟩
  | 76 => ⟨S_, .i32⟩
  | 77 => ⟨S10240x40, .i32⟩
  | 78 => ⟨S10240x40, .i32⟩
  | 79 => ⟨S_, .i32⟩
  | 80 => ⟨S10240x40, .i32⟩
  | 81 => ⟨S10240x40, .i32⟩
  | 82 => ⟨S10240x40, .i32⟩
  | 83 => ⟨S_, .i32⟩
  | 84 => ⟨S10240x40, .i32⟩
  | 85 => ⟨S10240x40, .i32⟩
  | 86 => ⟨S_, .i32⟩
  | 87 => ⟨S10240x40, .i32⟩
  | 88 => ⟨S10240x40, .i32⟩
  | 89 => ⟨S10240x40, .i32⟩
  | 90 => ⟨S_, .i32⟩
  | 91 => ⟨S10240x40, .i32⟩
  | 92 => ⟨S10240x40, .i32⟩
  | 93 => ⟨S10240x40, .i32⟩
  | 94 => ⟨S_, .i32⟩
  | 95 => ⟨S10240x40, .i32⟩
  | 96 => ⟨S10240x40, .i32⟩
  | 97 => ⟨S_, .i32⟩
  | 98 => ⟨S10240x40, .i32⟩
  | 99 => ⟨S10240x40, .i32⟩
  | 100 => ⟨S10240x40, .i32⟩
  | 101 => ⟨S_, .i32⟩
  | 102 => ⟨S10240x40, .i32⟩
  | 103 => ⟨S10240x40, .i32⟩
  | 104 => ⟨S10240x40, .i32⟩
  | 105 => ⟨S_, .i32⟩
  | 106 => ⟨S10240x40, .i32⟩
  | 107 => ⟨S10240x40, .i32⟩
  | 108 => ⟨S_, .i32⟩
  | 109 => ⟨S10240x40, .i32⟩
  | 110 => ⟨S10240x40, .i32⟩
  | 111 => ⟨S10240x40, .i32⟩
  | 112 => ⟨S_, .i32⟩
  | 113 => ⟨S10240x40, .i32⟩
  | 114 => ⟨S10240x40, .i32⟩
  | 115 => ⟨S10240x40, .i32⟩
  | 116 => ⟨S_, .i32⟩
  | 117 => ⟨S10240x40, .i32⟩
  | 118 => ⟨S10240x40, .i32⟩
  | 119 => ⟨S_, .i32⟩
  | 120 => ⟨S10240x40, .i32⟩
  | 121 => ⟨S10240x40, .i32⟩
  | 122 => ⟨S10240x40, .i32⟩
  | 123 => ⟨S_, .i32⟩
  | 124 => ⟨S10240x40, .i32⟩
  | 125 => ⟨S10240x40, .i32⟩
  | 126 => ⟨S_, .i32⟩
  | 127 => ⟨S10240x40, .i32⟩
  | _ => ⟨S10240x278, .i32⟩

abbrev hbmTy0_1 (i : Nat) : BufTy := match i % 128 with
  | 0 => ⟨S10240x40, .i32⟩
  | 1 => ⟨S10240x40, .i32⟩
  | 2 => ⟨S_, .i32⟩
  | 3 => ⟨S10240x40, .i32⟩
  | 4 => ⟨S10240x40, .i32⟩
  | 5 => ⟨S_, .i32⟩
  | 6 => ⟨S10240x40, .i32⟩
  | 7 => ⟨S10240x40, .i32⟩
  | 8 => ⟨S10240x40, .i32⟩
  | 9 => ⟨S_, .i32⟩
  | 10 => ⟨S10240x40, .i32⟩
  | 11 => ⟨S10240x40, .i32⟩
  | 12 => ⟨S_, .i32⟩
  | 13 => ⟨S10240x40, .i32⟩
  | 14 => ⟨S10240x40, .i32⟩
  | 15 => ⟨S10240x40, .i32⟩
  | 16 => ⟨S10240x40x1, .i32⟩
  | 17 => ⟨S10240x40x1, .i32⟩
  | 18 => ⟨S10240x40x1, .i32⟩
  | 19 => ⟨S10240x40x1, .i32⟩
  | 20 => ⟨S10240x40x1, .i32⟩
  | 21 => ⟨S10240x40x1, .i32⟩
  | 22 => ⟨S10240x40x1, .i32⟩
  | 23 => ⟨S10240x40x1, .i32⟩
  | 24 => ⟨S10240x40x8, .i32⟩
  | 25 => ⟨S10240x320, .i32⟩
  | 26 => ⟨S10240x316, .i32⟩
  | 27 => ⟨S_, .i32⟩
  | 28 => ⟨S10240x40, .i32⟩
  | 29 => ⟨S10240x40, .i32⟩
  | 30 => ⟨S_, .i32⟩
  | 31 => ⟨S10240x40, .i32⟩
  | 32 => ⟨S10240x40, .i32⟩
  | 33 => ⟨S10240x40, .i32⟩
  | 34 => ⟨S_, .i32⟩
  | 35 => ⟨S10240x40, .i32⟩
  | 36 => ⟨S10240x40, .i32⟩
  | 37 => ⟨S_, .i32⟩
  | 38 => ⟨S10240x40, .i32⟩
  | 39 => ⟨S10240x40, .i32⟩
  | 40 => ⟨S10240x40, .i32⟩
  | 41 => ⟨S_, .i32⟩
  | 42 => ⟨S10240x40, .i32⟩
  | 43 => ⟨S10240x40, .i32⟩
  | 44 => ⟨S_, .i32⟩
  | 45 => ⟨S10240x40, .i32⟩
  | 46 => ⟨S10240x40, .i32⟩
  | 47 => ⟨S10240x40, .i32⟩
  | 48 => ⟨S_, .i32⟩
  | 49 => ⟨S10240x40, .i32⟩
  | 50 => ⟨S10240x40, .i32⟩
  | 51 => ⟨S_, .i32⟩
  | 52 => ⟨S10240x40, .i32⟩
  | 53 => ⟨S10240x40, .i32⟩
  | 54 => ⟨S10240x40, .i32⟩
  | 55 => ⟨S_, .i32⟩
  | 56 => ⟨S10240x40, .i32⟩
  | 57 => ⟨S10240x40, .i32⟩
  | 58 => ⟨S_, .i32⟩
  | 59 => ⟨S10240x40, .i32⟩
  | 60 => ⟨S10240x40, .i32⟩
  | 61 => ⟨S10240x40, .i32⟩
  | 62 => ⟨S_, .i32⟩
  | 63 => ⟨S10240x40, .i32⟩
  | 64 => ⟨S10240x40, .i32⟩
  | 65 => ⟨S10240x40, .i32⟩
  | 66 => ⟨S_, .i32⟩
  | 67 => ⟨S10240x40, .i32⟩
  | 68 => ⟨S10240x40, .i32⟩
  | 69 => ⟨S_, .i32⟩
  | 70 => ⟨S10240x40, .i32⟩
  | 71 => ⟨S10240x40, .i32⟩
  | 72 => ⟨S10240x40, .i32⟩
  | 73 => ⟨S_, .i32⟩
  | 74 => ⟨S10240x40, .i32⟩
  | 75 => ⟨S10240x40, .i32⟩
  | 76 => ⟨S10240x40, .i32⟩
  | 77 => ⟨S_, .i32⟩
  | 78 => ⟨S10240x40, .i32⟩
  | 79 => ⟨S10240x40, .i32⟩
  | 80 => ⟨S_, .i32⟩
  | 81 => ⟨S10240x40, .i32⟩
  | 82 => ⟨S10240x40, .i32⟩
  | 83 => ⟨S10240x40, .i32⟩
  | 84 => ⟨S_, .i32⟩
  | 85 => ⟨S10240x40, .i32⟩
  | 86 => ⟨S10240x40, .i32⟩
  | 87 => ⟨S_, .i32⟩
  | 88 => ⟨S10240x40, .i32⟩
  | 89 => ⟨S10240x40, .i32⟩
  | 90 => ⟨S10240x40, .i32⟩
  | 91 => ⟨S10240x40x1, .i32⟩
  | 92 => ⟨S10240x40x1, .i32⟩
  | 93 => ⟨S10240x40x1, .i32⟩
  | 94 => ⟨S10240x40x1, .i32⟩
  | 95 => ⟨S10240x40x1, .i32⟩
  | 96 => ⟨S10240x40x1, .i32⟩
  | 97 => ⟨S10240x40x1, .i32⟩
  | 98 => ⟨S10240x40x1, .i32⟩
  | 99 => ⟨S10240x40x8, .i32⟩
  | 100 => ⟨S10240x320, .i32⟩
  | 101 => ⟨S10240x316, .i32⟩
  | 102 => ⟨S_, .i32⟩
  | 103 => ⟨S10240x40, .i32⟩
  | 104 => ⟨S10240x40, .i32⟩
  | 105 => ⟨S_, .i32⟩
  | 106 => ⟨S10240x40, .i32⟩
  | 107 => ⟨S10240x40, .i32⟩
  | 108 => ⟨S10240x40, .i32⟩
  | 109 => ⟨S_, .i32⟩
  | 110 => ⟨S10240x40, .i32⟩
  | 111 => ⟨S10240x40, .i32⟩
  | 112 => ⟨S_, .i32⟩
  | 113 => ⟨S10240x40, .i32⟩
  | 114 => ⟨S10240x40, .i32⟩
  | 115 => ⟨S10240x40, .i32⟩
  | 116 => ⟨S_, .i32⟩
  | 117 => ⟨S10240x40, .i32⟩
  | 118 => ⟨S10240x40, .i32⟩
  | 119 => ⟨S_, .i32⟩
  | 120 => ⟨S10240x40, .i32⟩
  | 121 => ⟨S10240x40, .i32⟩
  | 122 => ⟨S10240x40, .i32⟩
  | 123 => ⟨S_, .i32⟩
  | 124 => ⟨S10240x40, .i32⟩
  | 125 => ⟨S10240x40, .i32⟩
  | 126 => ⟨S_, .i32⟩
  | 127 => ⟨S10240x40, .i32⟩
  | _ => ⟨S10240x278, .i32⟩

abbrev hbmTy0_2 (i : Nat) : BufTy := match i % 128 with
  | 0 => ⟨S10240x40, .i32⟩
  | 1 => ⟨S10240x40, .i32⟩
  | 2 => ⟨S_, .i32⟩
  | 3 => ⟨S10240x40, .i32⟩
  | 4 => ⟨S10240x40, .i32⟩
  | 5 => ⟨S_, .i32⟩
  | 6 => ⟨S10240x40, .i32⟩
  | 7 => ⟨S10240x40, .i32⟩
  | 8 => ⟨S10240x40, .i32⟩
  | 9 => ⟨S_, .i32⟩
  | 10 => ⟨S10240x40, .i32⟩
  | 11 => ⟨S10240x40, .i32⟩
  | 12 => ⟨S_, .i32⟩
  | 13 => ⟨S10240x40, .i32⟩
  | 14 => ⟨S10240x40, .i32⟩
  | 15 => ⟨S10240x40, .i32⟩
  | 16 => ⟨S_, .i32⟩
  | 17 => ⟨S10240x40, .i32⟩
  | 18 => ⟨S10240x40, .i32⟩
  | 19 => ⟨S_, .i32⟩
  | 20 => ⟨S10240x40, .i32⟩
  | 21 => ⟨S10240x40, .i32⟩
  | 22 => ⟨S10240x40, .i32⟩
  | 23 => ⟨S_, .i32⟩
  | 24 => ⟨S10240x40, .i32⟩
  | 25 => ⟨S10240x40, .i32⟩
  | 26 => ⟨S10240x40, .i32⟩
  | 27 => ⟨S_, .i32⟩
  | 28 => ⟨S10240x40, .i32⟩
  | 29 => ⟨S10240x40, .i32⟩
  | 30 => ⟨S_, .i32⟩
  | 31 => ⟨S10240x40, .i32⟩
  | 32 => ⟨S10240x40, .i32⟩
  | 33 => ⟨S10240x40, .i32⟩
  | 34 => ⟨S10240x40x1, .i32⟩
  | 35 => ⟨S10240x40x1, .i32⟩
  | 36 => ⟨S10240x40x1, .i32⟩
  | 37 => ⟨S10240x40x1, .i32⟩
  | 38 => ⟨S10240x40x1, .i32⟩
  | 39 => ⟨S10240x40x1, .i32⟩
  | 40 => ⟨S10240x40x1, .i32⟩
  | 41 => ⟨S10240x40x1, .i32⟩
  | 42 => ⟨S10240x40x8, .i32⟩
  | 43 => ⟨S10240x320, .i32⟩
  | 44 => ⟨S10240x316, .i32⟩
  | 45 => ⟨S10240x4x1, .i32⟩
  | 46 => ⟨S10240x4x4, .i32⟩
  | 47 => ⟨S10240x316x1, .i32⟩
  | 48 => ⟨S10240x316x4, .i32⟩
  | 49 => ⟨S10240x320x4, .i32⟩
  | 50 => ⟨S_, .i32⟩
  | 51 => ⟨S10240x4, .i32⟩
  | 52 => ⟨S_, .i32⟩
  | 53 => ⟨S10240x316, .i32⟩
  | 54 => ⟨S10240x316, .i32⟩
  | 55 => ⟨S10240x316, .i32⟩
  | 56 => ⟨S10240x320, .i32⟩
  | 57 => ⟨S10240x320x1, .i32⟩
  | 58 => ⟨S10240x320x5, .i32⟩
  | 59 => ⟨S80x128x40x8x5, .i32⟩
  | 60 => ⟨S80x40x5x8x128, .i32⟩
  | _ => ⟨S10240x278, .i32⟩

abbrev hbmTy (i : Nat) : BufTy := match i / 128 with
  | 0 => hbmTy0_0 i
  | 1 => hbmTy0_1 i
  | 2 => hbmTy0_2 i
  | _ => ⟨S10240x278, .i32⟩

abbrev bufTy : (tb : Table) → Fin (tcTables nBuf tb) → BufTy
  | .hbm, ⟨i, _⟩ => hbmTy i
  | _, _ => ⟨S10240x278, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_c_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_8 : Ref sig .tc := ⟨.hbm, 57, rfl⟩
abbrev main_call0_v0 : Ref sig .tc := ⟨.hbm, 58, rfl⟩
abbrev main_v45 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_11 : Ref sig .tc := ⟨.hbm, 76, rfl⟩
abbrev main_v60 : Ref sig .tc := ⟨.hbm, 77, rfl⟩
abbrev main_v61 : Ref sig .tc := ⟨.hbm, 78, rfl⟩
abbrev main_c_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_13 : Ref sig .tc := ⟨.hbm, 83, rfl⟩
abbrev main_v65 : Ref sig .tc := ⟨.hbm, 84, rfl⟩
abbrev main_v66 : Ref sig .tc := ⟨.hbm, 85, rfl⟩
abbrev main_c_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_16 : Ref sig .tc := ⟨.hbm, 94, rfl⟩
abbrev main_v73 : Ref sig .tc := ⟨.hbm, 95, rfl⟩
abbrev main_v74 : Ref sig .tc := ⟨.hbm, 96, rfl⟩
abbrev main_c_17 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_18 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_19 : Ref sig .tc := ⟨.hbm, 105, rfl⟩
abbrev main_v81 : Ref sig .tc := ⟨.hbm, 106, rfl⟩
abbrev main_v82 : Ref sig .tc := ⟨.hbm, 107, rfl⟩
abbrev main_c_20 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_21 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_22 : Ref sig .tc := ⟨.hbm, 116, rfl⟩
abbrev main_v89 : Ref sig .tc := ⟨.hbm, 117, rfl⟩
abbrev main_v90 : Ref sig .tc := ⟨.hbm, 118, rfl⟩
abbrev main_c_23 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_24 : Ref sig .tc := ⟨.hbm, 123, rfl⟩
abbrev main_v94 : Ref sig .tc := ⟨.hbm, 124, rfl⟩
abbrev main_v95 : Ref sig .tc := ⟨.hbm, 125, rfl⟩
abbrev main_c_25 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_26 : Ref sig .tc := ⟨.hbm, 130, rfl⟩
abbrev main_v99 : Ref sig .tc := ⟨.hbm, 131, rfl⟩
abbrev main_v100 : Ref sig .tc := ⟨.hbm, 132, rfl⟩
abbrev main_c_27 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_28 : Ref sig .tc := ⟨.hbm, 137, rfl⟩
abbrev main_v104 : Ref sig .tc := ⟨.hbm, 138, rfl⟩
abbrev main_v105 : Ref sig .tc := ⟨.hbm, 139, rfl⟩
abbrev main_c_29 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_30 : Ref sig .tc := ⟨.hbm, 155, rfl⟩
abbrev main_v120 : Ref sig .tc := ⟨.hbm, 156, rfl⟩
abbrev main_v121 : Ref sig .tc := ⟨.hbm, 157, rfl⟩
abbrev main_c_31 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_c_32 : Ref sig .tc := ⟨.hbm, 162, rfl⟩
abbrev main_v125 : Ref sig .tc := ⟨.hbm, 163, rfl⟩
abbrev main_v126 : Ref sig .tc := ⟨.hbm, 164, rfl⟩
abbrev main_c_33 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_34 : Ref sig .tc := ⟨.hbm, 169, rfl⟩
abbrev main_v130 : Ref sig .tc := ⟨.hbm, 170, rfl⟩
abbrev main_v131 : Ref sig .tc := ⟨.hbm, 171, rfl⟩
abbrev main_c_35 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_c_36 : Ref sig .tc := ⟨.hbm, 176, rfl⟩
abbrev main_v135 : Ref sig .tc := ⟨.hbm, 177, rfl⟩
abbrev main_v136 : Ref sig .tc := ⟨.hbm, 178, rfl⟩
abbrev main_c_37 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_38 : Ref sig .tc := ⟨.hbm, 183, rfl⟩
abbrev main_v140 : Ref sig .tc := ⟨.hbm, 184, rfl⟩
abbrev main_v141 : Ref sig .tc := ⟨.hbm, 185, rfl⟩
abbrev main_c_39 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_c_40 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_c_41 : Ref sig .tc := ⟨.hbm, 194, rfl⟩
abbrev main_v148 : Ref sig .tc := ⟨.hbm, 195, rfl⟩
abbrev main_v149 : Ref sig .tc := ⟨.hbm, 196, rfl⟩
abbrev main_c_42 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_c_43 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_c_44 : Ref sig .tc := ⟨.hbm, 205, rfl⟩
abbrev main_v156 : Ref sig .tc := ⟨.hbm, 206, rfl⟩
abbrev main_v157 : Ref sig .tc := ⟨.hbm, 207, rfl⟩
abbrev main_c_45 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_46 : Ref sig .tc := ⟨.hbm, 212, rfl⟩
abbrev main_v161 : Ref sig .tc := ⟨.hbm, 213, rfl⟩
abbrev main_v162 : Ref sig .tc := ⟨.hbm, 214, rfl⟩
abbrev main_c_47 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_c_48 : Ref sig .tc := ⟨.hbm, 230, rfl⟩
abbrev main_v177 : Ref sig .tc := ⟨.hbm, 231, rfl⟩
abbrev main_v178 : Ref sig .tc := ⟨.hbm, 232, rfl⟩
abbrev main_c_49 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_c_50 : Ref sig .tc := ⟨.hbm, 237, rfl⟩
abbrev main_v182 : Ref sig .tc := ⟨.hbm, 238, rfl⟩
abbrev main_v183 : Ref sig .tc := ⟨.hbm, 239, rfl⟩
abbrev main_c_51 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_c_52 : Ref sig .tc := ⟨.hbm, 244, rfl⟩
abbrev main_v187 : Ref sig .tc := ⟨.hbm, 245, rfl⟩
abbrev main_v188 : Ref sig .tc := ⟨.hbm, 246, rfl⟩
abbrev main_c_53 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_c_54 : Ref sig .tc := ⟨.hbm, 251, rfl⟩
abbrev main_v192 : Ref sig .tc := ⟨.hbm, 252, rfl⟩
abbrev main_v193 : Ref sig .tc := ⟨.hbm, 253, rfl⟩
abbrev main_c_55 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_c_56 : Ref sig .tc := ⟨.hbm, 258, rfl⟩
abbrev main_v197 : Ref sig .tc := ⟨.hbm, 259, rfl⟩
abbrev main_v198 : Ref sig .tc := ⟨.hbm, 260, rfl⟩
abbrev main_c_57 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_c_58 : Ref sig .tc := ⟨.hbm, 265, rfl⟩
abbrev main_v202 : Ref sig .tc := ⟨.hbm, 266, rfl⟩
abbrev main_v203 : Ref sig .tc := ⟨.hbm, 267, rfl⟩
abbrev main_c_59 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_c_60 : Ref sig .tc := ⟨.hbm, 272, rfl⟩
abbrev main_v207 : Ref sig .tc := ⟨.hbm, 273, rfl⟩
abbrev main_v208 : Ref sig .tc := ⟨.hbm, 274, rfl⟩
abbrev main_c_61 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_c_62 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_c_63 : Ref sig .tc := ⟨.hbm, 283, rfl⟩
abbrev main_v215 : Ref sig .tc := ⟨.hbm, 284, rfl⟩
abbrev main_v216 : Ref sig .tc := ⟨.hbm, 285, rfl⟩
abbrev main_c_64 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_call1_v0 : Ref sig .tc := ⟨.hbm, 301, rfl⟩
abbrev main_v231 : Ref sig .tc := ⟨.hbm, 302, rfl⟩
abbrev main_call2_v0 : Ref sig .tc := ⟨.hbm, 303, rfl⟩
abbrev main_v232 : Ref sig .tc := ⟨.hbm, 304, rfl⟩
abbrev main_v233 : Ref sig .tc := ⟨.hbm, 305, rfl⟩
abbrev main_c_65 : Ref sig .tc := ⟨.hbm, 306, rfl⟩
abbrev main_v234 : Ref sig .tc := ⟨.hbm, 307, rfl⟩
abbrev main_c_66 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩

abbrev nD : Nat := 1
abbrev τ : Topo := Topo.v7x

variable {F : FTy → Type} [FloatOps F]
-- ==== Proof.GatherBase.lean ====
/-
  The gather program: its threads, its arrays, and what one element of its result is.

  The program runs one body on sixteen vector subcores of each of two SparseCores. Subcore `s` of
  core `c` is worker `2 * s + c`; it takes five units, `5 * worker + u`. A unit is one half of the
  forty groups of eight vectors of one block of 128 rows of the packed words. The element values are
  given here once (`G`), by the words of a row and the table alone.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.Pipeline.Kit
public import Idealize.ShloMosaic.Lib.Tactic
public import proofs.«01_k».proof.Proof.Gen.Gather
public import proofs.«01_k».proof.Proof.Gen.Gather.Skeleton

@[expose] public section

noncomputable section

namespace Cert.GatherProof

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev MM (F : FTy → Type) := MT nD τ sig (HIx 1) (Elt F) ℕ UU ℕ

/-- The handshakes' part of the resource algebra; the transfers' counters are the other. -/
abbrev EH : Emb UH (MM F) := embL

/-! ## The arrays -/

abbrev wLoc (d : Dev nD) : Loc nD τ sig := (SparseCore.T d).loc main_arg0
abbrev tLoc (d : Dev nD) : Loc nD τ sig := (SparseCore.T d).loc main_v2
abbrev oLoc (d : Dev nD) : Loc nD τ sig := (SparseCore.T d).loc main_v3

/-- The packed words, the table and the result, as a subcore names them, and its three scratch buffers. -/
abbrev wV : Memref sig .scVector .hbm S10240x278 .i32 := Memref.whole main_arg0_scv
abbrev tV : Memref sig .scVector .hbm S36864 .i32 := Memref.whole main_v2_scv
abbrev oV : Memref sig .scVector .hbm S80x40x5x8x128 .i32 := Memref.whole main_v3_scv
abbrev sT : Memref sig .scVector .vmem S36864 .i32 := Memref.whole cc0_scratch0
abbrev sW : Memref sig .scVector .vmem S128x278 .i32 := Memref.whole cc0_scratch1
abbrev sO : Memref sig .scVector .vmem S2x5x8x128 .i32 := Memref.whole cc0_scratch2

/-! ## What an element is -/

/-- The bits `[bit, bit + width)` of the string of words `w`, the low bits of `w 0` first. -/
def field (w : Nat → BitVec 32) (bit width : Nat) : BitVec 32 :=
  ((w (bit / 32) >>> (bit % 32)) ||| (if bit % 32 + width > 32 then w (bit / 32 + 1) <<< (32 - bit % 32) else 0#32))
    &&& BitVec.ofNat 32 (2 ^ width - 1)

/-- Element `n` of the table; `0` past its end. -/
def tabAt (tab : S36864.Idx → BitVec 32) (n : Nat) : BitVec 32 :=
  if h : n < 36864 then tab (fun | 0 => ⟨n, h⟩) else 0#32

/-- Word `n` of a row; `0` past its end. -/
def wordAt (ws : S10240x278.Idx → BitVec 32) (r n : Nat) : BitVec 32 :=
  if h : r < 10240 ∧ n < 278 then ws (fun | 0 => ⟨r, h.1⟩ | 1 => ⟨n, h.2⟩) else 0#32

/-- The main code of vector `s` of a group, from the eight words `w` that hold the group; an outlier's is counted
    from the end of the main codebook. -/
def mainCode (out : Bool) (w : Nat → BitVec 32) (s : Nat) : BitVec 32 :=
  if out then field w (96 + 10 * s) 10 + 8192#32 else field w (24 + 28 * s) 13

/-- The two residual codes of vector `s`, as they lie in the words; an outlier has none. -/
def resCode (out : Bool) (w : Nat → BitVec 32) (s : Nat) : BitVec 32 :=
  if out then 0#32 else field w (37 + 28 * s) 15

/-- Plane `p` of vector `s` of a group: word `p` of its table entry, or (plane four) its residual codes. -/
def planeVal (out : Bool) (tab : S36864.Idx → BitVec 32) (w : Nat → BitVec 32) (p s : Nat) : BitVec 32 :=
  if p < 4 then tabAt tab (9216 * p + (mainCode out w s).toNat) else resCode out w s

/-- The words that hold group `vg` of row `r`. -/
def groupWords (ws : S10240x278.Idx → BitVec 32) (r vg : Nat) : Nat → BitVec 32 :=
  fun k => wordAt ws r (7 * vg + k - 3)

/-- The result, element by element. -/
def gOf (ws : S10240x278.Idx → BitVec 32) (tab : S36864.Idx → BitVec 32) (ob vg p s l : Nat) : BitVec 32 :=
  planeVal (decide (vg = 0 ∧ s < 4)) tab (groupWords ws (128 * ob + l) vg) p s

def G (ws : S10240x278.Idx → BitVec 32) (tab : S36864.Idx → BitVec 32) : S80x40x5x8x128.Idx → BitVec 32 :=
  fun j => gOf ws tab (j 0).val (j 1).val (j 2).val (j 3).val (j 4).val

theorem mainCode_lt (out : Bool) (w : Nat → BitVec 32) (s : Nat) : (mainCode out w s).toNat < 9216 := by
  unfold mainCode field
  split
  · rw [BitVec.toNat_add, BitVec.toNat_and]
    have h := Nat.and_le_right (n := (w ((96 + 10 * s) / 32) >>> ((96 + 10 * s) % 32) ||| if (96 + 10 * s) % 32 + 10 > 32 then w ((96 + 10 * s) / 32 + 1) <<< (32 - (96 + 10 * s) % 32) else 0#32).toNat) (m := (BitVec.ofNat 32 (2 ^ 10 - 1)).toNat)
    have e : (BitVec.ofNat 32 (2 ^ 10 - 1)).toNat = 1023 := by decide
    have e' : (8192#32).toNat = 8192 := by decide
    rw [e] at h ⊢
    rw [e']
    exact lt_of_le_of_lt (Nat.mod_le _ _) (by omega)
  · rw [BitVec.toNat_and]
    refine lt_of_le_of_lt Nat.and_le_right ?_
    decide

/-! ## The units -/

/-- The unit that holds an element of the result. -/
def unitOf (j : S80x40x5x8x128.Idx) : Nat := 2 * (j 0).val + (j 1).val / 20

/-- The elements of one core, of one subcore, and those at one step of a subcore's work (`n = 20 * u + g`). -/
def coreSet (c : Nat) : Finset S80x40x5x8x128.Idx := Finset.univ.filter fun j => (unitOf j / 5) % 2 = c
def tileSet (w : Nat) : Finset S80x40x5x8x128.Idx := Finset.univ.filter fun j => unitOf j / 5 = w
def stepOf (j : S80x40x5x8x128.Idx) : Nat := 20 * (unitOf j % 5) + (j 1).val % 20
def pieceSet (w n : Nat) : Finset S80x40x5x8x128.Idx := (tileSet w).filter fun j => stepOf j = n
def todoSet (w n : Nat) : Finset S80x40x5x8x128.Idx := (tileSet w).filter fun j => n ≤ stepOf j
def doneSet (w n : Nat) : Finset S80x40x5x8x128.Idx := (tileSet w).filter fun j => stepOf j < n

theorem coreSet_disjoint (a b : Fin 2) (h : a ≠ b) : Disjoint (coreSet a.val) (coreSet b.val) :=
  Finset.disjoint_filter.mpr fun _ _ h1 h2 => h (Fin.ext (h1.symm.trans h2))
theorem coreSet_cover : (Finset.univ : Finset (Fin 2)).biUnion (fun c => coreSet c.val) = Finset.univ := by
  ext j
  simp only [Finset.mem_biUnion, Finset.mem_univ, true_and, iff_true, coreSet, Finset.mem_filter]
  exact ⟨⟨(unitOf j / 5) % 2, Nat.mod_lt _ (by decide)⟩, rfl⟩
theorem tileSet_disjoint (c : Nat) (a b : Fin 16) (h : a ≠ b) : Disjoint (tileSet (2 * a.val + c)) (tileSet (2 * b.val + c)) :=
  Finset.disjoint_filter.mpr fun _ _ h1 h2 => h (Fin.ext (by omega))
theorem unitOf_lt (j : S80x40x5x8x128.Idx) : unitOf j < 160 := by
  have h0 : (j 0).val < 80 := (j 0).isLt
  have h1 : (j 1).val < 40 := (j 1).isLt
  unfold unitOf; omega
theorem tileSet_cover (c : Nat) (hc : c < 2) : (Finset.univ : Finset (Fin 16)).biUnion (fun i => tileSet (2 * i.val + c)) = coreSet c := by
  ext j
  have hj := unitOf_lt j
  simp only [Finset.mem_biUnion, Finset.mem_univ, true_and, coreSet, tileSet, Finset.mem_filter]
  constructor
  · rintro ⟨a, h⟩; omega
  · intro h; exact ⟨⟨unitOf j / 10, by omega⟩, by show unitOf j / 5 = 2 * (unitOf j / 10) + c; omega⟩

theorem todo_zero (w : Nat) : todoSet w 0 = tileSet w := Finset.filter_true_of_mem fun _ _ => Nat.zero_le _
theorem done_zero (w : Nat) : doneSet w 0 = ∅ := Finset.filter_false_of_mem fun _ _ => Nat.not_lt_zero _
theorem done_all (w : Nat) : doneSet w 100 = tileSet w := Finset.filter_true_of_mem fun j _ => by unfold stepOf; omega
theorem todo_all (w : Nat) : todoSet w 100 = ∅ := Finset.filter_false_of_mem fun j _ => by unfold stepOf; omega
theorem todo_split (w n : Nat) : todoSet w n = pieceSet w n ∪ todoSet w (n + 1) := by
  ext j; simp only [todoSet, pieceSet, Finset.mem_union, Finset.mem_filter]
  constructor
  · rintro ⟨a, b⟩; rcases Nat.eq_or_lt_of_le b with h | h
    · exact .inl ⟨a, h.symm⟩
    · exact .inr ⟨a, h⟩
  · rintro (⟨a, b⟩ | ⟨a, b⟩)
    · exact ⟨a, b.ge⟩
    · exact ⟨a, by omega⟩
theorem todo_disjoint (w n : Nat) : Disjoint (pieceSet w n) (todoSet w (n + 1)) :=
  Finset.disjoint_filter.mpr fun _ _ h1 h2 => by omega
theorem done_split (w n : Nat) : doneSet w (n + 1) = doneSet w n ∪ pieceSet w n := by
  ext j; simp only [doneSet, pieceSet, Finset.mem_union, Finset.mem_filter]
  constructor
  · rintro ⟨a, b⟩; rcases Nat.eq_or_lt_of_le (Nat.le_of_lt_succ b) with h | h
    · exact .inr ⟨a, h⟩
    · exact .inl ⟨a, h⟩
  · rintro (⟨a, b⟩ | ⟨a, b⟩)
    · exact ⟨a, by omega⟩
    · exact ⟨a, by omega⟩
theorem done_disjoint (w n : Nat) : Disjoint (doneSet w n) (pieceSet w n) :=
  Finset.disjoint_filter.mpr fun _ _ h1 h2 => by omega

end Cert.GatherProof

end
-- ==== Proof.GatherEmit.lean ====
/-
  The steps of one group's decoding, sixteen rows at a time, as rules.

  While a group is decoded a subcore holds the table and the words of 128 rows in its scratch, and
  one half of its output scratch, of which the rows before the present sixteen are filled and, of
  the present sixteen, the first `n` of forty elements per row (`EmitR`). Each operation of the
  program is a rule on that resource.
-/
module

public import proofs.«01_k».proof.Proof.GatherBase

@[expose] public section

noncomputable section

namespace Cert.GatherProof

open Cert.Gather Cert.Gather.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MM F

/-- The subcore at grid point `L` of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- One word of the scratch that holds 128 rows; `0` outside it. -/
def w128 (fw : S128x278.Idx → BitVec 32) (l n : Nat) : BitVec 32 :=
  if h : l < 128 ∧ n < 278 then fw (fun | 0 => ⟨l, h.1⟩ | 1 => ⟨n, h.2⟩) else 0#32

/-- The words of group `vg` in row `l`. -/
def gw (fw : S128x278.Idx → BitVec 32) (vg l : Nat) : Nat → BitVec 32 := fun k => w128 fw l (7 * vg + k - 3)

/-- Word `k` of group `vg` in sixteen rows. -/
def Wv (fw : S128x278.Idx → BitVec 32) (vg os k : Nat) : IVec S16 32 := fun x => gw fw vg (16 * os + (x 0).val) k

/-- Element `p` of vector `s` of group `vg` in row `l`. -/
def valOf (fT : S36864.Idx → BitVec 32) (fw : S128x278.Idx → BitVec 32) (vg p s l : Nat) : BitVec 32 :=
  planeVal (decide (vg = 0 ∧ s < 4)) fT (gw fw vg l) p s

/-- The half of the output scratch in use. -/
def slotSet (b : Nat) : Finset S2x5x8x128.Idx := Finset.univ.filter fun j => (j 0).val = b

/-- The half `b` filled: rows below `16 * os` whole, the next sixteen rows in their first `n` elements. -/
def Filled (b : Nat) (val : Nat → Nat → Nat → BitVec 32) (os n : Nat) (f : S2x5x8x128.Idx → BitVec 32) : Prop :=
  ∀ j, (j 0).val = b → ((j 3).val < 16 * os ∨ ((j 3).val < 16 * os + 16 ∧ 5 * (j 2).val + (j 1).val < n)) →
    f j = val (j 1).val (j 2).val (j 3).val

theorem Filled.done {b : Nat} {val : Nat → Nat → Nat → BitVec 32} {os : Nat} {f : S2x5x8x128.Idx → BitVec 32}
    (h : Filled b val os 40 f) : Filled b val (os + 1) 0 f := fun j hb hj => h j hb (by
  have h1 : (j 1).val < 5 := (j 1).isLt
  have h2 : (j 2).val < 8 := (j 2).isLt
  omega)

variable [FloatOps F]

section Steps

variable (d : Dev nD) (L : grid0.Coords) (fT : S36864.Idx → BitVec 32) (fw : S128x278.Idx → BitVec 32)
  (b : Nat) (val : Nat → Nat → Nat → BitVec 32)

/-- What a subcore holds while it decodes a group. -/
def EmitR (os n : Nat) : sProp 𝕄 :=
  iprop((sT.view.loc (thr d L) ↦{fullShare} fT) ∗ (sW.view.loc (thr d L) ↦{fullShare} fw)
    ∗ ∃ f, ⌜Filled b val os n f⌝ ∗ (sO.view.loc (thr d L) ↦[slotSet b]{fullShare} f))

variable {d L fT fw b val} {α : Type} {Q : α → sProp (MM F)} {os n : Nat}

theorem step_assume {P : Prop} {dec : Decidable P} {R : sProp 𝕄}
    {k : PLift P → Prog (TpuEff nD τ sig (Elt F) Λ₀ (thr d L).2) α} (h : P)
    (hk : R ⊢ wp frame (wpE (defs₀ (F := F)) 𝒱₀ (thr d L) none) Set.univ (k ⟨h⟩) Q) :
    R ⊢ wp frame (wpE (defs₀ (F := F)) 𝒱₀ (thr d L) none) Set.univ (.op (.assume P dec) k) Q := by
  rw [wp_assume_of _ _ _ _ h]; exact hk

theorem step_word (vg kk : Nat) {rows cols : IVec S16 32}
    {h : ∀ a x, ((![rows, cols] : Fin 2 → IVec S16 32) a x).toNat < S128x278.size a} {hl}
    {k : Vec F S16 .i32 → Prog (TpuEff nD τ sig (Elt F) Λ₀ (thr d L).2) α}
    (hr : ∀ x, (rows x).toNat = 16 * os + (x 0).val) (hc : ∀ x, (cols x).toNat = 7 * vg + kk - 3)
    (hk : EmitR d L fT fw b val os n ⊢ wp frame (wpE (defs₀ (F := F)) 𝒱₀ (thr d L) none) Set.univ (k (Wv fw vg os kk)) Q) :
    EmitR d L fT fw b val os n ⊢ wp frame (wpE (defs₀ (F := F)) 𝒱₀ (thr d L) none) Set.univ
      (SparseCore.vectorLoadIdx sW ![rows, cols] h hl >>= k) Q := by
  have e : loadIdx (F := F) ((sW.access (.whole S128x278)).read (Elt F) fw) ![rows, cols] h = (Wv fw vg os kk : Vec F S16 .i32) := by
    funext x
    have h0 : 16 * os + (x 0).val < 128 := hr x ▸ h 0 x
    have h1 : 7 * vg + kk - 3 < 278 := hc x ▸ h 1 x
    show fw _ = w128 fw _ _
    rw [w128, dif_pos ⟨h0, h1⟩]
    congr 1; funext a
    match a with
    | 0 => exact Fin.ext ((Nat.zero_add _).trans ((Nat.one_mul _).trans (hr x)))
    | 1 => exact Fin.ext ((Nat.zero_add _).trans ((Nat.one_mul _).trans (hc x)))
  unfold EmitR at hk ⊢
  iintro ⟨HT, HW, HO⟩
  iapply (SparseCore.wp_vectorLoadIdx 𝒱₀ (thr d L) none Set.univ (base := sW) (S := Finset.univ) (Finset.subset_univ _)) $$ HW
  iintro HW
  rw [e]
  iapply hk
  isplitl [HT]; · iexact HT
  isplitl [HW]; · iexact HW
  iexact HO

theorem step_idx (p s : Nat) {vg : Nat} {off : Fin 1 → Nat} {inb} {v : IVec S16 32}
    {h : ∀ a x, ((![v] : Fin 1 → IVec S16 32) a x).toNat < S9216.size a} {hs hl}
    {k : Vec F S16 .i32 → Prog (TpuEff nD τ sig (Elt F) Λ₀ (thr d L).2) α}
    (hp : p < 4) (hoff : off = fun _ => 9216 * p)
    (hval : val = valOf fT fw vg)
    (hv : ∀ x, v x = mainCode (decide (vg = 0 ∧ s < 4)) (gw fw vg (16 * os + (x 0).val)) s)
    (hk : EmitR d L fT fw b val os n ⊢ wp frame (wpE (defs₀ (F := F)) 𝒱₀ (thr d L) none) Set.univ
      (k fun x : S16.Idx => val p s (16 * os + (x 0).val)) Q) :
    EmitR d L fT fw b val os n ⊢ wp frame (wpE (defs₀ (F := F)) 𝒱₀ (thr d L) none) Set.univ
      (SparseCore.vectorLoadIdx (sT.slice (Rect.unit (s := S36864) off S9216.size inb) hs) ![v] h hl >>= k) Q := by
  have e : loadIdx (F := F) (((sT.slice (Rect.unit (s := S36864) off S9216.size inb) hs).access (.whole (Rect.unit (s := S36864) off S9216.size inb).shape)).read (Elt F) fT) ![v] h
      = (fun x : S16.Idx => val p s (16 * os + (x 0).val) : Vec F S16 .i32) := by
    funext x
    have h0 : (v x).toNat < 9216 := h 0 x
    subst hoff hval
    show fT _ = planeVal _ _ _ _ _
    rw [planeVal, if_pos hp, ← hv x, tabAt, dif_pos (by omega)]
    congr 1; funext a
    match a with
    | 0 =>
      refine Fin.ext ?_
      show 9216 * p + 1 * (0 + 1 * (v x).toNat) = 9216 * p + (v x).toNat
      simp only [Nat.zero_add, Nat.one_mul]
  unfold EmitR at hk ⊢
  iintro ⟨HT, HW, HO⟩
  iapply (SparseCore.wp_vectorLoadIdx 𝒱₀ (thr d L) none Set.univ (base := sT.slice (Rect.unit (s := S36864) off S9216.size inb) hs) (S := Finset.univ) (Finset.subset_univ _)) $$ HT
  iintro HT
  rw [e]
  iapply hk
  isplitl [HT]; · iexact HT
  isplitl [HW]; · iexact HW
  iexact HO

/-- The elements a store of one row segment covers. -/
theorem seg_mem {off : Fin 4 → Nat} {inb : ∀ a, off a + S1x1x1x16.size a ≤ S2x5x8x128.size a} {p s : Nat} (hoff : off = ![b, p, s, 16 * os])
    (j : S2x5x8x128.Idx) : j ∈ (Rect.unit (s := S2x5x8x128) off S1x1x1x16.size inb).set ↔
      (j 0).val = b ∧ (j 1).val = p ∧ (j 2).val = s ∧ 16 * os ≤ (j 3).val ∧ (j 3).val < 16 * os + 16 := by
  subst hoff
  rw [Rect.mem_set_unit]
  constructor
  · intro h
    have h0 : b ≤ (j 0).val ∧ (j 0).val < b + 1 := h 0
    have h1 : p ≤ (j 1).val ∧ (j 1).val < p + 1 := h 1
    have h2 : s ≤ (j 2).val ∧ (j 2).val < s + 1 := h 2
    have h3 : 16 * os ≤ (j 3).val ∧ (j 3).val < 16 * os + 16 := h 3
    exact ⟨by omega, by omega, by omega, h3⟩
  · rintro ⟨h0, h1, h2, h3⟩ a
    match a with
    | 0 => show b ≤ (j 0).val ∧ (j 0).val < b + 1; omega
    | 1 => show p ≤ (j 1).val ∧ (j 1).val < p + 1; omega
    | 2 => show s ≤ (j 2).val ∧ (j 2).val < s + 1; omega
    | 3 => exact h3

theorem step_load (p s : Nat) {off : Fin 4 → Nat} {inb : ∀ a, off a + S1x1x1x16.size a ≤ S2x5x8x128.size a} {hl}
    {k : Vec F S1x1x1x16 .i32 → Prog (TpuEff nD τ sig (Elt F) Λ₀ (thr d L).2) α}
    (hoff : off = ![b, p, s, 16 * os])
    (hk : ∀ v, EmitR d L fT fw b val os n ⊢ wp frame (wpE (defs₀ (F := F)) 𝒱₀ (thr d L) none) Set.univ (k v) Q) :
    EmitR d L fT fw b val os n ⊢ wp frame (wpE (defs₀ (F := F)) 𝒱₀ (thr d L) none) Set.univ
      (.op (.load sO (Rect.unit (s := S2x5x8x128) off S1x1x1x16.size inb).toLoadRect hl) k) Q := by
  unfold EmitR at hk ⊢
  iintro ⟨HT, HW, %f, %hf, HO⟩
  iapply (wp_load 𝒱₀ (thr d L) none Set.univ (m := sO) (S := slotSet b) (by
    intro j hj
    obtain ⟨i, hi, rfl⟩ := Finset.mem_map.mp hj
    exact Finset.mem_filter.mpr ⟨Finset.mem_univ _, ((seg_mem (inb := inb) hoff i).mp hi).1⟩)) $$ HO
  iintro HO
  iapply hk
  isplitl [HT]; · iexact HT
  isplitl [HW]; · iexact HW
  iexists f; isplitr
  · ipureintro; exact hf
  · iexact HO

theorem step_store (p s : Nat) {off : Fin 4 → Nat} {inb : ∀ a, off a + S1x1x1x16.size a ≤ S2x5x8x128.size a} {v : Vec F S16 .i32} {hc hx hm}
    {k : PUnit → Prog (TpuEff nD τ sig (Elt F) Λ₀ (thr d L).2) α}
    (hoff : off = ![b, p, s, 16 * os]) (hv : ∀ x : S16.Idx, v x = val p s (16 * os + (x 0).val)) (hp : p < 5) (hn : n = 5 * s + p)
    (hk : EmitR d L fT fw b val os (n + 1) ⊢ wp frame (wpE (defs₀ (F := F)) 𝒱₀ (thr d L) none) Set.univ (k ⟨⟩) Q) :
    EmitR d L fT fw b val os n ⊢ wp frame (wpE (defs₀ (F := F)) 𝒱₀ (thr d L) none) Set.univ
      (.op (.store sO (Rect.unit (s := S2x5x8x128) off S1x1x1x16.size inb) (shapeCast S1x1x1x16 v hc) Finset.univ hx hm) k) Q := by
  unfold EmitR at hk ⊢
  iintro ⟨HT, HW, %f, %hf, HO⟩
  iapply (wp_store 𝒱₀ (thr d L) none Set.univ (m := sO) (r := Rect.unit (s := S2x5x8x128) off S1x1x1x16.size inb) (Mk := Finset.univ) (S := slotSet b) (by
    intro j hj
    have hj' : j ∈ (Rect.unit (s := S2x5x8x128) off S1x1x1x16.size inb).set := by
      have := hj
      rw [View.setOn_univ] at this
      exact (View.set_slice_whole cc0_scratch2 (Rect.unit (s := S2x5x8x128) off S1x1x1x16.size inb)) ▸ this
    exact Finset.mem_filter.mpr ⟨Finset.mem_univ _, ((seg_mem (inb := inb) hoff j).mp hj').1⟩)) $$ HO
  iintro HO
  iapply hk
  isplitl [HT]; · iexact HT
  isplitl [HW]; · iexact HW
  iexists _; isplitr; rotate_left
  · iexact HO
  · ipureintro
    intro j hb hj
    by_cases hm : j ∈ (Rect.unit (s := S2x5x8x128) off S1x1x1x16.size inb).set
    · obtain ⟨h0, h1, h2, h3, h4⟩ := (seg_mem (inb := inb) hoff j).mp hm
      let x : S1x1x1x16.Idx := fun | 0 => ⟨0, by decide⟩ | 1 => ⟨0, by decide⟩ | 2 => ⟨0, by decide⟩ | 3 => ⟨(j 3).val - 16 * os, by show _ < 16; omega⟩
      have hxj : (sO.access (Rect.unit (s := S2x5x8x128) off S1x1x1x16.size inb)).emb x = j := by
        subst hoff
        funext a
        refine Fin.ext ?_
        match a with
        | 0 => show b + 1 * 0 = (j 0).val; omega
        | 1 => show p + 1 * 0 = (j 1).val; omega
        | 2 => show s + 1 * 0 = (j 2).val; omega
        | 3 => show 16 * os + 1 * ((j 3).val - 16 * os) = (j 3).val; omega
      rw [← hxj, View.write_emb_of_mem _ _ (Finset.mem_univ _), hxj]
      show v (Shape.reshapeEquiv hc x) = _
      have hrow : (S16.rowMajor (fun | 0 => ⟨(j 3).val - 16 * os, by show _ < 16; omega⟩)).val = (S1x1x1x16.rowMajor x).val := by
        rw [Shape.rowMajor_val_one, Shape.rowMajor_val_four]
        show (j 3).val - 16 * os = ((0 * 1 + 0) * 1 + 0) * 16 + ((j 3).val - 16 * os)
        omega
      rw [Shape.reshapeEquiv_eq_of_rowMajor hc hrow, hv]
      show val p s (16 * os + ((j 3).val - 16 * os)) = _
      rw [h1, h2, Nat.add_sub_cancel' h3]
    · rw [View.write_of_not_mem _ _ _ (by
        rw [View.setOn_univ]
        exact fun hc => hm ((View.set_slice_whole cc0_scratch2 (Rect.unit (s := S2x5x8x128) off S1x1x1x16.size inb)) ▸ hc))]
      refine hf j hb ?_
      rcases hj with hj | ⟨hj, hj'⟩
      · exact .inl hj
      · by_cases hlt : (j 3).val < 16 * os
        · exact .inl hlt
        · refine .inr ⟨hj, ?_⟩
          have h1 : (j 1).val < 5 := (j 1).isLt
          by_contra hge
          exact hm ((seg_mem (inb := inb) hoff j).mpr ⟨hb, by omega, by omega, by omega, hj⟩)

theorem step_end : EmitR d L fT fw b val os 40 ⊢ wp frame (wpE (defs₀ (F := F)) 𝒱₀ (thr d L) none) Set.univ
    (.ret ()) fun _ : Unit => EmitR d L fT fw b val (os + 1) 0 := by
  unfold EmitR
  iintro ⟨HT, HW, %f, %hf, HO⟩
  sl_step
  isplitl [HT]; · iexact HT
  isplitl [HW]; · iexact HW
  iexists f; isplitr
  · ipureintro; exact hf.done
  · iexact HO

end Steps
end Cert.GatherProof
end
-- ==== Proof.GatherFields.lean ====
/-
  The offsets and the bit fields of the gather program, read as numbers and as fields of a row's
  words: where each store of one group goes, and what each computed vector of codes is.
-/
module

public import proofs.«01_k».proof.Proof.GatherEmit

@[expose] public section

noncomputable section

namespace Cert.GatherProof

open Cert.Gather Cert.Gather.Gen
open Idealize.ShloMosaic

variable {F : FTy → Type}

/-! ## Offsets of the stores -/

theorem off5_eq : ∀ (t2 : Fin k0_t2_loop.trips) (t3 : Fin k0_t3_loop.trips), k0_off5 t2 t3 = ![t2.val % 2, 0, 0, 16 * t3.val] := by decide +kernel
theorem off6_eq : ∀ (t2 : Fin k0_t2_loop.trips) (t3 : Fin k0_t3_loop.trips), k0_off6 t2 t3 = ![t2.val % 2, 1, 0, 16 * t3.val] := by decide +kernel
theorem off7_eq : ∀ (t2 : Fin k0_t2_loop.trips) (t3 : Fin k0_t3_loop.trips), k0_off7 t2 t3 = ![t2.val % 2, 2, 0, 16 * t3.val] := by decide +kernel
theorem off8_eq : ∀ (t2 : Fin k0_t2_loop.trips) (t3 : Fin k0_t3_loop.trips), k0_off8 t2 t3 = ![t2.val % 2, 3, 0, 16 * t3.val] := by decide +kernel
theorem off9_eq : ∀ (t2 : Fin k0_t2_loop.trips) (t3 : Fin k0_t3_loop.trips), k0_off9 t2 t3 = ![t2.val % 2, 4, 0, 16 * t3.val] := by decide +kernel
theorem off10_eq : ∀ (t2 : Fin k0_t2_loop.trips) (t3 : Fin k0_t3_loop.trips), k0_off10 t2 t3 = ![t2.val % 2, 0, 1, 16 * t3.val] := by decide +kernel
theorem off11_eq : ∀ (t2 : Fin k0_t2_loop.trips) (t3 : Fin k0_t3_loop.trips), k0_off11 t2 t3 = ![t2.val % 2, 1, 1, 16 * t3.val] := by decide +kernel
theorem off12_eq : ∀ (t2 : Fin k0_t2_loop.trips) (t3 : Fin k0_t3_loop.trips), k0_off12 t2 t3 = ![t2.val % 2, 2, 1, 16 * t3.val] := by decide +kernel
theorem off13_eq : ∀ (t2 : Fin k0_t2_loop.trips) (t3 : Fin k0_t3_loop.trips), k0_off13 t2 t3 = ![t2.val % 2, 3, 1, 16 * t3.val] := by decide +kernel
theorem off14_eq : ∀ (t2 : Fin k0_t2_loop.trips) (t3 : Fin k0_t3_loop.trips), k0_off14 t2 t3 = ![t2.val % 2, 4, 1, 16 * t3.val] := by decide +kernel
theorem off15_eq : ∀ (t2 : Fin k0_t2_loop.trips) (t3 : Fin k0_t3_loop.trips), k0_off15 t2 t3 = ![t2.val % 2, 0, 2, 16 * t3.val] := by decide +kernel
theorem off16_eq : ∀ (t2 : Fin k0_t2_loop.trips) (t3 : Fin k0_t3_loop.trips), k0_off16 t2 t3 = ![t2.val % 2, 1, 2, 16 * t3.val] := by decide +kernel
theorem off17_eq : ∀ (t2 : Fin k0_t2_loop.trips) (t3 : Fin k0_t3_loop.trips), k0_off17 t2 t3 = ![t2.val % 2, 2, 2, 16 * t3.val] := by decide +kernel
theorem off18_eq : ∀ (t2 : Fin k0_t2_loop.trips) (t3 : Fin k0_t3_loop.trips), k0_off18 t2 t3 = ![t2.val % 2, 3, 2, 16 * t3.val] := by decide +kernel
theorem off19_eq : ∀ (t2 : Fin k0_t2_loop.trips) (t3 : Fin k0_t3_loop.trips), k0_off19 t2 t3 = ![t2.val % 2, 4, 2, 16 * t3.val] := by decide +kernel
theorem off20_eq : ∀ (t2 : Fin k0_t2_loop.trips) (t3 : Fin k0_t3_loop.trips), k0_off20 t2 t3 = ![t2.val % 2, 0, 3, 16 * t3.val] := by decide +kernel
theorem off21_eq : ∀ (t2 : Fin k0_t2_loop.trips) (t3 : Fin k0_t3_loop.trips), k0_off21 t2 t3 = ![t2.val % 2, 1, 3, 16 * t3.val] := by decide +kernel
theorem off22_eq : ∀ (t2 : Fin k0_t2_loop.trips) (t3 : Fin k0_t3_loop.trips), k0_off22 t2 t3 = ![t2.val % 2, 2, 3, 16 * t3.val] := by decide +kernel
theorem off23_eq : ∀ (t2 : Fin k0_t2_loop.trips) (t3 : Fin k0_t3_loop.trips), k0_off23 t2 t3 = ![t2.val % 2, 3, 3, 16 * t3.val] := by decide +kernel
theorem off24_eq : ∀ (t2 : Fin k0_t2_loop.trips) (t3 : Fin k0_t3_loop.trips), k0_off24 t2 t3 = ![t2.val % 2, 4, 3, 16 * t3.val] := by decide +kernel
theorem off25_eq : ∀ (t2 : Fin k0_t2_loop.trips) (t3 : Fin k0_t3_loop.trips), k0_off25 t2 t3 = ![t2.val % 2, 0, 4, 16 * t3.val] := by decide +kernel
theorem off26_eq : ∀ (t2 : Fin k0_t2_loop.trips) (t3 : Fin k0_t3_loop.trips), k0_off26 t2 t3 = ![t2.val % 2, 1, 4, 16 * t3.val] := by decide +kernel
theorem off27_eq : ∀ (t2 : Fin k0_t2_loop.trips) (t3 : Fin k0_t3_loop.trips), k0_off27 t2 t3 = ![t2.val % 2, 2, 4, 16 * t3.val] := by decide +kernel
theorem off28_eq : ∀ (t2 : Fin k0_t2_loop.trips) (t3 : Fin k0_t3_loop.trips), k0_off28 t2 t3 = ![t2.val % 2, 3, 4, 16 * t3.val] := by decide +kernel
theorem off29_eq : ∀ (t2 : Fin k0_t2_loop.trips) (t3 : Fin k0_t3_loop.trips), k0_off29 t2 t3 = ![t2.val % 2, 4, 4, 16 * t3.val] := by decide +kernel
theorem off30_eq : ∀ (t2 : Fin k0_t2_loop.trips) (t3 : Fin k0_t3_loop.trips), k0_off30 t2 t3 = ![t2.val % 2, 0, 5, 16 * t3.val] := by decide +kernel
theorem off31_eq : ∀ (t2 : Fin k0_t2_loop.trips) (t3 : Fin k0_t3_loop.trips), k0_off31 t2 t3 = ![t2.val % 2, 1, 5, 16 * t3.val] := by decide +kernel
theorem off32_eq : ∀ (t2 : Fin k0_t2_loop.trips) (t3 : Fin k0_t3_loop.trips), k0_off32 t2 t3 = ![t2.val % 2, 2, 5, 16 * t3.val] := by decide +kernel
theorem off33_eq : ∀ (t2 : Fin k0_t2_loop.trips) (t3 : Fin k0_t3_loop.trips), k0_off33 t2 t3 = ![t2.val % 2, 3, 5, 16 * t3.val] := by decide +kernel
theorem off34_eq : ∀ (t2 : Fin k0_t2_loop.trips) (t3 : Fin k0_t3_loop.trips), k0_off34 t2 t3 = ![t2.val % 2, 4, 5, 16 * t3.val] := by decide +kernel
theorem off35_eq : ∀ (t2 : Fin k0_t2_loop.trips) (t3 : Fin k0_t3_loop.trips), k0_off35 t2 t3 = ![t2.val % 2, 0, 6, 16 * t3.val] := by decide +kernel
theorem off36_eq : ∀ (t2 : Fin k0_t2_loop.trips) (t3 : Fin k0_t3_loop.trips), k0_off36 t2 t3 = ![t2.val % 2, 1, 6, 16 * t3.val] := by decide +kernel
theorem off37_eq : ∀ (t2 : Fin k0_t2_loop.trips) (t3 : Fin k0_t3_loop.trips), k0_off37 t2 t3 = ![t2.val % 2, 2, 6, 16 * t3.val] := by decide +kernel
theorem off38_eq : ∀ (t2 : Fin k0_t2_loop.trips) (t3 : Fin k0_t3_loop.trips), k0_off38 t2 t3 = ![t2.val % 2, 3, 6, 16 * t3.val] := by decide +kernel
theorem off39_eq : ∀ (t2 : Fin k0_t2_loop.trips) (t3 : Fin k0_t3_loop.trips), k0_off39 t2 t3 = ![t2.val % 2, 4, 6, 16 * t3.val] := by decide +kernel
theorem off40_eq : ∀ (t2 : Fin k0_t2_loop.trips) (t3 : Fin k0_t3_loop.trips), k0_off40 t2 t3 = ![t2.val % 2, 0, 7, 16 * t3.val] := by decide +kernel
theorem off41_eq : ∀ (t2 : Fin k0_t2_loop.trips) (t3 : Fin k0_t3_loop.trips), k0_off41 t2 t3 = ![t2.val % 2, 1, 7, 16 * t3.val] := by decide +kernel
theorem off42_eq : ∀ (t2 : Fin k0_t2_loop.trips) (t3 : Fin k0_t3_loop.trips), k0_off42 t2 t3 = ![t2.val % 2, 2, 7, 16 * t3.val] := by decide +kernel
theorem off43_eq : ∀ (t2 : Fin k0_t2_loop.trips) (t3 : Fin k0_t3_loop.trips), k0_off43 t2 t3 = ![t2.val % 2, 3, 7, 16 * t3.val] := by decide +kernel
theorem off44_eq : ∀ (t2 : Fin k0_t2_loop.trips) (t3 : Fin k0_t3_loop.trips), k0_off44 t2 t3 = ![t2.val % 2, 4, 7, 16 * t3.val] := by decide +kernel
theorem off45_eq : ∀ (t2 : Fin k0_t2_loop.trips) (t4 : Fin k0_t4_loop.trips), k0_off45 t2 t4 = ![t2.val % 2, 0, 0, 16 * t4.val] := by decide +kernel
theorem off46_eq : ∀ (t2 : Fin k0_t2_loop.trips) (t4 : Fin k0_t4_loop.trips), k0_off46 t2 t4 = ![t2.val % 2, 1, 0, 16 * t4.val] := by decide +kernel
theorem off47_eq : ∀ (t2 : Fin k0_t2_loop.trips) (t4 : Fin k0_t4_loop.trips), k0_off47 t2 t4 = ![t2.val % 2, 2, 0, 16 * t4.val] := by decide +kernel
theorem off48_eq : ∀ (t2 : Fin k0_t2_loop.trips) (t4 : Fin k0_t4_loop.trips), k0_off48 t2 t4 = ![t2.val % 2, 3, 0, 16 * t4.val] := by decide +kernel
theorem off49_eq : ∀ (t2 : Fin k0_t2_loop.trips) (t4 : Fin k0_t4_loop.trips), k0_off49 t2 t4 = ![t2.val % 2, 4, 0, 16 * t4.val] := by decide +kernel
theorem off50_eq : ∀ (t2 : Fin k0_t2_loop.trips) (t4 : Fin k0_t4_loop.trips), k0_off50 t2 t4 = ![t2.val % 2, 0, 1, 16 * t4.val] := by decide +kernel
theorem off51_eq : ∀ (t2 : Fin k0_t2_loop.trips) (t4 : Fin k0_t4_loop.trips), k0_off51 t2 t4 = ![t2.val % 2, 1, 1, 16 * t4.val] := by decide +kernel
theorem off52_eq : ∀ (t2 : Fin k0_t2_loop.trips) (t4 : Fin k0_t4_loop.trips), k0_off52 t2 t4 = ![t2.val % 2, 2, 1, 16 * t4.val] := by decide +kernel
theorem off53_eq : ∀ (t2 : Fin k0_t2_loop.trips) (t4 : Fin k0_t4_loop.trips), k0_off53 t2 t4 = ![t2.val % 2, 3, 1, 16 * t4.val] := by decide +kernel
theorem off54_eq : ∀ (t2 : Fin k0_t2_loop.trips) (t4 : Fin k0_t4_loop.trips), k0_off54 t2 t4 = ![t2.val % 2, 4, 1, 16 * t4.val] := by decide +kernel
theorem off55_eq : ∀ (t2 : Fin k0_t2_loop.trips) (t4 : Fin k0_t4_loop.trips), k0_off55 t2 t4 = ![t2.val % 2, 0, 2, 16 * t4.val] := by decide +kernel
theorem off56_eq : ∀ (t2 : Fin k0_t2_loop.trips) (t4 : Fin k0_t4_loop.trips), k0_off56 t2 t4 = ![t2.val % 2, 1, 2, 16 * t4.val] := by decide +kernel
theorem off57_eq : ∀ (t2 : Fin k0_t2_loop.trips) (t4 : Fin k0_t4_loop.trips), k0_off57 t2 t4 = ![t2.val % 2, 2, 2, 16 * t4.val] := by decide +kernel
theorem off58_eq : ∀ (t2 : Fin k0_t2_loop.trips) (t4 : Fin k0_t4_loop.trips), k0_off58 t2 t4 = ![t2.val % 2, 3, 2, 16 * t4.val] := by decide +kernel
theorem off59_eq : ∀ (t2 : Fin k0_t2_loop.trips) (t4 : Fin k0_t4_loop.trips), k0_off59 t2 t4 = ![t2.val % 2, 4, 2, 16 * t4.val] := by decide +kernel
theorem off60_eq : ∀ (t2 : Fin k0_t2_loop.trips) (t4 : Fin k0_t4_loop.trips), k0_off60 t2 t4 = ![t2.val % 2, 0, 3, 16 * t4.val] := by decide +kernel
theorem off61_eq : ∀ (t2 : Fin k0_t2_loop.trips) (t4 : Fin k0_t4_loop.trips), k0_off61 t2 t4 = ![t2.val % 2, 1, 3, 16 * t4.val] := by decide +kernel
theorem off62_eq : ∀ (t2 : Fin k0_t2_loop.trips) (t4 : Fin k0_t4_loop.trips), k0_off62 t2 t4 = ![t2.val % 2, 2, 3, 16 * t4.val] := by decide +kernel
theorem off63_eq : ∀ (t2 : Fin k0_t2_loop.trips) (t4 : Fin k0_t4_loop.trips), k0_off63 t2 t4 = ![t2.val % 2, 3, 3, 16 * t4.val] := by decide +kernel
theorem off64_eq : ∀ (t2 : Fin k0_t2_loop.trips) (t4 : Fin k0_t4_loop.trips), k0_off64 t2 t4 = ![t2.val % 2, 4, 3, 16 * t4.val] := by decide +kernel
theorem off65_eq : ∀ (t2 : Fin k0_t2_loop.trips) (t4 : Fin k0_t4_loop.trips), k0_off65 t2 t4 = ![t2.val % 2, 0, 4, 16 * t4.val] := by decide +kernel
theorem off66_eq : ∀ (t2 : Fin k0_t2_loop.trips) (t4 : Fin k0_t4_loop.trips), k0_off66 t2 t4 = ![t2.val % 2, 1, 4, 16 * t4.val] := by decide +kernel
theorem off67_eq : ∀ (t2 : Fin k0_t2_loop.trips) (t4 : Fin k0_t4_loop.trips), k0_off67 t2 t4 = ![t2.val % 2, 2, 4, 16 * t4.val] := by decide +kernel
theorem off68_eq : ∀ (t2 : Fin k0_t2_loop.trips) (t4 : Fin k0_t4_loop.trips), k0_off68 t2 t4 = ![t2.val % 2, 3, 4, 16 * t4.val] := by decide +kernel
theorem off69_eq : ∀ (t2 : Fin k0_t2_loop.trips) (t4 : Fin k0_t4_loop.trips), k0_off69 t2 t4 = ![t2.val % 2, 4, 4, 16 * t4.val] := by decide +kernel
theorem off70_eq : ∀ (t2 : Fin k0_t2_loop.trips) (t4 : Fin k0_t4_loop.trips), k0_off70 t2 t4 = ![t2.val % 2, 0, 5, 16 * t4.val] := by decide +kernel
theorem off71_eq : ∀ (t2 : Fin k0_t2_loop.trips) (t4 : Fin k0_t4_loop.trips), k0_off71 t2 t4 = ![t2.val % 2, 1, 5, 16 * t4.val] := by decide +kernel
theorem off72_eq : ∀ (t2 : Fin k0_t2_loop.trips) (t4 : Fin k0_t4_loop.trips), k0_off72 t2 t4 = ![t2.val % 2, 2, 5, 16 * t4.val] := by decide +kernel
theorem off73_eq : ∀ (t2 : Fin k0_t2_loop.trips) (t4 : Fin k0_t4_loop.trips), k0_off73 t2 t4 = ![t2.val % 2, 3, 5, 16 * t4.val] := by decide +kernel
theorem off74_eq : ∀ (t2 : Fin k0_t2_loop.trips) (t4 : Fin k0_t4_loop.trips), k0_off74 t2 t4 = ![t2.val % 2, 4, 5, 16 * t4.val] := by decide +kernel
theorem off75_eq : ∀ (t2 : Fin k0_t2_loop.trips) (t4 : Fin k0_t4_loop.trips), k0_off75 t2 t4 = ![t2.val % 2, 0, 6, 16 * t4.val] := by decide +kernel
theorem off76_eq : ∀ (t2 : Fin k0_t2_loop.trips) (t4 : Fin k0_t4_loop.trips), k0_off76 t2 t4 = ![t2.val % 2, 1, 6, 16 * t4.val] := by decide +kernel
theorem off77_eq : ∀ (t2 : Fin k0_t2_loop.trips) (t4 : Fin k0_t4_loop.trips), k0_off77 t2 t4 = ![t2.val % 2, 2, 6, 16 * t4.val] := by decide +kernel
theorem off78_eq : ∀ (t2 : Fin k0_t2_loop.trips) (t4 : Fin k0_t4_loop.trips), k0_off78 t2 t4 = ![t2.val % 2, 3, 6, 16 * t4.val] := by decide +kernel
theorem off79_eq : ∀ (t2 : Fin k0_t2_loop.trips) (t4 : Fin k0_t4_loop.trips), k0_off79 t2 t4 = ![t2.val % 2, 4, 6, 16 * t4.val] := by decide +kernel
theorem off80_eq : ∀ (t2 : Fin k0_t2_loop.trips) (t4 : Fin k0_t4_loop.trips), k0_off80 t2 t4 = ![t2.val % 2, 0, 7, 16 * t4.val] := by decide +kernel
theorem off81_eq : ∀ (t2 : Fin k0_t2_loop.trips) (t4 : Fin k0_t4_loop.trips), k0_off81 t2 t4 = ![t2.val % 2, 1, 7, 16 * t4.val] := by decide +kernel
theorem off82_eq : ∀ (t2 : Fin k0_t2_loop.trips) (t4 : Fin k0_t4_loop.trips), k0_off82 t2 t4 = ![t2.val % 2, 2, 7, 16 * t4.val] := by decide +kernel
theorem off83_eq : ∀ (t2 : Fin k0_t2_loop.trips) (t4 : Fin k0_t4_loop.trips), k0_off83 t2 t4 = ![t2.val % 2, 3, 7, 16 * t4.val] := by decide +kernel
theorem off84_eq : ∀ (t2 : Fin k0_t2_loop.trips) (t4 : Fin k0_t4_loop.trips), k0_off84 t2 t4 = ![t2.val % 2, 4, 7, 16 * t4.val] := by decide +kernel

/-! ## Bit fields -/

variable (fw : S128x278.Idx → BitVec 32) (vg os : Nat) (x : S16.Idx)

theorem pay2_at : k0_pay2 (F := F) (Wv fw vg os 3) x = field (gw fw vg (16 * os + (x 0).val)) (96 + 10 * 0) 10 + 8192#32 := by
  simp [k0_pay2, field, Wv, andi, ori, addi, shrui, shli, IntOp.andi, IntOp.ori, IntOp.addi, IntOp.shrui, IntOp.shli, broadcast]
theorem pay4_at : k0_pay4 (F := F) (Wv fw vg os 3) x = field (gw fw vg (16 * os + (x 0).val)) (96 + 10 * 1) 10 + 8192#32 := by
  simp [k0_pay4, field, Wv, andi, ori, addi, shrui, shli, IntOp.andi, IntOp.ori, IntOp.addi, IntOp.shrui, IntOp.shli, broadcast]
theorem pay6_at : k0_pay6 (F := F) (Wv fw vg os 3) x = field (gw fw vg (16 * os + (x 0).val)) (96 + 10 * 2) 10 + 8192#32 := by
  simp [k0_pay6, field, Wv, andi, ori, addi, shrui, shli, IntOp.andi, IntOp.ori, IntOp.addi, IntOp.shrui, IntOp.shli, broadcast]
theorem pay8_at : k0_pay8 (F := F) (Wv fw vg os 3) (Wv fw vg os 4) 30#32 x = field (gw fw vg (16 * os + (x 0).val)) (96 + 10 * 3) 10 + 8192#32 := by
  simp [k0_pay8, field, Wv, andi, ori, addi, shrui, shli, IntOp.andi, IntOp.ori, IntOp.addi, IntOp.shrui, IntOp.shli, broadcast]
theorem pay10_at : k0_pay10 (F := F) (Wv fw vg os 4) x = field (gw fw vg (16 * os + (x 0).val)) (24 + 28 * 4) 13 := by
  simp [k0_pay10, field, Wv, andi, ori, addi, shrui, shli, IntOp.andi, IntOp.ori, IntOp.addi, IntOp.shrui, IntOp.shli, broadcast]
theorem pay11_at : k0_pay11 (F := F) (Wv fw vg os 4) (Wv fw vg os 5) x = field (gw fw vg (16 * os + (x 0).val)) (37 + 28 * 4) 15 := by
  simp [k0_pay11, field, Wv, andi, ori, addi, shrui, shli, IntOp.andi, IntOp.ori, IntOp.addi, IntOp.shrui, IntOp.shli, broadcast]
theorem pay12_at : k0_pay12 (F := F) (Wv fw vg os 5) x = field (gw fw vg (16 * os + (x 0).val)) (24 + 28 * 5) 13 := by
  simp [k0_pay12, field, Wv, andi, ori, addi, shrui, shli, IntOp.andi, IntOp.ori, IntOp.addi, IntOp.shrui, IntOp.shli, broadcast]
theorem pay13_at : k0_pay13 (F := F) (Wv fw vg os 5) x = field (gw fw vg (16 * os + (x 0).val)) (37 + 28 * 5) 15 := by
  simp [k0_pay13, field, Wv, andi, ori, addi, shrui, shli, IntOp.andi, IntOp.ori, IntOp.addi, IntOp.shrui, IntOp.shli, broadcast]
theorem pay14_at : k0_pay14 (F := F) (Wv fw vg os 6) x = field (gw fw vg (16 * os + (x 0).val)) (24 + 28 * 6) 13 := by
  simp [k0_pay14, field, Wv, andi, ori, addi, shrui, shli, IntOp.andi, IntOp.ori, IntOp.addi, IntOp.shrui, IntOp.shli, broadcast]
theorem pay15_at : k0_pay15 (F := F) (Wv fw vg os 6) x = field (gw fw vg (16 * os + (x 0).val)) (37 + 28 * 6) 15 := by
  simp [k0_pay15, field, Wv, andi, ori, addi, shrui, shli, IntOp.andi, IntOp.ori, IntOp.addi, IntOp.shrui, IntOp.shli, broadcast]
theorem pay16_at : k0_pay16 (F := F) (Wv fw vg os 6) (Wv fw vg os 7) x = field (gw fw vg (16 * os + (x 0).val)) (24 + 28 * 7) 13 := by
  simp [k0_pay16, field, Wv, andi, ori, addi, shrui, shli, IntOp.andi, IntOp.ori, IntOp.addi, IntOp.shrui, IntOp.shli, broadcast]
theorem pay17_at : k0_pay17 (F := F) (Wv fw vg os 7) x = field (gw fw vg (16 * os + (x 0).val)) (37 + 28 * 7) 15 := by
  simp [k0_pay17, field, Wv, andi, ori, addi, shrui, shli, IntOp.andi, IntOp.ori, IntOp.addi, IntOp.shrui, IntOp.shli, broadcast]
theorem pay19_at : k0_pay19 (F := F) (Wv fw vg os 0) (Wv fw vg os 1) x = field (gw fw vg (16 * os + (x 0).val)) (24 + 28 * 0) 13 := by
  simp [k0_pay19, field, Wv, andi, ori, addi, shrui, shli, IntOp.andi, IntOp.ori, IntOp.addi, IntOp.shrui, IntOp.shli, broadcast]
theorem pay20_at : k0_pay20 (F := F) (Wv fw vg os 1) x = field (gw fw vg (16 * os + (x 0).val)) (37 + 28 * 0) 15 := by
  simp [k0_pay20, field, Wv, andi, ori, addi, shrui, shli, IntOp.andi, IntOp.ori, IntOp.addi, IntOp.shrui, IntOp.shli, broadcast]
theorem pay21_at : k0_pay21 (F := F) (Wv fw vg os 1) (Wv fw vg os 2) x = field (gw fw vg (16 * os + (x 0).val)) (24 + 28 * 1) 13 := by
  simp [k0_pay21, field, Wv, andi, ori, addi, shrui, shli, IntOp.andi, IntOp.ori, IntOp.addi, IntOp.shrui, IntOp.shli, broadcast]
theorem pay22_at : k0_pay22 (F := F) (Wv fw vg os 2) x = field (gw fw vg (16 * os + (x 0).val)) (37 + 28 * 1) 15 := by
  simp [k0_pay22, field, Wv, andi, ori, addi, shrui, shli, IntOp.andi, IntOp.ori, IntOp.addi, IntOp.shrui, IntOp.shli, broadcast]
theorem pay23_at : k0_pay23 (F := F) (Wv fw vg os 2) x = field (gw fw vg (16 * os + (x 0).val)) (24 + 28 * 2) 13 := by
  simp [k0_pay23, field, Wv, andi, ori, addi, shrui, shli, IntOp.andi, IntOp.ori, IntOp.addi, IntOp.shrui, IntOp.shli, broadcast]
theorem pay24_at : k0_pay24 (F := F) (Wv fw vg os 2) (Wv fw vg os 3) x = field (gw fw vg (16 * os + (x 0).val)) (37 + 28 * 2) 15 := by
  simp [k0_pay24, field, Wv, andi, ori, addi, shrui, shli, IntOp.andi, IntOp.ori, IntOp.addi, IntOp.shrui, IntOp.shli, broadcast]
theorem pay25_at : k0_pay25 (F := F) (Wv fw vg os 3) x = field (gw fw vg (16 * os + (x 0).val)) (24 + 28 * 3) 13 := by
  simp [k0_pay25, field, Wv, andi, ori, addi, shrui, shli, IntOp.andi, IntOp.ori, IntOp.addi, IntOp.shrui, IntOp.shli, broadcast]
theorem pay26_at : k0_pay26 (F := F) (Wv fw vg os 3) (Wv fw vg os 4) x = field (gw fw vg (16 * os + (x 0).val)) (37 + 28 * 3) 15 := by
  simp [k0_pay26, field, Wv, andi, ori, addi, shrui, shli, IntOp.andi, IntOp.ori, IntOp.addi, IntOp.shrui, IntOp.shli, broadcast]
theorem pay27_at : k0_pay27 (F := F) (Wv fw vg os 4) x = field (gw fw vg (16 * os + (x 0).val)) (24 + 28 * 4) 13 := by
  simp [k0_pay27, field, Wv, andi, ori, addi, shrui, shli, IntOp.andi, IntOp.ori, IntOp.addi, IntOp.shrui, IntOp.shli, broadcast]
theorem pay28_at : k0_pay28 (F := F) (Wv fw vg os 4) (Wv fw vg os 5) x = field (gw fw vg (16 * os + (x 0).val)) (37 + 28 * 4) 15 := by
  simp [k0_pay28, field, Wv, andi, ori, addi, shrui, shli, IntOp.andi, IntOp.ori, IntOp.addi, IntOp.shrui, IntOp.shli, broadcast]
theorem pay29_at : k0_pay29 (F := F) (Wv fw vg os 5) x = field (gw fw vg (16 * os + (x 0).val)) (24 + 28 * 5) 13 := by
  simp [k0_pay29, field, Wv, andi, ori, addi, shrui, shli, IntOp.andi, IntOp.ori, IntOp.addi, IntOp.shrui, IntOp.shli, broadcast]
theorem pay30_at : k0_pay30 (F := F) (Wv fw vg os 5) x = field (gw fw vg (16 * os + (x 0).val)) (37 + 28 * 5) 15 := by
  simp [k0_pay30, field, Wv, andi, ori, addi, shrui, shli, IntOp.andi, IntOp.ori, IntOp.addi, IntOp.shrui, IntOp.shli, broadcast]
theorem pay31_at : k0_pay31 (F := F) (Wv fw vg os 6) x = field (gw fw vg (16 * os + (x 0).val)) (24 + 28 * 6) 13 := by
  simp [k0_pay31, field, Wv, andi, ori, addi, shrui, shli, IntOp.andi, IntOp.ori, IntOp.addi, IntOp.shrui, IntOp.shli, broadcast]
theorem pay32_at : k0_pay32 (F := F) (Wv fw vg os 6) x = field (gw fw vg (16 * os + (x 0).val)) (37 + 28 * 6) 15 := by
  simp [k0_pay32, field, Wv, andi, ori, addi, shrui, shli, IntOp.andi, IntOp.ori, IntOp.addi, IntOp.shrui, IntOp.shli, broadcast]
theorem pay33_at : k0_pay33 (F := F) (Wv fw vg os 6) (Wv fw vg os 7) x = field (gw fw vg (16 * os + (x 0).val)) (24 + 28 * 7) 13 := by
  simp [k0_pay33, field, Wv, andi, ori, addi, shrui, shli, IntOp.andi, IntOp.ori, IntOp.addi, IntOp.shrui, IntOp.shli, broadcast]
theorem pay34_at : k0_pay34 (F := F) (Wv fw vg os 7) x = field (gw fw vg (16 * os + (x 0).val)) (37 + 28 * 7) 15 := by
  simp [k0_pay34, field, Wv, andi, ori, addi, shrui, shli, IntOp.andi, IntOp.ori, IntOp.addi, IntOp.shrui, IntOp.shli, broadcast]

end Cert.GatherProof
end
-- ==== Proof.GatherFirst.lean ====
/-
  Sixteen rows of one group: the program's two loop bodies, for the first group of a row (whose
  first four vectors are outliers) and for every other group.
-/
module

public import proofs.«01_k».proof.Proof.GatherFields

@[expose] public section

set_option maxRecDepth 65536

noncomputable section

namespace Cert.GatherProof

open Cert.Gather Cert.Gather.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

theorem off_const {a n : Nat} (h : a = n) : (![a] : Fin 1 → Nat) = fun _ => n := funext fun i => by rw [Subsingleton.elim i 0]; exact h

/-- The lane numbers. -/
abbrev lanes : IVec S16 32 := iota .scVector S16 32 [0] iota_S16_d0_w32_scVector

theorem rows_at (t : Fin k0_t3_loop.trips) (x : S16.Idx) : (k0_pay1 lanes 0#32 1#32 t x).toNat = 16 * t.val + (x 0).val := by
  have h : ∀ (t : Fin k0_t3_loop.trips) (l : Fin 16), (k0_pay1 lanes 0#32 1#32 t (fun | 0 => l)).toNat = 16 * t.val + l.val := by decide +kernel
  have e : x = (fun | 0 => x 0) := funext fun a => match a with | 0 => rfl
  rw [e]; exact h t (x 0)

theorem rows_at' (t : Fin k0_t4_loop.trips) (x : S16.Idx) : (k0_pay18 lanes 0#32 1#32 t x).toNat = 16 * t.val + (x 0).val := by
  have h : ∀ (t : Fin k0_t4_loop.trips) (l : Fin 16), (k0_pay18 lanes 0#32 1#32 t (fun | 0 => l)).toNat = 16 * t.val + l.val := by decide +kernel
  have e : x = (fun | 0 => x 0) := funext fun a => match a with | 0 => rfl
  rw [e]; exact h t (x 0)

theorem trips3 (t : Fin k0_t3_loop.trips) : t.val < 8 := lt_of_lt_of_le t.isLt k0_t3_abs.2.1
theorem trips4 (t : Fin k0_t4_loop.trips) : t.val < 8 := lt_of_lt_of_le t.isLt k0_t4_abs.2.1

/-- The columns of the words of group `vg`, as the program computes them from `v91 = 7 * vg - 3`. -/
def ColsOK (v91 : BitVec 32) (vg : Nat) : Prop :=
  vg < 40 ∧ ∀ k < 8, (Scalar.maxsi (Scalar.addi v91 (BitVec.ofNat 32 k)) 0#32).toNat = 7 * vg + k - 3

theorem cols_at {v91 : BitVec 32} {vg : Nat} (h : ColsOK v91 vg) (k : Nat) (hk : k < 8) (x : S16.Idx) :
    (broadcast S16 (Scalar.maxsi (Scalar.addi v91 (BitVec.ofNat 32 k)) 0#32) x).toNat = 7 * vg + k - 3 := h.2 k hk

theorem words_inb {rows cols : IVec S16 32} {os vg k : Nat} (hos : os < 8) (hvg : vg < 40) (hk : k < 8)
    (hr : ∀ x, (rows x).toNat = 16 * os + (x 0).val) (hc : ∀ x, (cols x).toNat = 7 * vg + k - 3) :
    ∀ a x, ((![rows, cols] : Fin 2 → IVec S16 32) a x).toNat < S128x278.size a := by
  intro a x
  have hx : (x 0).val < 16 := (x 0).isLt
  match a with
  | 0 => show (rows x).toNat < 128; rw [hr]; omega
  | 1 => show (cols x).toNat < 278; rw [hc]; omega

theorem tab_inb {C : Prop} {v : IVec S16 32} {o : Bool} {w : S16.Idx → Nat → BitVec 32} {s : Nat} (hv : ∀ x, v x = mainCode o (w x) s) :
    (C → ∀ a x, ((![v] : Fin 1 → IVec S16 32) a x).toNat < S9216.size a) ∧ (C → ∀ a x, ((![v] : Fin 1 → IVec S16 32) a x).toNat < S9216.size a)
      ∧ (C → ∀ a x, ((![v] : Fin 1 → IVec S16 32) a x).toNat < S9216.size a) ∧ (C → ∀ a x, ((![v] : Fin 1 → IVec S16 32) a x).toNat < S9216.size a) := by
  have h : ∀ a x, ((![v] : Fin 1 → IVec S16 32) a x).toNat < S9216.size a := by
    intro a x
    match a with
    | 0 => show (v x).toNat < 9216; rw [hv]; exact mainCode_lt _ _ _
  exact ⟨fun _ => h, fun _ => h, fun _ => h, fun _ => h⟩

variable [FloatOps F]
variable {d : Dev nD} {L : grid0.Coords} {fT : S36864.Idx → BitVec 32} {fw : S128x278.Idx → BitVec 32}

theorem first_body (t1 : Fin k0_t1_loop.trips) (v34 c0 c1 : BitVec 32) (t2 : Fin k0_t2_loop.trips) (v70 : BitVec 32)
    (hh : k0_cond2 L t1 t2 = 1#1) (v91 : BitVec 32) (hcol : ColsOK v91 0) (t : Fin k0_t3_loop.trips) :
    EmitR (F := F) d L fT fw (t2.val % 2) (valOf fT fw 0) t.val 0 ⊢ wp frame (wpE (defs₀ (F := F)) 𝒱₀ (thr d L) none) Set.univ
      (k0_t3_body (F := F) L wV (Memref.isWhole_whole _) tV (Memref.isWhole_whole _) oV (Memref.isWhole_whole _) sT (Memref.isWhole_whole _)
        sW (Memref.isWhole_whole _) sO (Memref.isWhole_whole _) cc0_scratch3 cc0_scoped0 cc0_scoped1 lanes t1 v34 c0 c1 t2 v70 hh v91 t ())
      fun _ => EmitR (F := F) d L fT fw (t2.val % 2) (valOf fT fw 0) (t.val + 1) 0 := by
  have main0 := fun x => (pay2_at (F := F) fw 0 t.val x).trans (if_pos (by decide) : mainCode (decide (0 = 0 ∧ 0 < 4)) (gw fw 0 (16 * t.val + (x 0).val)) 0 = _).symm
  have res0 := fun x : S16.Idx => (if_pos (by decide) : resCode (decide (0 = 0 ∧ 0 < 4)) (gw fw 0 (16 * t.val + (x 0).val)) 0 = 0#32).symm
  have main1 := fun x => (pay4_at (F := F) fw 0 t.val x).trans (if_pos (by decide) : mainCode (decide (0 = 0 ∧ 1 < 4)) (gw fw 0 (16 * t.val + (x 0).val)) 1 = _).symm
  have res1 := fun x : S16.Idx => (if_pos (by decide) : resCode (decide (0 = 0 ∧ 1 < 4)) (gw fw 0 (16 * t.val + (x 0).val)) 1 = 0#32).symm
  have main2 := fun x => (pay6_at (F := F) fw 0 t.val x).trans (if_pos (by decide) : mainCode (decide (0 = 0 ∧ 2 < 4)) (gw fw 0 (16 * t.val + (x 0).val)) 2 = _).symm
  have res2 := fun x : S16.Idx => (if_pos (by decide) : resCode (decide (0 = 0 ∧ 2 < 4)) (gw fw 0 (16 * t.val + (x 0).val)) 2 = 0#32).symm
  have main3 := fun x => (pay8_at (F := F) fw 0 t.val x).trans (if_pos (by decide) : mainCode (decide (0 = 0 ∧ 3 < 4)) (gw fw 0 (16 * t.val + (x 0).val)) 3 = _).symm
  have res3 := fun x : S16.Idx => (if_pos (by decide) : resCode (decide (0 = 0 ∧ 3 < 4)) (gw fw 0 (16 * t.val + (x 0).val)) 3 = 0#32).symm
  have main4 := fun x => (pay10_at (F := F) fw 0 t.val x).trans (if_neg (by decide) : mainCode (decide (0 = 0 ∧ 4 < 4)) (gw fw 0 (16 * t.val + (x 0).val)) 4 = _).symm
  have res4 := fun x => (pay11_at (F := F) fw 0 t.val x).trans (if_neg (by decide) : resCode (decide (0 = 0 ∧ 4 < 4)) (gw fw 0 (16 * t.val + (x 0).val)) 4 = _).symm
  have main5 := fun x => (pay12_at (F := F) fw 0 t.val x).trans (if_neg (by decide) : mainCode (decide (0 = 0 ∧ 5 < 4)) (gw fw 0 (16 * t.val + (x 0).val)) 5 = _).symm
  have res5 := fun x => (pay13_at (F := F) fw 0 t.val x).trans (if_neg (by decide) : resCode (decide (0 = 0 ∧ 5 < 4)) (gw fw 0 (16 * t.val + (x 0).val)) 5 = _).symm
  have main6 := fun x => (pay14_at (F := F) fw 0 t.val x).trans (if_neg (by decide) : mainCode (decide (0 = 0 ∧ 6 < 4)) (gw fw 0 (16 * t.val + (x 0).val)) 6 = _).symm
  have res6 := fun x => (pay15_at (F := F) fw 0 t.val x).trans (if_neg (by decide) : resCode (decide (0 = 0 ∧ 6 < 4)) (gw fw 0 (16 * t.val + (x 0).val)) 6 = _).symm
  have main7 := fun x => (pay16_at (F := F) fw 0 t.val x).trans (if_neg (by decide) : mainCode (decide (0 = 0 ∧ 7 < 4)) (gw fw 0 (16 * t.val + (x 0).val)) 7 = _).symm
  have res7 := fun x => (pay17_at (F := F) fw 0 t.val x).trans (if_neg (by decide) : resCode (decide (0 = 0 ∧ 7 < 4)) (gw fw 0 (16 * t.val + (x 0).val)) 7 = _).symm
  unfold k0_t3_body
  rw [k0_part1_eq_skeleton]; unfold k0_part1_skel; simp only [Prog.lift, Prog.bind_op, Prog.bind_ret, Prog.pure_eq_ret, Prog.bind_assoc]
  refine step_assume (fun _ => words_inb (trips3 t) hcol.1 (by decide : 0 < 8) (rows_at t) (cols_at hcol 0 (by decide))) ?_
  refine step_word 0 0 (rows_at t) (cols_at hcol 0 (by decide)) ?_
  refine step_assume (fun _ => words_inb (trips3 t) hcol.1 (by decide : 1 < 8) (rows_at t) (cols_at hcol 1 (by decide))) ?_
  refine step_word 0 1 (rows_at t) (cols_at hcol 1 (by decide)) ?_
  refine step_assume (fun _ => words_inb (trips3 t) hcol.1 (by decide : 2 < 8) (rows_at t) (cols_at hcol 2 (by decide))) ?_
  refine step_word 0 2 (rows_at t) (cols_at hcol 2 (by decide)) ?_
  refine step_assume (fun _ => words_inb (trips3 t) hcol.1 (by decide : 3 < 8) (rows_at t) (cols_at hcol 3 (by decide))) ?_
  refine step_word 0 3 (rows_at t) (cols_at hcol 3 (by decide)) ?_
  refine step_assume (fun _ => words_inb (trips3 t) hcol.1 (by decide : 4 < 8) (rows_at t) (cols_at hcol 4 (by decide))) ?_
  refine step_word 0 4 (rows_at t) (cols_at hcol 4 (by decide)) ?_
  refine step_assume (fun _ => words_inb (trips3 t) hcol.1 (by decide : 5 < 8) (rows_at t) (cols_at hcol 5 (by decide))) ?_
  refine step_word 0 5 (rows_at t) (cols_at hcol 5 (by decide)) ?_
  refine step_assume (fun _ => words_inb (trips3 t) hcol.1 (by decide : 6 < 8) (rows_at t) (cols_at hcol 6 (by decide))) ?_
  refine step_word 0 6 (rows_at t) (cols_at hcol 6 (by decide)) ?_
  rw [k0_part2_eq_skeleton]; unfold k0_part2_skel; simp only [Prog.lift, Prog.bind_op, Prog.bind_ret, Prog.pure_eq_ret, Prog.bind_assoc]
  refine step_assume (fun _ => words_inb (trips3 t) hcol.1 (by decide : 7 < 8) (rows_at t) (cols_at hcol 7 (by decide))) ?_
  refine step_word 0 7 (rows_at t) (cols_at hcol 7 (by decide)) ?_
  refine step_assume (tab_inb (fun x => main0 x)) ?_
  refine step_idx 0 0 (by decide) (off_const (by decide)) rfl (fun x => main0 x) ?_
  refine step_load 0 0 (off5_eq _ _) fun _ => ?_
  refine step_store 0 0 (off5_eq _ _) (fun _ => rfl) (by decide) rfl ?_
  refine step_idx 1 0 (by decide) (off_const (by decide)) rfl (fun x => main0 x) ?_
  refine step_load 1 0 (off6_eq _ _) fun _ => ?_
  refine step_store 1 0 (off6_eq _ _) (fun _ => rfl) (by decide) rfl ?_
  refine step_idx 2 0 (by decide) (off_const (by decide)) rfl (fun x => main0 x) ?_
  refine step_load 2 0 (off7_eq _ _) fun _ => ?_
  refine step_store 2 0 (off7_eq _ _) (fun _ => rfl) (by decide) rfl ?_
  refine step_idx 3 0 (by decide) (off_const (by decide)) rfl (fun x => main0 x) ?_
  rw [k0_part3_eq_skeleton]; unfold k0_part3_skel; simp only [Prog.lift, Prog.bind_op, Prog.bind_ret, Prog.pure_eq_ret, Prog.bind_assoc]
  refine step_load 3 0 (off8_eq _ _) fun _ => ?_
  refine step_store 3 0 (off8_eq _ _) (fun _ => rfl) (by decide) rfl ?_
  refine step_load 4 0 (off9_eq _ _) fun _ => ?_
  refine step_store 4 0 (off9_eq _ _) (fun x => res0 x) (by decide) rfl ?_
  refine step_assume (tab_inb (fun x => main1 x)) ?_
  refine step_idx 0 1 (by decide) (off_const (by decide)) rfl (fun x => main1 x) ?_
  refine step_load 0 1 (off10_eq _ _) fun _ => ?_
  refine step_store 0 1 (off10_eq _ _) (fun _ => rfl) (by decide) rfl ?_
  refine step_idx 1 1 (by decide) (off_const (by decide)) rfl (fun x => main1 x) ?_
  refine step_load 1 1 (off11_eq _ _) fun _ => ?_
  rw [k0_part4_eq_skeleton]; unfold k0_part4_skel; simp only [Prog.lift, Prog.bind_op, Prog.bind_ret, Prog.pure_eq_ret, Prog.bind_assoc]
  refine step_store 1 1 (off11_eq _ _) (fun _ => rfl) (by decide) rfl ?_
  refine step_idx 2 1 (by decide) (off_const (by decide)) rfl (fun x => main1 x) ?_
  refine step_load 2 1 (off12_eq _ _) fun _ => ?_
  refine step_store 2 1 (off12_eq _ _) (fun _ => rfl) (by decide) rfl ?_
  refine step_idx 3 1 (by decide) (off_const (by decide)) rfl (fun x => main1 x) ?_
  refine step_load 3 1 (off13_eq _ _) fun _ => ?_
  refine step_store 3 1 (off13_eq _ _) (fun _ => rfl) (by decide) rfl ?_
  refine step_load 4 1 (off14_eq _ _) fun _ => ?_
  refine step_store 4 1 (off14_eq _ _) (fun x => res1 x) (by decide) rfl ?_
  refine step_assume (tab_inb (fun x => main2 x)) ?_
  refine step_idx 0 2 (by decide) (off_const (by decide)) rfl (fun x => main2 x) ?_
  rw [k0_part5_eq_skeleton]; unfold k0_part5_skel; simp only [Prog.lift, Prog.bind_op, Prog.bind_ret, Prog.pure_eq_ret, Prog.bind_assoc]
  refine step_load 0 2 (off15_eq _ _) fun _ => ?_
  refine step_store 0 2 (off15_eq _ _) (fun _ => rfl) (by decide) rfl ?_
  refine step_idx 1 2 (by decide) (off_const (by decide)) rfl (fun x => main2 x) ?_
  refine step_load 1 2 (off16_eq _ _) fun _ => ?_
  refine step_store 1 2 (off16_eq _ _) (fun _ => rfl) (by decide) rfl ?_
  refine step_idx 2 2 (by decide) (off_const (by decide)) rfl (fun x => main2 x) ?_
  refine step_load 2 2 (off17_eq _ _) fun _ => ?_
  refine step_store 2 2 (off17_eq _ _) (fun _ => rfl) (by decide) rfl ?_
  refine step_idx 3 2 (by decide) (off_const (by decide)) rfl (fun x => main2 x) ?_
  refine step_load 3 2 (off18_eq _ _) fun _ => ?_
  refine step_store 3 2 (off18_eq _ _) (fun _ => rfl) (by decide) rfl ?_
  refine step_load 4 2 (off19_eq _ _) fun _ => ?_
  refine step_store 4 2 (off19_eq _ _) (fun x => res2 x) (by decide) rfl ?_
  rw [k0_part6_eq_skeleton]; unfold k0_part6_skel; simp only [Prog.lift, Prog.bind_op, Prog.bind_ret, Prog.pure_eq_ret, Prog.bind_assoc]
  refine step_assume (tab_inb (fun x => main3 x)) ?_
  refine step_idx 0 3 (by decide) (off_const (by decide)) rfl (fun x => main3 x) ?_
  refine step_load 0 3 (off20_eq _ _) fun _ => ?_
  refine step_store 0 3 (off20_eq _ _) (fun _ => rfl) (by decide) rfl ?_
  refine step_idx 1 3 (by decide) (off_const (by decide)) rfl (fun x => main3 x) ?_
  refine step_load 1 3 (off21_eq _ _) fun _ => ?_
  refine step_store 1 3 (off21_eq _ _) (fun _ => rfl) (by decide) rfl ?_
  refine step_idx 2 3 (by decide) (off_const (by decide)) rfl (fun x => main3 x) ?_
  refine step_load 2 3 (off22_eq _ _) fun _ => ?_
  refine step_store 2 3 (off22_eq _ _) (fun _ => rfl) (by decide) rfl ?_
  refine step_idx 3 3 (by decide) (off_const (by decide)) rfl (fun x => main3 x) ?_
  rw [k0_part7_eq_skeleton]; unfold k0_part7_skel; simp only [Prog.lift, Prog.bind_op, Prog.bind_ret, Prog.pure_eq_ret, Prog.bind_assoc]
  refine step_load 3 3 (off23_eq _ _) fun _ => ?_
  refine step_store 3 3 (off23_eq _ _) (fun _ => rfl) (by decide) rfl ?_
  refine step_load 4 3 (off24_eq _ _) fun _ => ?_
  refine step_store 4 3 (off24_eq _ _) (fun x => res3 x) (by decide) rfl ?_
  refine step_assume (tab_inb (fun x => main4 x)) ?_
  refine step_idx 0 4 (by decide) (off_const (by decide)) rfl (fun x => main4 x) ?_
  refine step_load 0 4 (off25_eq _ _) fun _ => ?_
  refine step_store 0 4 (off25_eq _ _) (fun _ => rfl) (by decide) rfl ?_
  refine step_idx 1 4 (by decide) (off_const (by decide)) rfl (fun x => main4 x) ?_
  rw [k0_part8_eq_skeleton]; unfold k0_part8_skel; simp only [Prog.lift, Prog.bind_op, Prog.bind_ret, Prog.pure_eq_ret, Prog.bind_assoc]
  refine step_load 1 4 (off26_eq _ _) fun _ => ?_
  refine step_store 1 4 (off26_eq _ _) (fun _ => rfl) (by decide) rfl ?_
  refine step_idx 2 4 (by decide) (off_const (by decide)) rfl (fun x => main4 x) ?_
  refine step_load 2 4 (off27_eq _ _) fun _ => ?_
  refine step_store 2 4 (off27_eq _ _) (fun _ => rfl) (by decide) rfl ?_
  refine step_idx 3 4 (by decide) (off_const (by decide)) rfl (fun x => main4 x) ?_
  refine step_load 3 4 (off28_eq _ _) fun _ => ?_
  refine step_store 3 4 (off28_eq _ _) (fun _ => rfl) (by decide) rfl ?_
  refine step_load 4 4 (off29_eq _ _) fun _ => ?_
  refine step_store 4 4 (off29_eq _ _) (fun x => res4 x) (by decide) rfl ?_
  refine step_assume (tab_inb (fun x => main5 x)) ?_
  rw [k0_part9_eq_skeleton]; unfold k0_part9_skel; simp only [Prog.lift, Prog.bind_op, Prog.bind_ret, Prog.pure_eq_ret, Prog.bind_assoc]
  refine step_idx 0 5 (by decide) (off_const (by decide)) rfl (fun x => main5 x) ?_
  refine step_load 0 5 (off30_eq _ _) fun _ => ?_
  refine step_store 0 5 (off30_eq _ _) (fun _ => rfl) (by decide) rfl ?_
  refine step_idx 1 5 (by decide) (off_const (by decide)) rfl (fun x => main5 x) ?_
  refine step_load 1 5 (off31_eq _ _) fun _ => ?_
  refine step_store 1 5 (off31_eq _ _) (fun _ => rfl) (by decide) rfl ?_
  refine step_idx 2 5 (by decide) (off_const (by decide)) rfl (fun x => main5 x) ?_
  refine step_load 2 5 (off32_eq _ _) fun _ => ?_
  refine step_store 2 5 (off32_eq _ _) (fun _ => rfl) (by decide) rfl ?_
  refine step_idx 3 5 (by decide) (off_const (by decide)) rfl (fun x => main5 x) ?_
  refine step_load 3 5 (off33_eq _ _) fun _ => ?_
  refine step_store 3 5 (off33_eq _ _) (fun _ => rfl) (by decide) rfl ?_
  rw [k0_part10_eq_skeleton]; unfold k0_part10_skel; simp only [Prog.lift, Prog.bind_op, Prog.bind_ret, Prog.pure_eq_ret, Prog.bind_assoc]
  refine step_load 4 5 (off34_eq _ _) fun _ => ?_
  refine step_store 4 5 (off34_eq _ _) (fun x => res5 x) (by decide) rfl ?_
  refine step_assume (tab_inb (fun x => main6 x)) ?_
  refine step_idx 0 6 (by decide) (off_const (by decide)) rfl (fun x => main6 x) ?_
  refine step_load 0 6 (off35_eq _ _) fun _ => ?_
  refine step_store 0 6 (off35_eq _ _) (fun _ => rfl) (by decide) rfl ?_
  refine step_idx 1 6 (by decide) (off_const (by decide)) rfl (fun x => main6 x) ?_
  refine step_load 1 6 (off36_eq _ _) fun _ => ?_
  refine step_store 1 6 (off36_eq _ _) (fun _ => rfl) (by decide) rfl ?_
  refine step_idx 2 6 (by decide) (off_const (by decide)) rfl (fun x => main6 x) ?_
  refine step_load 2 6 (off37_eq _ _) fun _ => ?_
  refine step_store 2 6 (off37_eq _ _) (fun _ => rfl) (by decide) rfl ?_
  rw [k0_part11_eq_skeleton]; unfold k0_part11_skel; simp only [Prog.lift, Prog.bind_op, Prog.bind_ret, Prog.pure_eq_ret, Prog.bind_assoc]
  refine step_idx 3 6 (by decide) (off_const (by decide)) rfl (fun x => main6 x) ?_
  refine step_load 3 6 (off38_eq _ _) fun _ => ?_
  refine step_store 3 6 (off38_eq _ _) (fun _ => rfl) (by decide) rfl ?_
  refine step_load 4 6 (off39_eq _ _) fun _ => ?_
  refine step_store 4 6 (off39_eq _ _) (fun x => res6 x) (by decide) rfl ?_
  refine step_assume (tab_inb (fun x => main7 x)) ?_
  refine step_idx 0 7 (by decide) (off_const (by decide)) rfl (fun x => main7 x) ?_
  refine step_load 0 7 (off40_eq _ _) fun _ => ?_
  refine step_store 0 7 (off40_eq _ _) (fun _ => rfl) (by decide) rfl ?_
  refine step_idx 1 7 (by decide) (off_const (by decide)) rfl (fun x => main7 x) ?_
  refine step_load 1 7 (off41_eq _ _) fun _ => ?_
  refine step_store 1 7 (off41_eq _ _) (fun _ => rfl) (by decide) rfl ?_
  refine step_idx 2 7 (by decide) (off_const (by decide)) rfl (fun x => main7 x) ?_
  refine step_load 2 7 (off42_eq _ _) fun _ => ?_
  refine step_store 2 7 (off42_eq _ _) (fun _ => rfl) (by decide) rfl ?_
  refine step_idx 3 7 (by decide) (off_const (by decide)) rfl (fun x => main7 x) ?_
  refine step_load 3 7 (off43_eq _ _) fun _ => ?_
  refine step_store 3 7 (off43_eq _ _) (fun _ => rfl) (by decide) rfl ?_
  refine step_load 4 7 (off44_eq _ _) fun _ => ?_
  refine step_store 4 7 (off44_eq _ _) (fun x => res7 x) (by decide) rfl ?_
  exact step_end

end Cert.GatherProof
end
-- ==== Proof.GatherOther.lean ====
/-
  Sixteen rows of a group other than the first of its row.
-/
module

public import proofs.«01_k».proof.Proof.GatherFirst

@[expose] public section

set_option maxRecDepth 65536

noncomputable section

namespace Cert.GatherProof

open Cert.Gather Cert.Gather.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

variable [FloatOps F]
variable {d : Dev nD} {L : grid0.Coords} {fT : S36864.Idx → BitVec 32} {fw : S128x278.Idx → BitVec 32}

theorem other_body (t1 : Fin k0_t1_loop.trips) (v34 c0 c1 : BitVec 32) (t2 : Fin k0_t2_loop.trips) (v70 : BitVec 32)
    (hh : k0_cond3 L t1 t2 = 1#1) (v91 : BitVec 32) {vg : Nat} (hvg : 0 < vg) (hcol : ColsOK v91 vg) (t : Fin k0_t4_loop.trips) :
    EmitR (F := F) d L fT fw (t2.val % 2) (valOf fT fw vg) t.val 0 ⊢ wp frame (wpE (defs₀ (F := F)) 𝒱₀ (thr d L) none) Set.univ
      (k0_t4_body (F := F) L wV (Memref.isWhole_whole _) tV (Memref.isWhole_whole _) oV (Memref.isWhole_whole _) sT (Memref.isWhole_whole _)
        sW (Memref.isWhole_whole _) sO (Memref.isWhole_whole _) cc0_scratch3 cc0_scoped0 cc0_scoped1 lanes t1 v34 c0 c1 t2 v70 hh v91 t ())
      fun _ => EmitR (F := F) d L fT fw (t2.val % 2) (valOf fT fw vg) (t.val + 1) 0 := by
  have main0 := fun x => (pay19_at (F := F) fw vg t.val x).trans (if_neg (by simp [Nat.pos_iff_ne_zero.mp hvg]) : mainCode (decide (vg = 0 ∧ 0 < 4)) (gw fw vg (16 * t.val + (x 0).val)) 0 = _).symm
  have res0 := fun x => (pay20_at (F := F) fw vg t.val x).trans (if_neg (by simp [Nat.pos_iff_ne_zero.mp hvg]) : resCode (decide (vg = 0 ∧ 0 < 4)) (gw fw vg (16 * t.val + (x 0).val)) 0 = _).symm
  have main1 := fun x => (pay21_at (F := F) fw vg t.val x).trans (if_neg (by simp [Nat.pos_iff_ne_zero.mp hvg]) : mainCode (decide (vg = 0 ∧ 1 < 4)) (gw fw vg (16 * t.val + (x 0).val)) 1 = _).symm
  have res1 := fun x => (pay22_at (F := F) fw vg t.val x).trans (if_neg (by simp [Nat.pos_iff_ne_zero.mp hvg]) : resCode (decide (vg = 0 ∧ 1 < 4)) (gw fw vg (16 * t.val + (x 0).val)) 1 = _).symm
  have main2 := fun x => (pay23_at (F := F) fw vg t.val x).trans (if_neg (by simp [Nat.pos_iff_ne_zero.mp hvg]) : mainCode (decide (vg = 0 ∧ 2 < 4)) (gw fw vg (16 * t.val + (x 0).val)) 2 = _).symm
  have res2 := fun x => (pay24_at (F := F) fw vg t.val x).trans (if_neg (by simp [Nat.pos_iff_ne_zero.mp hvg]) : resCode (decide (vg = 0 ∧ 2 < 4)) (gw fw vg (16 * t.val + (x 0).val)) 2 = _).symm
  have main3 := fun x => (pay25_at (F := F) fw vg t.val x).trans (if_neg (by simp [Nat.pos_iff_ne_zero.mp hvg]) : mainCode (decide (vg = 0 ∧ 3 < 4)) (gw fw vg (16 * t.val + (x 0).val)) 3 = _).symm
  have res3 := fun x => (pay26_at (F := F) fw vg t.val x).trans (if_neg (by simp [Nat.pos_iff_ne_zero.mp hvg]) : resCode (decide (vg = 0 ∧ 3 < 4)) (gw fw vg (16 * t.val + (x 0).val)) 3 = _).symm
  have main4 := fun x => (pay27_at (F := F) fw vg t.val x).trans (if_neg (by simp [Nat.pos_iff_ne_zero.mp hvg]) : mainCode (decide (vg = 0 ∧ 4 < 4)) (gw fw vg (16 * t.val + (x 0).val)) 4 = _).symm
  have res4 := fun x => (pay28_at (F := F) fw vg t.val x).trans (if_neg (by simp [Nat.pos_iff_ne_zero.mp hvg]) : resCode (decide (vg = 0 ∧ 4 < 4)) (gw fw vg (16 * t.val + (x 0).val)) 4 = _).symm
  have main5 := fun x => (pay29_at (F := F) fw vg t.val x).trans (if_neg (by simp [Nat.pos_iff_ne_zero.mp hvg]) : mainCode (decide (vg = 0 ∧ 5 < 4)) (gw fw vg (16 * t.val + (x 0).val)) 5 = _).symm
  have res5 := fun x => (pay30_at (F := F) fw vg t.val x).trans (if_neg (by simp [Nat.pos_iff_ne_zero.mp hvg]) : resCode (decide (vg = 0 ∧ 5 < 4)) (gw fw vg (16 * t.val + (x 0).val)) 5 = _).symm
  have main6 := fun x => (pay31_at (F := F) fw vg t.val x).trans (if_neg (by simp [Nat.pos_iff_ne_zero.mp hvg]) : mainCode (decide (vg = 0 ∧ 6 < 4)) (gw fw vg (16 * t.val + (x 0).val)) 6 = _).symm
  have res6 := fun x => (pay32_at (F := F) fw vg t.val x).trans (if_neg (by simp [Nat.pos_iff_ne_zero.mp hvg]) : resCode (decide (vg = 0 ∧ 6 < 4)) (gw fw vg (16 * t.val + (x 0).val)) 6 = _).symm
  have main7 := fun x => (pay33_at (F := F) fw vg t.val x).trans (if_neg (by simp [Nat.pos_iff_ne_zero.mp hvg]) : mainCode (decide (vg = 0 ∧ 7 < 4)) (gw fw vg (16 * t.val + (x 0).val)) 7 = _).symm
  have res7 := fun x => (pay34_at (F := F) fw vg t.val x).trans (if_neg (by simp [Nat.pos_iff_ne_zero.mp hvg]) : resCode (decide (vg = 0 ∧ 7 < 4)) (gw fw vg (16 * t.val + (x 0).val)) 7 = _).symm
  unfold k0_t4_body
  rw [k0_part12_eq_skeleton]; unfold k0_part12_skel; simp only [Prog.lift, Prog.bind_op, Prog.bind_ret, Prog.pure_eq_ret, Prog.bind_assoc]
  refine step_assume (fun _ => words_inb (trips4 t) hcol.1 (by decide : 0 < 8) (rows_at' t) (cols_at hcol 0 (by decide))) ?_
  refine step_word vg 0 (rows_at' t) (cols_at hcol 0 (by decide)) ?_
  refine step_assume (fun _ => words_inb (trips4 t) hcol.1 (by decide : 1 < 8) (rows_at' t) (cols_at hcol 1 (by decide))) ?_
  refine step_word vg 1 (rows_at' t) (cols_at hcol 1 (by decide)) ?_
  refine step_assume (fun _ => words_inb (trips4 t) hcol.1 (by decide : 2 < 8) (rows_at' t) (cols_at hcol 2 (by decide))) ?_
  refine step_word vg 2 (rows_at' t) (cols_at hcol 2 (by decide)) ?_
  refine step_assume (fun _ => words_inb (trips4 t) hcol.1 (by decide : 3 < 8) (rows_at' t) (cols_at hcol 3 (by decide))) ?_
  refine step_word vg 3 (rows_at' t) (cols_at hcol 3 (by decide)) ?_
  refine step_assume (fun _ => words_inb (trips4 t) hcol.1 (by decide : 4 < 8) (rows_at' t) (cols_at hcol 4 (by decide))) ?_
  refine step_word vg 4 (rows_at' t) (cols_at hcol 4 (by decide)) ?_
  refine step_assume (fun _ => words_inb (trips4 t) hcol.1 (by decide : 5 < 8) (rows_at' t) (cols_at hcol 5 (by decide))) ?_
  refine step_word vg 5 (rows_at' t) (cols_at hcol 5 (by decide)) ?_
  refine step_assume (fun _ => words_inb (trips4 t) hcol.1 (by decide : 6 < 8) (rows_at' t) (cols_at hcol 6 (by decide))) ?_
  refine step_word vg 6 (rows_at' t) (cols_at hcol 6 (by decide)) ?_
  rw [k0_part13_eq_skeleton]; unfold k0_part13_skel; simp only [Prog.lift, Prog.bind_op, Prog.bind_ret, Prog.pure_eq_ret, Prog.bind_assoc]
  refine step_assume (fun _ => words_inb (trips4 t) hcol.1 (by decide : 7 < 8) (rows_at' t) (cols_at hcol 7 (by decide))) ?_
  refine step_word vg 7 (rows_at' t) (cols_at hcol 7 (by decide)) ?_
  refine step_assume (tab_inb (fun x => main0 x)) ?_
  refine step_idx 0 0 (by decide) (off_const (by decide)) rfl (fun x => main0 x) ?_
  refine step_load 0 0 (off45_eq _ _) fun _ => ?_
  refine step_store 0 0 (off45_eq _ _) (fun _ => rfl) (by decide) rfl ?_
  refine step_idx 1 0 (by decide) (off_const (by decide)) rfl (fun x => main0 x) ?_
  refine step_load 1 0 (off46_eq _ _) fun _ => ?_
  refine step_store 1 0 (off46_eq _ _) (fun _ => rfl) (by decide) rfl ?_
  refine step_idx 2 0 (by decide) (off_const (by decide)) rfl (fun x => main0 x) ?_
  rw [k0_part14_eq_skeleton]; unfold k0_part14_skel; simp only [Prog.lift, Prog.bind_op, Prog.bind_ret, Prog.pure_eq_ret, Prog.bind_assoc]
  refine step_load 2 0 (off47_eq _ _) fun _ => ?_
  refine step_store 2 0 (off47_eq _ _) (fun _ => rfl) (by decide) rfl ?_
  refine step_idx 3 0 (by decide) (off_const (by decide)) rfl (fun x => main0 x) ?_
  refine step_load 3 0 (off48_eq _ _) fun _ => ?_
  refine step_store 3 0 (off48_eq _ _) (fun _ => rfl) (by decide) rfl ?_
  refine step_load 4 0 (off49_eq _ _) fun _ => ?_
  refine step_store 4 0 (off49_eq _ _) (fun x => res0 x) (by decide) rfl ?_
  refine step_assume (tab_inb (fun x => main1 x)) ?_
  refine step_idx 0 1 (by decide) (off_const (by decide)) rfl (fun x => main1 x) ?_
  refine step_load 0 1 (off50_eq _ _) fun _ => ?_
  refine step_store 0 1 (off50_eq _ _) (fun _ => rfl) (by decide) rfl ?_
  rw [k0_part15_eq_skeleton]; unfold k0_part15_skel; simp only [Prog.lift, Prog.bind_op, Prog.bind_ret, Prog.pure_eq_ret, Prog.bind_assoc]
  refine step_idx 1 1 (by decide) (off_const (by decide)) rfl (fun x => main1 x) ?_
  refine step_load 1 1 (off51_eq _ _) fun _ => ?_
  refine step_store 1 1 (off51_eq _ _) (fun _ => rfl) (by decide) rfl ?_
  refine step_idx 2 1 (by decide) (off_const (by decide)) rfl (fun x => main1 x) ?_
  refine step_load 2 1 (off52_eq _ _) fun _ => ?_
  refine step_store 2 1 (off52_eq _ _) (fun _ => rfl) (by decide) rfl ?_
  refine step_idx 3 1 (by decide) (off_const (by decide)) rfl (fun x => main1 x) ?_
  refine step_load 3 1 (off53_eq _ _) fun _ => ?_
  refine step_store 3 1 (off53_eq _ _) (fun _ => rfl) (by decide) rfl ?_
  refine step_load 4 1 (off54_eq _ _) fun _ => ?_
  refine step_store 4 1 (off54_eq _ _) (fun x => res1 x) (by decide) rfl ?_
  refine step_assume (tab_inb (fun x => main2 x)) ?_
  rw [k0_part16_eq_skeleton]; unfold k0_part16_skel; simp only [Prog.lift, Prog.bind_op, Prog.bind_ret, Prog.pure_eq_ret, Prog.bind_assoc]
  refine step_idx 0 2 (by decide) (off_const (by decide)) rfl (fun x => main2 x) ?_
  refine step_load 0 2 (off55_eq _ _) fun _ => ?_
  refine step_store 0 2 (off55_eq _ _) (fun _ => rfl) (by decide) rfl ?_
  refine step_idx 1 2 (by decide) (off_const (by decide)) rfl (fun x => main2 x) ?_
  refine step_load 1 2 (off56_eq _ _) fun _ => ?_
  refine step_store 1 2 (off56_eq _ _) (fun _ => rfl) (by decide) rfl ?_
  refine step_idx 2 2 (by decide) (off_const (by decide)) rfl (fun x => main2 x) ?_
  refine step_load 2 2 (off57_eq _ _) fun _ => ?_
  refine step_store 2 2 (off57_eq _ _) (fun _ => rfl) (by decide) rfl ?_
  refine step_idx 3 2 (by decide) (off_const (by decide)) rfl (fun x => main2 x) ?_
  rw [k0_part17_eq_skeleton]; unfold k0_part17_skel; simp only [Prog.lift, Prog.bind_op, Prog.bind_ret, Prog.pure_eq_ret, Prog.bind_assoc]
  refine step_load 3 2 (off58_eq _ _) fun _ => ?_
  refine step_store 3 2 (off58_eq _ _) (fun _ => rfl) (by decide) rfl ?_
  refine step_load 4 2 (off59_eq _ _) fun _ => ?_
  refine step_store 4 2 (off59_eq _ _) (fun x => res2 x) (by decide) rfl ?_
  refine step_assume (tab_inb (fun x => main3 x)) ?_
  refine step_idx 0 3 (by decide) (off_const (by decide)) rfl (fun x => main3 x) ?_
  refine step_load 0 3 (off60_eq _ _) fun _ => ?_
  refine step_store 0 3 (off60_eq _ _) (fun _ => rfl) (by decide) rfl ?_
  refine step_idx 1 3 (by decide) (off_const (by decide)) rfl (fun x => main3 x) ?_
  refine step_load 1 3 (off61_eq _ _) fun _ => ?_
  rw [k0_part18_eq_skeleton]; unfold k0_part18_skel; simp only [Prog.lift, Prog.bind_op, Prog.bind_ret, Prog.pure_eq_ret, Prog.bind_assoc]
  refine step_store 1 3 (off61_eq _ _) (fun _ => rfl) (by decide) rfl ?_
  refine step_idx 2 3 (by decide) (off_const (by decide)) rfl (fun x => main3 x) ?_
  refine step_load 2 3 (off62_eq _ _) fun _ => ?_
  refine step_store 2 3 (off62_eq _ _) (fun _ => rfl) (by decide) rfl ?_
  refine step_idx 3 3 (by decide) (off_const (by decide)) rfl (fun x => main3 x) ?_
  refine step_load 3 3 (off63_eq _ _) fun _ => ?_
  refine step_store 3 3 (off63_eq _ _) (fun _ => rfl) (by decide) rfl ?_
  refine step_load 4 3 (off64_eq _ _) fun _ => ?_
  refine step_store 4 3 (off64_eq _ _) (fun x => res3 x) (by decide) rfl ?_
  refine step_assume (tab_inb (fun x => main4 x)) ?_
  rw [k0_part19_eq_skeleton]; unfold k0_part19_skel; simp only [Prog.lift, Prog.bind_op, Prog.bind_ret, Prog.pure_eq_ret, Prog.bind_assoc]
  refine step_idx 0 4 (by decide) (off_const (by decide)) rfl (fun x => main4 x) ?_
  refine step_load 0 4 (off65_eq _ _) fun _ => ?_
  refine step_store 0 4 (off65_eq _ _) (fun _ => rfl) (by decide) rfl ?_
  refine step_idx 1 4 (by decide) (off_const (by decide)) rfl (fun x => main4 x) ?_
  refine step_load 1 4 (off66_eq _ _) fun _ => ?_
  refine step_store 1 4 (off66_eq _ _) (fun _ => rfl) (by decide) rfl ?_
  refine step_idx 2 4 (by decide) (off_const (by decide)) rfl (fun x => main4 x) ?_
  refine step_load 2 4 (off67_eq _ _) fun _ => ?_
  refine step_store 2 4 (off67_eq _ _) (fun _ => rfl) (by decide) rfl ?_
  refine step_idx 3 4 (by decide) (off_const (by decide)) rfl (fun x => main4 x) ?_
  refine step_load 3 4 (off68_eq _ _) fun _ => ?_
  refine step_store 3 4 (off68_eq _ _) (fun _ => rfl) (by decide) rfl ?_
  rw [k0_part20_eq_skeleton]; unfold k0_part20_skel; simp only [Prog.lift, Prog.bind_op, Prog.bind_ret, Prog.pure_eq_ret, Prog.bind_assoc]
  refine step_load 4 4 (off69_eq _ _) fun _ => ?_
  refine step_store 4 4 (off69_eq _ _) (fun x => res4 x) (by decide) rfl ?_
  refine step_assume (tab_inb (fun x => main5 x)) ?_
  refine step_idx 0 5 (by decide) (off_const (by decide)) rfl (fun x => main5 x) ?_
  refine step_load 0 5 (off70_eq _ _) fun _ => ?_
  refine step_store 0 5 (off70_eq _ _) (fun _ => rfl) (by decide) rfl ?_
  refine step_idx 1 5 (by decide) (off_const (by decide)) rfl (fun x => main5 x) ?_
  refine step_load 1 5 (off71_eq _ _) fun _ => ?_
  refine step_store 1 5 (off71_eq _ _) (fun _ => rfl) (by decide) rfl ?_
  refine step_idx 2 5 (by decide) (off_const (by decide)) rfl (fun x => main5 x) ?_
  refine step_load 2 5 (off72_eq _ _) fun _ => ?_
  refine step_store 2 5 (off72_eq _ _) (fun _ => rfl) (by decide) rfl ?_
  rw [k0_part21_eq_skeleton]; unfold k0_part21_skel; simp only [Prog.lift, Prog.bind_op, Prog.bind_ret, Prog.pure_eq_ret, Prog.bind_assoc]
  refine step_idx 3 5 (by decide) (off_const (by decide)) rfl (fun x => main5 x) ?_
  refine step_load 3 5 (off73_eq _ _) fun _ => ?_
  refine step_store 3 5 (off73_eq _ _) (fun _ => rfl) (by decide) rfl ?_
  refine step_load 4 5 (off74_eq _ _) fun _ => ?_
  refine step_store 4 5 (off74_eq _ _) (fun x => res5 x) (by decide) rfl ?_
  refine step_assume (tab_inb (fun x => main6 x)) ?_
  refine step_idx 0 6 (by decide) (off_const (by decide)) rfl (fun x => main6 x) ?_
  refine step_load 0 6 (off75_eq _ _) fun _ => ?_
  refine step_store 0 6 (off75_eq _ _) (fun _ => rfl) (by decide) rfl ?_
  refine step_idx 1 6 (by decide) (off_const (by decide)) rfl (fun x => main6 x) ?_
  rw [k0_part22_eq_skeleton]; unfold k0_part22_skel; simp only [Prog.lift, Prog.bind_op, Prog.bind_ret, Prog.pure_eq_ret, Prog.bind_assoc]
  refine step_load 1 6 (off76_eq _ _) fun _ => ?_
  refine step_store 1 6 (off76_eq _ _) (fun _ => rfl) (by decide) rfl ?_
  refine step_idx 2 6 (by decide) (off_const (by decide)) rfl (fun x => main6 x) ?_
  refine step_load 2 6 (off77_eq _ _) fun _ => ?_
  refine step_store 2 6 (off77_eq _ _) (fun _ => rfl) (by decide) rfl ?_
  refine step_idx 3 6 (by decide) (off_const (by decide)) rfl (fun x => main6 x) ?_
  refine step_load 3 6 (off78_eq _ _) fun _ => ?_
  refine step_store 3 6 (off78_eq _ _) (fun _ => rfl) (by decide) rfl ?_
  refine step_load 4 6 (off79_eq _ _) fun _ => ?_
  refine step_store 4 6 (off79_eq _ _) (fun x => res6 x) (by decide) rfl ?_
  refine step_assume (tab_inb (fun x => main7 x)) ?_
  rw [k0_part23_eq_skeleton]; unfold k0_part23_skel; simp only [Prog.lift, Prog.bind_op, Prog.bind_ret, Prog.pure_eq_ret, Prog.bind_assoc]
  refine step_idx 0 7 (by decide) (off_const (by decide)) rfl (fun x => main7 x) ?_
  refine step_load 0 7 (off80_eq _ _) fun _ => ?_
  refine step_store 0 7 (off80_eq _ _) (fun _ => rfl) (by decide) rfl ?_
  refine step_idx 1 7 (by decide) (off_const (by decide)) rfl (fun x => main7 x) ?_
  refine step_load 1 7 (off81_eq _ _) fun _ => ?_
  refine step_store 1 7 (off81_eq _ _) (fun _ => rfl) (by decide) rfl ?_
  refine step_idx 2 7 (by decide) (off_const (by decide)) rfl (fun x => main7 x) ?_
  refine step_load 2 7 (off82_eq _ _) fun _ => ?_
  refine step_store 2 7 (off82_eq _ _) (fun _ => rfl) (by decide) rfl ?_
  refine step_idx 3 7 (by decide) (off_const (by decide)) rfl (fun x => main7 x) ?_
  refine step_load 3 7 (off83_eq _ _) fun _ => ?_
  refine step_store 3 7 (off83_eq _ _) (fun _ => rfl) (by decide) rfl ?_
  refine step_load 4 7 (off84_eq _ _) fun _ => ?_
  refine step_store 4 7 (off84_eq _ _) (fun x => res7 x) (by decide) rfl ?_
  exact step_end

end Cert.GatherProof
end
-- ==== Proof.GatherPlaces.lean ====
/-
  Where the gather program reads and writes, in numbers: the offsets of its transfers, the cells it
  waits on, the conditions of its branches and the trip counts of its loops, at every grid point and trip.
-/
module

public import proofs.«01_k».proof.Proof.GatherOther

@[expose] public section

noncomputable section

namespace Cert.GatherProof

open Cert.Gather Cert.Gather.Gen

open Idealize.ShloMosaic

/-- The worker at a grid point, and its unit at trip `u`. -/
abbrev wk (L : grid0.Coords) : Nat := 2 * (L 1).val + (L 0).val
abbrev un (L : grid0.Coords) (u : Nat) : Nat := 5 * wk L + u
/-- The group of vectors at trip `g` of unit `u`. -/
abbrev grp (L : grid0.Coords) (u g : Nat) : Nat := 20 * (un L u % 2) + g

theorem trips1 : k0_t1_loop.trips = 5 := by decide
theorem trips2 : k0_t2_loop.trips = 20 := by decide

theorem off1_at : ∀ (L : grid0.Coords) (t1 : Fin k0_t1_loop.trips), k0_off1 L t1 = ![128 * (un L t1.val / 2), 0] := by decide +kernel
theorem off86_at : ∀ (L : grid0.Coords) (t1 : Fin k0_t1_loop.trips) (t2 : Fin k0_t2_loop.trips),
    k0_off86 L t1 t2 = ![un L t1.val / 2, grp L t1.val t2.val, 0, 0, 0] := by decide +kernel
theorem off85_at : ∀ t2 : Fin k0_t2_loop.trips, k0_off85 t2 = ![t2.val % 2, 0, 0, 0] := by decide +kernel
theorem off87_at : ∀ t2 : Fin k0_t2_loop.trips, k0_off87 t2 = ![t2.val % 2] := by decide +kernel
theorem cond1_at : ∀ t2 : Fin k0_t2_loop.trips, k0_cond1 t2 = 1#1 ↔ 2 ≤ t2.val := by decide +kernel
theorem cond2_at : ∀ (L : grid0.Coords) (t1 : Fin k0_t1_loop.trips) (t2 : Fin k0_t2_loop.trips),
    k0_cond2 L t1 t2 = 1#1 ↔ grp L t1.val t2.val = 0 := by decide +kernel
theorem cond3_at : ∀ (L : grid0.Coords) (t1 : Fin k0_t1_loop.trips) (t2 : Fin k0_t2_loop.trips),
    k0_cond3 L t1 t2 = 1#1 ↔ 0 < grp L t1.val t2.val := by decide +kernel

/-- The cell of each half of the output scratch. -/
def osem (b : Nat) : DmaSem sig :=
  if b = 0 then ((cc0_scratch3.slice (Rect.unit (s := S2) ![0] S1.size inb_S2_S1_0)).squeeze S_ squeezes_S1_S_).sem
  else ((cc0_scratch3.slice (Rect.unit (s := S2) ![1] S1.size inb_S2_S1_1)).squeeze S_ squeezes_S1_S_).sem

theorem sem4_at : ∀ (t2 : Fin k0_t2_loop.trips) (h : k0_cond1 t2 = 1#1),
    ((cc0_scratch3.slice (Rect.unit (s := S2) (k0_off4 t2) S1.size (k0_off4_inb t2 h))).squeeze S_ squeezes_S1_S_).sem = osem (t2.val % 2) := by decide +kernel
theorem sem87_at : ∀ (t2 : Fin k0_t2_loop.trips),
    ((cc0_scratch3.slice (Rect.unit (s := S2) (k0_off87 t2) S1.size (k0_off87_inb t2))).squeeze S_ squeezes_S1_S_).sem = osem (t2.val % 2) := by decide +kernel
theorem sem0_at : ((cc0_scratch3.slice (Rect.unit (s := S2) ![0] S1.size inb_S2_S1_0)).squeeze S_ squeezes_S1_S_).sem = osem 0 := rfl
theorem sem1_at : ((cc0_scratch3.slice (Rect.unit (s := S2) ![1] S1.size inb_S2_S1_1)).squeeze S_ squeezes_S1_S_).sem = osem 1 := rfl

/-- Which half of a block's groups trip `t1`'s unit is, as the program computes it. -/
def halfOf (L : grid0.Coords) (t1 : Fin k0_t1_loop.trips) : BitVec 32 :=
  let v1 : BitVec 32 := Scalar.addi (Scalar.muli (BitVec.ofNat 32 (L 1).val) 2#32) (BitVec.ofNat 32 (L 0).val)
  let v7 : BitVec 32 := Scalar.addi (Scalar.muli v1 5#32) (Scalar.addi 0#32 (Scalar.muli (Scf.iv 0#32 1#32 t1) 1#32))
  let v26 : BitVec 32 := Scalar.select (Scalar.cmpi .eq 2#32 0#32) 1#32 2#32
  let v27 : BitVec 32 := Scalar.remsi v7 v26
  Scalar.select (Scalar.andi (Scalar.xori (Scalar.cmpi .slt v27 0#32) (Scalar.cmpi .slt v26 0#32)) (Scalar.cmpi .ne v27 0#32)) (Scalar.addi v27 v26) v27

theorem halfOf_at : ∀ (L : grid0.Coords) (t1 : Fin k0_t1_loop.trips), halfOf L t1 = BitVec.ofNat 32 (un L t1.val % 2) := by decide +kernel

/-- The column before group `20 * h + t2`'s words, as the program computes it. -/
def colOf (h : BitVec 32) (t2 : Fin k0_t2_loop.trips) : BitVec 32 :=
  Scalar.subi (Scalar.muli 7#32 (Scalar.addi (Scalar.muli h 20#32) (Scalar.addi 0#32 (Scalar.muli (Scf.iv 0#32 1#32 t2) 1#32)))) 3#32

theorem colOf_at : ∀ (h : Fin 2) (t2 : Fin k0_t2_loop.trips), ColsOK (colOf (BitVec.ofNat 32 h.val) t2) (20 * h.val + t2.val) := by
  unfold ColsOK; decide +kernel

end Cert.GatherProof

end
-- ==== Proof.GatherMoves.lean ====
/-
  What the gather program's transfers move: 128 rows of the packed words into the words scratch, and
  one filled half of the output scratch to its place in the result.
-/
module

public import proofs.«01_k».proof.Proof.GatherPlaces

@[expose] public section

noncomputable section

namespace Cert.GatherProof

open Cert.Gather Cert.Gather.Gen

open Idealize.ShloMosaic
open Idealize.ShloMosaic.SparseCore (S V T)

variable {F : FTy → Type}

/-- The rows that trip `t1` fetches, the part of the result that trip `t1, t2` writes, and the half of the output
    scratch it writes it from. -/
abbrev rowsM (L : grid0.Coords) (t1 : Fin k0_t1_loop.trips) : Memref sig .scVector .hbm S128x278 .i32 :=
  wV.slice (Rect.unit (s := S10240x278) (k0_off1 L t1) S128x278.size (k0_off1_inb L t1)) (fun _ => rfl)
abbrev pieceM (L : grid0.Coords) (t1 : Fin k0_t1_loop.trips) (t2 : Fin k0_t2_loop.trips) : Memref sig .scVector .hbm S5x8x128 .i32 :=
  (oV.slice (Rect.unit (s := S80x40x5x8x128) (k0_off86 L t1 t2) S1x1x5x8x128.size (k0_off86_inb L t1 t2)) (fun _ => rfl)).squeeze
    S5x8x128 squeezes_S1x1x5x8x128_S5x8x128
abbrev halfM (t2 : Fin k0_t2_loop.trips) : Memref sig .scVector .vmem S5x8x128 .i32 :=
  (sO.slice (Rect.unit (s := S2x5x8x128) (k0_off85 t2) S1x5x8x128.size (k0_off85_inb t2)) (fun _ => rfl)).squeeze
    S5x8x128 squeezes_S1x5x8x128_S5x8x128

variable (L : grid0.Coords) (t1 : Fin k0_t1_loop.trips) (t2 : Fin k0_t2_loop.trips)

theorem un_lt : un L t1.val < 160 := by
  have h0 : (L 0).val < 2 := (L 0).isLt
  have h1 : (L 1).val < 16 := (L 1).isLt
  have h2 : t1.val < 5 := lt_of_lt_of_eq t1.isLt trips1
  show 5 * (2 * (L 1).val + (L 0).val) + t1.val < 160
  omega

theorem t1_lt : t1.val < 5 := lt_of_lt_of_eq t1.isLt trips1
theorem t2_lt : t2.val < 20 := lt_of_lt_of_eq t2.isLt trips2

/-! ## The elements -/

theorem mem_piece (w n : Nat) (i : S80x40x5x8x128.Idx) : i ∈ pieceSet w n ↔ unitOf i / 5 = w ∧ stepOf i = n := by
  simp only [pieceSet, tileSet, Finset.mem_filter, Finset.mem_univ, true_and]
theorem mem_slot (b : Nat) (i : S2x5x8x128.Idx) : i ∈ slotSet b ↔ (i 0).val = b := by
  simp only [slotSet, Finset.mem_filter, Finset.mem_univ, true_and]

theorem piece_set : (pieceM L t1 t2).view.set = pieceSet (wk L) (20 * t1.val + t2.val) := by
  have h1 := t1_lt t1
  have h2 := t2_lt t2
  have e : (pieceM L t1 t2).view.set = (Rect.unit (s := S80x40x5x8x128) (k0_off86 L t1 t2) S1x1x5x8x128.size (k0_off86_inb L t1 t2)).set :=
    (View.set_reshape _ _).trans (View.set_slice_whole _ _)
  refine e.trans (Finset.ext fun (i : S80x40x5x8x128.Idx) => Iff.trans ?_ (mem_piece _ _ i).symm)
  rw [Rect.mem_set_unit, off86_at]
  unfold stepOf unitOf
  have b1 : (i 1).val < 40 := (i 1).isLt
  have b2 : (i 2).val < 5 := (i 2).isLt
  have b3 : (i 3).val < 8 := (i 3).isLt
  have b4 : (i 4).val < 128 := (i 4).isLt
  constructor
  · intro h
    have a0 : un L t1.val / 2 ≤ (i 0).val ∧ (i 0).val < un L t1.val / 2 + 1 := h 0
    have a1 : grp L t1.val t2.val ≤ (i 1).val ∧ (i 1).val < grp L t1.val t2.val + 1 := h 1
    unfold grp un at *
    omega
  · rintro ⟨h, h'⟩ a
    match a with
    | 0 => show un L t1.val / 2 ≤ (i 0).val ∧ (i 0).val < un L t1.val / 2 + 1; unfold un; omega
    | 1 => show grp L t1.val t2.val ≤ (i 1).val ∧ (i 1).val < grp L t1.val t2.val + 1; unfold grp un; omega
    | 2 => show 0 ≤ (i 2).val ∧ (i 2).val < 0 + 5; omega
    | 3 => show 0 ≤ (i 3).val ∧ (i 3).val < 0 + 8; omega
    | 4 => show 0 ≤ (i 4).val ∧ (i 4).val < 0 + 128; omega

theorem half_set : (halfM t2).view.set = slotSet (t2.val % 2) := by
  have e : (halfM t2).view.set = (Rect.unit (s := S2x5x8x128) (k0_off85 t2) S1x5x8x128.size (k0_off85_inb t2)).set :=
    (View.set_reshape _ _).trans (View.set_slice_whole _ _)
  refine e.trans (Finset.ext fun (i : S2x5x8x128.Idx) => Iff.trans ?_ (mem_slot _ i).symm)
  rw [Rect.mem_set_unit, off85_at]
  have b1 : (i 1).val < 5 := (i 1).isLt
  have b2 : (i 2).val < 8 := (i 2).isLt
  have b3 : (i 3).val < 128 := (i 3).isLt
  constructor
  · intro h
    have a0 : t2.val % 2 ≤ (i 0).val ∧ (i 0).val < t2.val % 2 + 1 := h 0
    omega
  · rintro h a
    match a with
    | 0 => show t2.val % 2 ≤ (i 0).val ∧ (i 0).val < t2.val % 2 + 1; omega
    | 1 => show 0 ≤ (i 1).val ∧ (i 1).val < 0 + 5; omega
    | 2 => show 0 ≤ (i 2).val ∧ (i 2).val < 0 + 8; omega
    | 3 => show 0 ≤ (i 3).val ∧ (i 3).val < 0 + 128; omega

theorem slot_disjoint (a b : Nat) (h : a ≠ b) : Disjoint (slotSet a) (slotSet b) :=
  Finset.disjoint_filter.mpr fun _ _ h1 h2 => h (h1.symm.trans h2)
theorem slot_cover : slotSet 0 ∪ slotSet 1 = Finset.univ := by
  ext j
  have h : (j 0).val < 2 := (j 0).isLt
  simp only [slotSet, Finset.mem_union, Finset.mem_filter, Finset.mem_univ, true_and, iff_true]
  omega

/-! ## The contents -/

theorem piece_emb (x : S5x8x128.Idx) :
    ((((pieceM L t1 t2).view.emb x) : S80x40x5x8x128.Idx) 2).val = (x 0).val ∧ ((((pieceM L t1 t2).view.emb x) : S80x40x5x8x128.Idx) 3).val = (x 1).val
      ∧ ((((pieceM L t1 t2).view.emb x) : S80x40x5x8x128.Idx) 4).val = (x 2).val := by
  have e : Shape.reshapeEquiv (s := S1x1x5x8x128) (s' := S5x8x128) squeezes_S1x1x5x8x128_S5x8x128.numel_eq x
      = (fun | 0 => (0 : Fin 1) | 1 => (0 : Fin 1) | 2 => (x 0 : Fin 5) | 3 => (x 1 : Fin 8) | 4 => (x 2 : Fin 128) : S1x1x5x8x128.Idx) := by
    refine Shape.reshapeEquiv_eq_of_rowMajor _ ?_
    rw [Shape.rowMajor_val_five, Shape.rowMajor_val_three]
    show ((((0 * 1 + 0) * 5 + (x 0).val) * 8 + (x 1).val) * 128 + (x 2).val) = ((x 0).val * 8 + (x 1).val) * 128 + (x 2).val
    omega
  have e' : (pieceM L t1 t2).view.emb x = (Rect.unit (s := S80x40x5x8x128) (k0_off86 L t1 t2) S1x1x5x8x128.size (k0_off86_inb L t1 t2)).emb
      (Shape.reshapeEquiv (s := S1x1x5x8x128) (s' := S5x8x128) squeezes_S1x1x5x8x128_S5x8x128.numel_eq x) := rfl
  rw [e', e]
  refine ⟨?_, ?_, ?_⟩
  · show k0_off86 L t1 t2 2 + 1 * (x 0).val = _
    rw [off86_at]; show 0 + 1 * (x 0).val = _; omega
  · show k0_off86 L t1 t2 3 + 1 * (x 1).val = _
    rw [off86_at]; show 0 + 1 * (x 1).val = _; omega
  · show k0_off86 L t1 t2 4 + 1 * (x 2).val = _
    rw [off86_at]; show 0 + 1 * (x 2).val = _; omega

theorem half_emb (x : S5x8x128.Idx) :
    ((((halfM t2).view.emb x) : S2x5x8x128.Idx) 0).val = t2.val % 2 ∧ ((((halfM t2).view.emb x) : S2x5x8x128.Idx) 1).val = (x 0).val
      ∧ ((((halfM t2).view.emb x) : S2x5x8x128.Idx) 2).val = (x 1).val ∧ ((((halfM t2).view.emb x) : S2x5x8x128.Idx) 3).val = (x 2).val := by
  have e : Shape.reshapeEquiv (s := S1x5x8x128) (s' := S5x8x128) squeezes_S1x5x8x128_S5x8x128.numel_eq x
      = (fun | 0 => (0 : Fin 1) | 1 => (x 0 : Fin 5) | 2 => (x 1 : Fin 8) | 3 => (x 2 : Fin 128) : S1x5x8x128.Idx) := by
    refine Shape.reshapeEquiv_eq_of_rowMajor _ ?_
    rw [Shape.rowMajor_val_four, Shape.rowMajor_val_three]
    show (((0 * 5 + (x 0).val) * 8 + (x 1).val) * 128 + (x 2).val) = ((x 0).val * 8 + (x 1).val) * 128 + (x 2).val
    omega
  have e' : (halfM t2).view.emb x = (Rect.unit (s := S2x5x8x128) (k0_off85 t2) S1x5x8x128.size (k0_off85_inb t2)).emb
      (Shape.reshapeEquiv (s := S1x5x8x128) (s' := S5x8x128) squeezes_S1x5x8x128_S5x8x128.numel_eq x) := rfl
  rw [e', e]
  refine ⟨?_, ?_, ?_, ?_⟩
  · show k0_off85 t2 0 + 1 * 0 = _
    rw [off85_at]; show t2.val % 2 + 1 * 0 = _; omega
  · show k0_off85 t2 1 + 1 * (x 0).val = _
    rw [off85_at]; show 0 + 1 * (x 0).val = _; omega
  · show k0_off85 t2 2 + 1 * (x 1).val = _
    rw [off85_at]; show 0 + 1 * (x 1).val = _; omega
  · show k0_off85 t2 3 + 1 * (x 2).val = _
    rw [off85_at]; show 0 + 1 * (x 2).val = _; omega

/-- A filled half lands as the values it was filled with. -/
theorem piece_lands {val : Nat → Nat → Nat → BitVec 32} (fo : S80x40x5x8x128.Idx → Elt F .i32) {fs : S2x5x8x128.Idx → Elt F .i32}
    (h : Filled (t2.val % 2) val 8 0 fs) (i : S80x40x5x8x128.Idx) (hi : i ∈ pieceSet (wk L) (20 * t1.val + t2.val)) :
    (pieceM L t1 t2).view.write (Elt F) fo ((halfM t2).view.read (Elt F) fs) Finset.univ i = val (i 2).val (i 3).val (i 4).val := by
  rw [← piece_set, View.set, Finset.mem_map] at hi
  obtain ⟨x, -, rfl⟩ := hi
  have hw : (pieceM L t1 t2).view.write (Elt F) fo ((halfM t2).view.read (Elt F) fs) Finset.univ ((pieceM L t1 t2).view.emb x)
      = fs ((halfM t2).view.emb x) := View.write_emb_of_mem _ _ (Finset.mem_univ x)
  obtain ⟨p2, p3, p4⟩ := piece_emb L t1 t2 x
  obtain ⟨h0, h1, h2, h3⟩ := half_emb t2 x
  have hx : (x 2).val < 128 := (x 2).isLt
  refine hw.trans ?_
  refine (h _ h0 (.inl (by rw [h3]; omega))).trans ?_
  rw [h1, h2, h3, ← p2, ← p3, ← p4]

variable (ws : S10240x278.Idx → Elt F .i32) (tab : S36864.Idx → BitVec 32)

/-- The fetched rows, as `w128` reads them. -/
theorem rows_words (l n : Nat) (hl : l < 128) : w128 ((rowsM L t1).view.read (Elt F) ws) l n = wordAt ws (128 * (un L t1.val / 2) + l) n := by
  have hu := un_lt L t1
  unfold w128 wordAt
  by_cases hn : n < 278
  · rw [dif_pos ⟨hl, hn⟩, dif_pos ⟨by omega, hn⟩]
    show ws ((Rect.unit (s := S10240x278) (k0_off1 L t1) S128x278.size (k0_off1_inb L t1)).emb _) = _
    congr 1; funext a
    match a with
    | 0 => refine Fin.ext ?_; show k0_off1 L t1 0 + 1 * l = _; rw [off1_at]; show 128 * (un L t1.val / 2) + 1 * l = 128 * (un L t1.val / 2) + l; omega
    | 1 => refine Fin.ext ?_; show k0_off1 L t1 1 + 1 * n = _; rw [off1_at]; show 0 + 1 * n = n; omega
  · rw [dif_neg fun h => hn h.2, dif_neg fun h => hn h.2]

theorem val_words (vg p s l : Nat) (hl : l < 128) :
    valOf tab ((rowsM L t1).view.read (Elt F) ws) vg p s l = gOf ws tab (un L t1.val / 2) vg p s l := by
  unfold valOf gOf
  rw [show gw ((rowsM L t1).view.read (Elt F) ws) vg l = groupWords ws (128 * (un L t1.val / 2) + l) vg from
    funext fun k => rows_words L t1 ws l _ hl]

/-- What trip `t1, t2` leaves in its part of the result. -/
theorem piece_value (fo : S80x40x5x8x128.Idx → Elt F .i32) {fs : S2x5x8x128.Idx → Elt F .i32}
    (h : Filled (t2.val % 2) (valOf tab ((rowsM L t1).view.read (Elt F) ws) (grp L t1.val t2.val)) 8 0 fs) (i : S80x40x5x8x128.Idx)
    (hi : i ∈ pieceSet (wk L) (20 * t1.val + t2.val)) :
    (pieceM L t1 t2).view.write (Elt F) fo ((halfM t2).view.read (Elt F) fs) Finset.univ i = G ws tab i := by
  rw [piece_lands L t1 t2 fo h i hi, val_words L t1 ws tab _ _ _ _ (i 4).isLt]
  have h1 := t1_lt t1
  have h2 := t2_lt t2
  have b1 : (i 1).val < 40 := (i 1).isLt
  have hi' := (mem_piece _ _ _).mp hi
  unfold stepOf unitOf at hi'
  unfold G
  rw [show un L t1.val / 2 = (i 0).val by unfold un; omega, show grp L t1.val t2.val = (i 1).val by unfold grp un; omega]

end Cert.GatherProof

end
-- ==== Proof.GatherSlots.lean ====
/-
  The two halves of the output scratch and their transfers to the result.

  While half `b` is free the subcore holds its cell at zero and the half itself; while a transfer from
  it is in flight the subcore holds the transfer, which delivers the written part of the result and the half.
-/
module

public import proofs.«01_k».proof.Proof.GatherMoves

@[expose] public section

noncomputable section

namespace Cert.GatherProof

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

abbrev EC : UEmb Counters (MM F) := countersEmb

section Rules

variable (d : Dev nD) (L : grid0.Coords) (ws : S10240x278.Idx → BitVec 32) (tab : S36864.Idx → BitVec 32)
  (fo : S80x40x5x8x128.Idx → BitVec 32) (O : CellTallies nD τ sig (HIx 1)) (W : Waits sig (HIx 1))

def halfPts (b : Nat) : sProp 𝕄 := iprop(∃ f, sO.view.loc (thr d L) ↦[slotSet b]{fullShare} f)
def piecePts (k : Nat) : sProp 𝕄 := iprop(oV.view.loc (thr d L) ↦[pieceSet (wk L) k]{fullShare} G ws tab)

/-- Half `b` free, or its transfer of piece `k` in flight. -/
def slotRes (b : Nat) : Option Nat → sProp 𝕄
  | none => iprop(semVal (thr d L, SemLoc.dma (osem b)) 0 ∗ halfPts d L b)
  | some k => Transfers.Flight EC (thr d L) (SemLoc.dma (osem b)) (none : HIx 1) (pieceM L ⟨0, by decide⟩ ⟨0, by decide⟩).view.dmaCredit
      iprop(piecePts d L ws tab k ∗ halfPts d L b)

theorem slotRes_none (b : Nat) : slotRes (F := F) d L ws tab b none = iprop(semVal (thr d L, SemLoc.dma (osem b)) 0 ∗ halfPts d L b) := rfl
theorem slotRes_some (b k : Nat) : slotRes (F := F) d L ws tab b (some k)
    = Transfers.Flight EC (thr d L) (SemLoc.dma (osem b)) (none : HIx 1) (pieceM L ⟨0, by decide⟩ ⟨0, by decide⟩).view.dmaCredit
        iprop(piecePts d L ws tab k ∗ halfPts d L b) := rfl

/-- The waits recorded so far. -/
def owing : sProp 𝕄 := iprop(∃ W', ⌜∀ p ∈ W', p ∈ W ∨ p.2 = none⌝ ∗ owes (thr d L) O W')

variable {α : Type} {Q : α → sProp (MM F)}

theorem slot_wait (b k : Nat) {sem : DmaSem sig} {srcw : Memref sig .scVector .vmem S5x8x128 .i32} {dstw : Memref sig .scVector .hbm S5x8x128 .i32}
    {hsrc : srcw.view.WordExact} {hdst : dstw.view.WordExact} {kk : PUnit → Prog (TpuEff nD τ sig (Elt F) Λ₀ (thr d L).2) α}
    (hs : sem = osem b) (hN : dstw.view.dmaCredit = (pieceM L ⟨0, by decide⟩ ⟨0, by decide⟩).view.dmaCredit) :
    iprop(Transfers.MayWaits (thr d L) (none : HIx 1) O ∗ slotRes (F := F) d L ws tab b (some k) ∗ owing d L O W)
      ⊢ iprop((iprop(piecePts d L ws tab k ∗ slotRes d L ws tab b none ∗ owing d L O W) -∗ wp frame (wpE (defs₀ (F := F)) 𝒱₀ (thr d L) none) Set.univ (kk ⟨⟩) Q)
          -∗ wp frame (wpE (defs₀ (F := F)) 𝒱₀ (thr d L) none) Set.univ (.op (.waitDma2 sem srcw dstw hsrc hdst) kk) Q) := by
  subst hs
  unfold owing
  rw [slotRes_some, slotRes_none]
  iintro ⟨Hmw, Hs, %W', %hW', HO⟩ Hk
  ihave Hm := (Transfers.MayWaits.elim (SemLoc.dma (osem b))) $$ Hmw
  iapply (Transfers.wp_waitLocalO EC 𝒱₀ (thr d L) none (none : HIx 1) hN) $$ [Hs HO Hm]
  · isplitl [Hs]; · iexact Hs
    isplitl [HO]; · iexact HO
    iexact Hm
  iintro ⟨⟨Hp, Hh⟩, Hv, HO⟩
  iapply Hk
  isplitl [Hp]; · iexact Hp
  isplitl [Hv Hh]
  · isplitl [Hv]; · iexact Hv
    iexact Hh
  iexists (insert (SemLoc.dma (osem b), (none : HIx 1)) W'); isplitr
  · ipureintro; intro p hp
    rcases Finset.mem_insert.mp hp with hp | hp
    · exact .inr (hp ▸ rfl)
    · exact hW' p hp
  · iexact HO

theorem slot_send (t1 : Fin k0_t1_loop.trips) (t2 : Fin k0_t2_loop.trips) {sem : DmaSem sig} {fs : S2x5x8x128.Idx → BitVec 32}
    {kk : PUnit → Prog (TpuEff nD τ sig (Elt F) Λ₀ (thr d L).2) α} {h1 h2 h3}
    (hs : sem = osem (t2.val % 2))
    (hf : Filled (t2.val % 2) (valOf tab ((rowsM L t1).view.read (Elt F) ws) (grp L t1.val t2.val)) 8 0 fs) :
    iprop((oV.view.loc (thr d L) ↦[pieceSet (wk L) (20 * t1.val + t2.val)]{fullShare} fo) ∗ (sO.view.loc (thr d L) ↦[slotSet (t2.val % 2)]{fullShare} fs)
        ∗ semVal (thr d L, SemLoc.dma (osem (t2.val % 2))) 0)
      ⊢ iprop((slotRes (F := F) d L ws tab (t2.val % 2) (some (20 * t1.val + t2.val)) -∗ wp frame (wpE (defs₀ (F := F)) 𝒱₀ (thr d L) none) Set.univ (kk ⟨⟩) Q)
          -∗ wp frame (wpE (defs₀ (F := F)) 𝒱₀ (thr d L) none) Set.univ (.op (.enqueueDma (halfM t2) (.here (pieceM L t1 t2)) (.dma sem) h1 h2 h3) kk) Q) := by
  subst hs
  iintro ⟨Ho, Hh, Hv⟩ Hk
  ihave Hh' := (Entails.of_eq (congrArg (fun S => (sO.view.loc (thr d L) ↦[S]{fullShare} fs : sProp 𝕄)) (half_set t2).symm)) $$ Hh
  iapply (Transfers.wp_dmaLocal EC 𝒱₀ (thr d L) none (src := halfM t2) (dst := pieceM L t1 t2) (none : HIx 1) _ rfl (View.amount_pos _ _ (show 0 < S5x8x128.numel by decide))
    (Sd := pieceSet (wk L) (20 * t1.val + t2.val)) (fd := fo) (piece_set L t1 t2).subset) $$ [Hh' Ho Hv]
  · isplitl [Hh']; · iexact Hh'
    isplitl [Ho]; · iexact Ho
    iexact Hv
  iintro HF
  iapply Hk
  rw [slotRes_some]
  iapply (Transfers.Flight_mono EC (thr d L) ?hm) $$ HF
  case hm =>
    iintro ⟨Hp, Hh⟩
    isplitl [Hp]
    · unfold piecePts
      iapply (Entails.of_eq (pointsTo_congr (piece_value L t1 t2 ws tab fo hf))); iexact Hp
    · unfold halfPts
      iexists fs
      iapply (Entails.of_eq (congrArg (fun S => (sO.view.loc (thr d L) ↦[S]{fullShare} fs : sProp 𝕄)) (half_set t2))); iexact Hh

end Rules

end Cert.GatherProof

end
-- ==== Proof.GatherGroup.lean ====
/-
  One group of vectors on one subcore: the half of the output scratch it uses is awaited if a transfer
  from it is in flight, filled, and sent; and the invariant of the loop over a unit's twenty groups.
-/
module

public import proofs.«01_k».proof.Proof.GatherSlots

@[expose] public section

noncomputable section

namespace Cert.GatherProof

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (d : Dev nD) (L : grid0.Coords) (ws : S10240x278.Idx → BitVec 32) (tab : S36864.Idx → BitVec 32)
  (fo : S80x40x5x8x128.Idx → BitVec 32) (O : CellTallies nD τ sig (HIx 1)) (W : Waits sig (HIx 1))

/-! ## The loops over sixteen rows at a time -/

section Loops

variable {α : Type} {Q : α → sProp (MM F)} {fT : S36864.Idx → BitVec 32} {fw : S128x278.Idx → BitVec 32}

theorem first_loop (t1 : Fin k0_t1_loop.trips) (v34 c0 c1 : BitVec 32) (t2 : Fin k0_t2_loop.trips) (v70 : BitVec 32)
    (hh : k0_cond2 L t1 t2 = 1#1) (v91 : BitVec 32) (hcol : ColsOK v91 0) (hok : k0_t3_loop.OK)
    {kk : Unit → Prog (TpuEff nD τ sig (Elt F) Λ₀ (thr d L).2) α} :
    EmitR (F := F) d L fT fw (t2.val % 2) (valOf fT fw 0) 0 0
      ⊢ iprop((∀ acc, EmitR (F := F) d L fT fw (t2.val % 2) (valOf fT fw 0) 8 0 -∗ wp frame (wpE (defs₀ (F := F)) 𝒱₀ (thr d L) none) Set.univ (kk acc) Q)
        -∗ wp frame (wpE (defs₀ (F := F)) 𝒱₀ (thr d L) none) Set.univ
          (Scf.Loop.for k0_t3_loop hok ⟨⟩ (k0_t3_body (F := F) L wV (Memref.isWhole_whole _) tV (Memref.isWhole_whole _) oV (Memref.isWhole_whole _)
            sT (Memref.isWhole_whole _) sW (Memref.isWhole_whole _) sO (Memref.isWhole_whole _) cc0_scratch3 cc0_scoped0 cc0_scoped1 lanes t1 v34 c0 c1 t2 v70 hh v91) >>= kk) Q) := by
  have h := Scf.wp_for_bind frame (wpE (defs₀ (F := F)) 𝒱₀ (thr d L) none) Set.univ k0_t3_loop.lb k0_t3_loop.ub k0_t3_loop.st hok ()
    (k0_t3_body (F := F) L wV (Memref.isWhole_whole _) tV (Memref.isWhole_whole _) oV (Memref.isWhole_whole _)
            sT (Memref.isWhole_whole _) sW (Memref.isWhole_whole _) sO (Memref.isWhole_whole _) cc0_scratch3 cc0_scoped0 cc0_scoped1 lanes t1 v34 c0 c1 t2 v70 hh v91)
    (fun k _ => EmitR (F := F) d L fT fw (t2.val % 2) (valOf fT fw 0) k 0)
    (fun k _ => first_body t1 v34 c0 c1 t2 v70 hh v91 hcol k) (kk := kk) (Q := Q)
  have e : EmitR (F := F) d L fT fw (t2.val % 2) (valOf fT fw 0) (Scf.trips k0_t3_loop.lb k0_t3_loop.ub k0_t3_loop.st) 0
      = EmitR (F := F) d L fT fw (t2.val % 2) (valOf fT fw 0) 8 0 :=
    congrArg (fun n => EmitR (F := F) d L fT fw (t2.val % 2) (valOf fT fw 0) n 0) (show k0_t3_loop.trips = 8 by decide)
  beta_reduce at h
  rw [e] at h
  exact h

theorem other_loop (t1 : Fin k0_t1_loop.trips) (v34 c0 c1 : BitVec 32) (t2 : Fin k0_t2_loop.trips) (v70 : BitVec 32)
    (hh : k0_cond3 L t1 t2 = 1#1) (v91 : BitVec 32) {vg : Nat} (hvg : 0 < vg) (hcol : ColsOK v91 vg) (hok : k0_t4_loop.OK)
    {kk : Unit → Prog (TpuEff nD τ sig (Elt F) Λ₀ (thr d L).2) α} :
    EmitR (F := F) d L fT fw (t2.val % 2) (valOf fT fw vg) 0 0
      ⊢ iprop((∀ acc, EmitR (F := F) d L fT fw (t2.val % 2) (valOf fT fw vg) 8 0 -∗ wp frame (wpE (defs₀ (F := F)) 𝒱₀ (thr d L) none) Set.univ (kk acc) Q)
        -∗ wp frame (wpE (defs₀ (F := F)) 𝒱₀ (thr d L) none) Set.univ
          (Scf.Loop.for k0_t4_loop hok ⟨⟩ (k0_t4_body (F := F) L wV (Memref.isWhole_whole _) tV (Memref.isWhole_whole _) oV (Memref.isWhole_whole _)
            sT (Memref.isWhole_whole _) sW (Memref.isWhole_whole _) sO (Memref.isWhole_whole _) cc0_scratch3 cc0_scoped0 cc0_scoped1 lanes t1 v34 c0 c1 t2 v70 hh v91) >>= kk) Q) := by
  have h := Scf.wp_for_bind frame (wpE (defs₀ (F := F)) 𝒱₀ (thr d L) none) Set.univ k0_t4_loop.lb k0_t4_loop.ub k0_t4_loop.st hok ()
    (k0_t4_body (F := F) L wV (Memref.isWhole_whole _) tV (Memref.isWhole_whole _) oV (Memref.isWhole_whole _)
            sT (Memref.isWhole_whole _) sW (Memref.isWhole_whole _) sO (Memref.isWhole_whole _) cc0_scratch3 cc0_scoped0 cc0_scoped1 lanes t1 v34 c0 c1 t2 v70 hh v91)
    (fun k _ => EmitR (F := F) d L fT fw (t2.val % 2) (valOf fT fw vg) k 0)
    (fun k _ => other_body t1 v34 c0 c1 t2 v70 hh v91 hvg hcol k) (kk := kk) (Q := Q)
  have e : EmitR (F := F) d L fT fw (t2.val % 2) (valOf fT fw vg) (Scf.trips k0_t4_loop.lb k0_t4_loop.ub k0_t4_loop.st) 0
      = EmitR (F := F) d L fT fw (t2.val % 2) (valOf fT fw vg) 8 0 :=
    congrArg (fun n => EmitR (F := F) d L fT fw (t2.val % 2) (valOf fT fw vg) n 0) (show k0_t4_loop.trips = 8 by decide)
  beta_reduce at h
  rw [e] at h
  exact h

end Loops

/-! ## One group -/

/-- The piece whose transfer is in flight from a half, `back` trips before trip `g` of unit `u`. -/
def pend (u g back : Nat) : Option Nat := if back ≤ g then some (20 * u + g - back) else none

/-- The parts of the result written and not yet written, before trip `g` of unit `u`. -/
def donePts (n : Nat) : sProp 𝕄 := iprop(oV.view.loc (thr d L) ↦[doneSet (wk L) n]{fullShare} G ws tab)
def todoPts (n : Nat) : sProp 𝕄 := iprop(oV.view.loc (thr d L) ↦[todoSet (wk L) n]{fullShare} fo)

/-- What the subcore holds before trip `g` of unit `t1`. -/
def GroupInv (t1 : Fin k0_t1_loop.trips) (g : Nat) : sProp 𝕄 :=
  iprop(Transfers.MayWaits (thr d L) (none : HIx 1) O
    ∗ (sT.view.loc (thr d L) ↦{fullShare} tab) ∗ (sW.view.loc (thr d L) ↦{fullShare} (rowsM L t1).view.read (Elt F) ws)
    ∗ donePts d L ws tab (20 * t1.val + (g - 2)) ∗ todoPts d L fo (20 * t1.val + g)
    ∗ slotRes d L ws tab (g % 2) (pend t1.val g 2) ∗ slotRes d L ws tab ((g + 1) % 2) (pend t1.val g 1)
    ∗ owing d L O W)

/-- The same with the half that trip `g` uses free. -/
def FreeInv (t1 : Fin k0_t1_loop.trips) (g : Nat) : sProp 𝕄 :=
  iprop(Transfers.MayWaits (thr d L) (none : HIx 1) O
    ∗ (sT.view.loc (thr d L) ↦{fullShare} tab) ∗ (sW.view.loc (thr d L) ↦{fullShare} (rowsM L t1).view.read (Elt F) ws)
    ∗ donePts d L ws tab (20 * t1.val + (g + 1 - 2)) ∗ todoPts d L fo (20 * t1.val + g)
    ∗ slotRes d L ws tab (g % 2) none ∗ slotRes d L ws tab ((g + 1) % 2) (pend t1.val g 1)
    ∗ owing d L O W)

/-- What stays aside while the half is filled. -/
def Aside (t1 : Fin k0_t1_loop.trips) (g : Nat) : sProp 𝕄 :=
  iprop(Transfers.MayWaits (thr d L) (none : HIx 1) O
    ∗ donePts d L ws tab (20 * t1.val + (g + 1 - 2)) ∗ todoPts d L fo (20 * t1.val + g)
    ∗ semVal (thr d L, SemLoc.dma (osem (g % 2))) 0 ∗ slotRes d L ws tab ((g + 1) % 2) (pend t1.val g 1)
    ∗ owing d L O W)

theorem done_piece (n : Nat) : iprop(donePts (F := F) d L ws tab n ∗ piecePts d L ws tab n) ⊢ donePts d L ws tab (n + 1) := by
  unfold donePts piecePts
  rw [done_split]
  exact (pointsTo_union (done_disjoint _ _)).2

theorem todo_piece (n : Nat) : todoPts (F := F) d L fo n
    ⊢ iprop((oV.view.loc (thr d L) ↦[pieceSet (wk L) n]{fullShare} fo) ∗ todoPts d L fo (n + 1)) := by
  unfold todoPts
  rw [todo_split]
  exact (pointsTo_union (todo_disjoint _ _)).1

theorem free_emit (t1 : Fin k0_t1_loop.trips) (g : Nat) (val : Nat → Nat → Nat → BitVec 32) :
    FreeInv (F := F) d L ws tab fo O W t1 g ⊢ iprop(EmitR d L tab ((rowsM L t1).view.read (Elt F) ws) (g % 2) val 0 0 ∗ Aside d L ws tab fo O W t1 g) := by
  unfold FreeInv EmitR Aside
  rw [slotRes_none]
  unfold halfPts
  iintro ⟨Hm, HT, HW, Hd, Ht, ⟨Hv, %f, Hf⟩, Hs, HO⟩
  isplitl [HT HW Hf]
  · isplitl [HT]; · iexact HT
    isplitl [HW]; · iexact HW
    iexists f; isplitr
    · ipureintro
      intro j _ hj
      exfalso; omega
    · iexact Hf
  isplitl [Hm]; · iexact Hm
  isplitl [Hd]; · iexact Hd
  isplitl [Ht]; · iexact Ht
  isplitl [Hv]; · iexact Hv
  isplitl [Hs]; · iexact Hs
  iexact HO

/-- The transfer of a filled half starts. -/
theorem group_send (t1 : Fin k0_t1_loop.trips) (t2 : Fin k0_t2_loop.trips) {sem : DmaSem sig} {h1 h2 h3} (hs : sem = osem (t2.val % 2)) :
    iprop(EmitR (F := F) d L tab ((rowsM L t1).view.read (Elt F) ws) (t2.val % 2) (valOf tab ((rowsM L t1).view.read (Elt F) ws) (grp L t1.val t2.val)) 8 0
        ∗ Aside d L ws tab fo O W t1 t2.val)
      ⊢ wp frame (wpE (defs₀ (F := F)) 𝒱₀ (thr d L) none) Set.univ
          (.op (.enqueueDma (halfM t2) (.here (pieceM L t1 t2)) (.dma sem) h1 h2 h3) fun _ => .ret ())
          fun _ : Unit => GroupInv (F := F) d L ws tab fo O W t1 (t2.val + 1) := by
  unfold EmitR Aside
  iintro ⟨⟨HT, HW, %f, %hf, Hf⟩, Hm, Hd, Ht, Hv, Hs, HO⟩
  ihave Ht' := (todo_piece (F := F) d L fo _) $$ Ht
  icases Ht' with ⟨Hp, Ht⟩
  iapply (slot_send d L ws tab fo t1 t2 hs hf) $$ [Hp Hf Hv]
  · isplitl [Hp]; · iexact Hp
    isplitl [Hf]; · iexact Hf
    iexact Hv
  iintro Hn
  sl_step
  have e1 : pend t1.val (t2.val + 1) 2 = pend t1.val t2.val 1 := by
    unfold pend
    by_cases h : 1 ≤ t2.val
    · rw [if_pos (by omega), if_pos h]; congr 1
    · rw [if_neg (by omega), if_neg h]
  have e2 : pend t1.val (t2.val + 1) 1 = some (20 * t1.val + t2.val) := by
    unfold pend
    rw [if_pos (by omega)]; congr 1
  have e3 : (t2.val + 1 + 1) % 2 = t2.val % 2 := by omega
  unfold GroupInv
  rw [e1, e2, e3]
  isplitl [Hm]; · iexact Hm
  isplitl [HT]; · iexact HT
  isplitl [HW]; · iexact HW
  isplitl [Hd]; · iexact Hd
  isplitl [Ht]; · iexact Ht
  isplitl [Hs]; · iexact Hs
  isplitl [Hn]; · iexact Hn
  iexact HO

/-- The half that trip `t2` uses is free when nothing was sent from it in this unit. -/
theorem group_free_early (t1 : Fin k0_t1_loop.trips) (g : Nat) (hg : ¬ 2 ≤ g) :
    GroupInv (F := F) d L ws tab fo O W t1 g ⊢ FreeInv d L ws tab fo O W t1 g := by
  unfold GroupInv FreeInv
  rw [show pend t1.val g 2 = none from if_neg hg, show g + 1 - 2 = g - 2 by omega]

/-- Before the half of trip `t2` is filled, its transfer of two trips ago is awaited. -/
theorem group_wait (t1 : Fin k0_t1_loop.trips) (t2 : Fin k0_t2_loop.trips) {α : Type} {Q : α → sProp (MM F)}
    {sem : k0_cond1 t2 = 1#1 → DmaSem sig} {srcw : k0_cond1 t2 = 1#1 → Memref sig .scVector .vmem S5x8x128 .i32}
    {dstw : k0_cond1 t2 = 1#1 → Memref sig .scVector .hbm S5x8x128 .i32} {hsrc : ∀ h, (srcw h).view.WordExact} {hdst : ∀ h, (dstw h).view.WordExact}
    {rest : Prog (TpuEff nD τ sig (Elt F) Λ₀ (thr d L).2) α}
    (hs : ∀ h, sem h = osem (t2.val % 2)) (hN : ∀ h, (dstw h).view.dmaCredit = (pieceM L ⟨0, by decide⟩ ⟨0, by decide⟩).view.dmaCredit)
    (hrest : FreeInv (F := F) d L ws tab fo O W t1 t2.val ⊢ wp frame (wpE (defs₀ (F := F)) 𝒱₀ (thr d L) none) Set.univ rest Q) :
    GroupInv (F := F) d L ws tab fo O W t1 t2.val ⊢ wp frame (wpE (defs₀ (F := F)) 𝒱₀ (thr d L) none) Set.univ
      (if h : k0_cond1 t2 = 1#1 then .op (.waitDma2 (sem h) (srcw h) (dstw h) (hsrc h) (hdst h)) fun _ => rest else rest) Q := by
  by_cases h1 : k0_cond1 t2 = 1#1
  · have hg := (cond1_at t2).mp h1
    rw [dif_pos h1]
    unfold GroupInv
    rw [show pend t1.val t2.val 2 = some (20 * t1.val + (t2.val - 2)) by
      unfold pend; rw [if_pos hg]; congr 1; omega]
    iintro ⟨#Hm, HT, HW, Hd, Ht, Ha, Hb, HO⟩
    iapply (slot_wait d L ws tab O W (t2.val % 2) (20 * t1.val + (t2.val - 2)) (hs h1) (hN h1)) $$ [Ha HO]
    · isplitr; · iexact Hm
      isplitl [Ha]; · iexact Ha
      iexact HO
    iintro ⟨Hp, Ha, HO⟩
    iapply hrest
    unfold FreeInv
    isplitr; · iexact Hm
    isplitl [HT]; · iexact HT
    isplitl [HW]; · iexact HW
    isplitl [Hd Hp]
    · rw [show 20 * t1.val + (t2.val + 1 - 2) = 20 * t1.val + (t2.val - 2) + 1 by omega]
      iapply (done_piece (F := F) d L ws tab _)
      isplitl [Hd]; · iexact Hd
      iexact Hp
    isplitl [Ht]; · iexact Ht
    isplitl [Ha]; · iexact Ha
    isplitl [Hb]; · iexact Hb
    iexact HO
  · have hg : ¬ 2 ≤ t2.val := fun h => h1 ((cond1_at t2).mpr h)
    rw [dif_neg h1]
    exact (group_free_early (F := F) d L ws tab fo O W t1 t2.val hg).trans hrest

theorem grp_of (t1 : Fin k0_t1_loop.trips) (t2 : Fin k0_t2_loop.trips) :
    ColsOK (colOf (BitVec.ofNat 32 (un L t1.val % 2)) t2) (grp L t1.val t2.val) :=
  colOf_at ⟨un L t1.val % 2, Nat.mod_lt _ (by decide)⟩ t2

/-- One trip of the loop over a unit's groups. -/
theorem group_body (t1 : Fin k0_t1_loop.trips) (t2 : Fin k0_t2_loop.trips) :
    GroupInv (F := F) d L ws tab fo O W t1 t2.val ⊢ wp frame (wpE (defs₀ (F := F)) 𝒱₀ (thr d L) none) Set.univ
      (k0_t2_body (F := F) L wV (Memref.isWhole_whole _) tV (Memref.isWhole_whole _) oV (Memref.isWhole_whole _) sT (Memref.isWhole_whole _)
        sW (Memref.isWhole_whole _) sO (Memref.isWhole_whole _) cc0_scratch3 cc0_scoped0 cc0_scoped1 lanes t1 (BitVec.ofNat 32 (un L t1.val % 2)) t2 ())
      fun _ => GroupInv (F := F) d L ws tab fo O W t1 (t2.val + 1) := by
  unfold k0_t2_body
  simp only [k0_part24_eq_skeleton]; unfold k0_part24_skel
  simp only [Prog.lift, Prog.bind_op, Prog.bind_ret, Prog.pure_eq_ret, Prog.bind_assoc]
  rw [wp_bind]
  refine group_wait d L ws tab fo O W t1 t2 (sem4_at t2) ?_ ?_
  · intro _; rfl
  refine (free_emit d L ws tab fo O W t1 t2.val (valOf tab ((rowsM L t1).view.read (Elt F) ws) (grp L t1.val t2.val))).trans ?_
  by_cases h0 : grp L t1.val t2.val = 0
  · have h2 : k0_cond2 L t1 t2 = 1#1 := (cond2_at L t1 t2).mpr h0
    have h3 : ¬ k0_cond3 L t1 t2 = 1#1 := fun h => absurd ((cond3_at L t1 t2).mp h) (by omega)
    simp only [dif_pos h2, dif_neg h3, Prog.bind_assoc, Prog.bind_ret, Prog.bind_op]
    have hc := grp_of L t1 t2
    have hsend := fun a b c => group_send (F := F) d L ws tab fo O W t1 t2 (h1 := a) (h2 := b) (h3 := c) (sem87_at t2)
    rw [h0] at hc hsend ⊢
    iintro ⟨HE, HA⟩
    iapply (first_loop (F := F) d L t1 _ _ _ t2 _ h2 _ hc _) $$ HE
    iintro %_ HE
    rw [wp_ret]
    imodintro
    iapply hsend
    isplitl [HE]; · iexact HE
    iexact HA
  · have h2 : ¬ k0_cond2 L t1 t2 = 1#1 := fun h => h0 ((cond2_at L t1 t2).mp h)
    have h3 : k0_cond3 L t1 t2 = 1#1 := (cond3_at L t1 t2).mpr (by omega)
    simp only [dif_neg h2, dif_pos h3, Prog.bind_assoc, Prog.bind_ret, Prog.bind_op]
    have hc := grp_of L t1 t2
    have hsend := fun a b c => group_send (F := F) d L ws tab fo O W t1 t2 (h1 := a) (h2 := b) (h3 := c) (sem87_at t2)
    iintro ⟨HE, HA⟩
    iapply (other_loop (F := F) d L t1 _ _ _ t2 _ h3 _ (by omega) hc _) $$ HE
    iintro %_ HE
    rw [wp_ret]
    imodintro
    iapply hsend
    isplitl [HE]; · iexact HE
    iexact HA

end Cert.GatherProof

end
-- ==== Proof.GatherUnit.lean ====
/-
  One unit on one subcore: its 128 rows of packed words are fetched, its twenty groups are decoded and
  sent, and the last two transfers are awaited; and the invariant of the loop over a subcore's five units.
-/
module

public import proofs.«01_k».proof.Proof.GatherGroup

@[expose] public section

noncomputable section

namespace Cert.GatherProof

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (d : Dev nD) (L : grid0.Coords) (ws : S10240x278.Idx → BitVec 32) (tab : S36864.Idx → BitVec 32)
  (fo : S80x40x5x8x128.Idx → BitVec 32) (qw : PosShare TreeShare) (O : CellTallies nD τ sig (HIx 1)) (W : Waits sig (HIx 1))

/-- The worker's number, as the program computes it. -/
abbrev wkOf : BitVec 32 := Scalar.addi (Scalar.muli (BitVec.ofNat 32 (L 1).val) 2#32) (BitVec.ofNat 32 (L 0).val)

/-- What a subcore holds before its unit `u`. -/
def UnitInv (u : Nat) : sProp 𝕄 :=
  iprop(Transfers.MayWaits (thr d L) (none : HIx 1) O
    ∗ (wV.view.loc (thr d L) ↦{qw} ws) ∗ (sT.view.loc (thr d L) ↦{fullShare} tab) ∗ (∃ fw, sW.view.loc (thr d L) ↦{fullShare} fw)
    ∗ donePts d L ws tab (20 * u) ∗ todoPts d L fo (20 * u)
    ∗ slotRes d L ws tab 0 none ∗ slotRes d L ws tab 1 none
    ∗ semVal (thr d L, SemLoc.dma cc0_scoped1.sem) 0
    ∗ owing d L O W)

variable {α : Type} {Q : α → sProp (MM F)}

theorem group_loop (t1 : Fin k0_t1_loop.trips) (hok : k0_t2_loop.OK) {kk : Unit → Prog (TpuEff nD τ sig (Elt F) Λ₀ (thr d L).2) α} :
    GroupInv (F := F) d L ws tab fo O W t1 0
      ⊢ iprop((∀ acc, GroupInv (F := F) d L ws tab fo O W t1 20 -∗ wp frame (wpE (defs₀ (F := F)) 𝒱₀ (thr d L) none) Set.univ (kk acc) Q)
        -∗ wp frame (wpE (defs₀ (F := F)) 𝒱₀ (thr d L) none) Set.univ
          (Scf.Loop.for k0_t2_loop hok ⟨⟩ (k0_t2_body (F := F) L wV (Memref.isWhole_whole _) tV (Memref.isWhole_whole _) oV (Memref.isWhole_whole _)
            sT (Memref.isWhole_whole _) sW (Memref.isWhole_whole _) sO (Memref.isWhole_whole _) cc0_scratch3 cc0_scoped0 cc0_scoped1 lanes t1
            (BitVec.ofNat 32 (un L t1.val % 2))) >>= kk) Q) := by
  have h := Scf.wp_for_bind frame (wpE (defs₀ (F := F)) 𝒱₀ (thr d L) none) Set.univ k0_t2_loop.lb k0_t2_loop.ub k0_t2_loop.st hok ()
    (k0_t2_body (F := F) L wV (Memref.isWhole_whole _) tV (Memref.isWhole_whole _) oV (Memref.isWhole_whole _)
            sT (Memref.isWhole_whole _) sW (Memref.isWhole_whole _) sO (Memref.isWhole_whole _) cc0_scratch3 cc0_scoped0 cc0_scoped1 lanes t1
            (BitVec.ofNat 32 (un L t1.val % 2)))
    (fun g _ => GroupInv (F := F) d L ws tab fo O W t1 g)
    (fun g _ => group_body d L ws tab fo O W t1 g) (kk := kk) (Q := Q)
  have e : GroupInv (F := F) d L ws tab fo O W t1 (Scf.trips k0_t2_loop.lb k0_t2_loop.ub k0_t2_loop.st) = GroupInv d L ws tab fo O W t1 20 :=
    congrArg (fun n => GroupInv (F := F) d L ws tab fo O W t1 n) (show k0_t2_loop.trips = 20 by decide)
  beta_reduce at h
  rw [e] at h
  exact h

theorem group_start (t1 : Fin k0_t1_loop.trips) :
    iprop(Transfers.MayWaits (thr d L) (none : HIx 1) O
      ∗ (sT.view.loc (thr d L) ↦{fullShare} tab) ∗ (sW.view.loc (thr d L) ↦{fullShare} (rowsM L t1).view.read (Elt F) ws)
      ∗ donePts d L ws tab (20 * t1.val) ∗ todoPts d L fo (20 * t1.val)
      ∗ slotRes d L ws tab 0 none ∗ slotRes d L ws tab 1 none ∗ owing d L O W) ⊢ GroupInv (F := F) d L ws tab fo O W t1 0 := by
  unfold GroupInv
  rw [show pend t1.val 0 2 = none from rfl, show pend t1.val 0 1 = none from rfl]
  exact BI.Entails.refl _

theorem rows_split (t1 : Fin k0_t1_loop.trips) :
    (wV.view.loc (thr d L) ↦{qw} ws : sProp (MM F)) ⊣⊢ iprop(((rowsM L t1).view.loc (thr d L) ↦[(rowsM L t1).view.set]{qw} ws)
      ∗ (wV.view.loc (thr d L) ↦[Finset.univ \ (rowsM L t1).view.set]{qw} ws)) :=
  pointsTo_split_subset (ℓ := wV.view.loc (thr d L)) (I := (rowsM L t1).view.set) (S := Finset.univ) (Finset.subset_univ _)

/-- The places the last two waits of a unit name. -/
abbrev lastDst (t1 : Fin k0_t1_loop.trips) : Memref sig .scVector .hbm S5x8x128 .i32 :=
  (oV.slice (Rect.unit (s := S80x40x5x8x128) (k0_off88 L t1) S1x1x5x8x128.size (k0_off88_inb L t1)) (fun _ => rfl)).squeeze S5x8x128
    squeezes_S1x1x5x8x128_S5x8x128
abbrev lastSrc0 : Memref sig .scVector .vmem S5x8x128 .i32 :=
  (sO.slice (Rect.unit (s := S2x5x8x128) ![0, 0, 0, 0] S1x5x8x128.size inb_S2x5x8x128_S1x5x8x128_0_0_0_0) (fun _ => rfl)).squeeze S5x8x128
    squeezes_S1x5x8x128_S5x8x128
abbrev lastSrc1 : Memref sig .scVector .vmem S5x8x128 .i32 :=
  (sO.slice (Rect.unit (s := S2x5x8x128) ![1, 0, 0, 0] S1x5x8x128.size inb_S2x5x8x128_S1x5x8x128_1_0_0_0) (fun _ => rfl)).squeeze S5x8x128
    squeezes_S1x5x8x128_S5x8x128

theorem owing_insert {W' : Waits sig (HIx 1)} (x : SemLoc sig) (h : ∀ p ∈ W', p ∈ W ∨ p.2 = none) :
    ∀ p ∈ insert (x, (none : HIx 1)) W', p ∈ W ∨ p.2 = none := by
  intro p hp
  rcases Finset.mem_insert.mp hp with hp | hp
  · exact .inr (hp ▸ rfl)
  · exact h p hp

theorem unit_body (t1 : Fin k0_t1_loop.trips) :
    UnitInv (F := F) d L ws tab fo qw O W t1.val ⊢ wp frame (wpE (defs₀ (F := F)) 𝒱₀ (thr d L) none) Set.univ
      (k0_t1_body (F := F) L wV (Memref.isWhole_whole _) tV (Memref.isWhole_whole _) oV (Memref.isWhole_whole _) sT (Memref.isWhole_whole _)
        sW (Memref.isWhole_whole _) sO (Memref.isWhole_whole _) cc0_scratch3 cc0_scoped0 cc0_scoped1 (wkOf L) lanes t1 ())
      fun _ => UnitInv (F := F) d L ws tab fo qw O W (t1.val + 1) := by
  unfold k0_t1_body
  simp only [k0_part25_eq_skeleton]; unfold k0_part25_skel
  simp only [Prog.lift, Prog.bind_op, Prog.bind_ret, Prog.pure_eq_ret, Prog.bind_assoc]
  have hv := halfOf_at L t1
  simp only [halfOf] at hv
  rw [hv]
  unfold UnitInv owing
  iintro ⟨#Hm, Hw, HT, ⟨%fw, HW⟩, Hd, Ht, H0, H1, Hv, %W', %hW', HO⟩
  -- the unit's rows
  ihave Hw' := (rows_split (F := F) d L ws qw t1).1 $$ Hw
  icases Hw' with ⟨Hr, Hrest⟩
  iapply (Transfers.wp_dmaLocal EC 𝒱₀ (thr d L) none (src := rowsM L t1) (dst := sW) (none : HIx 1) _ rfl (View.amount_pos _ _ (show 0 < S128x278.numel by decide))
    (Sd := Finset.univ) (fd := fw) (Finset.subset_univ _)) $$ [Hr HW Hv]
  · isplitl [Hr]; · iexact Hr
    isplitl [HW]; · iexact HW
    iexact Hv
  iintro HF
  iapply (Transfers.wp_waitLocalO EC 𝒱₀ (thr d L) none (none : HIx 1) (dstw := sW) rfl) $$ [HF HO]
  · isplitl [HF]; · iexact HF
    isplitl [HO]; · iexact HO
    iapply (Transfers.MayWaits.elim (SemLoc.dma cc0_scoped1.sem)) $$ Hm
  iintro ⟨⟨HW, Hr⟩, Hv, HO⟩
  ihave Hw := (rows_split (F := F) d L ws qw t1).2 $$ [Hr Hrest]
  · isplitl [Hr]; · iexact Hr
    iexact Hrest
  -- its groups
  ihave HG := (group_start (F := F) d L ws tab fo O W t1) $$ [HT HW Hd Ht H0 H1 HO]
  · isplitr; · iexact Hm
    isplitl [HT]; · iexact HT
    isplitl [HW]
    · iapply (Entails.of_eq (congrArg (fun f => (sW.view.loc (thr d L) ↦{fullShare} f : sProp 𝕄)) (View.write_whole_univ (cc0_scratch1 : Ref sig .scVector) fw ((rowsM L t1).view.read (Elt F) ws)))) $$ HW
    isplitl [Hd]; · iexact Hd
    isplitl [Ht]; · iexact Ht
    isplitl [H0]; · iexact H0
    isplitl [H1]; · iexact H1
    unfold owing
    iexists (insert (SemLoc.dma cc0_scoped1.sem, (none : HIx 1)) W'); isplitr
    · ipureintro; exact owing_insert W _ hW'
    · iexact HO
  iapply (group_loop (F := F) d L ws tab fo O W t1 _) $$ HG
  iintro %_ HG
  unfold GroupInv
  rw [show pend t1.val 20 2 = some (20 * t1.val + 18) from rfl, show pend t1.val 20 1 = some (20 * t1.val + 18 + 1) from rfl,
    show 20 * t1.val + (20 - 2) = 20 * t1.val + 18 from rfl]
  icases HG with ⟨-, HT, HW, Hd, Ht, H0, H1, HO⟩
  iapply (slot_wait d L ws tab O W 0 (20 * t1.val + 18) (srcw := lastSrc0) (dstw := lastDst L t1)
    (hsrc := (View.wordExact_bits rfl).reshape _ _) (hdst := (View.wordExact_bits rfl).reshape _ _) sem0_at rfl) $$ [H0 HO]
  · isplitr; · iexact Hm
    isplitl [H0]; · iexact H0
    iexact HO
  iintro ⟨Hp, H0, HO⟩
  ihave Hd := (done_piece (F := F) d L ws tab _) $$ [Hd Hp]
  · isplitl [Hd]; · iexact Hd
    iexact Hp
  iapply (slot_wait d L ws tab O W 1 (20 * t1.val + 18 + 1) (srcw := lastSrc1) (dstw := lastDst L t1)
    (hsrc := (View.wordExact_bits rfl).reshape _ _) (hdst := (View.wordExact_bits rfl).reshape _ _) sem1_at rfl) $$ [H1 HO]
  · isplitr; · iexact Hm
    isplitl [H1]; · iexact H1
    iexact HO
  iintro ⟨Hp, H1, HO⟩
  ihave Hd := (done_piece (F := F) d L ws tab _) $$ [Hd Hp]
  · isplitl [Hd]; · iexact Hd
    iexact Hp
  sl_step
  isplitr; · iexact Hm
  isplitl [Hw]; · iexact Hw
  isplitl [HT]; · iexact HT
  isplitl [HW]; · iexists _; iexact HW
  isplitl [Hd]; · iexact Hd
  isplitl [Ht]; · iexact Ht
  isplitl [H0]; · iexact H0
  isplitl [H1]; · iexact H1
  isplitl [Hv]; · iexact Hv
  unfold owing
  iexact HO

end Cert.GatherProof

end
-- ==== Proof.GatherTile.lean ====
/-
  One vector subcore's whole body: the table is fetched into its scratch, then its five units run. It
  starts with a share of the words and of the table and with its own elements of the result; it ends
  with the same, the elements being those of `G`.
-/
module

public import proofs.«01_k».proof.Proof.GatherUnit

@[expose] public section

noncomputable section

namespace Cert.GatherProof

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

variable (d : Dev nD) (L : grid0.Coords) (ws : S10240x278.Idx → BitVec 32) (tab : S36864.Idx → BitVec 32)
  (fo : S80x40x5x8x128.Idx → BitVec 32) (qw qt : PosShare TreeShare)

/-! ## The subcore's own semaphores and scratch buffers -/

abbrev cellA : GSem nD τ sig := (thr d L, .dma cc0_scoped0.sem)
abbrev cellB : GSem nD τ sig := (thr d L, .dma cc0_scoped1.sem)
abbrev cellC : GSem nD τ sig := (thr d L, .dma (osem 0))
abbrev cellD : GSem nD τ sig := (thr d L, .dma (osem 1))

theorem ownSems0_V :
    (ownSems0 (V d (cV L) (jV L)) : sProp 𝕄)
      = iprop(semVal (cellA d L) 0 ∗ semVal (cellB d L) 0 ∗ semVal (cellC d L) 0 ∗ semVal (cellD d L) 0
          ∗ bigSep (((((ownCells (V d (cV L) (jV L))).erase (cellA d L)).erase (cellB d L)).erase (cellC d L)).erase (cellD d L))
              fun g => semVal g 0) := by
  have mA : cellA d L ∈ ownCells (V d (cV L) (jV L)) := mem_ownCells.mpr ⟨rfl, by
    show (SemLoc.dma cc0_scoped0.sem : SemLoc sig).isScoped .scVector = true; decide⟩
  have mB : cellB d L ∈ ownCells (V d (cV L) (jV L)) := mem_ownCells.mpr ⟨rfl, by
    show (SemLoc.dma cc0_scoped1.sem : SemLoc sig).isScoped .scVector = true; decide⟩
  have mC : cellC d L ∈ ownCells (V d (cV L) (jV L)) := mem_ownCells.mpr ⟨rfl, by
    show (SemLoc.dma (osem 0) : SemLoc sig).isScoped .scVector = true; decide⟩
  have mD : cellD d L ∈ ownCells (V d (cV L) (jV L)) := mem_ownCells.mpr ⟨rfl, by
    show (SemLoc.dma (osem 1) : SemLoc sig).isScoped .scVector = true; decide⟩
  have ne {a b : DmaSem sig} (h : a ≠ b) : ((thr d L, SemLoc.dma a) : GSem nD τ sig) ≠ (thr d L, SemLoc.dma b) :=
    fun e => h (SemLoc.dma.inj (Prod.mk.inj e).2)
  unfold SparseCore.Cfg.ownSems0
  rw [SparseCore.bigSep_erase' mA,
    SparseCore.bigSep_erase' (Finset.mem_erase.mpr ⟨ne (by decide), mB⟩),
    SparseCore.bigSep_erase' (Finset.mem_erase.mpr ⟨ne (by decide), Finset.mem_erase.mpr ⟨ne (by decide), mC⟩⟩),
    SparseCore.bigSep_erase' (Finset.mem_erase.mpr ⟨ne (by decide), Finset.mem_erase.mpr ⟨ne (by decide), Finset.mem_erase.mpr ⟨ne (by decide), mD⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

theorem slots_split (f : S2x5x8x128.Idx → BitVec 32) : (sO.view.loc (thr d L) ↦{fullShare} f : sProp 𝕄) ⊢ iprop(halfPts d L 0 ∗ halfPts d L 1) := by
  unfold halfPts
  have h : (sO.view.loc (thr d L) ↦[slotSet 0 ∪ slotSet 1]{fullShare} f : sProp (MM F))
      ⊢ iprop((sO.view.loc (thr d L) ↦[slotSet 0]{fullShare} f) ∗ (sO.view.loc (thr d L) ↦[slotSet 1]{fullShare} f)) :=
    (pointsTo_union (slot_disjoint 0 1 (by decide))).1
  rw [slot_cover] at h
  refine h.trans ?_
  iintro ⟨H0, H1⟩
  isplitl [H0]; · iexists f; iexact H0
  iexists f; iexact H1

theorem slots_join : iprop(halfPts d L 0 ∗ halfPts d L 1) ⊢ (iprop(∃ f, (V d (cV L) (jV L)).loc cc0_scratch2 ↦{fullShare} f) : sProp 𝕄) := by
  unfold halfPts
  iintro ⟨⟨%f, H0⟩, ⟨%g, H1⟩⟩
  have h : iprop((sO.view.loc (thr d L) ↦[slotSet 0]{fullShare} f) ∗ (sO.view.loc (thr d L) ↦[slotSet 1]{fullShare} g))
      ⊢ (sO.view.loc (thr d L) ↦[slotSet 0 ∪ slotSet 1]{fullShare} (slotSet 1).piecewise g f : sProp (MM F)) :=
    pointsTo_join (slot_disjoint 0 1 (by decide))
  rw [slot_cover] at h
  ihave H := h $$ [H0 H1]
  · isplitl [H0]; · iexact H0
    iexact H1
  iexists _; iexact H

theorem table_lands (f g : S36864.Idx → BitVec 32) :
    sT.view.write (Elt F) f (ReadAs.same.apply (tV.view.read (Elt F) g)) Finset.univ = g :=
  by
  rw [show ReadAs.same.apply (tV.view.read (Elt F) g) = tV.view.read (Elt F) g from rfl]
  simp only [Memref.view_whole]
  exact (View.write_whole_univ _ _ _).trans (View.read_whole _ _)

/-! ## The body -/

variable (O : CellTallies nD τ sig (HIx 1)) (W : Waits sig (HIx 1))

theorem unit_loop {α : Type} {Q : α → sProp (MM F)} (hok : k0_t1_loop.OK) {kk : Unit → Prog (TpuEff nD τ sig (Elt F) Λ₀ (thr d L).2) α} :
    UnitInv (F := F) d L ws tab fo qw O W 0
      ⊢ iprop((∀ acc, UnitInv (F := F) d L ws tab fo qw O W 5 -∗ wp frame (wpE (defs₀ (F := F)) 𝒱₀ (thr d L) none) Set.univ (kk acc) Q)
        -∗ wp frame (wpE (defs₀ (F := F)) 𝒱₀ (thr d L) none) Set.univ
          (Scf.Loop.for k0_t1_loop hok ⟨⟩ (k0_t1_body (F := F) L wV (Memref.isWhole_whole _) tV (Memref.isWhole_whole _) oV (Memref.isWhole_whole _) sT (Memref.isWhole_whole _)
        sW (Memref.isWhole_whole _) sO (Memref.isWhole_whole _) cc0_scratch3 cc0_scoped0 cc0_scoped1 (wkOf L) lanes) >>= kk) Q) := by
  have h := Scf.wp_for_bind frame (wpE (defs₀ (F := F)) 𝒱₀ (thr d L) none) Set.univ k0_t1_loop.lb k0_t1_loop.ub k0_t1_loop.st hok ()
    (k0_t1_body (F := F) L wV (Memref.isWhole_whole _) tV (Memref.isWhole_whole _) oV (Memref.isWhole_whole _) sT (Memref.isWhole_whole _)
        sW (Memref.isWhole_whole _) sO (Memref.isWhole_whole _) cc0_scratch3 cc0_scoped0 cc0_scoped1 (wkOf L) lanes)
    (fun u _ => UnitInv (F := F) d L ws tab fo qw O W u)
    (fun u _ => unit_body d L ws tab fo qw O W u) (kk := kk) (Q := Q)
  have e : UnitInv (F := F) d L ws tab fo qw O W (Scf.trips k0_t1_loop.lb k0_t1_loop.ub k0_t1_loop.st) = UnitInv d L ws tab fo qw O W 5 :=
    congrArg (fun n => UnitInv (F := F) d L ws tab fo qw O W n) (show k0_t1_loop.trips = 5 by decide)
  beta_reduce at h
  rw [e] at h
  exact h

set_option maxHeartbeats 1000000 in
theorem tile_body (hF : (K (F := F)).Facts) (hO : ∀ g, O g none = 0) :
    iprop((levAts (K (F := F)).L (K (F := F)).lev : sProp 𝕄) ∗ (iprop(emp) : sProp 𝕄)
        ∗ ((wLoc d ↦{qw} ws) ∗ (tLoc d ↦{qt} tab) ∗ (oLoc d ↦[tileSet (wk L)]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_vptq_sc_gather (F := F) L wV (Memref.isWhole_whole _) tV (Memref.isWhole_whole _) oV (Memref.isWhole_whole _)
            sT (Memref.isWhole_whole _) sW (Memref.isWhole_whole _) sO (Memref.isWhole_whole _) cc0_scratch3 cc0_scoped0 cc0_scoped1)
          fun _ => iprop(((wLoc d ↦{qw} ws) ∗ (tLoc d ↦{qt} tab) ∗ (oLoc d ↦[tileSet (wk L)]{fullShare} G ws tab))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_vptq_sc_gather_eq_skeleton]; unfold cc0_vptq_sc_gather_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨Hlv, -, ⟨Hw, Ht, Ho⟩, ⟨⟨%fT, HT⟩, ⟨%fW, HW⟩, ⟨%fO, HO2⟩, Hbufs⟩, ⟨HA, HB, HC, HD, Hsems⟩, HO⟩
  ihave #Hm := ((K (F := F)).mayWaits_none (thr := thr d L) hO) $$ Hlv
  -- the table
  iapply (Transfers.wp_dmaLocal EC 𝒱₀ (thr d L) none (src := tV) (dst := sT) (none : HIx 1) _ rfl (View.amount_pos _ _ (show 0 < S36864.numel by decide))
    (q := qt) (fs := tab) (Sd := Finset.univ) (fd := fT) (Finset.subset_univ _)) $$ [Ht HT HA]
  · isplitl [Ht]
    · iapply (Entails.of_eq (show (tLoc d ↦{qt} tab : sProp 𝕄) = (tV.view.loc (thr d L) ↦[tV.view.set]{qt} tab) by
        simp only [Memref.view_whole, View.set_whole])) $$ Ht
    isplitl [HT]; · iexact HT
    iexact HA
  iintro HF
  iapply (Transfers.wp_waitLocalO EC 𝒱₀ (thr d L) none (none : HIx 1) (dstw := sT) rfl) $$ [HF HO]
  · isplitl [HF]; · iexact HF
    isplitl [HO]; · iexact HO
    iapply (Transfers.MayWaits.elim (SemLoc.dma cc0_scoped0.sem)) $$ Hm
  iintro ⟨⟨HT, Ht⟩, HA, HO⟩
  ihave Ht := (Entails.of_eq (show (tV.view.loc (thr d L) ↦[tV.view.set]{qt} tab : sProp 𝕄) = (tLoc d ↦{qt} tab) by
        simp only [Memref.view_whole, View.set_whole])) $$ Ht
  rw [table_lands]
  ihave Hh := (slots_split (F := F) d L fO) $$ HO2
  icases Hh with ⟨Hh0, Hh1⟩
  ihave HU := (show iprop(Transfers.MayWaits (thr d L) (none : HIx 1) O
    ∗ (wV.view.loc (thr d L) ↦{qw} ws) ∗ (sT.view.loc (thr d L) ↦{fullShare} tab) ∗ (∃ fw, sW.view.loc (thr d L) ↦{fullShare} fw)
    ∗ donePts d L ws tab (20 * 0) ∗ todoPts d L fo (20 * 0)
    ∗ slotRes d L ws tab 0 none ∗ slotRes d L ws tab 1 none
    ∗ semVal (thr d L, SemLoc.dma cc0_scoped1.sem) 0
    ∗ owing d L O W) ⊢ UnitInv (F := F) d L ws tab fo qw O W 0 from BI.Entails.refl _) $$ [Hw HT HW Ho Hh0 Hh1 HB HC HD HO]
  · isplitr; · iexact Hm
    isplitl [Hw]; · iexact Hw
    isplitl [HT]; · iexact HT
    isplitl [HW]; · iexists fW; iexact HW
    isplitr
    · unfold donePts; rw [done_zero, pointsTo_empty]; iempintro
    isplitl [Ho]
    · unfold todoPts; rw [todo_zero]; iexact Ho
    rw [slotRes_none, slotRes_none]
    isplitl [HC Hh0]
    · isplitl [HC]; · iexact HC
      iexact Hh0
    isplitl [HD Hh1]
    · isplitl [HD]; · iexact HD
      iexact Hh1
    isplitl [HB]; · iexact HB
    unfold owing
    iexists (insert (SemLoc.dma cc0_scoped0.sem, (none : HIx 1)) W); isplitr
    · ipureintro; exact owing_insert W _ (fun p hp => .inl hp)
    · iexact HO
  iapply (unit_loop (F := F) d L ws tab fo qw O W _) $$ HU
  iintro %_ HU
  unfold UnitInv
  rw [slotRes_none, slotRes_none]
  icases HU with ⟨-, Hw, HT, HW, Hd, -, ⟨HC, Hh0⟩, ⟨HD, Hh1⟩, HB, HO⟩
  ihave HO2 := (slots_join (F := F) d L) $$ [Hh0 Hh1]
  · isplitl [Hh0]; · iexact Hh0
    iexact Hh1
  rw [wp_ret]; imodintro
  isplitl [Hw Ht Hd]
  · isplitl [Hw]; · iexact Hw
    isplitl [Ht]; · iexact Ht
    unfold donePts
    rw [show 20 * 5 = 100 from rfl, done_all]
    iexact Hd
  isplitl [HT HW HO2 Hbufs]
  · isplitl [HT]; · iexists _; iexact HT
    isplitl [HW]; · iexact HW
    isplitl [HO2]; · iexact HO2
    iexact Hbufs
  isplitl [HA HB HC HD Hsems]
  · isplitl [HA]; · iexact HA
    isplitl [HB]; · iexact HB
    isplitl [HC]; · iexact HC
    isplitl [HD]; · iexact HD
    iexact Hsems
  unfold owing
  iexact HO

end Cert.GatherProof

end
-- ==== Proof.GatherTable.lean ====
/-
  The table that the host makes of the two codebooks' words: word `p` of every entry in plane `p`, the main entries
  first.
-/
module

public import proofs.«01_k».proof.Proof.GatherBase
public import Idealize.ShloMosaic.Lib.Pipeline.ValueKit
public import Idealize.ShloMosaic.Lib.KernelVsHost

@[expose] public section

noncomputable section

namespace Cert.GatherProof

open Cert.Gather Cert.Gather.Gen
open Idealize.ShloMosaic

/-- The main codebook's words and the outliers' below them, transposed, as one row. -/
def table (a : S8192x4.Idx → BitVec 32) (b : S1024x4.Idx → BitVec 32) : S36864.Idx → BitVec 32 :=
  shapeCast S36864 (transpose S4x9216 [1, 0]
    (concatenate S9216x4 0 [⟨S8192x4, a⟩, ⟨S1024x4, b⟩] concatenates_S8192x4_S1024x4_S9216x4_d0) transposes_S9216x4_S4x9216_1_0)
    shapeCasts_S4x9216_S36864

/-- An element of the table is word `p` of entry `r` of the two codebooks together. -/
theorem table_at (a : S8192x4.Idx → BitVec 32) (b : S1024x4.Idx → BitVec 32) (p r : Nat) (hp : p < 4) (hr : r < 9216) :
    tabAt (table a b) (9216 * p + r)
      = concatenate S9216x4 0 [⟨S8192x4, a⟩, ⟨S1024x4, b⟩] concatenates_S8192x4_S1024x4_S9216x4_d0 (fun | 0 => ⟨r, hr⟩ | 1 => ⟨p, hp⟩) := by
  unfold tabAt table
  rw [dif_pos (show 9216 * p + r < 36864 by omega)]
  generalize concatenate S9216x4 0 [⟨S8192x4, a⟩, ⟨S1024x4, b⟩] concatenates_S8192x4_S1024x4_S9216x4_d0 = y
  refine (shapeCast_apply _ shapeCasts_S4x9216_S36864 _ (fun | 0 => ⟨p, hp⟩ | 1 => ⟨r, hr⟩) ?_).trans ?_
  · rewrite [Shape.rowMajor_val_two, Shape.rowMajor_val_one]
    show p * 9216 + r = 9216 * p + r
    omega
  · exact transpose_apply [1, 0] y transposes_S9216x4_S4x9216_1_0 _ _ (fun c => match c with
      | ⟨0, _⟩ => rfl
      | ⟨1, _⟩ => rfl)

/-- A main entry's word. -/
theorem table_main (a : S8192x4.Idx → BitVec 32) (b : S1024x4.Idx → BitVec 32) (p r : Nat) (hp : p < 4) (hr : r < 8192) :
    tabAt (table a b) (9216 * p + r) = a (fun | 0 => ⟨r, hr⟩ | 1 => ⟨p, hp⟩) := by
  rw [table_at a b p r hp (by omega)]
  exact concatenate_pair_apply_left (t := S9216x4) (s₁ := S8192x4) (s₂ := S1024x4) 0 a b _ _ rfl
    (fun | 0 => ⟨r, hr⟩ | 1 => ⟨p, hp⟩) (fun c => match c with
      | ⟨0, _⟩ => rfl
      | ⟨1, _⟩ => rfl)

/-- An outlier entry's word. -/
theorem table_outlier (a : S8192x4.Idx → BitVec 32) (b : S1024x4.Idx → BitVec 32) (p r : Nat) (hp : p < 4) (hr : r < 1024) :
    tabAt (table a b) (9216 * p + (r + 8192)) = b (fun | 0 => ⟨r, hr⟩ | 1 => ⟨p, hp⟩) := by
  rw [table_at a b p (r + 8192) hp (by omega)]
  exact concatenate_pair_apply_right (t := S9216x4) (s₁ := S8192x4) (s₂ := S1024x4) 0 a b _ _ rfl rfl
    (fun | 0 => ⟨r, hr⟩ | 1 => ⟨p, hp⟩) (fun c hc => match c, hc with
      | ⟨0, _⟩, hc => absurd rfl hc
      | ⟨1, _⟩, _ => rfl) (by show r + 8192 = r + 8192; rfl)

end Cert.GatherProof

end
-- ==== Proof.GatherLaunch.lean ====
/-
  The gather program's launch: the host makes the table of the two codebooks' words; the packed words and the table
  are lent in shares, first to the two SparseCores, then to the sixteen subcores of each; the result is dealt by the
  subcores' elements. At the end the result is `G` of the packed words and the table, and every argument is as it was.
-/
module

public import proofs.«01_k».proof.Proof.GatherTile
public import proofs.«01_k».proof.Proof.GatherTable
public import Idealize.ShloMosaic.Lib.StableHlo.Run

@[expose] public section

noncomputable section

namespace Cert.GatherProof

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MM F

variable (m : (ℓ : Loc nD τ sig) → Buf (Elt F) ℓ) (ρ : Dev nD → PrngReg)

/-! ## What the call hands out -/

/-- A core's share of an argument, and a subcore's. -/
def coreShare (c : Fin 2) : PosShare TreeShare := Transfers.dealOf fullShare Finset.univ c
def tileShare (c : Fin 2) (i : Fin 16) : PosShare TreeShare := Transfers.dealOf (coreShare c) Finset.univ i

/-- The two codebooks' words, as the host names them. -/
abbrev aLoc (d : Dev nD) : Loc nD τ sig := (SparseCore.T d).loc main_arg1
abbrev bLoc (d : Dev nD) : Loc nD τ sig := (SparseCore.T d).loc main_arg2

/-- The table of the launch memory's codebooks. -/
def Tm (d : Dev nD) : Buf (Elt F) (tLoc d) := table (m (aLoc d)) (m (bLoc d))

/-- The result, of the packed words of the launch memory and the table. -/
def Gm (d : Dev nD) : Buf (Elt F) (oLoc d) := G (m (wLoc d)) (Tm m d)

def allPts (d : Dev nD) (f : Buf (Elt F) (oLoc d)) : sProp 𝕄 :=
  iprop((wLoc d ↦{fullShare} m (wLoc d)) ∗ (tLoc d ↦{fullShare} Tm m d) ∗ (oLoc d ↦{fullShare} f))
def corePts (d : Dev nD) (c : Fin 2) (f : Buf (Elt F) (oLoc d)) : sProp 𝕄 :=
  iprop((wLoc d ↦{coreShare c} m (wLoc d)) ∗ (tLoc d ↦{coreShare c} Tm m d) ∗ (oLoc d ↦[coreSet c.val]{fullShare} f))
def tilePts (d : Dev nD) (c : Fin 2) (i : Fin 16) (f : Buf (Elt F) (oLoc d)) : sProp 𝕄 :=
  iprop((wLoc d ↦{tileShare c i} m (wLoc d)) ∗ (tLoc d ↦{tileShare c i} Tm m d) ∗ (oLoc d ↦[tileSet (2 * i.val + c.val)]{fullShare} f))

theorem all_cores (d : Dev nD) (f : Buf (Elt F) (oLoc d)) : allPts m d f = bigSep Finset.univ fun c : Fin 2 => corePts m d c f := by
  unfold allPts corePts
  rw [bigSep_sep', bigSep_sep']
  unfold coreShare
  rw [← Transfers.pointsTo_deal Finset.univ ⟨0, Finset.mem_univ _⟩ fullShare, ← Transfers.pointsTo_deal Finset.univ ⟨0, Finset.mem_univ _⟩ fullShare,
    ← pointsTo_biUnion Finset.univ (ℓ := oLoc d) (fun c : Fin 2 => coreSet c.val) (fun a _ b _ h => coreSet_disjoint a b h), coreSet_cover]

theorem core_tiles (d : Dev nD) (c : Fin 2) (f : Buf (Elt F) (oLoc d)) : corePts m d c f = bigSep Finset.univ fun i : Fin 16 => tilePts m d c i f := by
  unfold corePts tilePts
  rw [bigSep_sep', bigSep_sep']
  unfold tileShare
  rw [← Transfers.pointsTo_deal Finset.univ ⟨0, Finset.mem_univ _⟩ (coreShare c), ← Transfers.pointsTo_deal Finset.univ ⟨0, Finset.mem_univ _⟩ (coreShare c),
    ← pointsTo_biUnion Finset.univ (ℓ := oLoc d) (fun i : Fin 16 => tileSet (2 * i.val + c.val)) (fun a _ b _ h => tileSet_disjoint c.val a b h),
    tileSet_cover c.val c.isLt]

instance corePts_storable (d : Dev nD) (c : Fin 2) (f : Buf (Elt F) (oLoc d)) : BI.Storable (upEmb : UEmb _ 𝕄) (corePts m d c f) := by
  unfold corePts; infer_instance
instance tilePts_storable (d : Dev nD) (c : Fin 2) (i : Fin 16) (f : Buf (Elt F) (oLoc d)) : BI.Storable (upEmb : UEmb _ 𝕄) (tilePts m d c i f) := by
  unfold tilePts; infer_instance

def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (Gm m d)
  go := fun q d c i => match q with | 0 => tilePts m d (Fin.cast nCore_zero c) (Fin.cast nSub_zero i) (m (oLoc d))
  td := fun q d c i => match q with | 0 => tilePts m d (Fin.cast nCore_zero c) (Fin.cast nSub_zero i) (Gm m d)
  x := fun _ _ => iprop(emp)

instance P_storable : (P (F := F) m).IsStorable where
  st q d c := match q with | 0 => (inferInstance : BI.Storable (upEmb : UEmb _ 𝕄) (corePts m d (Fin.cast nCore_zero c) (m (oLoc d))))
  dn q d c := match q with | 0 => (inferInstance : BI.Storable (upEmb : UEmb _ 𝕄) (corePts m d (Fin.cast nCore_zero c) (Gm m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (Gm m d)))

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_vptq_sc_gather (coordsV c s)
          wV (Memref.isWhole_whole _) tV (Memref.isWhole_whole _) oV (Memref.isWhole_whole _)
          sT (Memref.isWhole_whole _) sW (Memref.isWhole_whole _) sO (Memref.isWhole_whole _) cc0_scratch3 cc0_scoped0 cc0_scoped1) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (m (wLoc d)) (Tm m d) (m (oLoc d)) (tileShare (Fin.cast nCore_zero c) (Fin.cast nSub_zero i))
    (tileShare (Fin.cast nCore_zero c) (Fin.cast nSub_zero i)) O W hF hO).trans (wp_mono frame _ _ fun _ => obl_post)

theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)
theorem bigSep_coresP (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (Gm m d))
          -∗ corePts m d (Fin.cast nCore_zero c) (Gm m d)))
  rw [bigSep_tasks (F := F) (fun i => tilePts m d (Fin.cast nCore_zero c) i (m (oLoc d))),
    bigSep_tasks (F := F) (fun i => tilePts m d (Fin.cast nCore_zero c) i (Gm m d)), ← core_tiles, ← core_tiles]
  iintro H; imodintro
  isplitl [H]; · iexact H
  iintro H
  iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp (MM F)) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore: the table, then the one call -/

abbrev w' : DevRef τ sig := Proc.devRef .tc (main_arg0 : Ref sig .tc)
abbrev a' : DevRef τ sig := Proc.devRef .tc (main_arg1 : Ref sig .tc)
abbrev b' : DevRef τ sig := Proc.devRef .tc (main_arg2 : Ref sig .tc)
abbrev c' : DevRef τ sig := Proc.devRef .tc (main_v0 : Ref sig .tc)
abbrev r' : DevRef τ sig := Proc.devRef .tc (main_v1 : Ref sig .tc)
abbrev t' : DevRef τ sig := Proc.devRef .tc (main_v2 : Ref sig .tc)
abbrev o' : DevRef τ sig := Proc.devRef .tc (main_v3 : Ref sig .tc)

abbrev opCat : HloOp τ sig (Elt F) := StableHlo.binary main_arg1 main_arg2 main_v0
  ((fun a b => concatenate S9216x4 0 [⟨S8192x4, a⟩, ⟨S1024x4, b⟩] concatenates_S8192x4_S1024x4_S9216x4_d0) :
    (⟨S8192x4, .i32⟩ : BufTy).Contents (Elt F) → (⟨S1024x4, .i32⟩ : BufTy).Contents (Elt F) → (⟨S9216x4, .i32⟩ : BufTy).Contents (Elt F))
abbrev opTr : HloOp τ sig (Elt F) := StableHlo.unary main_v0 main_v1
  ((transpose S4x9216 [1, 0] · transposes_S9216x4_S4x9216_1_0) : (⟨S9216x4, .i32⟩ : BufTy).Contents (Elt F) → (⟨S4x9216, .i32⟩ : BufTy).Contents (Elt F))
abbrev opRow : HloOp τ sig (Elt F) := StableHlo.reshape main_v1 main_v2 (rfl : (.i32 : EltTy) = .i32) shapeCasts_S4x9216_S36864

/-- The TensorCore's arrays, all unscoped. -/
abbrev S7 : Finset (DevRef τ sig) := {w', a', b', c', r', t', o'}

theorem hCat : (opCat (F := F)).bufs ⊆ S7 := show ({a', b', c'} : Finset (DevRef τ sig)) ⊆ S7 by decide
theorem hTr : (opTr (F := F)).bufs ⊆ S7 := show ({c', r'} : Finset (DevRef τ sig)) ⊆ S7 by decide
theorem hRow : (opRow (F := F)).bufs ⊆ S7 := show ({r', t'} : Finset (DevRef τ sig)) ⊆ S7 by decide

theorem held_S7 (d : Dev nD) (W : Valuation τ sig (Elt F)) :
    (held (SparseCore.T d) S7 W : sProp 𝕄)
      = iprop((wLoc d ↦{fullShare} W w') ∗ (aLoc d ↦{fullShare} W a') ∗ (bLoc d ↦{fullShare} W b')
          ∗ ((SparseCore.T d).loc main_v0 ↦{fullShare} W c') ∗ ((SparseCore.T d).loc main_v1 ↦{fullShare} W r')
          ∗ (tLoc d ↦{fullShare} W t') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((wLoc d ↦{fullShare} W main_arg0) ∗ (aLoc d ↦{fullShare} W main_arg1) ∗ (bLoc d ↦{fullShare} W main_arg2)
          ∗ ((SparseCore.T d).loc main_v0 ↦{fullShare} W main_v0) ∗ ((SparseCore.T d).loc main_v1 ↦{fullShare} W main_v1)
          ∗ (tLoc d ↦{fullShare} W main_v2) ∗ (oLoc d ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the one before the call: the three operations' results. -/
def V0 (d : Dev nD) : Valuation τ sig (Elt F) := fun b => m (d, b)
def V3 (d : Dev nD) : Valuation τ sig (Elt F) := (opRow (F := F)).result ((opTr (F := F)).result ((opCat (F := F)).result (V0 m d)))

theorem unscoped_held (d : Dev nD) : (unscopedBufs d (fun b => m ((SparseCore.T d).loc b)) : sProp 𝕄) = held (SparseCore.T d) S7 (V0 m d) := by
  rw [unscopedBufs_eq, held_S7]; rfl

/-- An array that no operation writes is as it was. -/
theorem V3_of_ne (d : Dev nD) (x : DevRef τ sig) (hc : x ≠ c') (hr : x ≠ r') (ht : x ≠ t') : V3 m d x = V0 m d x := by
  unfold V3
  rw [(opRow (F := F)).result_of_not_mem _ (show x ∉ ({t'} : Finset (DevRef τ sig)) from fun h => ht (Finset.mem_singleton.mp h)),
    (opTr (F := F)).result_of_not_mem _ (show x ∉ ({r'} : Finset (DevRef τ sig)) from fun h => hr (Finset.mem_singleton.mp h)),
    (opCat (F := F)).result_of_not_mem _ (show x ∉ ({c'} : Finset (DevRef τ sig)) from fun h => hc (Finset.mem_singleton.mp h))]

/-- The table's array holds the table. -/
theorem V3_t (d : Dev nD) : V3 m d t' = Tm m d := by
  unfold V3
  refine (StableHlo.reshape_result _ _ _ _ _ _ _).trans ?_
  rw [show (opTr (F := F)).result ((opCat (F := F)).result (V0 m d)) r' = _ from StableHlo.unary_result _ _ _ _ _ _,
    show (opCat (F := F)).result (V0 m d) c' = _ from StableHlo.binary_result _ _ _ _ _ _ _ _]
  rfl

/-- The arrays before the call. -/
theorem held_V3 (d : Dev nD) :
    (held (SparseCore.T d) S7 ((opRow (F := F)).result ((opTr (F := F)).result ((opCat (F := F)).result (V0 m d)))) : sProp 𝕄)
      = iprop((wLoc d ↦{fullShare} m (wLoc d)) ∗ (aLoc d ↦{fullShare} m (aLoc d)) ∗ (bLoc d ↦{fullShare} m (bLoc d))
          ∗ ((SparseCore.T d).loc main_v0 ↦{fullShare} V3 m d c') ∗ ((SparseCore.T d).loc main_v1 ↦{fullShare} V3 m d r')
          ∗ (tLoc d ↦{fullShare} Tm m d) ∗ (oLoc d ↦{fullShare} m (oLoc d))) := by
  show held (SparseCore.T d) S7 (V3 m d) = _
  rw [held_S7, V3_t, V3_of_ne m d w' (by decide) (by decide) (by decide), V3_of_ne m d a' (by decide) (by decide) (by decide),
    V3_of_ne m d b' (by decide) (by decide) (by decide), V3_of_ne m d o' (by decide) (by decide) (by decide)]
  rfl

theorem st0_eq (d : Dev nD) : (bigSep Finset.univ fun c : Fin ((K (F := F)).nCore 0) => (P m).st 0 d c) = allPts m d (m (oLoc d)) := by
  rw [all_cores]
  exact bigSep_coresP (F := F) (fun c => corePts m d c (m (oLoc d)))
theorem dn0_eq (d : Dev nD) : (bigSep Finset.univ fun c : Fin ((K (F := F)).nCore 0) => (P m).dn 0 d c) = allPts m d (Gm m d) := by
  rw [all_cores]
  exact bigSep_coresP (F := F) (fun c => corePts m d c (Gm m d))

/-- What is left at the end: the packed words, the table and the result, and the codebooks. -/
abbrev FIN (d : Dev nD) : sProp 𝕄 := iprop(allPts m d (Gm m d) ∗ (aLoc d ↦{fullShare} m (aLoc d)) ∗ (bLoc d ↦{fullShare} m (bLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCat) (S := S7) hCat (V := V0 m d)) $$ [Hb Hheld]
  · isplitl [Hb] <;> iassumption
  iintro ⟨Hb, Hheld⟩
  rw [wp_ret]; imodintro
  iapply (wp_hlo_within 𝒱 (SparseCore.T d) none Set.univ (op := opTr) (S := S7) hTr (V := (opCat (F := F)).result (V0 m d))) $$ [Hb Hheld]
  · isplitl [Hb] <;> iassumption
  iintro ⟨Hb, Hheld⟩
  rw [wp_ret]; imodintro
  iapply (wp_hlo_within 𝒱 (SparseCore.T d) none Set.univ (op := opRow) (S := S7) hRow
    (V := (opTr (F := F)).result ((opCat (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨Hw, Ha, Hc, -, -, Ht, Ho⟩
  iapply ((K (F := F)).wp_run (D (F := F)) 𝒱 (EH := EH) (P := P m) κ d 0) $$ [Hst Hw Ha Hc Ht Ho Hb Hts]
  isplitr; · iexact Hctx
  isplitl [Hst]; · iexact Hst
  isplitl [Hw Ht Ho]
  · rw [st0_eq]
    unfold allPts
    isplitl [Hw]; · iexact Hw
    isplitl [Ht] <;> iassumption
  iintro ⟨Hst, Hdn⟩
  ihave Hdn' := (Entails.of_eq (dn0_eq m d)) $$ Hdn
  imodintro
  isplitl [Hst]; · iexact Hst
  isplitl [Hdn' Ha Hc]
  · isplitl [Hdn']; · iexact Hdn'
    isplitl [Ha] <;> iassumption
  isplitl [Hb] <;> iassumption

def fq (d : Dev nD) (s' : Phys nD τ sig (Elt F)) : Prop :=
  s'.mem.mem (oLoc d) = Gm m d ∧ s'.mem.mem (wLoc d) = m (wLoc d) ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  unfold FIN allPts
  iintro ⟨⟨⟨Hw, -, Ho⟩, Ha, Hc⟩, HSI⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hc]
  · isplitl [HSI] <;> iassumption
  icases H with ⟨%hb, HSI, -⟩
  ihave H := (SI_pointsTo_agree (st := s') (ℓ := oLoc d) (I := Finset.univ) (q := fullShare) (f := Gm m d)) $$ [HSI Ho]
  · isplitl [HSI] <;> iassumption
  icases H with %ho
  ipureintro
  exact ⟨funext fun i => ho i (Finset.mem_univ i), funext fun i => hw i (Finset.mem_univ i), funext fun i => ha i (Finset.mem_univ i),
    funext fun i => hb i (Finset.mem_univ i)⟩

/-! ## The program's run -/

def QC : PUnit × MemSt nD τ sig (Elt F) → Prop := fun r =>
  (∀ c : Dev nD, r.2.mem (oLoc c) = Gm m c ∧ r.2.mem (wLoc c) = m (wLoc c) ∧ r.2.mem (aLoc c) = m (aLoc c) ∧ r.2.mem (bLoc c) = m (bLoc c)) ∧ r.2.sem = fun _ => 0

theorem run_main [∀ e, Nonempty (Elt F e)] : θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The gather program terminates, faults nowhere, leaves its arguments unchanged and its semaphores at zero. -/
theorem quiescent : Cert.quiescent_Gather := fun m ρ _ =>
  (θ_run Cert.Gather.defs _ _).mono (fun _ h => ⟨fun c => (h.1 c).2, h.2⟩) (run_main (F := Bits) m ρ)

end Cert.GatherProof

end
-- ==== Proof.GatherBits.lean ====
/-
  Bit fields of a row of packed words: a field read bit by bit, a field of the words moved by one byte, a field of
  the words moved by whole words, and a field split in two.
-/
module

public import proofs.«01_k».proof.Proof.GatherBase

@[expose] public section

namespace Cert.GatherProof

/-- Bit `n` of a row of words. -/
def bitAt (w : Nat → BitVec 32) (n : Nat) : Bool := (w (n / 32)).getLsbD (n % 32)

/-- A mask of the low bits. -/
theorem mask_getLsbD (width i : Nat) (hw : width ≤ 32) : (BitVec.ofNat 32 (2 ^ width - 1)).getLsbD i = decide (i < width) := by
  rw [BitVec.getLsbD_ofNat, Nat.testBit_two_pow_sub_one]
  by_cases h : i < width
  · have : i < 32 := by omega
    simp [h, this]
  · simp [h]

/-- A field, bit by bit. -/
theorem field_getLsbD (w : Nat → BitVec 32) (bit width i : Nat) (hw : width ≤ 32) :
    (field w bit width).getLsbD i = (decide (i < width) && bitAt w (bit + i)) := by
  unfold field bitAt
  rw [BitVec.getLsbD_and, mask_getLsbD _ _ hw, BitVec.getLsbD_or, BitVec.getLsbD_ushiftRight, Bool.and_comm]
  by_cases hi : i < width
  · simp only [hi, decide_true, Bool.true_and]
    by_cases hs : bit % 32 + i < 32
    · have e1 : (bit + i) / 32 = bit / 32 := by omega
      have e2 : (bit + i) % 32 = bit % 32 + i := by omega
      rw [e1, e2]
      split
      · rw [BitVec.getLsbD_shiftLeft]
        have : i < 32 - bit % 32 := by omega
        simp [this]
      · simp
    · have e1 : (bit + i) / 32 = bit / 32 + 1 := by omega
      have e2 : (bit + i) % 32 = i - (32 - bit % 32) := by omega
      rw [e1, e2, if_pos (by omega), BitVec.getLsbD_shiftLeft, BitVec.getLsbD_of_ge _ _ (by omega : 32 ≤ bit % 32 + i)]
      have h1 : i < 32 := by omega
      have h2 : ¬ i < 32 - bit % 32 := by omega
      simp [h1, h2]
  · simp [hi]

/-- Two fields with the same bits are equal. -/
theorem field_congr (w w' : Nat → BitVec 32) (b b' width : Nat) (hw : width ≤ 32)
    (h : ∀ i, i < width → bitAt w (b + i) = bitAt w' (b' + i)) : field w b width = field w' b' width := by
  refine BitVec.eq_of_getLsbD_eq fun i _ => ?_
  rw [field_getLsbD _ _ _ _ hw, field_getLsbD _ _ _ _ hw]
  by_cases hi : i < width
  · rw [h i hi]
  · simp [hi]

/-- The words moved by one byte: word `n` is made of the high three bytes of word `n` and the low byte of the next. -/
def byteMoved (w : Nat → BitVec 32) (n : Nat) : BitVec 32 := w n >>> 8 ||| w (n + 1) <<< 24

/-- Their bits are the words' bits, eight further on. -/
theorem bitAt_byteMoved (w : Nat → BitVec 32) (n : Nat) : bitAt (byteMoved w) n = bitAt w (n + 8) := by
  unfold bitAt byteMoved
  rw [BitVec.getLsbD_or, BitVec.getLsbD_ushiftRight, BitVec.getLsbD_shiftLeft]
  have h1 : n % 32 < 32 := by omega
  by_cases hs : n % 32 < 24
  · have e1 : (n + 8) / 32 = n / 32 := by omega
    have e2 : (n + 8) % 32 = 8 + n % 32 := by omega
    rw [e1, e2]
    simp [hs]
  · have e1 : (n + 8) / 32 = n / 32 + 1 := by omega
    have e2 : (n + 8) % 32 = n % 32 - 24 := by omega
    rw [e1, e2, BitVec.getLsbD_of_ge _ _ (by omega : 32 ≤ 8 + n % 32)]
    simp [h1, hs]

/-- The words moved by `k` whole words. -/
theorem bitAt_add (w : Nat → BitVec 32) (k n : Nat) : bitAt (fun i => w (i + k)) n = bitAt w (n + 32 * k) := by
  unfold bitAt
  have e1 : (n + 32 * k) / 32 = n / 32 + k := by omega
  have e2 : (n + 32 * k) % 32 = n % 32 := by omega
  rw [e1, e2]

/-- A field of fifteen bits from its low nine and its high six. -/
theorem field_split (w : Nat → BitVec 32) (b : Nat) : field w b 15 = field w b 9 + 512#32 * field w (b + 9) 6 := by
  have hm : 512#32 * field w (b + 9) 6 = field w (b + 9) 6 <<< 9 := by
    rw [BitVec.shiftLeft_eq_mul_twoPow, BitVec.mul_comm]
    rfl
  rw [hm, BitVec.add_eq_or_of_and_eq_zero]
  · refine BitVec.eq_of_getLsbD_eq fun i hi => ?_
    rw [BitVec.getLsbD_or, BitVec.getLsbD_shiftLeft, field_getLsbD _ _ _ _ (by decide), field_getLsbD _ _ _ _ (by decide),
      field_getLsbD _ _ _ _ (by decide)]
    by_cases h9 : i < 9
    · have : i < 15 := by omega
      simp [h9, this]
    · by_cases h15 : i < 15
      · have e : b + 9 + (i - 9) = b + i := by omega
        have h6 : i - 9 < 6 := by omega
        simp [h9, h15, hi, e, h6]
      · have h6 : ¬ i - 9 < 6 := by omega
        simp [h9, h15, h6]
  · refine BitVec.eq_of_getLsbD_eq fun i hi => ?_
    rw [BitVec.getLsbD_and, BitVec.getLsbD_shiftLeft, field_getLsbD _ _ _ _ (by decide)]
    by_cases h9 : i < 9
    · simp [h9]
    · simp [h9]

/-- The bound of a field. -/
theorem field_lt (w : Nat → BitVec 32) (b width : Nat) (hw : width ≤ 31) : (field w b width).toNat < 2 ^ width := by
  have hp : 2 ^ width ≤ 2 ^ 31 := Nat.pow_le_pow_right (by decide) hw
  have h0 : 0 < 2 ^ width := Nat.two_pow_pos _
  unfold field
  rw [BitVec.toNat_and]
  refine Nat.lt_of_le_of_lt Nat.and_le_right ?_
  rw [BitVec.toNat_ofNat, Nat.mod_eq_of_lt (by omega)]
  omega

end Cert.GatherProof

end
-- ==== Proof.GatherColumns.lean ====
/-
  The reference of the gather, first part: the packed words as its stages see them. Columns of the words moved by one
  byte, and the three fields of the eight vectors of a group.
-/
module

public import proofs.«01_k».proof.Proof.GatherBits
public import proofs.«01_k».proof.Proof.Gen.GatherReference.Read
public import Idealize.ShloMosaic.Lib.Pipeline.ValueKit

@[expose] public section

noncomputable section

namespace Cert.GatherProof

open Cert.GatherReference Cert.GatherReference.Gen Cert.GatherReference.Read
open Idealize.ShloMosaic Idealize.ShloMosaic.TcCoe Idealize.ShloMosaic.Tactic

/-- The seven words that hold group `u` of row `r`, moved by one byte. -/
def columns (x0 : S10240x278.Idx → BitVec 32) (r u : Nat) : Nat → BitVec 32 :=
  fun k => byteMoved (wordAt x0 r) (7 * u + k + 1)

/-- The padded words: `0` past the end of a row. -/
theorem padded_at (x0 : S10240x278.Idx → BitVec 32) (i : S10240x282.Idx) :
    val_main_v45 (F := Bits) x0 i = wordAt x0 (i 0).val (i 1).val := by
  have h0 : (i 0).val < 10240 := (i 0).isLt
  unfold val_main_v45 wordAt pad
  by_cases h : (i 1).val < 278
  · have hin : ∀ a : Fin 2, (![0, 0] : Fin 2 → Nat) a ≤ (i a).val ∧ ((i a).val - (![0, 0] : Fin 2 → Nat) a) % ((![0, 0] : Fin 2 → Nat) a + 1) = 0
        ∧ ((i a).val - (![0, 0] : Fin 2 → Nat) a) / ((![0, 0] : Fin 2 → Nat) a + 1) < S10240x278.size a := by
      intro a
      match a with
      | ⟨0, _⟩ => show 0 ≤ (i 0).val ∧ ((i 0).val - 0) % (0 + 1) = 0 ∧ ((i 0).val - 0) / (0 + 1) < 10240; omega
      | ⟨1, _⟩ => show 0 ≤ (i 1).val ∧ ((i 1).val - 0) % (0 + 1) = 0 ∧ ((i 1).val - 0) / (0 + 1) < 278; omega
    refine (dif_pos hin).trans ?_
    rw [dif_pos ⟨h0, h⟩, val_main_v0_apply]
    refine congrArg x0 ?_
    funext a
    refine Fin.ext ?_
    match a with
    | ⟨0, _⟩ => show ((i 0).val - 0) / (0 + 1) = (i 0).val; omega
    | ⟨1, _⟩ => show ((i 1).val - 0) / (0 + 1) = (i 1).val; omega
  · rw [dif_neg (fun hh : (i 0).val < 10240 ∧ (i 1).val < 278 => h hh.2)]
    refine (dif_neg fun hh => ?_).trans rfl
    have h1 : ((i 1).val - 0) / (0 + 1) < 278 := (hh (1 : Fin 2)).2.2
    omega

/-- The words moved by one byte. -/
theorem moved_at (x0 : S10240x278.Idx → BitVec 32) (i : S10240x280.Idx) :
    val_main_v52 (F := Bits) x0 i = byteMoved (wordAt x0 (i 0).val) ((i 1).val + 1) := by
  rw [val_main_v52_apply, val_main_v48_apply, val_main_v51_apply, val_main_v46_apply, val_main_v49_apply, padded_at, padded_at,
    val_main_v47_apply, val_main_v50_apply, val_main_c_9_apply, val_main_c_10_apply]
  show (wordAt x0 (i 0).val (1 + (i 1).val) >>> 8 ||| wordAt x0 (i 0).val (2 + (i 1).val) <<< 24 : BitVec 32) = _
  unfold byteMoved
  rw [Nat.add_comm 1, Nat.add_comm 2]

/-! The columns of one word of every group. -/

theorem main_v53_at (x0 : S10240x278.Idx → BitVec 32) (i : S10240x40.Idx) :
    val_main_v53 (F := Bits) x0 i = columns x0 (i 0).val (i 1).val 0 := by
  unfold val_main_v53 Host.slice columns
  rw [moved_at]
  show byteMoved (wordAt x0 (0 + 1 * (i 0).val)) (0 + 7 * (i 1).val + 1) = _
  rw [Nat.zero_add, Nat.one_mul, Nat.add_comm 0]

theorem main_v54_at (x0 : S10240x278.Idx → BitVec 32) (i : S10240x40.Idx) :
    val_main_v54 (F := Bits) x0 i = columns x0 (i 0).val (i 1).val 1 := by
  unfold val_main_v54 Host.slice columns
  rw [moved_at]
  show byteMoved (wordAt x0 (0 + 1 * (i 0).val)) (1 + 7 * (i 1).val + 1) = _
  rw [Nat.zero_add, Nat.one_mul, Nat.add_comm 1]

theorem main_v55_at (x0 : S10240x278.Idx → BitVec 32) (i : S10240x40.Idx) :
    val_main_v55 (F := Bits) x0 i = columns x0 (i 0).val (i 1).val 2 := by
  unfold val_main_v55 Host.slice columns
  rw [moved_at]
  show byteMoved (wordAt x0 (0 + 1 * (i 0).val)) (2 + 7 * (i 1).val + 1) = _
  rw [Nat.zero_add, Nat.one_mul, Nat.add_comm 2]

theorem main_v56_at (x0 : S10240x278.Idx → BitVec 32) (i : S10240x40.Idx) :
    val_main_v56 (F := Bits) x0 i = columns x0 (i 0).val (i 1).val 3 := by
  unfold val_main_v56 Host.slice columns
  rw [moved_at]
  show byteMoved (wordAt x0 (0 + 1 * (i 0).val)) (3 + 7 * (i 1).val + 1) = _
  rw [Nat.zero_add, Nat.one_mul, Nat.add_comm 3]

theorem main_v57_at (x0 : S10240x278.Idx → BitVec 32) (i : S10240x40.Idx) :
    val_main_v57 (F := Bits) x0 i = columns x0 (i 0).val (i 1).val 4 := by
  unfold val_main_v57 Host.slice columns
  rw [moved_at]
  show byteMoved (wordAt x0 (0 + 1 * (i 0).val)) (4 + 7 * (i 1).val + 1) = _
  rw [Nat.zero_add, Nat.one_mul, Nat.add_comm 4]

theorem main_v58_at (x0 : S10240x278.Idx → BitVec 32) (i : S10240x40.Idx) :
    val_main_v58 (F := Bits) x0 i = columns x0 (i 0).val (i 1).val 5 := by
  unfold val_main_v58 Host.slice columns
  rw [moved_at]
  show byteMoved (wordAt x0 (0 + 1 * (i 0).val)) (5 + 7 * (i 1).val + 1) = _
  rw [Nat.zero_add, Nat.one_mul, Nat.add_comm 5]

theorem main_v59_at (x0 : S10240x278.Idx → BitVec 32) (i : S10240x40.Idx) :
    val_main_v59 (F := Bits) x0 i = columns x0 (i 0).val (i 1).val 6 := by
  unfold val_main_v59 Host.slice columns
  rw [moved_at]
  show byteMoved (wordAt x0 (0 + 1 * (i 0).val)) (6 + 7 * (i 1).val + 1) = _
  rw [Nat.zero_add, Nat.one_mul, Nat.add_comm 6]

/-! The three fields of each of the eight vectors of a group: the main code, and the two residual codes. -/

theorem main_v109_at (x0 : S10240x278.Idx → BitVec 32) (i : S10240x40x1.Idx) :
    val_main_v109 (F := Bits) x0 i = field (columns x0 (i 0).val (i 1).val) 0 13 := by
  simp [val_main_v109_apply, val_main_v64_apply, val_main_v63_apply, val_main_v61_apply, val_main_v60_apply, val_main_c_11_apply, val_main_v62_apply, val_main_c_12_apply, main_v53_at, field,
    IntOp.andi, IntOp.ori, IntOp.shrui, IntOp.shli]

theorem main_v110_at (x0 : S10240x278.Idx → BitVec 32) (i : S10240x40x1.Idx) :
    val_main_v110 (F := Bits) x0 i = field (columns x0 (i 0).val (i 1).val) 28 13 := by
  simp [val_main_v110_apply, val_main_v72_apply, val_main_v71_apply, val_main_v69_apply, val_main_v66_apply, val_main_v65_apply, val_main_c_13_apply, val_main_v68_apply, val_main_v67_apply, val_main_c_14_apply, val_main_v70_apply, val_main_c_15_apply, main_v53_at, main_v54_at, field,
    IntOp.andi, IntOp.ori, IntOp.shrui, IntOp.shli]

theorem main_v111_at (x0 : S10240x278.Idx → BitVec 32) (i : S10240x40x1.Idx) :
    val_main_v111 (F := Bits) x0 i = field (columns x0 (i 0).val (i 1).val) 56 13 := by
  simp [val_main_v111_apply, val_main_v80_apply, val_main_v79_apply, val_main_v77_apply, val_main_v74_apply, val_main_v73_apply, val_main_c_16_apply, val_main_v76_apply, val_main_v75_apply, val_main_c_17_apply, val_main_v78_apply, val_main_c_18_apply, main_v54_at, main_v55_at, field,
    IntOp.andi, IntOp.ori, IntOp.shrui, IntOp.shli]

theorem main_v112_at (x0 : S10240x278.Idx → BitVec 32) (i : S10240x40x1.Idx) :
    val_main_v112 (F := Bits) x0 i = field (columns x0 (i 0).val (i 1).val) 84 13 := by
  simp [val_main_v112_apply, val_main_v88_apply, val_main_v87_apply, val_main_v85_apply, val_main_v82_apply, val_main_v81_apply, val_main_c_19_apply, val_main_v84_apply, val_main_v83_apply, val_main_c_20_apply, val_main_v86_apply, val_main_c_21_apply, main_v55_at, main_v56_at, field,
    IntOp.andi, IntOp.ori, IntOp.shrui, IntOp.shli]

theorem main_v113_at (x0 : S10240x278.Idx → BitVec 32) (i : S10240x40x1.Idx) :
    val_main_v113 (F := Bits) x0 i = field (columns x0 (i 0).val (i 1).val) 112 13 := by
  simp [val_main_v113_apply, val_main_v93_apply, val_main_v92_apply, val_main_v90_apply, val_main_v89_apply, val_main_c_22_apply, val_main_v91_apply, val_main_c_23_apply, main_v56_at, field,
    IntOp.andi, IntOp.ori, IntOp.shrui, IntOp.shli]

theorem main_v114_at (x0 : S10240x278.Idx → BitVec 32) (i : S10240x40x1.Idx) :
    val_main_v114 (F := Bits) x0 i = field (columns x0 (i 0).val (i 1).val) 140 13 := by
  simp [val_main_v114_apply, val_main_v98_apply, val_main_v97_apply, val_main_v95_apply, val_main_v94_apply, val_main_c_24_apply, val_main_v96_apply, val_main_c_25_apply, main_v57_at, field,
    IntOp.andi, IntOp.ori, IntOp.shrui, IntOp.shli]

theorem main_v115_at (x0 : S10240x278.Idx → BitVec 32) (i : S10240x40x1.Idx) :
    val_main_v115 (F := Bits) x0 i = field (columns x0 (i 0).val (i 1).val) 168 13 := by
  simp [val_main_v115_apply, val_main_v103_apply, val_main_v102_apply, val_main_v100_apply, val_main_v99_apply, val_main_c_26_apply, val_main_v101_apply, val_main_c_27_apply, main_v58_at, field,
    IntOp.andi, IntOp.ori, IntOp.shrui, IntOp.shli]

theorem main_v116_at (x0 : S10240x278.Idx → BitVec 32) (i : S10240x40x1.Idx) :
    val_main_v116 (F := Bits) x0 i = field (columns x0 (i 0).val (i 1).val) 196 13 := by
  simp [val_main_v116_apply, val_main_v108_apply, val_main_v107_apply, val_main_v105_apply, val_main_v104_apply, val_main_c_28_apply, val_main_v106_apply, val_main_c_29_apply, main_v59_at, field,
    IntOp.andi, IntOp.ori, IntOp.shrui, IntOp.shli]

theorem main_v166_at (x0 : S10240x278.Idx → BitVec 32) (i : S10240x40x1.Idx) :
    val_main_v166 (F := Bits) x0 i = field (columns x0 (i 0).val (i 1).val) 13 9 := by
  simp [val_main_v166_apply, val_main_v124_apply, val_main_v123_apply, val_main_v121_apply, val_main_v120_apply, val_main_c_30_apply, val_main_v122_apply, val_main_c_31_apply, main_v53_at, field,
    IntOp.andi, IntOp.ori, IntOp.shrui, IntOp.shli]

theorem main_v167_at (x0 : S10240x278.Idx → BitVec 32) (i : S10240x40x1.Idx) :
    val_main_v167 (F := Bits) x0 i = field (columns x0 (i 0).val (i 1).val) 41 9 := by
  simp [val_main_v167_apply, val_main_v129_apply, val_main_v128_apply, val_main_v126_apply, val_main_v125_apply, val_main_c_32_apply, val_main_v127_apply, val_main_c_33_apply, main_v54_at, field,
    IntOp.andi, IntOp.ori, IntOp.shrui, IntOp.shli]

theorem main_v168_at (x0 : S10240x278.Idx → BitVec 32) (i : S10240x40x1.Idx) :
    val_main_v168 (F := Bits) x0 i = field (columns x0 (i 0).val (i 1).val) 69 9 := by
  simp [val_main_v168_apply, val_main_v134_apply, val_main_v133_apply, val_main_v131_apply, val_main_v130_apply, val_main_c_34_apply, val_main_v132_apply, val_main_c_35_apply, main_v55_at, field,
    IntOp.andi, IntOp.ori, IntOp.shrui, IntOp.shli]

theorem main_v169_at (x0 : S10240x278.Idx → BitVec 32) (i : S10240x40x1.Idx) :
    val_main_v169 (F := Bits) x0 i = field (columns x0 (i 0).val (i 1).val) 97 9 := by
  simp [val_main_v169_apply, val_main_v139_apply, val_main_v138_apply, val_main_v136_apply, val_main_v135_apply, val_main_c_36_apply, val_main_v137_apply, val_main_c_37_apply, main_v56_at, field,
    IntOp.andi, IntOp.ori, IntOp.shrui, IntOp.shli]

theorem main_v170_at (x0 : S10240x278.Idx → BitVec 32) (i : S10240x40x1.Idx) :
    val_main_v170 (F := Bits) x0 i = field (columns x0 (i 0).val (i 1).val) 125 9 := by
  simp [val_main_v170_apply, val_main_v147_apply, val_main_v146_apply, val_main_v144_apply, val_main_v141_apply, val_main_v140_apply, val_main_c_38_apply, val_main_v143_apply, val_main_v142_apply, val_main_c_39_apply, val_main_v145_apply, val_main_c_40_apply, main_v56_at, main_v57_at, field,
    IntOp.andi, IntOp.ori, IntOp.shrui, IntOp.shli]

theorem main_v171_at (x0 : S10240x278.Idx → BitVec 32) (i : S10240x40x1.Idx) :
    val_main_v171 (F := Bits) x0 i = field (columns x0 (i 0).val (i 1).val) 153 9 := by
  simp [val_main_v171_apply, val_main_v155_apply, val_main_v154_apply, val_main_v152_apply, val_main_v149_apply, val_main_v148_apply, val_main_c_41_apply, val_main_v151_apply, val_main_v150_apply, val_main_c_42_apply, val_main_v153_apply, val_main_c_43_apply, main_v57_at, main_v58_at, field,
    IntOp.andi, IntOp.ori, IntOp.shrui, IntOp.shli]

theorem main_v172_at (x0 : S10240x278.Idx → BitVec 32) (i : S10240x40x1.Idx) :
    val_main_v172 (F := Bits) x0 i = field (columns x0 (i 0).val (i 1).val) 181 9 := by
  simp [val_main_v172_apply, val_main_v160_apply, val_main_v159_apply, val_main_v157_apply, val_main_v156_apply, val_main_c_44_apply, val_main_v158_apply, val_main_c_45_apply, main_v58_at, field,
    IntOp.andi, IntOp.ori, IntOp.shrui, IntOp.shli]

theorem main_v173_at (x0 : S10240x278.Idx → BitVec 32) (i : S10240x40x1.Idx) :
    val_main_v173 (F := Bits) x0 i = field (columns x0 (i 0).val (i 1).val) 209 9 := by
  simp [val_main_v173_apply, val_main_v165_apply, val_main_v164_apply, val_main_v162_apply, val_main_v161_apply, val_main_c_46_apply, val_main_v163_apply, val_main_c_47_apply, main_v59_at, field,
    IntOp.andi, IntOp.ori, IntOp.shrui, IntOp.shli]

theorem main_v220_at (x0 : S10240x278.Idx → BitVec 32) (i : S10240x40x1.Idx) :
    val_main_v220 (F := Bits) x0 i = field (columns x0 (i 0).val (i 1).val) 22 6 := by
  simp [val_main_v220_apply, val_main_v181_apply, val_main_v180_apply, val_main_v178_apply, val_main_v177_apply, val_main_c_48_apply, val_main_v179_apply, val_main_c_49_apply, main_v53_at, field,
    IntOp.andi, IntOp.ori, IntOp.shrui, IntOp.shli]

theorem main_v221_at (x0 : S10240x278.Idx → BitVec 32) (i : S10240x40x1.Idx) :
    val_main_v221 (F := Bits) x0 i = field (columns x0 (i 0).val (i 1).val) 50 6 := by
  simp [val_main_v221_apply, val_main_v186_apply, val_main_v185_apply, val_main_v183_apply, val_main_v182_apply, val_main_c_50_apply, val_main_v184_apply, val_main_c_51_apply, main_v54_at, field,
    IntOp.andi, IntOp.ori, IntOp.shrui, IntOp.shli]

theorem main_v222_at (x0 : S10240x278.Idx → BitVec 32) (i : S10240x40x1.Idx) :
    val_main_v222 (F := Bits) x0 i = field (columns x0 (i 0).val (i 1).val) 78 6 := by
  simp [val_main_v222_apply, val_main_v191_apply, val_main_v190_apply, val_main_v188_apply, val_main_v187_apply, val_main_c_52_apply, val_main_v189_apply, val_main_c_53_apply, main_v55_at, field,
    IntOp.andi, IntOp.ori, IntOp.shrui, IntOp.shli]

theorem main_v223_at (x0 : S10240x278.Idx → BitVec 32) (i : S10240x40x1.Idx) :
    val_main_v223 (F := Bits) x0 i = field (columns x0 (i 0).val (i 1).val) 106 6 := by
  simp [val_main_v223_apply, val_main_v196_apply, val_main_v195_apply, val_main_v193_apply, val_main_v192_apply, val_main_c_54_apply, val_main_v194_apply, val_main_c_55_apply, main_v56_at, field,
    IntOp.andi, IntOp.ori, IntOp.shrui, IntOp.shli]

theorem main_v224_at (x0 : S10240x278.Idx → BitVec 32) (i : S10240x40x1.Idx) :
    val_main_v224 (F := Bits) x0 i = field (columns x0 (i 0).val (i 1).val) 134 6 := by
  simp [val_main_v224_apply, val_main_v201_apply, val_main_v200_apply, val_main_v198_apply, val_main_v197_apply, val_main_c_56_apply, val_main_v199_apply, val_main_c_57_apply, main_v57_at, field,
    IntOp.andi, IntOp.ori, IntOp.shrui, IntOp.shli]

theorem main_v225_at (x0 : S10240x278.Idx → BitVec 32) (i : S10240x40x1.Idx) :
    val_main_v225 (F := Bits) x0 i = field (columns x0 (i 0).val (i 1).val) 162 6 := by
  simp [val_main_v225_apply, val_main_v206_apply, val_main_v205_apply, val_main_v203_apply, val_main_v202_apply, val_main_c_58_apply, val_main_v204_apply, val_main_c_59_apply, main_v58_at, field,
    IntOp.andi, IntOp.ori, IntOp.shrui, IntOp.shli]

theorem main_v226_at (x0 : S10240x278.Idx → BitVec 32) (i : S10240x40x1.Idx) :
    val_main_v226 (F := Bits) x0 i = field (columns x0 (i 0).val (i 1).val) 190 6 := by
  simp [val_main_v226_apply, val_main_v214_apply, val_main_v213_apply, val_main_v211_apply, val_main_v208_apply, val_main_v207_apply, val_main_c_60_apply, val_main_v210_apply, val_main_v209_apply, val_main_c_61_apply, val_main_v212_apply, val_main_c_62_apply, main_v58_at, main_v59_at, field,
    IntOp.andi, IntOp.ori, IntOp.shrui, IntOp.shli]

theorem main_v227_at (x0 : S10240x278.Idx → BitVec 32) (i : S10240x40x1.Idx) :
    val_main_v227 (F := Bits) x0 i = field (columns x0 (i 0).val (i 1).val) 218 6 := by
  simp [val_main_v227_apply, val_main_v219_apply, val_main_v218_apply, val_main_v216_apply, val_main_v215_apply, val_main_c_63_apply, val_main_v217_apply, val_main_c_64_apply, main_v59_at, field,
    IntOp.andi, IntOp.ori, IntOp.shrui, IntOp.shli]

end Cert.GatherProof

end

end
-- ==== Proof.GatherCodes.lean ====
/-
  The reference of the gather, second part: its codes. The stages that stack the fields of the eight vectors of a
  group, and the fields of the packed words themselves.
-/
module

public import proofs.«01_k».proof.Proof.GatherColumns

@[expose] public section

noncomputable section

namespace Cert.GatherProof

open Cert.GatherReference Cert.GatherReference.Gen Cert.GatherReference.Read
open Idealize.ShloMosaic Idealize.ShloMosaic.TcCoe Idealize.ShloMosaic.Tactic

/-- Eight arrays of single elements, stacked. -/
theorem stack8 (y : Fin 8 → (S10240x40x1.Idx → BitVec 32)) (h) (j : S10240x40x8.Idx) :
    concatenate S10240x40x8 2 [⟨S10240x40x1, y 0⟩, ⟨S10240x40x1, y 1⟩, ⟨S10240x40x1, y 2⟩, ⟨S10240x40x1, y 3⟩, ⟨S10240x40x1, y 4⟩,
      ⟨S10240x40x1, y 5⟩, ⟨S10240x40x1, y 6⟩, ⟨S10240x40x1, y 7⟩] h j
      = y (j 2) (fun | 0 => j 0 | 1 => j 1 | 2 => ⟨0, Nat.one_pos⟩) :=
  concatenate_ofFn_unit_apply (t := S10240x40x8) (s₁ := S10240x40x1) 2 y h rfl rfl j (j 2) rfl _ (fun b hb => match b, hb with
    | ⟨0, _⟩, _ => rfl
    | ⟨1, _⟩, _ => rfl
    | ⟨2, _⟩, hb => absurd rfl hb)

/-- Four columns, side by side. -/
theorem stack4 (y : Fin 4 → (S10240x1.Idx → BitVec 32)) (h) (j : S10240x4.Idx) :
    concatenate S10240x4 1 [⟨S10240x1, y 0⟩, ⟨S10240x1, y 1⟩, ⟨S10240x1, y 2⟩, ⟨S10240x1, y 3⟩] h j
      = y (j 1) (fun | 0 => j 0 | 1 => ⟨0, Nat.one_pos⟩) :=
  concatenate_ofFn_unit_apply (t := S10240x4) (s₁ := S10240x1) 1 y h rfl rfl j (j 1) rfl _ (fun b hb => match b, hb with
    | ⟨0, _⟩, _ => rfl
    | ⟨1, _⟩, hb => absurd rfl hb)

/-- The main codes of the eight vectors of every group. -/
theorem main_v117_at (x0 : S10240x278.Idx → BitVec 32) (j : S10240x40x8.Idx) :
    val_main_v117 (F := Bits) x0 j = field (columns x0 (j 0).val (j 1).val) (28 * (j 2).val) 13 := by
  unfold val_main_v117
  refine (stack8 ![val_main_v109 (F := Bits) x0, val_main_v110 (F := Bits) x0, val_main_v111 (F := Bits) x0, val_main_v112 (F := Bits) x0, val_main_v113 (F := Bits) x0, val_main_v114 (F := Bits) x0, val_main_v115 (F := Bits) x0, val_main_v116 (F := Bits) x0] _ j).trans ?_
  have e : ∀ (n : Fin 8) (i : S10240x40x1.Idx), (![val_main_v109 (F := Bits) x0, val_main_v110 (F := Bits) x0, val_main_v111 (F := Bits) x0, val_main_v112 (F := Bits) x0, val_main_v113 (F := Bits) x0, val_main_v114 (F := Bits) x0, val_main_v115 (F := Bits) x0, val_main_v116 (F := Bits) x0] : Fin 8 → (S10240x40x1.Idx → BitVec 32)) n i
      = field (columns x0 (i 0).val (i 1).val) (28 * n.val) 13 := by
    intro n i
    match n with
    | ⟨0, _⟩ => exact main_v109_at x0 i
    | ⟨1, _⟩ => exact main_v110_at x0 i
    | ⟨2, _⟩ => exact main_v111_at x0 i
    | ⟨3, _⟩ => exact main_v112_at x0 i
    | ⟨4, _⟩ => exact main_v113_at x0 i
    | ⟨5, _⟩ => exact main_v114_at x0 i
    | ⟨6, _⟩ => exact main_v115_at x0 i
    | ⟨7, _⟩ => exact main_v116_at x0 i
  exact e (j 2) _

/-- The main codes, vector by vector. -/
theorem main_v119_at (x0 : S10240x278.Idx → BitVec 32) (i : S10240x316.Idx) :
    val_main_v119 (F := Bits) x0 i = field (columns x0 (i 0).val ((i 1).val / 8)) (28 * ((i 1).val % 8)) 13 := by
  have h1 : (i 1).val < 316 := (i 1).isLt
  rw [val_main_v119_apply, val_main_v118_apply, main_v117_at]
  have e0 : ((i 0).val * 320 + (i 1).val) / 320 = (i 0).val := by omega
  have e1 : ((i 0).val * 320 + (i 1).val) / 8 % 40 = (i 1).val / 8 := by omega
  have e2 : ((i 0).val * 320 + (i 1).val) % 8 = (i 1).val % 8 := by omega
  show field (columns x0 (((i 0).val * 320 + (i 1).val) / 320) (((i 0).val * 320 + (i 1).val) / 8 % 40))
    (28 * (((i 0).val * 320 + (i 1).val) % 8)) 13 = _
  rw [e0, e1, e2]

/-- The first residual codes of the eight vectors of every group. -/
theorem main_v174_at (x0 : S10240x278.Idx → BitVec 32) (j : S10240x40x8.Idx) :
    val_main_v174 (F := Bits) x0 j = field (columns x0 (j 0).val (j 1).val) (28 * (j 2).val + 13) 9 := by
  unfold val_main_v174
  refine (stack8 ![val_main_v166 (F := Bits) x0, val_main_v167 (F := Bits) x0, val_main_v168 (F := Bits) x0, val_main_v169 (F := Bits) x0, val_main_v170 (F := Bits) x0, val_main_v171 (F := Bits) x0, val_main_v172 (F := Bits) x0, val_main_v173 (F := Bits) x0] _ j).trans ?_
  have e : ∀ (n : Fin 8) (i : S10240x40x1.Idx), (![val_main_v166 (F := Bits) x0, val_main_v167 (F := Bits) x0, val_main_v168 (F := Bits) x0, val_main_v169 (F := Bits) x0, val_main_v170 (F := Bits) x0, val_main_v171 (F := Bits) x0, val_main_v172 (F := Bits) x0, val_main_v173 (F := Bits) x0] : Fin 8 → (S10240x40x1.Idx → BitVec 32)) n i
      = field (columns x0 (i 0).val (i 1).val) (28 * n.val + 13) 9 := by
    intro n i
    match n with
    | ⟨0, _⟩ => exact main_v166_at x0 i
    | ⟨1, _⟩ => exact main_v167_at x0 i
    | ⟨2, _⟩ => exact main_v168_at x0 i
    | ⟨3, _⟩ => exact main_v169_at x0 i
    | ⟨4, _⟩ => exact main_v170_at x0 i
    | ⟨5, _⟩ => exact main_v171_at x0 i
    | ⟨6, _⟩ => exact main_v172_at x0 i
    | ⟨7, _⟩ => exact main_v173_at x0 i
  exact e (j 2) _

/-- The first residual codes, vector by vector. -/
theorem main_v176_at (x0 : S10240x278.Idx → BitVec 32) (i : S10240x316.Idx) :
    val_main_v176 (F := Bits) x0 i = field (columns x0 (i 0).val ((i 1).val / 8)) (28 * ((i 1).val % 8) + 13) 9 := by
  have h1 : (i 1).val < 316 := (i 1).isLt
  rw [val_main_v176_apply, val_main_v175_apply, main_v174_at]
  have e0 : ((i 0).val * 320 + (i 1).val) / 320 = (i 0).val := by omega
  have e1 : ((i 0).val * 320 + (i 1).val) / 8 % 40 = (i 1).val / 8 := by omega
  have e2 : ((i 0).val * 320 + (i 1).val) % 8 = (i 1).val % 8 := by omega
  show field (columns x0 (((i 0).val * 320 + (i 1).val) / 320) (((i 0).val * 320 + (i 1).val) / 8 % 40))
    (28 * (((i 0).val * 320 + (i 1).val) % 8) + 13) 9 = _
  rw [e0, e1, e2]

/-- The second residual codes of the eight vectors of every group. -/
theorem main_v228_at (x0 : S10240x278.Idx → BitVec 32) (j : S10240x40x8.Idx) :
    val_main_v228 (F := Bits) x0 j = field (columns x0 (j 0).val (j 1).val) (28 * (j 2).val + 22) 6 := by
  unfold val_main_v228
  refine (stack8 ![val_main_v220 (F := Bits) x0, val_main_v221 (F := Bits) x0, val_main_v222 (F := Bits) x0, val_main_v223 (F := Bits) x0, val_main_v224 (F := Bits) x0, val_main_v225 (F := Bits) x0, val_main_v226 (F := Bits) x0, val_main_v227 (F := Bits) x0] _ j).trans ?_
  have e : ∀ (n : Fin 8) (i : S10240x40x1.Idx), (![val_main_v220 (F := Bits) x0, val_main_v221 (F := Bits) x0, val_main_v222 (F := Bits) x0, val_main_v223 (F := Bits) x0, val_main_v224 (F := Bits) x0, val_main_v225 (F := Bits) x0, val_main_v226 (F := Bits) x0, val_main_v227 (F := Bits) x0] : Fin 8 → (S10240x40x1.Idx → BitVec 32)) n i
      = field (columns x0 (i 0).val (i 1).val) (28 * n.val + 22) 6 := by
    intro n i
    match n with
    | ⟨0, _⟩ => exact main_v220_at x0 i
    | ⟨1, _⟩ => exact main_v221_at x0 i
    | ⟨2, _⟩ => exact main_v222_at x0 i
    | ⟨3, _⟩ => exact main_v223_at x0 i
    | ⟨4, _⟩ => exact main_v224_at x0 i
    | ⟨5, _⟩ => exact main_v225_at x0 i
    | ⟨6, _⟩ => exact main_v226_at x0 i
    | ⟨7, _⟩ => exact main_v227_at x0 i
  exact e (j 2) _

/-- The second residual codes, vector by vector. -/
theorem main_v230_at (x0 : S10240x278.Idx → BitVec 32) (i : S10240x316.Idx) :
    val_main_v230 (F := Bits) x0 i = field (columns x0 (i 0).val ((i 1).val / 8)) (28 * ((i 1).val % 8) + 22) 6 := by
  have h1 : (i 1).val < 316 := (i 1).isLt
  rw [val_main_v230_apply, val_main_v229_apply, main_v228_at]
  have e0 : ((i 0).val * 320 + (i 1).val) / 320 = (i 0).val := by omega
  have e1 : ((i 0).val * 320 + (i 1).val) / 8 % 40 = (i 1).val / 8 := by omega
  have e2 : ((i 0).val * 320 + (i 1).val) % 8 = (i 1).val % 8 := by omega
  show field (columns x0 (((i 0).val * 320 + (i 1).val) / 320) (((i 0).val * 320 + (i 1).val) / 8 % 40))
    (28 * (((i 0).val * 320 + (i 1).val) % 8) + 22) 6 = _
  rw [e0, e1, e2]

/-- A word of a row, at an index whose coordinates are known. -/
theorem word_eq (x0 : S10240x278.Idx → BitVec 32) (i : S10240x278.Idx) (r n : Nat) (h0 : (i 0).val = r) (h1 : (i 1).val = n) :
    x0 i = wordAt x0 r n := by
  subst h0 h1
  unfold wordAt
  rw [dif_pos ⟨(i 0).isLt, (i 1).isLt⟩]
  refine congrArg x0 ?_
  funext a
  match a with
  | ⟨0, _⟩ => rfl
  | ⟨1, _⟩ => rfl

/-! The codes of the four outliers of a row. -/

theorem main_v40_at (x0 : S10240x278.Idx → BitVec 32) (i : S10240x1.Idx) :
    val_main_v40 (F := Bits) x0 i = field (wordAt x0 (i 0).val) 0 10 := by
  simp only [val_main_v40_apply, val_main_v9_apply, val_main_v8_apply, val_main_v6_apply, val_main_v2_apply, val_main_v1_apply, val_main_v0_apply, val_main_v5_apply, val_main_c_apply, val_main_v7_apply, val_main_c_0_apply]
  rw [word_eq x0 (idx_main_v1 (idx_main_v2 (idx_main_v40 i))) (i 0).val 0 (by show (i 0).val / 1 = (i 0).val; omega) rfl]
  simp [field, IntOp.andi, IntOp.ori, IntOp.shrui, IntOp.shli]

theorem main_v41_at (x0 : S10240x278.Idx → BitVec 32) (i : S10240x1.Idx) :
    val_main_v41 (F := Bits) x0 i = field (wordAt x0 (i 0).val) 10 10 := by
  simp only [val_main_v41_apply, val_main_v18_apply, val_main_v17_apply, val_main_v15_apply, val_main_v11_apply, val_main_v10_apply, val_main_v0_apply, val_main_v14_apply, val_main_c_1_apply, val_main_v16_apply, val_main_c_2_apply]
  rw [word_eq x0 (idx_main_v10 (idx_main_v11 (idx_main_v41 i))) (i 0).val 0 (by show (i 0).val / 1 = (i 0).val; omega) rfl]
  simp [field, IntOp.andi, IntOp.ori, IntOp.shrui, IntOp.shli]

theorem main_v42_at (x0 : S10240x278.Idx → BitVec 32) (i : S10240x1.Idx) :
    val_main_v42 (F := Bits) x0 i = field (wordAt x0 (i 0).val) 20 10 := by
  simp only [val_main_v42_apply, val_main_v27_apply, val_main_v26_apply, val_main_v24_apply, val_main_v20_apply, val_main_v19_apply, val_main_v0_apply, val_main_v23_apply, val_main_c_3_apply, val_main_v25_apply, val_main_c_4_apply]
  rw [word_eq x0 (idx_main_v19 (idx_main_v20 (idx_main_v42 i))) (i 0).val 0 (by show (i 0).val / 1 = (i 0).val; omega) rfl]
  simp [field, IntOp.andi, IntOp.ori, IntOp.shrui, IntOp.shli]

theorem main_v43_at (x0 : S10240x278.Idx → BitVec 32) (i : S10240x1.Idx) :
    val_main_v43 (F := Bits) x0 i = field (wordAt x0 (i 0).val) 30 10 := by
  simp only [val_main_v43_apply, val_main_v39_apply, val_main_v38_apply, val_main_v36_apply, val_main_v33_apply, val_main_v29_apply, val_main_v28_apply, val_main_v0_apply, val_main_v32_apply, val_main_c_5_apply, val_main_v35_apply, val_main_v31_apply, val_main_v30_apply, val_main_v34_apply, val_main_c_6_apply, val_main_v37_apply, val_main_c_7_apply]
  rw [word_eq x0 (idx_main_v28 (idx_main_v29 (idx_main_v43 i))) (i 0).val 0 (by show (i 0).val / 1 = (i 0).val; omega) rfl, word_eq x0 (idx_main_v30 (idx_main_v31 (idx_main_v43 i))) (i 0).val 1 (by show (i 0).val / 1 = (i 0).val; omega) rfl]
  simp [field, IntOp.andi, IntOp.ori, IntOp.shrui, IntOp.shli]

/-- The four outlier codes of every row. -/
theorem main_v44_at (x0 : S10240x278.Idx → BitVec 32) (j : S10240x4.Idx) :
    val_main_v44 (F := Bits) x0 j = field (wordAt x0 (j 0).val) (10 * (j 1).val) 10 := by
  unfold val_main_v44
  refine (stack4 ![val_main_v40 (F := Bits) x0, val_main_v41 (F := Bits) x0, val_main_v42 (F := Bits) x0, val_main_v43 (F := Bits) x0] _ j).trans ?_
  have e : ∀ (n : Fin 4) (i : S10240x1.Idx), (![val_main_v40 (F := Bits) x0, val_main_v41 (F := Bits) x0, val_main_v42 (F := Bits) x0, val_main_v43 (F := Bits) x0] : Fin 4 → (S10240x1.Idx → BitVec 32)) n i
      = field (wordAt x0 (i 0).val) (10 * n.val) 10 := by
    intro n i
    match n with
    | ⟨0, _⟩ => exact main_v40_at x0 i
    | ⟨1, _⟩ => exact main_v41_at x0 i
    | ⟨2, _⟩ => exact main_v42_at x0 i
    | ⟨3, _⟩ => exact main_v43_at x0 i
  exact e (j 1) _

/-- Bits of the words of a group, counted from the start of the row. -/
theorem bitAt_groupWords (x0 : S10240x278.Idx → BitVec 32) (r vg n : Nat) (h : 96 ≤ n + 224 * vg) :
    bitAt (groupWords x0 r vg) n = bitAt (wordAt x0 r) (n + 224 * vg - 96) := by
  unfold bitAt groupWords
  have e1 : (n + 224 * vg - 96) / 32 = 7 * vg + n / 32 - 3 := by omega
  have e2 : (n + 224 * vg - 96) % 32 = n % 32 := by omega
  rw [e1, e2]

/-- Bits of the reference's columns, counted from the start of the row. -/
theorem bitAt_columns (x0 : S10240x278.Idx → BitVec 32) (r u n : Nat) :
    bitAt (columns x0 r u) n = bitAt (wordAt x0 r) (n + 224 * u + 40) := by
  have e : columns x0 r u = fun k => byteMoved (wordAt x0 r) (k + (7 * u + 1)) := by
    funext k
    unfold columns
    exact congrArg _ (by omega)
  rw [e, bitAt_add, bitAt_byteMoved]
  exact congrArg _ (by omega)

/-- A field of vector `k` past the outliers, in the reference's columns and in the words of its group. -/
theorem field_columns (x0 : S10240x278.Idx → BitVec 32) (r vg s k off width : Nat) (hs : s < 8) (hk : k + 4 = 8 * vg + s)
    (hw : width ≤ 32) :
    field (columns x0 r (k / 8)) (28 * (k % 8) + off) width = field (groupWords x0 r vg) (24 + 28 * s + off) width := by
  refine field_congr _ _ _ _ _ hw fun i _ => ?_
  rw [bitAt_columns, bitAt_groupWords _ _ _ _ (by omega)]
  exact congrArg _ (by omega)

/-- A field of an outlier, in the row and in the words of the first group. -/
theorem field_outlier (x0 : S10240x278.Idx → BitVec 32) (r s : Nat) :
    field (wordAt x0 r) (10 * s) 10 = field (groupWords x0 r 0) (96 + 10 * s) 10 := by
  refine field_congr _ _ _ _ _ (by decide) fun i _ => ?_
  rw [bitAt_groupWords _ _ _ _ (by omega)]
  exact congrArg _ (by omega)

end Cert.GatherProof

end

end
-- ==== Proof.GatherRef.lean ====
/-
  The reference of the gather, third part: its result is the value `G` of the packed words and the
  table of the two codebooks.
-/
module

public import proofs.«01_k».proof.Proof.GatherCodes
public import proofs.«01_k».proof.Proof.GatherTable
public import proofs.«01_k».proof.Proof.Gen.GatherReference.Run
public import Idealize.ShloMosaic.Lib.KernelVsHost

@[expose] public section

set_option maxRecDepth 16384

noncomputable section

namespace Cert.GatherProof

open Cert.GatherReference Cert.GatherReference.Gen Cert.GatherReference.Read
open Idealize.ShloMosaic Idealize.ShloMosaic.TcCoe Idealize.ShloMosaic.Tactic Idealize.SL.Sem

/-- The outliers' entries: the row is the code, read signed and clamped. -/
theorem outlier_gather (x : S1024x4.Idx → BitVec 32) (ix : S10240x4x1.Idx → BitVec 32) (j : S10240x4x4.Idx) :
    Host.gather gather_S1024x4_S10240x4x1_S10240x4x4_2_0_n_n_0_2_14 x ix j
      = x (fun | 0 => ⟨min (ix (fun | 0 => j 0 | 1 => j 1 | 2 => ⟨0, Nat.one_pos⟩)).toInt.toNat 1023, by show _ < 1024; omega⟩ | 1 => j 2) := by
  unfold Host.gather
  refine congrArg x ?_
  funext a
  refine Fin.ext ?_
  match a with
  | ⟨0, _⟩ =>
    show GatherDims.start _ j ix 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x4_S10240x4x1_S10240x4x4_2_0_n_n_0_2_14.startIndexMap from List.mem_singleton.mpr rfl)]
    have hsi : gather_S1024x4_S10240x4x1_S10240x4x4_2_0_n_n_0_2_14.siIdx j
        ⟨List.idxOf (0 : Fin 2) gather_S1024x4_S10240x4x1_S10240x4x4_2_0_n_n_0_2_14.startIndexMap,
          List.idxOf_lt_length_iff.2 (List.mem_singleton.mpr rfl)⟩ = (fun | 0 => j 0 | 1 => j 1 | 2 => ⟨0, Nat.one_pos⟩) := by
      funext b; refine Fin.ext ?_
      match b with
      | ⟨0, _⟩ => rfl
      | ⟨1, _⟩ => rfl
      | ⟨2, _⟩ => rfl
    rw [hsi]
    rfl
  | ⟨1, _⟩ =>
    show GatherDims.start _ j ix 1 + GatherDims.batchCoord _ j 1 + GatherDims.offCoord _ j 1 = _
    rw [GatherDims.batchCoord_eq_zero _ _ _ List.not_mem_nil]
    unfold GatherDims.start
    rw [dif_neg (by decide)]
    simp
    rfl

/-- The other vectors' entries: the row is the code, read signed and clamped. -/
theorem main_gather (x : S8192x4.Idx → BitVec 32) (ix : S10240x316x1.Idx → BitVec 32) (j : S10240x316x4.Idx) :
    Host.gather gather_S8192x4_S10240x316x1_S10240x316x4_2_0_n_n_0_2_14 x ix j
      = x (fun | 0 => ⟨min (ix (fun | 0 => j 0 | 1 => j 1 | 2 => ⟨0, Nat.one_pos⟩)).toInt.toNat 8191, by show _ < 8192; omega⟩ | 1 => j 2) := by
  unfold Host.gather
  refine congrArg x ?_
  funext a
  refine Fin.ext ?_
  match a with
  | ⟨0, _⟩ =>
    show GatherDims.start _ j ix 0 + GatherDims.batchCoord _ j 0 + GatherDims.offCoord _ j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x4_S10240x316x1_S10240x316x4_2_0_n_n_0_2_14.startIndexMap from List.mem_singleton.mpr rfl)]
    have hsi : gather_S8192x4_S10240x316x1_S10240x316x4_2_0_n_n_0_2_14.siIdx j
        ⟨List.idxOf (0 : Fin 2) gather_S8192x4_S10240x316x1_S10240x316x4_2_0_n_n_0_2_14.startIndexMap,
          List.idxOf_lt_length_iff.2 (List.mem_singleton.mpr rfl)⟩ = (fun | 0 => j 0 | 1 => j 1 | 2 => ⟨0, Nat.one_pos⟩) := by
      funext b; refine Fin.ext ?_
      match b with
      | ⟨0, _⟩ => rfl
      | ⟨1, _⟩ => rfl
      | ⟨2, _⟩ => rfl
    rw [hsi]
    rfl
  | ⟨1, _⟩ =>
    show GatherDims.start _ j ix 1 + GatherDims.batchCoord _ j 1 + GatherDims.offCoord _ j 1 = _
    rw [GatherDims.batchCoord_eq_zero _ _ _ List.not_mem_nil]
    unfold GatherDims.start
    rw [dif_neg (by decide)]
    simp
    rfl

/-- A code below a bound is its own index. -/
theorem clamped (x : BitVec 32) (n : Nat) (h : x.toNat ≤ n) (hn : n < 2 ^ 31) : min x.toInt.toNat n = x.toNat := by
  rw [BitVec.toInt_eq_toNat_of_lt (by omega), Int.toNat_natCast]
  omega

/-- The words gathered for the outliers. -/
theorem main_v231_at (x0 : S10240x278.Idx → BitVec 32) (x1 : S8192x4.Idx → BitVec 32) (x2 : S1024x4.Idx → BitVec 32) (j : S10240x4x4.Idx) :
    val_main_v231 (F := Bits) x0 x2 j
      = tabAt (table x1 x2) (9216 * (j 2).val + (mainCode true (groupWords x0 (j 0).val 0) (j 1).val).toNat) := by
  unfold val_main_v231
  rw [outlier_gather]
  have hc : val_main_call1_v0 (F := Bits) x0 (fun | 0 => j 0 | 1 => j 1 | 2 => ⟨0, Nat.one_pos⟩)
      = field (wordAt x0 (j 0).val) (10 * (j 1).val) 10 := by
    rw [val_main_call1_v0_apply, main_v44_at]
  refine (congrArg (fun b : BitVec 32 => x2 (fun | 0 => ⟨min b.toInt.toNat 1023, by show _ < 1024; omega⟩ | 1 => j 2)) hc).trans ?_
  have hf := field_lt (wordAt x0 (j 0).val) (10 * (j 1).val) 10 (by decide)
  have hm : (mainCode true (groupWords x0 (j 0).val 0) (j 1).val).toNat = (field (wordAt x0 (j 0).val) (10 * (j 1).val) 10).toNat + 8192 := by
    unfold mainCode
    rw [if_pos rfl, ← field_outlier, BitVec.toNat_add]
    show ((field (wordAt x0 (j 0).val) (10 * (j 1).val) 10).toNat + 8192) % 2 ^ 32 = _
    rw [Nat.mod_eq_of_lt (by omega)]
  rw [hm, table_outlier x1 x2 _ _ (j 2).isLt (by omega)]
  refine congrArg x2 ?_
  funext a
  refine Fin.ext ?_
  match a with
  | ⟨0, _⟩ => exact clamped _ _ (by omega) (by decide)
  | ⟨1, _⟩ => rfl

/-- The words gathered for the other vectors. -/
theorem main_v232_at (x0 : S10240x278.Idx → BitVec 32) (x1 : S8192x4.Idx → BitVec 32) (x2 : S1024x4.Idx → BitVec 32) (j : S10240x316x4.Idx)
    (vg s : Nat) (hs : s < 8) (hk : (j 1).val + 4 = 8 * vg + s) :
    val_main_v232 (F := Bits) x0 x1 j
      = tabAt (table x1 x2) (9216 * (j 2).val + (mainCode false (groupWords x0 (j 0).val vg) s).toNat) := by
  unfold val_main_v232
  rw [main_gather]
  have hc : val_main_call2_v0 (F := Bits) x0 (fun | 0 => j 0 | 1 => j 1 | 2 => ⟨0, Nat.one_pos⟩)
      = mainCode false (groupWords x0 (j 0).val vg) s := by
    rw [val_main_call2_v0_apply, main_v119_at]
    unfold mainCode
    rw [if_neg (by decide)]
    exact field_columns x0 (j 0).val vg s (j 1).val 0 13 hs hk (by decide)
  refine (congrArg (fun b : BitVec 32 => x1 (fun | 0 => ⟨min b.toInt.toNat 8191, by show _ < 8192; omega⟩ | 1 => j 2)) hc).trans ?_
  have hf : (mainCode false (groupWords x0 (j 0).val vg) s).toNat < 2 ^ 13 := by
    unfold mainCode
    rw [if_neg (by decide)]
    exact field_lt _ _ 13 (by decide)
  rw [table_main x1 x2 _ _ (j 2).isLt (by omega)]
  refine congrArg x1 ?_
  funext a
  refine Fin.ext ?_
  match a with
  | ⟨0, _⟩ => exact clamped _ _ (by omega) (by decide)
  | ⟨1, _⟩ => rfl

/-- The residual codes. -/
theorem main_v237_at (x0 : S10240x278.Idx → BitVec 32) (i : S10240x316.Idx) (vg s : Nat) (hs : s < 8) (hk : (i 1).val + 4 = 8 * vg + s) :
    val_main_v237 (F := Bits) x0 i = resCode false (groupWords x0 (i 0).val vg) s := by
  rw [val_main_v237_apply, val_main_v236_apply, val_main_v235_apply, val_main_c_66_apply, main_v176_at, main_v230_at,
    field_columns x0 (i 0).val vg s (i 1).val 13 9 hs hk (by decide), field_columns x0 (i 0).val vg s (i 1).val 22 6 hs hk (by decide)]
  unfold resCode
  rw [if_neg (by decide), field_split]
  have e1 : 24 + 28 * s + 13 = 37 + 28 * s := by omega
  have e2 : 24 + 28 * s + 22 = 37 + 28 * s + 9 := by omega
  rw [e1, e2]
  rfl

/-- The words of every vector. -/
theorem main_v233_at (x0 : S10240x278.Idx → BitVec 32) (x1 : S8192x4.Idx → BitVec 32) (x2 : S1024x4.Idx → BitVec 32) (j : S10240x320x4.Idx)
    (vg s : Nat) (hs : s < 8) (hk : (j 1).val = 8 * vg + s) :
    val_main_v233 (F := Bits) x0 x1 x2 j
      = tabAt (table x1 x2) (9216 * (j 2).val + (mainCode (decide (vg = 0 ∧ s < 4)) (groupWords x0 (j 0).val vg) s).toNat) := by
  unfold val_main_v233
  have h1 : (j 1).val < 320 := (j 1).isLt
  by_cases h : (j 1).val < 4
  · have hvg : vg = 0 := by omega
    subst hvg
    have hss : (j 1).val = s := by omega
    refine (concatenate_pair_apply_left (t := S10240x320x4) (s₁ := S10240x4x4) (s₂ := S10240x316x4) 1 _ _ _ j rfl
      (fun | 0 => j 0 | 1 => ⟨(j 1).val, h⟩ | 2 => j 2) (fun b => match b with
        | ⟨0, _⟩ => rfl
        | ⟨1, _⟩ => rfl
        | ⟨2, _⟩ => rfl)).trans ?_
    rw [main_v231_at x0 x1, decide_eq_true ⟨rfl, by omega⟩]
    show tabAt (table x1 x2) (9216 * (j 2).val + (mainCode true (groupWords x0 (j 0).val 0) (j 1).val).toNat) = _
    rw [hss]
  · refine (concatenate_pair_apply_right (t := S10240x320x4) (s₁ := S10240x4x4) (s₂ := S10240x316x4) 1 _ _ _ j rfl rfl
      (fun | 0 => j 0 | 1 => ⟨(j 1).val - 4, by show _ < 316; omega⟩ | 2 => j 2) (fun b hb => match b, hb with
        | ⟨0, _⟩, _ => rfl
        | ⟨1, _⟩, hb => absurd rfl hb
        | ⟨2, _⟩, _ => rfl) (by show (j 1).val - 4 + 4 = (j 1).val; omega)).trans ?_
    rw [main_v232_at x0 x1 x2 _ vg s hs (by show (j 1).val - 4 + 4 = _; omega), decide_eq_false (by omega)]

/-- The code of every vector. -/
theorem main_v238_at (x0 : S10240x278.Idx → BitVec 32) (j : S10240x320.Idx) (vg s : Nat) (hs : s < 8) (hk : (j 1).val = 8 * vg + s) :
    val_main_v238 (F := Bits) x0 j = resCode (decide (vg = 0 ∧ s < 4)) (groupWords x0 (j 0).val vg) s := by
  unfold val_main_v238
  have h1 : (j 1).val < 320 := (j 1).isLt
  by_cases h : (j 1).val < 4
  · refine (concatenate_pair_apply_left (t := S10240x320) (s₁ := S10240x4) (s₂ := S10240x316) 1 _ _ _ j rfl
      (fun | 0 => j 0 | 1 => ⟨(j 1).val, h⟩) (fun b => match b with
        | ⟨0, _⟩ => rfl
        | ⟨1, _⟩ => rfl)).trans ?_
    rw [val_main_v234_apply, val_main_c_65_apply, decide_eq_true (by omega)]
    rfl
  · refine (concatenate_pair_apply_right (t := S10240x320) (s₁ := S10240x4) (s₂ := S10240x316) 1 _ _ _ j rfl rfl
      (fun | 0 => j 0 | 1 => ⟨(j 1).val - 4, by show _ < 316; omega⟩) (fun b hb => match b, hb with
        | ⟨0, _⟩, _ => rfl
        | ⟨1, _⟩, hb => absurd rfl hb) (by show (j 1).val - 4 + 4 = (j 1).val; omega)).trans ?_
    rw [main_v237_at x0 _ vg s hs (by show (j 1).val - 4 + 4 = _; omega), decide_eq_false (by omega)]

/-- The words and the code of every vector. -/
theorem main_v240_at (x0 : S10240x278.Idx → BitVec 32) (x1 : S8192x4.Idx → BitVec 32) (x2 : S1024x4.Idx → BitVec 32) (j : S10240x320x5.Idx)
    (vg s : Nat) (hs : s < 8) (hk : (j 1).val = 8 * vg + s) :
    val_main_v240 (F := Bits) x0 x1 x2 j
      = planeVal (decide (vg = 0 ∧ s < 4)) (table x1 x2) (groupWords x0 (j 0).val vg) (j 2).val s := by
  unfold val_main_v240
  have h2 : (j 2).val < 5 := (j 2).isLt
  by_cases h : (j 2).val < 4
  · refine (concatenate_pair_apply_left (t := S10240x320x5) (s₁ := S10240x320x4) (s₂ := S10240x320x1) 2 _ _ _ j rfl
      (fun | 0 => j 0 | 1 => j 1 | 2 => ⟨(j 2).val, h⟩) (fun b => match b with
        | ⟨0, _⟩ => rfl
        | ⟨1, _⟩ => rfl
        | ⟨2, _⟩ => rfl)).trans ?_
    rw [main_v233_at x0 x1 x2 _ vg s hs hk]
    unfold planeVal
    rw [if_pos h]
  · refine (concatenate_pair_apply_right (t := S10240x320x5) (s₁ := S10240x320x4) (s₂ := S10240x320x1) 2 _ _ _ j rfl rfl
      (fun | 0 => j 0 | 1 => j 1 | 2 => ⟨(j 2).val - 4, by show _ < 1; omega⟩) (fun b hb => match b, hb with
        | ⟨0, _⟩, _ => rfl
        | ⟨1, _⟩, _ => rfl
        | ⟨2, _⟩, hb => absurd rfl hb) (by show (j 2).val - 4 + 4 = (j 2).val; omega)).trans ?_
    rw [val_main_v239_apply, main_v238_at x0 _ vg s hs hk]
    unfold planeVal
    rw [if_neg h]

/-- The reference's result is the kernel's. -/
theorem reference_value (x0 : S10240x278.Idx → BitVec 32) (x1 : S8192x4.Idx → BitVec 32) (x2 : S1024x4.Idx → BitVec 32) :
    val_main_v242 (F := Bits) x0 x1 x2 = G x0 (table x1 x2) := by
  funext j
  have h0 : (j 0).val < 80 := (j 0).isLt
  have h1 : (j 1).val < 40 := (j 1).isLt
  have h2 : (j 2).val < 5 := (j 2).isLt
  have h3 : (j 3).val < 8 := (j 3).isLt
  have h4 : (j 4).val < 128 := (j 4).isLt
  rw [val_main_v242_apply, val_main_v241_apply, main_v240_at x0 x1 x2 _ (j 1).val (j 3).val h3 ?_]
  · unfold G gOf
    have e0 : (idx_main_v241 (idx_main_v242 j) 0).val = 128 * (j 0).val + (j 4).val := by
      show (((((j 0).val * 128 + (j 4).val) * 40 + (j 1).val) * 8 + (j 3).val) * 5 + (j 2).val) / 1600 = _
      omega
    have e2 : (idx_main_v241 (idx_main_v242 j) 2).val = (j 2).val := by
      show (((((j 0).val * 128 + (j 4).val) * 40 + (j 1).val) * 8 + (j 3).val) * 5 + (j 2).val) % 5 = _
      omega
    rw [e0, e2]
  · show (((((j 0).val * 128 + (j 4).val) * 40 + (j 1).val) * 8 + (j 3).val) * 5 + (j 2).val) / 5 % 320 = _
    omega

/-- The reference of the gather ends with `G` of the packed words and the codebooks' table, the arguments unchanged. -/
theorem reference_run (m : (ℓ : Loc nD τ sig) → Buf (Elt Bits) ℓ) (ρ : Dev nD → PrngReg) :
    θ_run (Cert.GatherReference.defs (F := Bits)) (onTc (τ := τ) (main (F := Bits))) ⟨m, fun _ => 0, ρ⟩ fun r => ∀ c : Dev nD,
      r.2.mem ((c.tc : Thread nD τ).loc main_v242) = G (m ((c.tc : Thread nD τ).loc main_arg0))
          (table (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (Cert.GatherReference.defs (F := Bits)) _ _).mono
    (fun _ h c => ⟨(h c).1.trans ((val_main_v242_eq (StableHlo.launchContents m c)).trans (reference_value _ _ _)), (h c).2⟩)
    (Cert.GatherReference.Value.run (F := Bits) m ρ)

end Cert.GatherProof

end
-- ==== Proof.KernelRun.lean ====
/- The frame of the kernel as written: the run of the body at a grid point (its inputs as they were, the output block and
   the scratch buffer at some contents), the proof data of its one pipeline, which name nothing of the output, and the run of
   the whole program. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S96x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x40x5x8x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4x8x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x8x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S40x8x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S40x8x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2560x256 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple: on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole)
    (x0 : Vec F S96x2560 .bf16) (x1 : Vec F S2x40x5x8x128 .i32) (x2 : Vec F S4x4x8x128 .i32) (x3 : Vec F S4x8x128 .i32) (x4 : Vec F S40x8x8x128 .f32) (x5 : Vec F S40x8x8x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)) -∗ K ⟨⟩))
          ⊢ wp frame (wpE (defs₀ (F := F)) Variants.none c none) E (cc0_vptq_tc_decode_matmul i arg1 harg1 arg2 harg2 arg3 harg3 arg4 harg4 arg5 harg5 arg6 harg6 arg7 harg7 arg8 harg8) K := by
    intro E K
    simp only [cc0_vptq_tc_decode_matmul_eq_skeleton]; unfold cc0_vptq_tc_decode_matmul_skel
    simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    iexists _, _; isplitr; swap; · iexact HS0
    ipureintro; rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.Group.lean ====
/- One block of sixteen rows of the decoded weights, as the kernel computes it: which residual word a code
   selects, how a word's two halves are widened, the scale and the bias, and the two rows of a pair interleaved.
   The sixteen stores of the kernel (eight before the loop, eight in a trip) all store this one function of what
   they load; here it is defined over the loaded vectors and read at an index. -/
module

public import proofs.«01_k».proof.Proof.Gen.KernelIdeal.Skeleton
public import proofs.«01_k».proof.Proof.Gen.KernelIdeal
public import Idealize.ShloMosaic.Lib.Pointwise
public import Idealize.ShloMosaic.Lib.ValueIdxCore

@[expose] public section

set_option maxRecDepth 16384

noncomputable section

namespace Cert.KernelIdeal.Model

open Idealize.ShloMosaic Idealize.ShloMosaic.TcCoe Idealize.SL.Sem
open Cert.KernelIdeal Cert.KernelIdeal.Gen

variable {F : FTy → Type} [FloatOps F]

/-- The lane a gather reads, a negative one counted from the end (as `take_along_axis` spells it). -/
def wrapLane (l : IVec S8x128 32) : IVec S8x128 32 :=
  shapeCast S8x128 (shapeCast S8x128x1 (select (cmpi .slt l (broadcast S8x128 0#32)) (addi l (broadcast S8x128 128#32)) l)
    shapeCasts_S8x128_S8x128x1) shapeCasts_S8x128x1_S8x128

/-- The nine low bits of the residual code: the position in the first residual codebook. -/
def code2 (rr : Vec F S1x1x1x8x128 .i32) : IVec S8x128 32 :=
  andi (shapeCast S8x128 rr shapeCasts_S1x1x1x8x128_S8x128) (broadcast S8x128 511#32)

/-- The lane of that position in a row of 128. -/
def lane2 (rr : Vec F S1x1x1x8x128 .i32) : IVec S8x128 32 := andi (code2 rr) (broadcast S8x128 127#32)

/-- The bits above the ninth: the position in the second residual codebook. -/
def code3 (rr : Vec F S1x1x1x8x128 .i32) : IVec S8x128 32 :=
  shrsi (shapeCast S8x128 rr shapeCasts_S1x1x1x8x128_S8x128) (broadcast S8x128 9#32)

/-- One row of 128 of the first residual codebook's words, gathered. -/
def gather2 (rr : Vec F S1x1x1x8x128 .i32) (t : Vec F S1x1x8x128 .i32) : IVec S8x128 32 :=
  dynamicGather 1 (shapeCast S8x128 t shapeCasts_S1x1x8x128_S8x128) (wrapLane (lane2 rr))

/-- The bit of the position that selects between rows. -/
def bit2 (rr : Vec F S1x1x1x8x128 .i32) (b : BitVec 32) : IVec S8x128 1 :=
  cmpi .ne (andi (code2 rr) (broadcast S8x128 b)) (broadcast S8x128 0#32)

/-- The first residual's words: the gathered row the position's two high bits select. -/
def resid2 (rr : Vec F S1x1x1x8x128 .i32) (t0 t1 t2 t3 : Vec F S1x1x8x128 .i32) : IVec S8x128 32 :=
  select (bit2 rr 256#32) (select (bit2 rr 128#32) (gather2 rr t3) (gather2 rr t2))
    (select (bit2 rr 128#32) (gather2 rr t1) (gather2 rr t0))

/-- The second residual's words. -/
def resid3 (rr : Vec F S1x1x1x8x128 .i32) (t : Vec F S1x8x128 .i32) : IVec S8x128 32 :=
  dynamicGather 1 (shapeCast S8x128 t shapeCasts_S1x8x128_S8x128) (wrapLane (code3 rr))

/-- The sub-vectors that take a residual among a group that starts with four that take none. -/
def keep : IVec S8x128 1 := cmpi .sge (iota .tc S8x128 32 [0] iota_S8x128_d0_w32) (broadcast S8x128 4#32)

/-- A group's words with the first four sub-vectors' cleared. -/
def masked (r : IVec S8x128 32) : IVec S8x128 32 := select keep r (broadcast S8x128 0#32)

/-- The low halves of words, read as numbers. -/
def loF (w : IVec S8x128 32) : FVec F S8x128 .f32 := bitcastToFloat .f32 (shli w (broadcast S8x128 16#32))

/-- The high halves. -/
def hiF (w : IVec S8x128 32) : FVec F S8x128 .f32 := bitcastToFloat .f32 (andi w (broadcast S8x128 4294901760#32))

/-- Scaled and shifted. -/
def affine (g : FVec F S8x128 .f32) (sc bi : Vec F S1x1x8x128 .f32) : FVec F S8x128 .bf16 :=
  truncf .bf16 (addf (mulf g (shapeCast S8x128 sc shapeCasts_S1x1x8x128_S8x128)) (shapeCast S8x128 bi shapeCasts_S1x1x8x128_S8x128)) bitsLt_bf16_f32

/-- Sixteen rows of weights from the fetched words `m` and the two residuals' words `r`, `q`. -/
def rows (m : Vec F S1x1x1x8x128 .i32) (r q : IVec S8x128 32) (sc0 bi0 sc1 bi1 : Vec F S1x1x8x128 .f32) : FVec F S16x128 .bf16 :=
  shapeCast S16x128 (interleaveRows S16x128
    (affine (addf (loF (shapeCast S8x128 m shapeCasts_S1x1x1x8x128_S8x128)) (addf (loF r) (loF q))) sc0 bi0)
    (affine (addf (hiF (shapeCast S8x128 m shapeCasts_S1x1x1x8x128_S8x128)) (addf (hiF r) (hiF q))) sc1 bi1)
    bitcasts_S16x128_w16_S8x128_w32) shapeCasts_S16x128_S16x128

/-- What a trip's store writes. -/
def regular (rr m : Vec F S1x1x1x8x128 .i32) (t0 t1 t2 t3 : Vec F S1x1x8x128 .i32) (t : Vec F S1x8x128 .i32)
    (sc0 bi0 sc1 bi1 : Vec F S1x1x8x128 .f32) : FVec F S16x128 .bf16 :=
  rows m (resid2 rr t0 t1 t2 t3) (resid3 rr t) sc0 bi0 sc1 bi1

/-- What a store before the loop writes. -/
def first (rr m : Vec F S1x1x1x8x128 .i32) (t0 t1 t2 t3 : Vec F S1x1x8x128 .i32) (t : Vec F S1x8x128 .i32)
    (sc0 bi0 sc1 bi1 : Vec F S1x1x8x128 .f32) : FVec F S16x128 .bf16 :=
  rows m (masked (resid2 rr t0 t1 t2 t3)) (masked (resid3 rr t)) sc0 bi0 sc1 bi1

/-- The half `h` (0 low, 1 high) of a word, widened: sixteen bits over sixteen zeros, read as a number. -/
def part (h : ℕ) (w : BitVec 32) : EReal :=
  if h = 0 then Ideal.ofBits .f32 (w <<< 16) else Ideal.ofBits .f32 (w &&& 4294901760#32)

/-- One weight: the fetched word's half plus the two residual words' halves, scaled and shifted. -/
def entry (h : ℕ) (m r q : BitVec 32) (sc bi : EReal) : EReal := (part h m + (part h r + part h q)) * sc + bi

theorem rows_apply (m : Vec Ideal S1x1x1x8x128 .i32) (r q : IVec S8x128 32) (sc0 bi0 sc1 bi1 : Vec Ideal S1x1x8x128 .f32)
    (s : Fin 8) (h : Fin 2) (l : Fin 128) :
    rows (F := Ideal) m r q sc0 bi0 sc1 bi1 (ix2 ⟨2 * s.val + h.val, by omega⟩ l)
      = entry h.val (m (ix5 0 0 0 s l)) (r (ix2 s l)) (q (ix2 s l))
          (if h.val = 0 then sc0 (ix4 0 0 s l) else sc1 (ix4 0 0 s l)) (if h.val = 0 then bi0 (ix4 0 0 s l) else bi1 (ix4 0 0 s l)) := by
  pointwise [rows, affine, loF, hiF, entry, part]
  have e1 : (2 * s.val + h.val) % 2 = h.val := by omega
  have e2 : (2 * s.val + h.val) / 2 = s.val := by omega
  simp only [e1, e2]
  by_cases h0 : h.val = 0 <;> simp only [h0, if_true, if_false] <;> rfl

/-- The position a lane number reads: a negative one counts from the end. -/
def wrapped (c : BitVec 32) : ℕ :=
  (Scalar.select (IntOp.cmpi CmpIPredicate.slt c 0#32) (IntOp.addi c 128#32) c).toNat % 128

theorem resid3_apply (rr : Vec Ideal S1x1x1x8x128 .i32) (t : Vec Ideal S1x8x128 .i32) (s : Fin 8) (l : Fin 128) :
    resid3 (F := Ideal) rr t (ix2 s l)
      = t (ix3 0 s ⟨wrapped (IntOp.shrsi ArithUnit.vector (rr (ix5 0 0 0 s l)) 9#32), Nat.mod_lt _ (by omega)⟩) := by
  pointwise [resid3, code3, wrapLane]
  rfl

theorem wrapped_low : ∀ n < 512, wrapped (IntOp.andi (BitVec.ofNat 32 n) 127#32) = n % 128 := by decide +kernel

theorem bit7_low : ∀ n < 512, IntOp.cmpi CmpIPredicate.ne (IntOp.andi (BitVec.ofNat 32 n) 128#32) 0#32
    = if n / 128 % 2 = 1 then 1#1 else 0#1 := by decide +kernel

theorem bit8_low : ∀ n < 512, IntOp.cmpi CmpIPredicate.ne (IntOp.andi (BitVec.ofNat 32 n) 256#32) 0#32
    = if n / 256 = 1 then 1#1 else 0#1 := by decide +kernel

/-- The low nine bits of a code. -/
def low9 (c : BitVec 32) : ℕ := (c &&& 511#32).toNat

theorem low9_lt (c : BitVec 32) : low9 c < 512 := by
  unfold low9
  rw [BitVec.toNat_and]
  exact Nat.lt_of_le_of_lt Nat.and_le_right (by decide)

theorem andi_511 (c : BitVec 32) : IntOp.andi c 511#32 = BitVec.ofNat 32 (low9 c) := by
  show c &&& 511#32 = _
  exact (BitVec.ofNat_toNat _ _).symm ▸ by simp [low9]

theorem gather2_apply (rr : Vec Ideal S1x1x1x8x128 .i32) (t : Vec Ideal S1x1x8x128 .i32) (s : Fin 8) (l : Fin 128) :
    gather2 (F := Ideal) rr t (ix2 s l)
      = t (ix4 0 0 s ⟨low9 (rr (ix5 0 0 0 s l)) % 128, Nat.mod_lt _ (by omega)⟩) := by
  have e : gather2 (F := Ideal) rr t (ix2 s l)
      = t (ix4 0 0 s ⟨wrapped (IntOp.andi (IntOp.andi (rr (ix5 0 0 0 s l)) 511#32) 127#32), Nat.mod_lt _ (by omega)⟩) := by
    pointwise [gather2, lane2, code2, wrapLane]
    rfl
  rw [e]
  congr 2
  apply Fin.ext
  show wrapped _ = _
  rw [andi_511, wrapped_low _ (low9_lt _)]

theorem bit2_apply (rr : Vec Ideal S1x1x1x8x128 .i32) (b : BitVec 32) (s : Fin 8) (l : Fin 128) :
    bit2 (F := Ideal) rr b (ix2 s l)
      = IntOp.cmpi CmpIPredicate.ne (IntOp.andi (BitVec.ofNat 32 (low9 (rr (ix5 0 0 0 s l)))) b) 0#32 := by
  rw [← andi_511]
  pointwise [bit2, code2]

theorem select4 (T : Fin 4 → BitVec 32) (n : ℕ) (hl : n < 512) :
    Scalar.select (IntOp.cmpi CmpIPredicate.ne (IntOp.andi (BitVec.ofNat 32 n) 256#32) 0#32)
      (Scalar.select (IntOp.cmpi CmpIPredicate.ne (IntOp.andi (BitVec.ofNat 32 n) 128#32) 0#32) (T 3) (T 2))
      (Scalar.select (IntOp.cmpi CmpIPredicate.ne (IntOp.andi (BitVec.ofNat 32 n) 128#32) 0#32) (T 1) (T 0))
      = T ⟨n / 128, by omega⟩ := by
  rw [bit7_low n hl, bit8_low n hl]
  have : n / 128 = 0 ∨ n / 128 = 1 ∨ n / 128 = 2 ∨ n / 128 = 3 := by omega
  rcases this with h | h | h | h
  · have : ¬ n / 256 = 1 := by omega
    simp [Scalar.select, h, this]
  · have : ¬ n / 256 = 1 := by omega
    simp [Scalar.select, h, this]
  · have : n / 256 = 1 := by omega
    simp [Scalar.select, h, this]
  · have : n / 256 = 1 := by omega
    simp [Scalar.select, h, this]

theorem resid2_apply (rr : Vec Ideal S1x1x1x8x128 .i32) (t0 t1 t2 t3 : Vec Ideal S1x1x8x128 .i32) (s : Fin 8) (l : Fin 128)
    (T : Fin 4 → Fin 128 → BitVec 32) (h0 : ∀ l, t0 (ix4 0 0 s l) = T 0 l) (h1 : ∀ l, t1 (ix4 0 0 s l) = T 1 l)
    (h2 : ∀ l, t2 (ix4 0 0 s l) = T 2 l) (h3 : ∀ l, t3 (ix4 0 0 s l) = T 3 l) :
    resid2 (F := Ideal) rr t0 t1 t2 t3 (ix2 s l)
      = T ⟨low9 (rr (ix5 0 0 0 s l)) / 128, by have := low9_lt (rr (ix5 0 0 0 s l)); omega⟩
          ⟨low9 (rr (ix5 0 0 0 s l)) % 128, Nat.mod_lt _ (by omega)⟩ := by
  show Scalar.select (bit2 (F := Ideal) rr 256#32 (ix2 s l))
      (Scalar.select (bit2 (F := Ideal) rr 128#32 (ix2 s l)) (gather2 (F := Ideal) rr t3 (ix2 s l)) (gather2 (F := Ideal) rr t2 (ix2 s l)))
      (Scalar.select (bit2 (F := Ideal) rr 128#32 (ix2 s l)) (gather2 (F := Ideal) rr t1 (ix2 s l)) (gather2 (F := Ideal) rr t0 (ix2 s l))) = _
  simp only [gather2_apply, bit2_apply, h0, h1, h2, h3]
  exact select4 (fun w => T w ⟨low9 (rr (ix5 0 0 0 s l)) % 128, Nat.mod_lt _ (by omega)⟩) _ (low9_lt _)

theorem keep_low : ∀ s : Fin 8, IntOp.cmpi CmpIPredicate.sge (BitVec.ofNat 32 s.val) 4#32
    = if s.val < 4 then 0#1 else 1#1 := by decide +kernel

theorem masked_apply (r : IVec S8x128 32) (s : Fin 8) (l : Fin 128) :
    masked r (ix2 s l) = if s.val < 4 then 0#32 else r (ix2 s l) := by
  show Scalar.select (keep (ix2 s l)) (r (ix2 s l)) (0#32) = _
  have e : keep (ix2 s l) = IntOp.cmpi CmpIPredicate.sge (BitVec.ofNat 32 s.val) 4#32 := by
    pointwise [keep]
  rw [e, keep_low]
  by_cases h : s.val < 4 <;> simp [Scalar.select, h]

end Cert.KernelIdeal.Model

end
-- ==== Proof.Pieces.lean ====
/- The eight stores of one trip of the kernel's loop, named: each writes sixteen rows of weights, the same function
   of the code row, the word row, the four parts of the first residual codebook, the second, the scales and biases. -/
module
public import proofs.«01_k».proof.Proof.Gen.KernelIdeal.Loops
public import proofs.«01_k».proof.Proof.Group
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
variable {F : FTy → Type} [FloatOps F]
open Model

/-- What one load reads. -/
abbrev ld {s : Shape} {e : EltTy} (m : Memref sig .tc .vmem s e) (X : BufTy.Contents (Elt F) m.view.ty) (off size : Fin s.rank → ℕ) (inb : ∀ a, off a + size a ≤ s.size a) :=
  View.readAt (Elt F) m.view (Rect.unit off size inb).toLoadRect X

/-- A trip's stores, newest first: the second block of columns, then the first; in each, the word rows 3 to 0. -/
theorem tripL_eq (𝒱 : Variants) (c : Dev nD) (bd : Option 𝒱.V) (i : grid0.Coords) (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    tripL_k0_t1 (F := F) 𝒱 c bd i arg1 harg1 arg2 harg2 arg3 harg3 arg4 harg4 arg5 harg5 arg6 harg6 arg7 harg7 arg8 harg8 X_arg2 X_arg3 X_arg4 X_arg5 X_arg6 k =
   [⟨Rect.unit (s := S2560x256) (k0_off17 k 3#32) ![16, 128] (k0_off17_inb k 3), regular
      (ld arg2 X_arg2 (k0_off15 k) S1x1x1x8x128.size (k0_off15_inb k)) (ld arg2 X_arg2 (k0_off20 k) S1x1x1x8x128.size (k0_off20_inb k))
      (ld arg3 X_arg3 ![3, 0, 0, 0] S1x1x8x128.size inb_S4x4x8x128_S1x1x8x128_3_0_0_0)
      (ld arg3 X_arg3 ![3, 1, 0, 0] S1x1x8x128.size inb_S4x4x8x128_S1x1x8x128_3_1_0_0)
      (ld arg3 X_arg3 ![3, 2, 0, 0] S1x1x8x128.size inb_S4x4x8x128_S1x1x8x128_3_2_0_0)
      (ld arg3 X_arg3 ![3, 3, 0, 0] S1x1x8x128.size inb_S4x4x8x128_S1x1x8x128_3_3_0_0)
      (ld arg4 X_arg4 ![3, 0, 0] S1x8x128.size inb_S4x8x128_S1x8x128_3_0_0)
      (ld arg5 X_arg5 (k0_off13 k) S1x1x8x128.size (k0_off13_inb k)) (ld arg6 X_arg6 (k0_off13 k) S1x1x8x128.size (k0_off13_inb k))
      (ld arg5 X_arg5 (k0_off14 k) S1x1x8x128.size (k0_off14_inb k)) (ld arg6 X_arg6 (k0_off14 k) S1x1x8x128.size (k0_off14_inb k))⟩,
    ⟨Rect.unit (s := S2560x256) (k0_off17 k 2#32) ![16, 128] (k0_off17_inb k 2), regular
      (ld arg2 X_arg2 (k0_off15 k) S1x1x1x8x128.size (k0_off15_inb k)) (ld arg2 X_arg2 (k0_off19 k) S1x1x1x8x128.size (k0_off19_inb k))
      (ld arg3 X_arg3 ![2, 0, 0, 0] S1x1x8x128.size inb_S4x4x8x128_S1x1x8x128_2_0_0_0)
      (ld arg3 X_arg3 ![2, 1, 0, 0] S1x1x8x128.size inb_S4x4x8x128_S1x1x8x128_2_1_0_0)
      (ld arg3 X_arg3 ![2, 2, 0, 0] S1x1x8x128.size inb_S4x4x8x128_S1x1x8x128_2_2_0_0)
      (ld arg3 X_arg3 ![2, 3, 0, 0] S1x1x8x128.size inb_S4x4x8x128_S1x1x8x128_2_3_0_0)
      (ld arg4 X_arg4 ![2, 0, 0] S1x8x128.size inb_S4x8x128_S1x8x128_2_0_0)
      (ld arg5 X_arg5 (k0_off10 k) S1x1x8x128.size (k0_off10_inb k)) (ld arg6 X_arg6 (k0_off10 k) S1x1x8x128.size (k0_off10_inb k))
      (ld arg5 X_arg5 (k0_off11 k) S1x1x8x128.size (k0_off11_inb k)) (ld arg6 X_arg6 (k0_off11 k) S1x1x8x128.size (k0_off11_inb k))⟩,
    ⟨Rect.unit (s := S2560x256) (k0_off17 k 1#32) ![16, 128] (k0_off17_inb k 1), regular
      (ld arg2 X_arg2 (k0_off15 k) S1x1x1x8x128.size (k0_off15_inb k)) (ld arg2 X_arg2 (k0_off18 k) S1x1x1x8x128.size (k0_off18_inb k))
      (ld arg3 X_arg3 ![1, 0, 0, 0] S1x1x8x128.size inb_S4x4x8x128_S1x1x8x128_1_0_0_0)
      (ld arg3 X_arg3 ![1, 1, 0, 0] S1x1x8x128.size inb_S4x4x8x128_S1x1x8x128_1_1_0_0)
      (ld arg3 X_arg3 ![1, 2, 0, 0] S1x1x8x128.size inb_S4x4x8x128_S1x1x8x128_1_2_0_0)
      (ld arg3 X_arg3 ![1, 3, 0, 0] S1x1x8x128.size inb_S4x4x8x128_S1x1x8x128_1_3_0_0)
      (ld arg4 X_arg4 ![1, 0, 0] S1x8x128.size inb_S4x8x128_S1x8x128_1_0_0)
      (ld arg5 X_arg5 (k0_off7 k) S1x1x8x128.size (k0_off7_inb k)) (ld arg6 X_arg6 (k0_off7 k) S1x1x8x128.size (k0_off7_inb k))
      (ld arg5 X_arg5 (k0_off8 k) S1x1x8x128.size (k0_off8_inb k)) (ld arg6 X_arg6 (k0_off8 k) S1x1x8x128.size (k0_off8_inb k))⟩,
    ⟨Rect.unit (s := S2560x256) (k0_off17 k 0#32) ![16, 128] (k0_off17_inb k 0), regular
      (ld arg2 X_arg2 (k0_off15 k) S1x1x1x8x128.size (k0_off15_inb k)) (ld arg2 X_arg2 (k0_off16 k) S1x1x1x8x128.size (k0_off16_inb k))
      (ld arg3 X_arg3 ![0, 0, 0, 0] S1x1x8x128.size inb_S4x4x8x128_S1x1x8x128_0_0_0_0)
      (ld arg3 X_arg3 ![0, 1, 0, 0] S1x1x8x128.size inb_S4x4x8x128_S1x1x8x128_0_1_0_0)
      (ld arg3 X_arg3 ![0, 2, 0, 0] S1x1x8x128.size inb_S4x4x8x128_S1x1x8x128_0_2_0_0)
      (ld arg3 X_arg3 ![0, 3, 0, 0] S1x1x8x128.size inb_S4x4x8x128_S1x1x8x128_0_3_0_0)
      (ld arg4 X_arg4 ![0, 0, 0] S1x8x128.size inb_S4x8x128_S1x8x128_0_0_0)
      (ld arg5 X_arg5 (k0_off3 k) S1x1x8x128.size (k0_off3_inb k)) (ld arg6 X_arg6 (k0_off3 k) S1x1x8x128.size (k0_off3_inb k))
      (ld arg5 X_arg5 (k0_off4 k) S1x1x8x128.size (k0_off4_inb k)) (ld arg6 X_arg6 (k0_off4 k) S1x1x8x128.size (k0_off4_inb k))⟩,
    ⟨Rect.unit (s := S2560x256) (k0_off5 k 3#32) ![16, 128] (k0_off5_inb k 3), regular
      (ld arg2 X_arg2 (k0_off1 k) S1x1x1x8x128.size (k0_off1_inb k)) (ld arg2 X_arg2 (k0_off12 k) S1x1x1x8x128.size (k0_off12_inb k))
      (ld arg3 X_arg3 ![3, 0, 0, 0] S1x1x8x128.size inb_S4x4x8x128_S1x1x8x128_3_0_0_0)
      (ld arg3 X_arg3 ![3, 1, 0, 0] S1x1x8x128.size inb_S4x4x8x128_S1x1x8x128_3_1_0_0)
      (ld arg3 X_arg3 ![3, 2, 0, 0] S1x1x8x128.size inb_S4x4x8x128_S1x1x8x128_3_2_0_0)
      (ld arg3 X_arg3 ![3, 3, 0, 0] S1x1x8x128.size inb_S4x4x8x128_S1x1x8x128_3_3_0_0)
      (ld arg4 X_arg4 ![3, 0, 0] S1x8x128.size inb_S4x8x128_S1x8x128_3_0_0)
      (ld arg5 X_arg5 (k0_off13 k) S1x1x8x128.size (k0_off13_inb k)) (ld arg6 X_arg6 (k0_off13 k) S1x1x8x128.size (k0_off13_inb k))
      (ld arg5 X_arg5 (k0_off14 k) S1x1x8x128.size (k0_off14_inb k)) (ld arg6 X_arg6 (k0_off14 k) S1x1x8x128.size (k0_off14_inb k))⟩,
    ⟨Rect.unit (s := S2560x256) (k0_off5 k 2#32) ![16, 128] (k0_off5_inb k 2), regular
      (ld arg2 X_arg2 (k0_off1 k) S1x1x1x8x128.size (k0_off1_inb k)) (ld arg2 X_arg2 (k0_off9 k) S1x1x1x8x128.size (k0_off9_inb k))
      (ld arg3 X_arg3 ![2, 0, 0, 0] S1x1x8x128.size inb_S4x4x8x128_S1x1x8x128_2_0_0_0)
      (ld arg3 X_arg3 ![2, 1, 0, 0] S1x1x8x128.size inb_S4x4x8x128_S1x1x8x128_2_1_0_0)
      (ld arg3 X_arg3 ![2, 2, 0, 0] S1x1x8x128.size inb_S4x4x8x128_S1x1x8x128_2_2_0_0)
      (ld arg3 X_arg3 ![2, 3, 0, 0] S1x1x8x128.size inb_S4x4x8x128_S1x1x8x128_2_3_0_0)
      (ld arg4 X_arg4 ![2, 0, 0] S1x8x128.size inb_S4x8x128_S1x8x128_2_0_0)
      (ld arg5 X_arg5 (k0_off10 k) S1x1x8x128.size (k0_off10_inb k)) (ld arg6 X_arg6 (k0_off10 k) S1x1x8x128.size (k0_off10_inb k))
      (ld arg5 X_arg5 (k0_off11 k) S1x1x8x128.size (k0_off11_inb k)) (ld arg6 X_arg6 (k0_off11 k) S1x1x8x128.size (k0_off11_inb k))⟩,
    ⟨Rect.unit (s := S2560x256) (k0_off5 k 1#32) ![16, 128] (k0_off5_inb k 1), regular
      (ld arg2 X_arg2 (k0_off1 k) S1x1x1x8x128.size (k0_off1_inb k)) (ld arg2 X_arg2 (k0_off6 k) S1x1x1x8x128.size (k0_off6_inb k))
      (ld arg3 X_arg3 ![1, 0, 0, 0] S1x1x8x128.size inb_S4x4x8x128_S1x1x8x128_1_0_0_0)
      (ld arg3 X_arg3 ![1, 1, 0, 0] S1x1x8x128.size inb_S4x4x8x128_S1x1x8x128_1_1_0_0)
      (ld arg3 X_arg3 ![1, 2, 0, 0] S1x1x8x128.size inb_S4x4x8x128_S1x1x8x128_1_2_0_0)
      (ld arg3 X_arg3 ![1, 3, 0, 0] S1x1x8x128.size inb_S4x4x8x128_S1x1x8x128_1_3_0_0)
      (ld arg4 X_arg4 ![1, 0, 0] S1x8x128.size inb_S4x8x128_S1x8x128_1_0_0)
      (ld arg5 X_arg5 (k0_off7 k) S1x1x8x128.size (k0_off7_inb k)) (ld arg6 X_arg6 (k0_off7 k) S1x1x8x128.size (k0_off7_inb k))
      (ld arg5 X_arg5 (k0_off8 k) S1x1x8x128.size (k0_off8_inb k)) (ld arg6 X_arg6 (k0_off8 k) S1x1x8x128.size (k0_off8_inb k))⟩,
    ⟨Rect.unit (s := S2560x256) (k0_off5 k 0#32) ![16, 128] (k0_off5_inb k 0), regular
      (ld arg2 X_arg2 (k0_off1 k) S1x1x1x8x128.size (k0_off1_inb k)) (ld arg2 X_arg2 (k0_off2 k) S1x1x1x8x128.size (k0_off2_inb k))
      (ld arg3 X_arg3 ![0, 0, 0, 0] S1x1x8x128.size inb_S4x4x8x128_S1x1x8x128_0_0_0_0)
      (ld arg3 X_arg3 ![0, 1, 0, 0] S1x1x8x128.size inb_S4x4x8x128_S1x1x8x128_0_1_0_0)
      (ld arg3 X_arg3 ![0, 2, 0, 0] S1x1x8x128.size inb_S4x4x8x128_S1x1x8x128_0_2_0_0)
      (ld arg3 X_arg3 ![0, 3, 0, 0] S1x1x8x128.size inb_S4x4x8x128_S1x1x8x128_0_3_0_0)
      (ld arg4 X_arg4 ![0, 0, 0] S1x8x128.size inb_S4x8x128_S1x8x128_0_0_0)
      (ld arg5 X_arg5 (k0_off3 k) S1x1x8x128.size (k0_off3_inb k)) (ld arg6 X_arg6 (k0_off3 k) S1x1x8x128.size (k0_off3_inb k))
      (ld arg5 X_arg5 (k0_off4 k) S1x1x8x128.size (k0_off4_inb k)) (ld arg6 X_arg6 (k0_off4 k) S1x1x8x128.size (k0_off4_inb k))⟩] := by
  unfold tripL_k0_t1 trip_k0_t1
  rfl

/-- The stores before the loop, newest first: the same of group 0, the residuals of its first four sub-vectors cleared. -/
def firstL (arg2 : Memref sig .tc .vmem S2x40x5x8x128 .i32) (arg3 : Memref sig .tc .vmem S4x4x8x128 .i32) (arg4 : Memref sig .tc .vmem S4x8x128 .i32) (arg5 : Memref sig .tc .vmem S40x8x8x128 .f32) (arg6 : Memref sig .tc .vmem S40x8x8x128 .f32)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    List (View.Piece (Elt F) S2560x256 .bf16) :=
   [⟨Rect.unit (s := S2560x256) ![48, 128] ![16, 128] inb_S2560x256_S16x128_48_128, first
      (ld arg2 X_arg2 ![1, 0, 4, 0, 0] S1x1x1x8x128.size inb_S2x40x5x8x128_S1x1x1x8x128_1_0_4_0_0) (ld arg2 X_arg2 ![1, 0, 3, 0, 0] S1x1x1x8x128.size inb_S2x40x5x8x128_S1x1x1x8x128_1_0_3_0_0)
      (ld arg3 X_arg3 ![3, 0, 0, 0] S1x1x8x128.size inb_S4x4x8x128_S1x1x8x128_3_0_0_0)
      (ld arg3 X_arg3 ![3, 1, 0, 0] S1x1x8x128.size inb_S4x4x8x128_S1x1x8x128_3_1_0_0)
      (ld arg3 X_arg3 ![3, 2, 0, 0] S1x1x8x128.size inb_S4x4x8x128_S1x1x8x128_3_2_0_0)
      (ld arg3 X_arg3 ![3, 3, 0, 0] S1x1x8x128.size inb_S4x4x8x128_S1x1x8x128_3_3_0_0)
      (ld arg4 X_arg4 ![3, 0, 0] S1x8x128.size inb_S4x8x128_S1x8x128_3_0_0)
      (ld arg5 X_arg5 ![0, 6, 0, 0] S1x1x8x128.size inb_S40x8x8x128_S1x1x8x128_0_6_0_0) (ld arg6 X_arg6 ![0, 6, 0, 0] S1x1x8x128.size inb_S40x8x8x128_S1x1x8x128_0_6_0_0)
      (ld arg5 X_arg5 ![0, 7, 0, 0] S1x1x8x128.size inb_S40x8x8x128_S1x1x8x128_0_7_0_0) (ld arg6 X_arg6 ![0, 7, 0, 0] S1x1x8x128.size inb_S40x8x8x128_S1x1x8x128_0_7_0_0)⟩,
    ⟨Rect.unit (s := S2560x256) ![32, 128] ![16, 128] inb_S2560x256_S16x128_32_128, first
      (ld arg2 X_arg2 ![1, 0, 4, 0, 0] S1x1x1x8x128.size inb_S2x40x5x8x128_S1x1x1x8x128_1_0_4_0_0) (ld arg2 X_arg2 ![1, 0, 2, 0, 0] S1x1x1x8x128.size inb_S2x40x5x8x128_S1x1x1x8x128_1_0_2_0_0)
      (ld arg3 X_arg3 ![2, 0, 0, 0] S1x1x8x128.size inb_S4x4x8x128_S1x1x8x128_2_0_0_0)
      (ld arg3 X_arg3 ![2, 1, 0, 0] S1x1x8x128.size inb_S4x4x8x128_S1x1x8x128_2_1_0_0)
      (ld arg3 X_arg3 ![2, 2, 0, 0] S1x1x8x128.size inb_S4x4x8x128_S1x1x8x128_2_2_0_0)
      (ld arg3 X_arg3 ![2, 3, 0, 0] S1x1x8x128.size inb_S4x4x8x128_S1x1x8x128_2_3_0_0)
      (ld arg4 X_arg4 ![2, 0, 0] S1x8x128.size inb_S4x8x128_S1x8x128_2_0_0)
      (ld arg5 X_arg5 ![0, 4, 0, 0] S1x1x8x128.size inb_S40x8x8x128_S1x1x8x128_0_4_0_0) (ld arg6 X_arg6 ![0, 4, 0, 0] S1x1x8x128.size inb_S40x8x8x128_S1x1x8x128_0_4_0_0)
      (ld arg5 X_arg5 ![0, 5, 0, 0] S1x1x8x128.size inb_S40x8x8x128_S1x1x8x128_0_5_0_0) (ld arg6 X_arg6 ![0, 5, 0, 0] S1x1x8x128.size inb_S40x8x8x128_S1x1x8x128_0_5_0_0)⟩,
    ⟨Rect.unit (s := S2560x256) ![16, 128] ![16, 128] inb_S2560x256_S16x128_16_128, first
      (ld arg2 X_arg2 ![1, 0, 4, 0, 0] S1x1x1x8x128.size inb_S2x40x5x8x128_S1x1x1x8x128_1_0_4_0_0) (ld arg2 X_arg2 ![1, 0, 1, 0, 0] S1x1x1x8x128.size inb_S2x40x5x8x128_S1x1x1x8x128_1_0_1_0_0)
      (ld arg3 X_arg3 ![1, 0, 0, 0] S1x1x8x128.size inb_S4x4x8x128_S1x1x8x128_1_0_0_0)
      (ld arg3 X_arg3 ![1, 1, 0, 0] S1x1x8x128.size inb_S4x4x8x128_S1x1x8x128_1_1_0_0)
      (ld arg3 X_arg3 ![1, 2, 0, 0] S1x1x8x128.size inb_S4x4x8x128_S1x1x8x128_1_2_0_0)
      (ld arg3 X_arg3 ![1, 3, 0, 0] S1x1x8x128.size inb_S4x4x8x128_S1x1x8x128_1_3_0_0)
      (ld arg4 X_arg4 ![1, 0, 0] S1x8x128.size inb_S4x8x128_S1x8x128_1_0_0)
      (ld arg5 X_arg5 ![0, 2, 0, 0] S1x1x8x128.size inb_S40x8x8x128_S1x1x8x128_0_2_0_0) (ld arg6 X_arg6 ![0, 2, 0, 0] S1x1x8x128.size inb_S40x8x8x128_S1x1x8x128_0_2_0_0)
      (ld arg5 X_arg5 ![0, 3, 0, 0] S1x1x8x128.size inb_S40x8x8x128_S1x1x8x128_0_3_0_0) (ld arg6 X_arg6 ![0, 3, 0, 0] S1x1x8x128.size inb_S40x8x8x128_S1x1x8x128_0_3_0_0)⟩,
    ⟨Rect.unit (s := S2560x256) ![0, 128] ![16, 128] inb_S2560x256_S16x128_0_128, first
      (ld arg2 X_arg2 ![1, 0, 4, 0, 0] S1x1x1x8x128.size inb_S2x40x5x8x128_S1x1x1x8x128_1_0_4_0_0) (ld arg2 X_arg2 ![1, 0, 0, 0, 0] S1x1x1x8x128.size inb_S2x40x5x8x128_S1x1x1x8x128_1_0_0_0_0)
      (ld arg3 X_arg3 ![0, 0, 0, 0] S1x1x8x128.size inb_S4x4x8x128_S1x1x8x128_0_0_0_0)
      (ld arg3 X_arg3 ![0, 1, 0, 0] S1x1x8x128.size inb_S4x4x8x128_S1x1x8x128_0_1_0_0)
      (ld arg3 X_arg3 ![0, 2, 0, 0] S1x1x8x128.size inb_S4x4x8x128_S1x1x8x128_0_2_0_0)
      (ld arg3 X_arg3 ![0, 3, 0, 0] S1x1x8x128.size inb_S4x4x8x128_S1x1x8x128_0_3_0_0)
      (ld arg4 X_arg4 ![0, 0, 0] S1x8x128.size inb_S4x8x128_S1x8x128_0_0_0)
      (ld arg5 X_arg5 ![0, 0, 0, 0] S1x1x8x128.size inb_S40x8x8x128_S1x1x8x128_0_0_0_0) (ld arg6 X_arg6 ![0, 0, 0, 0] S1x1x8x128.size inb_S40x8x8x128_S1x1x8x128_0_0_0_0)
      (ld arg5 X_arg5 ![0, 1, 0, 0] S1x1x8x128.size inb_S40x8x8x128_S1x1x8x128_0_1_0_0) (ld arg6 X_arg6 ![0, 1, 0, 0] S1x1x8x128.size inb_S40x8x8x128_S1x1x8x128_0_1_0_0)⟩,
    ⟨Rect.unit (s := S2560x256) ![48, 0] ![16, 128] inb_S2560x256_S16x128_48_0, first
      (ld arg2 X_arg2 ![0, 0, 4, 0, 0] S1x1x1x8x128.size inb_S2x40x5x8x128_S1x1x1x8x128_0_0_4_0_0) (ld arg2 X_arg2 ![0, 0, 3, 0, 0] S1x1x1x8x128.size inb_S2x40x5x8x128_S1x1x1x8x128_0_0_3_0_0)
      (ld arg3 X_arg3 ![3, 0, 0, 0] S1x1x8x128.size inb_S4x4x8x128_S1x1x8x128_3_0_0_0)
      (ld arg3 X_arg3 ![3, 1, 0, 0] S1x1x8x128.size inb_S4x4x8x128_S1x1x8x128_3_1_0_0)
      (ld arg3 X_arg3 ![3, 2, 0, 0] S1x1x8x128.size inb_S4x4x8x128_S1x1x8x128_3_2_0_0)
      (ld arg3 X_arg3 ![3, 3, 0, 0] S1x1x8x128.size inb_S4x4x8x128_S1x1x8x128_3_3_0_0)
      (ld arg4 X_arg4 ![3, 0, 0] S1x8x128.size inb_S4x8x128_S1x8x128_3_0_0)
      (ld arg5 X_arg5 ![0, 6, 0, 0] S1x1x8x128.size inb_S40x8x8x128_S1x1x8x128_0_6_0_0) (ld arg6 X_arg6 ![0, 6, 0, 0] S1x1x8x128.size inb_S40x8x8x128_S1x1x8x128_0_6_0_0)
      (ld arg5 X_arg5 ![0, 7, 0, 0] S1x1x8x128.size inb_S40x8x8x128_S1x1x8x128_0_7_0_0) (ld arg6 X_arg6 ![0, 7, 0, 0] S1x1x8x128.size inb_S40x8x8x128_S1x1x8x128_0_7_0_0)⟩,
    ⟨Rect.unit (s := S2560x256) ![32, 0] ![16, 128] inb_S2560x256_S16x128_32_0, first
      (ld arg2 X_arg2 ![0, 0, 4, 0, 0] S1x1x1x8x128.size inb_S2x40x5x8x128_S1x1x1x8x128_0_0_4_0_0) (ld arg2 X_arg2 ![0, 0, 2, 0, 0] S1x1x1x8x128.size inb_S2x40x5x8x128_S1x1x1x8x128_0_0_2_0_0)
      (ld arg3 X_arg3 ![2, 0, 0, 0] S1x1x8x128.size inb_S4x4x8x128_S1x1x8x128_2_0_0_0)
      (ld arg3 X_arg3 ![2, 1, 0, 0] S1x1x8x128.size inb_S4x4x8x128_S1x1x8x128_2_1_0_0)
      (ld arg3 X_arg3 ![2, 2, 0, 0] S1x1x8x128.size inb_S4x4x8x128_S1x1x8x128_2_2_0_0)
      (ld arg3 X_arg3 ![2, 3, 0, 0] S1x1x8x128.size inb_S4x4x8x128_S1x1x8x128_2_3_0_0)
      (ld arg4 X_arg4 ![2, 0, 0] S1x8x128.size inb_S4x8x128_S1x8x128_2_0_0)
      (ld arg5 X_arg5 ![0, 4, 0, 0] S1x1x8x128.size inb_S40x8x8x128_S1x1x8x128_0_4_0_0) (ld arg6 X_arg6 ![0, 4, 0, 0] S1x1x8x128.size inb_S40x8x8x128_S1x1x8x128_0_4_0_0)
      (ld arg5 X_arg5 ![0, 5, 0, 0] S1x1x8x128.size inb_S40x8x8x128_S1x1x8x128_0_5_0_0) (ld arg6 X_arg6 ![0, 5, 0, 0] S1x1x8x128.size inb_S40x8x8x128_S1x1x8x128_0_5_0_0)⟩,
    ⟨Rect.unit (s := S2560x256) ![16, 0] ![16, 128] inb_S2560x256_S16x128_16_0, first
      (ld arg2 X_arg2 ![0, 0, 4, 0, 0] S1x1x1x8x128.size inb_S2x40x5x8x128_S1x1x1x8x128_0_0_4_0_0) (ld arg2 X_arg2 ![0, 0, 1, 0, 0] S1x1x1x8x128.size inb_S2x40x5x8x128_S1x1x1x8x128_0_0_1_0_0)
      (ld arg3 X_arg3 ![1, 0, 0, 0] S1x1x8x128.size inb_S4x4x8x128_S1x1x8x128_1_0_0_0)
      (ld arg3 X_arg3 ![1, 1, 0, 0] S1x1x8x128.size inb_S4x4x8x128_S1x1x8x128_1_1_0_0)
      (ld arg3 X_arg3 ![1, 2, 0, 0] S1x1x8x128.size inb_S4x4x8x128_S1x1x8x128_1_2_0_0)
      (ld arg3 X_arg3 ![1, 3, 0, 0] S1x1x8x128.size inb_S4x4x8x128_S1x1x8x128_1_3_0_0)
      (ld arg4 X_arg4 ![1, 0, 0] S1x8x128.size inb_S4x8x128_S1x8x128_1_0_0)
      (ld arg5 X_arg5 ![0, 2, 0, 0] S1x1x8x128.size inb_S40x8x8x128_S1x1x8x128_0_2_0_0) (ld arg6 X_arg6 ![0, 2, 0, 0] S1x1x8x128.size inb_S40x8x8x128_S1x1x8x128_0_2_0_0)
      (ld arg5 X_arg5 ![0, 3, 0, 0] S1x1x8x128.size inb_S40x8x8x128_S1x1x8x128_0_3_0_0) (ld arg6 X_arg6 ![0, 3, 0, 0] S1x1x8x128.size inb_S40x8x8x128_S1x1x8x128_0_3_0_0)⟩,
    ⟨Rect.unit (s := S2560x256) ![0, 0] ![16, 128] inb_S2560x256_S16x128_0_0, first
      (ld arg2 X_arg2 ![0, 0, 4, 0, 0] S1x1x1x8x128.size inb_S2x40x5x8x128_S1x1x1x8x128_0_0_4_0_0) (ld arg2 X_arg2 ![0, 0, 0, 0, 0] S1x1x1x8x128.size inb_S2x40x5x8x128_S1x1x1x8x128_0_0_0_0_0)
      (ld arg3 X_arg3 ![0, 0, 0, 0] S1x1x8x128.size inb_S4x4x8x128_S1x1x8x128_0_0_0_0)
      (ld arg3 X_arg3 ![0, 1, 0, 0] S1x1x8x128.size inb_S4x4x8x128_S1x1x8x128_0_1_0_0)
      (ld arg3 X_arg3 ![0, 2, 0, 0] S1x1x8x128.size inb_S4x4x8x128_S1x1x8x128_0_2_0_0)
      (ld arg3 X_arg3 ![0, 3, 0, 0] S1x1x8x128.size inb_S4x4x8x128_S1x1x8x128_0_3_0_0)
      (ld arg4 X_arg4 ![0, 0, 0] S1x8x128.size inb_S4x8x128_S1x8x128_0_0_0)
      (ld arg5 X_arg5 ![0, 0, 0, 0] S1x1x8x128.size inb_S40x8x8x128_S1x1x8x128_0_0_0_0) (ld arg6 X_arg6 ![0, 0, 0, 0] S1x1x8x128.size inb_S40x8x8x128_S1x1x8x128_0_0_0_0)
      (ld arg5 X_arg5 ![0, 1, 0, 0] S1x1x8x128.size inb_S40x8x8x128_S1x1x8x128_0_1_0_0) (ld arg6 X_arg6 ![0, 1, 0, 0] S1x1x8x128.size inb_S40x8x8x128_S1x1x8x128_0_1_0_0)⟩]

end Cert.KernelIdeal.Gen

end
-- ==== Proof.Decode.lean ====
/- The decoded weights, in closed form, and what the kernel's stores leave in the scratch buffer.

   Row `64 * vg + 16 * p + 2 * s + h` of the scratch, column `128 * ob + l`, holds component `2 * p + h` of the vector
   of slot `8 * vg + s` of output `l` of the block `ob`: the half `h` of the fetched word, plus the two residuals'
   halves (none in the slots 0 to 3), scaled and shifted. Every store agrees with that one function, and together
   they cover the buffer. -/
module

public import proofs.«01_k».proof.Proof.Pieces

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Model

/-- The word of the first residual codebook (its four words a vector in rows of 128, one copy per sublane) a code selects. -/
def word2 (x2 : Vec Ideal S4x4x8x128 .i32) (p : Fin 4) (s : Fin 8) (c : BitVec 32) : BitVec 32 :=
  x2 (ix4 p ⟨low9 c / 128, by have := low9_lt c; omega⟩ s ⟨low9 c % 128, Nat.mod_lt _ (by omega)⟩)

/-- The word of the second. -/
def word3 (x3 : Vec Ideal S4x8x128 .i32) (p : Fin 4) (s : Fin 8) (c : BitVec 32) : BitVec 32 :=
  x3 (ix3 p s ⟨wrapped (IntOp.shrsi ArithUnit.vector c 9#32), Nat.mod_lt _ (by omega)⟩)

section

variable (x1 : Vec Ideal S2x40x5x8x128 .i32) (x2 : Vec Ideal S4x4x8x128 .i32) (x3 : Vec Ideal S4x8x128 .i32)
  (x4 : Vec Ideal S40x8x8x128 .f32) (x5 : Vec Ideal S40x8x8x128 .f32)

/-- One decoded weight. -/
def weight (ob : Fin 2) (vg : Fin 40) (p : Fin 4) (s : Fin 8) (h : Fin 2) (l : Fin 128) : EReal :=
  entry h.val (x1 (ix5 ob vg ⟨p.val, by omega⟩ s l))
    (if vg.val = 0 ∧ s.val < 4 then 0#32 else word2 x2 p s (x1 (ix5 ob vg 4 s l)))
    (if vg.val = 0 ∧ s.val < 4 then 0#32 else word3 x3 p s (x1 (ix5 ob vg 4 s l)))
    (x4 (ix4 vg ⟨2 * p.val + h.val, by omega⟩ s l)) (x5 (ix4 vg ⟨2 * p.val + h.val, by omega⟩ s l))

/-- The scratch buffer, decoded. -/
def decoded (y : S2560x256.Idx) : EReal :=
  weight x1 x2 x3 x4 x5 ⟨(y 1).val / 128, by have : (y 1).val < 256 := (y 1).isLt; omega⟩
    ⟨(y 0).val / 64, by have : (y 0).val < 2560 := (y 0).isLt; omega⟩
    ⟨(y 0).val / 16 % 4, by omega⟩ ⟨(y 0).val / 2 % 8, by omega⟩ ⟨(y 0).val % 2, by omega⟩ ⟨(y 1).val % 128, by omega⟩

theorem decoded_at (ob : Fin 2) (vg : Fin 40) (p : Fin 4) (s : Fin 8) (h : Fin 2) (l : Fin 128) (y : S2560x256.Idx)
    (h0 : (y 0).val = 64 * vg.val + 16 * p.val + (2 * s.val + h.val)) (h1 : (y 1).val = 128 * ob.val + l.val) :
    decoded x1 x2 x3 x4 x5 y = weight x1 x2 x3 x4 x5 ob vg p s h l := by
  unfold decoded
  congr 1 <;> apply Fin.ext <;> simp only [h0, h1] <;> omega

theorem halves (x4 : Vec Ideal S40x8x8x128 .f32) (vg : Fin 40) (p : Fin 4) (s : Fin 8) (h : Fin 2) (l : Fin 128)
    (sc0 sc1 : Vec Ideal S1x1x8x128 .f32)
    (h0 : ∀ s l, sc0 (ix4 0 0 s l) = x4 (ix4 vg ⟨2 * p.val, by omega⟩ s l))
    (h1 : ∀ s l, sc1 (ix4 0 0 s l) = x4 (ix4 vg ⟨2 * p.val + 1, by omega⟩ s l)) :
    (if h.val = 0 then sc0 (ix4 0 0 s l) else sc1 (ix4 0 0 s l)) = x4 (ix4 vg ⟨2 * p.val + h.val, by omega⟩ s l) := by
  rw [h0, h1]
  have : h = 0 ∨ h = 1 := by omega
  rcases this with rfl | rfl <;> rfl

section

variable (ob : Fin 2) (vg : Fin 40) (p : Fin 4) (rr m : Vec Ideal S1x1x1x8x128 .i32) (t0 t1 t2 t3 : Vec Ideal S1x1x8x128 .i32)
  (t : Vec Ideal S1x8x128 .i32) (sc0 bi0 sc1 bi1 : Vec Ideal S1x1x8x128 .f32)
  (hrr : ∀ s l, rr (ix5 0 0 0 s l) = x1 (ix5 ob vg 4 s l)) (hm : ∀ s l, m (ix5 0 0 0 s l) = x1 (ix5 ob vg ⟨p.val, by omega⟩ s l))
  (ht0 : ∀ s l, t0 (ix4 0 0 s l) = x2 (ix4 p 0 s l)) (ht1 : ∀ s l, t1 (ix4 0 0 s l) = x2 (ix4 p 1 s l))
  (ht2 : ∀ s l, t2 (ix4 0 0 s l) = x2 (ix4 p 2 s l)) (ht3 : ∀ s l, t3 (ix4 0 0 s l) = x2 (ix4 p 3 s l))
  (ht : ∀ s l, t (ix3 0 s l) = x3 (ix3 p s l))
  (hsc0 : ∀ s l, sc0 (ix4 0 0 s l) = x4 (ix4 vg ⟨2 * p.val, by omega⟩ s l))
  (hbi0 : ∀ s l, bi0 (ix4 0 0 s l) = x5 (ix4 vg ⟨2 * p.val, by omega⟩ s l))
  (hsc1 : ∀ s l, sc1 (ix4 0 0 s l) = x4 (ix4 vg ⟨2 * p.val + 1, by omega⟩ s l))
  (hbi1 : ∀ s l, bi1 (ix4 0 0 s l) = x5 (ix4 vg ⟨2 * p.val + 1, by omega⟩ s l))
include hrr ht0 ht1 ht2 ht3 in
theorem resid2_word (s : Fin 8) (l : Fin 128) :
    resid2 (F := Ideal) rr t0 t1 t2 t3 (ix2 s l) = word2 x2 p s (x1 (ix5 ob vg 4 s l)) := by
  rw [resid2_apply rr t0 t1 t2 t3 s l (fun w l => x2 (ix4 p w s l)) (ht0 s) (ht1 s) (ht2 s) (ht3 s)]
  unfold word2
  simp only [hrr]

include hrr ht in
theorem resid3_word (s : Fin 8) (l : Fin 128) :
    resid3 (F := Ideal) rr t (ix2 s l) = word3 x3 p s (x1 (ix5 ob vg 4 s l)) := by
  rw [resid3_apply, ht]
  unfold word3
  congr 2
  apply Fin.ext
  show wrapped _ = wrapped _
  rw [hrr]

include hrr hm ht0 ht1 ht2 ht3 ht hsc0 hbi0 hsc1 hbi1 in
/-- A trip's sixteen rows are the decoded weights. -/
theorem regular_weight (hvg : vg.val ≠ 0) (s : Fin 8) (h : Fin 2) (l : Fin 128) :
    regular (F := Ideal) rr m t0 t1 t2 t3 t sc0 bi0 sc1 bi1 (ix2 ⟨2 * s.val + h.val, by omega⟩ l)
      = weight x1 x2 x3 x4 x5 ob vg p s h l := by
  unfold regular weight
  rw [rows_apply, hm, resid2_word x1 x2 ob vg p rr t0 t1 t2 t3 hrr ht0 ht1 ht2 ht3, resid3_word x1 x3 ob vg p rr t hrr ht,
    halves x4 vg p s h l sc0 sc1 hsc0 hsc1, halves x5 vg p s h l bi0 bi1 hbi0 hbi1,
    if_neg (fun e => hvg e.1), if_neg (fun e => hvg e.1)]

include hrr hm ht0 ht1 ht2 ht3 ht hsc0 hbi0 hsc1 hbi1 in
/-- So are the sixteen rows of a store before the loop. -/
theorem first_weight (hvg : vg.val = 0) (s : Fin 8) (h : Fin 2) (l : Fin 128) :
    first (F := Ideal) rr m t0 t1 t2 t3 t sc0 bi0 sc1 bi1 (ix2 ⟨2 * s.val + h.val, by omega⟩ l)
      = weight x1 x2 x3 x4 x5 ob vg p s h l := by
  unfold first weight
  rw [rows_apply, masked_apply, masked_apply, hm, resid2_word x1 x2 ob vg p rr t0 t1 t2 t3 hrr ht0 ht1 ht2 ht3,
    resid3_word x1 x3 ob vg p rr t hrr ht, halves x4 vg p s h l sc0 sc1 hsc0 hsc1, halves x5 vg p s h l bi0 bi1 hbi0 hbi1]
  simp only [hvg, true_and]

end

end

/-! ## What the loads read -/

section

theorem ld_g (m : Memref sig .tc .vmem S2x40x5x8x128 .i32) (hm : m.IsWhole) (d : Vec Ideal S2x40x5x8x128 .i32) (off : Fin 5 → ℕ)
    (inb) (a : Fin 2) (b : Fin 40) (c : Fin 5) (hoff : off = ![a.val, b.val, c.val, 0, 0]) (s : Fin 8) (l : Fin 128) :
    ld (F := Ideal) m (hm.unread d) off S1x1x1x8x128.size inb (ix5 0 0 0 s l) = d (ix5 a b c s l) := by
  subst hoff
  unfold ld
  rw [View.readAt_eq_ld, Memref.IsWhole.read_unread]
  pointwise

theorem ld_2 (m : Memref sig .tc .vmem S4x4x8x128 .i32) (hm : m.IsWhole) (d : Vec Ideal S4x4x8x128 .i32) (off : Fin 4 → ℕ)
    (inb) (a : Fin 4) (b : Fin 4) (hoff : off = ![a.val, b.val, 0, 0]) (s : Fin 8) (l : Fin 128) :
    ld (F := Ideal) m (hm.unread d) off S1x1x8x128.size inb (ix4 0 0 s l) = d (ix4 a b s l) := by
  subst hoff
  unfold ld
  rw [View.readAt_eq_ld, Memref.IsWhole.read_unread]
  pointwise

theorem ld_3 (m : Memref sig .tc .vmem S4x8x128 .i32) (hm : m.IsWhole) (d : Vec Ideal S4x8x128 .i32) (off : Fin 3 → ℕ)
    (inb) (a : Fin 4) (hoff : off = ![a.val, 0, 0]) (s : Fin 8) (l : Fin 128) :
    ld (F := Ideal) m (hm.unread d) off S1x8x128.size inb (ix3 0 s l) = d (ix3 a s l) := by
  subst hoff
  unfold ld
  rw [View.readAt_eq_ld, Memref.IsWhole.read_unread]
  pointwise

theorem ld_s (m : Memref sig .tc .vmem S40x8x8x128 .f32) (hm : m.IsWhole) (d : Vec Ideal S40x8x8x128 .f32) (off : Fin 4 → ℕ)
    (inb) (a : Fin 40) (b : Fin 8) (hoff : off = ![a.val, b.val, 0, 0]) (s : Fin 8) (l : Fin 128) :
    ld (F := Ideal) m (hm.unread d) off S1x1x8x128.size inb (ix4 0 0 s l) = d (ix4 a b s l) := by
  subst hoff
  unfold ld
  rw [View.readAt_eq_ld, Memref.IsWhole.read_unread]
  pointwise

end

/-! ## Every store agrees with the decoded weights -/

/-- A piece of sixteen rows at row `64 vg + 16 p`, column `128 ob`, whose rows are the decoded weights, agrees with them. -/
theorem agree (x1 : Vec Ideal S2x40x5x8x128 .i32) (x2 : Vec Ideal S4x4x8x128 .i32) (x3 : Vec Ideal S4x8x128 .i32)
    (x4 : Vec Ideal S40x8x8x128 .f32) (x5 : Vec Ideal S40x8x8x128 .f32) (ob : Fin 2) (vg : Fin 40) (p : Fin 4)
    (off : Fin 2 → ℕ) (inb) (hoff : off = ![64 * vg.val + 16 * p.val, 128 * ob.val]) (w : FVec Ideal S16x128 .bf16)
    (hw : ∀ (s : Fin 8) (h : Fin 2) (l : Fin 128), w (ix2 ⟨2 * s.val + h.val, by omega⟩ l) = weight x1 x2 x3 x4 x5 ob vg p s h l)
    (x : S16x128.Idx) :
    w x = decoded x1 x2 x3 x4 x5 ((Rect.unit (s := S2560x256) off S16x128.size inb).emb x) := by
  subst hoff
  obtain ⟨r, l, rfl⟩ : ∃ (r : Fin 16) (l : Fin 128), x = ix2 r l := ⟨x 0, x 1, eq_ix2 x⟩
  obtain ⟨s, h, rfl⟩ : ∃ (s : Fin 8) (h : Fin 2), r = ⟨2 * s.val + h.val, by omega⟩ :=
    ⟨⟨r.val / 2, by omega⟩, ⟨r.val % 2, by omega⟩, Fin.ext (by show r.val = 2 * (r.val / 2) + r.val % 2; omega)⟩
  rw [hw]
  refine (decoded_at x1 x2 x3 x4 x5 ob vg p s h l _ ?_ ?_).symm
  · show 64 * vg.val + 16 * p.val + 1 * (2 * s.val + h.val) = _
    omega
  · show 128 * ob.val + 1 * l.val = _
    omega

theorem firstL_agree
    (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole)
    (x1 : Vec Ideal S2x40x5x8x128 .i32) (x2 : Vec Ideal S4x4x8x128 .i32) (x3 : Vec Ideal S4x8x128 .i32)
    (x4 : Vec Ideal S40x8x8x128 .f32) (x5 : Vec Ideal S40x8x8x128 .f32) :
    ∀ p ∈ firstL (F := Ideal) arg2 arg3 arg4 arg5 arg6 (harg2.unread x1) (harg3.unread x2) (harg4.unread x3) (harg5.unread x4) (harg6.unread x5), ∀ x : p.1.shape.Idx, p.2 x = decoded x1 x2 x3 x4 x5 (p.1.emb x) := by
  unfold firstL
  simp only [List.forall_mem_cons, List.not_mem_nil, false_imp_iff, implies_true, and_true]
  refine ⟨?_, ?_, ?_, ?_, ?_, ?_, ?_, ?_⟩
  · refine agree x1 x2 x3 x4 x5 1 0 3 _ _ rfl _
      (first_weight x1 x2 x3 x4 x5 1 0 3 _ _ _ _ _ _ _ _ _ _ _
        (ld_g arg2 harg2 x1 _ _ 1 0 4 rfl) (ld_g arg2 harg2 x1 _ _ 1 0 _ rfl)
        (ld_2 arg3 harg3 x2 _ _ 3 0 rfl) (ld_2 arg3 harg3 x2 _ _ 3 1 rfl) (ld_2 arg3 harg3 x2 _ _ 3 2 rfl) (ld_2 arg3 harg3 x2 _ _ 3 3 rfl)
        (ld_3 arg4 harg4 x3 _ _ 3 rfl)
        (ld_s arg5 harg5 x4 _ _ 0 _ rfl) (ld_s arg6 harg6 x5 _ _ 0 _ rfl)
        (ld_s arg5 harg5 x4 _ _ 0 _ rfl) (ld_s arg6 harg6 x5 _ _ 0 _ rfl) rfl)
  · refine agree x1 x2 x3 x4 x5 1 0 2 _ _ rfl _
      (first_weight x1 x2 x3 x4 x5 1 0 2 _ _ _ _ _ _ _ _ _ _ _
        (ld_g arg2 harg2 x1 _ _ 1 0 4 rfl) (ld_g arg2 harg2 x1 _ _ 1 0 _ rfl)
        (ld_2 arg3 harg3 x2 _ _ 2 0 rfl) (ld_2 arg3 harg3 x2 _ _ 2 1 rfl) (ld_2 arg3 harg3 x2 _ _ 2 2 rfl) (ld_2 arg3 harg3 x2 _ _ 2 3 rfl)
        (ld_3 arg4 harg4 x3 _ _ 2 rfl)
        (ld_s arg5 harg5 x4 _ _ 0 _ rfl) (ld_s arg6 harg6 x5 _ _ 0 _ rfl)
        (ld_s arg5 harg5 x4 _ _ 0 _ rfl) (ld_s arg6 harg6 x5 _ _ 0 _ rfl) rfl)
  · refine agree x1 x2 x3 x4 x5 1 0 1 _ _ rfl _
      (first_weight x1 x2 x3 x4 x5 1 0 1 _ _ _ _ _ _ _ _ _ _ _
        (ld_g arg2 harg2 x1 _ _ 1 0 4 rfl) (ld_g arg2 harg2 x1 _ _ 1 0 _ rfl)
        (ld_2 arg3 harg3 x2 _ _ 1 0 rfl) (ld_2 arg3 harg3 x2 _ _ 1 1 rfl) (ld_2 arg3 harg3 x2 _ _ 1 2 rfl) (ld_2 arg3 harg3 x2 _ _ 1 3 rfl)
        (ld_3 arg4 harg4 x3 _ _ 1 rfl)
        (ld_s arg5 harg5 x4 _ _ 0 _ rfl) (ld_s arg6 harg6 x5 _ _ 0 _ rfl)
        (ld_s arg5 harg5 x4 _ _ 0 _ rfl) (ld_s arg6 harg6 x5 _ _ 0 _ rfl) rfl)
  · refine agree x1 x2 x3 x4 x5 1 0 0 _ _ rfl _
      (first_weight x1 x2 x3 x4 x5 1 0 0 _ _ _ _ _ _ _ _ _ _ _
        (ld_g arg2 harg2 x1 _ _ 1 0 4 rfl) (ld_g arg2 harg2 x1 _ _ 1 0 _ rfl)
        (ld_2 arg3 harg3 x2 _ _ 0 0 rfl) (ld_2 arg3 harg3 x2 _ _ 0 1 rfl) (ld_2 arg3 harg3 x2 _ _ 0 2 rfl) (ld_2 arg3 harg3 x2 _ _ 0 3 rfl)
        (ld_3 arg4 harg4 x3 _ _ 0 rfl)
        (ld_s arg5 harg5 x4 _ _ 0 _ rfl) (ld_s arg6 harg6 x5 _ _ 0 _ rfl)
        (ld_s arg5 harg5 x4 _ _ 0 _ rfl) (ld_s arg6 harg6 x5 _ _ 0 _ rfl) rfl)
  · refine agree x1 x2 x3 x4 x5 0 0 3 _ _ rfl _
      (first_weight x1 x2 x3 x4 x5 0 0 3 _ _ _ _ _ _ _ _ _ _ _
        (ld_g arg2 harg2 x1 _ _ 0 0 4 rfl) (ld_g arg2 harg2 x1 _ _ 0 0 _ rfl)
        (ld_2 arg3 harg3 x2 _ _ 3 0 rfl) (ld_2 arg3 harg3 x2 _ _ 3 1 rfl) (ld_2 arg3 harg3 x2 _ _ 3 2 rfl) (ld_2 arg3 harg3 x2 _ _ 3 3 rfl)
        (ld_3 arg4 harg4 x3 _ _ 3 rfl)
        (ld_s arg5 harg5 x4 _ _ 0 _ rfl) (ld_s arg6 harg6 x5 _ _ 0 _ rfl)
        (ld_s arg5 harg5 x4 _ _ 0 _ rfl) (ld_s arg6 harg6 x5 _ _ 0 _ rfl) rfl)
  · refine agree x1 x2 x3 x4 x5 0 0 2 _ _ rfl _
      (first_weight x1 x2 x3 x4 x5 0 0 2 _ _ _ _ _ _ _ _ _ _ _
        (ld_g arg2 harg2 x1 _ _ 0 0 4 rfl) (ld_g arg2 harg2 x1 _ _ 0 0 _ rfl)
        (ld_2 arg3 harg3 x2 _ _ 2 0 rfl) (ld_2 arg3 harg3 x2 _ _ 2 1 rfl) (ld_2 arg3 harg3 x2 _ _ 2 2 rfl) (ld_2 arg3 harg3 x2 _ _ 2 3 rfl)
        (ld_3 arg4 harg4 x3 _ _ 2 rfl)
        (ld_s arg5 harg5 x4 _ _ 0 _ rfl) (ld_s arg6 harg6 x5 _ _ 0 _ rfl)
        (ld_s arg5 harg5 x4 _ _ 0 _ rfl) (ld_s arg6 harg6 x5 _ _ 0 _ rfl) rfl)
  · refine agree x1 x2 x3 x4 x5 0 0 1 _ _ rfl _
      (first_weight x1 x2 x3 x4 x5 0 0 1 _ _ _ _ _ _ _ _ _ _ _
        (ld_g arg2 harg2 x1 _ _ 0 0 4 rfl) (ld_g arg2 harg2 x1 _ _ 0 0 _ rfl)
        (ld_2 arg3 harg3 x2 _ _ 1 0 rfl) (ld_2 arg3 harg3 x2 _ _ 1 1 rfl) (ld_2 arg3 harg3 x2 _ _ 1 2 rfl) (ld_2 arg3 harg3 x2 _ _ 1 3 rfl)
        (ld_3 arg4 harg4 x3 _ _ 1 rfl)
        (ld_s arg5 harg5 x4 _ _ 0 _ rfl) (ld_s arg6 harg6 x5 _ _ 0 _ rfl)
        (ld_s arg5 harg5 x4 _ _ 0 _ rfl) (ld_s arg6 harg6 x5 _ _ 0 _ rfl) rfl)
  · refine agree x1 x2 x3 x4 x5 0 0 0 _ _ rfl _
      (first_weight x1 x2 x3 x4 x5 0 0 0 _ _ _ _ _ _ _ _ _ _ _
        (ld_g arg2 harg2 x1 _ _ 0 0 4 rfl) (ld_g arg2 harg2 x1 _ _ 0 0 _ rfl)
        (ld_2 arg3 harg3 x2 _ _ 0 0 rfl) (ld_2 arg3 harg3 x2 _ _ 0 1 rfl) (ld_2 arg3 harg3 x2 _ _ 0 2 rfl) (ld_2 arg3 harg3 x2 _ _ 0 3 rfl)
        (ld_3 arg4 harg4 x3 _ _ 0 rfl)
        (ld_s arg5 harg5 x4 _ _ 0 _ rfl) (ld_s arg6 harg6 x5 _ _ 0 _ rfl)
        (ld_s arg5 harg5 x4 _ _ 0 _ rfl) (ld_s arg6 harg6 x5 _ _ 0 _ rfl) rfl)

theorem row_off (k p c : ℕ) : ![64 * k + 16 * p + 64, c] = ![64 * (k + 1) + 16 * p, c] := by
  congr 1
  omega

theorem tripL_agree (𝒱 : Variants) (c : Dev nD) (bd : Option 𝒱.V) (i : grid0.Coords)
    (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole)
    (x1 : Vec Ideal S2x40x5x8x128 .i32) (x2 : Vec Ideal S4x4x8x128 .i32) (x3 : Vec Ideal S4x8x128 .i32)
    (x4 : Vec Ideal S40x8x8x128 .f32) (x5 : Vec Ideal S40x8x8x128 .f32) (k : Fin k0_t1_loop.trips) :
    ∀ p ∈ tripL_k0_t1 (F := Ideal) 𝒱 c bd i arg1 harg1 arg2 harg2 arg3 harg3 arg4 harg4 arg5 harg5 arg6 harg6 arg7 harg7 arg8 harg8 (harg2.unread x1) (harg3.unread x2) (harg4.unread x3) (harg5.unread x4) (harg6.unread x5) k,
      ∀ x : p.1.shape.Idx, p.2 x = decoded x1 x2 x3 x4 x5 (p.1.emb x) := by
  have hk : k.val < 39 := Nat.lt_of_lt_of_le k.isLt k0_t1_abs.2.1
  have hvg : (⟨k.val + 1, by omega⟩ : Fin 40).val ≠ 0 := Nat.succ_ne_zero _
  rw [tripL_eq]
  simp only [List.forall_mem_cons, List.not_mem_nil, false_imp_iff, implies_true, and_true]
  refine ⟨?_, ?_, ?_, ?_, ?_, ?_, ?_, ?_⟩
  · refine agree x1 x2 x3 x4 x5 1 ⟨k.val + 1, by omega⟩ 3 _ _ ((k0_off17_eq k 3).trans (row_off k.val 3 _)) _
      (regular_weight x1 x2 x3 x4 x5 1 ⟨k.val + 1, by omega⟩ 3 _ _ _ _ _ _ _ _ _ _ _
        (ld_g arg2 harg2 x1 _ _ 1 ⟨k.val + 1, by omega⟩ 4 (k0_off15_eq k)) (ld_g arg2 harg2 x1 _ _ 1 ⟨k.val + 1, by omega⟩ _ (k0_off20_eq k))
        (ld_2 arg3 harg3 x2 _ _ 3 0 rfl) (ld_2 arg3 harg3 x2 _ _ 3 1 rfl) (ld_2 arg3 harg3 x2 _ _ 3 2 rfl) (ld_2 arg3 harg3 x2 _ _ 3 3 rfl)
        (ld_3 arg4 harg4 x3 _ _ 3 rfl)
        (ld_s arg5 harg5 x4 _ _ ⟨k.val + 1, by omega⟩ _ (k0_off13_eq k)) (ld_s arg6 harg6 x5 _ _ ⟨k.val + 1, by omega⟩ _ (k0_off13_eq k))
        (ld_s arg5 harg5 x4 _ _ ⟨k.val + 1, by omega⟩ _ (k0_off14_eq k)) (ld_s arg6 harg6 x5 _ _ ⟨k.val + 1, by omega⟩ _ (k0_off14_eq k)) hvg)
  · refine agree x1 x2 x3 x4 x5 1 ⟨k.val + 1, by omega⟩ 2 _ _ ((k0_off17_eq k 2).trans (row_off k.val 2 _)) _
      (regular_weight x1 x2 x3 x4 x5 1 ⟨k.val + 1, by omega⟩ 2 _ _ _ _ _ _ _ _ _ _ _
        (ld_g arg2 harg2 x1 _ _ 1 ⟨k.val + 1, by omega⟩ 4 (k0_off15_eq k)) (ld_g arg2 harg2 x1 _ _ 1 ⟨k.val + 1, by omega⟩ _ (k0_off19_eq k))
        (ld_2 arg3 harg3 x2 _ _ 2 0 rfl) (ld_2 arg3 harg3 x2 _ _ 2 1 rfl) (ld_2 arg3 harg3 x2 _ _ 2 2 rfl) (ld_2 arg3 harg3 x2 _ _ 2 3 rfl)
        (ld_3 arg4 harg4 x3 _ _ 2 rfl)
        (ld_s arg5 harg5 x4 _ _ ⟨k.val + 1, by omega⟩ _ (k0_off10_eq k)) (ld_s arg6 harg6 x5 _ _ ⟨k.val + 1, by omega⟩ _ (k0_off10_eq k))
        (ld_s arg5 harg5 x4 _ _ ⟨k.val + 1, by omega⟩ _ (k0_off11_eq k)) (ld_s arg6 harg6 x5 _ _ ⟨k.val + 1, by omega⟩ _ (k0_off11_eq k)) hvg)
  · refine agree x1 x2 x3 x4 x5 1 ⟨k.val + 1, by omega⟩ 1 _ _ ((k0_off17_eq k 1).trans (row_off k.val 1 _)) _
      (regular_weight x1 x2 x3 x4 x5 1 ⟨k.val + 1, by omega⟩ 1 _ _ _ _ _ _ _ _ _ _ _
        (ld_g arg2 harg2 x1 _ _ 1 ⟨k.val + 1, by omega⟩ 4 (k0_off15_eq k)) (ld_g arg2 harg2 x1 _ _ 1 ⟨k.val + 1, by omega⟩ _ (k0_off18_eq k))
        (ld_2 arg3 harg3 x2 _ _ 1 0 rfl) (ld_2 arg3 harg3 x2 _ _ 1 1 rfl) (ld_2 arg3 harg3 x2 _ _ 1 2 rfl) (ld_2 arg3 harg3 x2 _ _ 1 3 rfl)
        (ld_3 arg4 harg4 x3 _ _ 1 rfl)
        (ld_s arg5 harg5 x4 _ _ ⟨k.val + 1, by omega⟩ _ (k0_off7_eq k)) (ld_s arg6 harg6 x5 _ _ ⟨k.val + 1, by omega⟩ _ (k0_off7_eq k))
        (ld_s arg5 harg5 x4 _ _ ⟨k.val + 1, by omega⟩ _ (k0_off8_eq k)) (ld_s arg6 harg6 x5 _ _ ⟨k.val + 1, by omega⟩ _ (k0_off8_eq k)) hvg)
  · refine agree x1 x2 x3 x4 x5 1 ⟨k.val + 1, by omega⟩ 0 _ _ ((k0_off17_eq k 0).trans (row_off k.val 0 _)) _
      (regular_weight x1 x2 x3 x4 x5 1 ⟨k.val + 1, by omega⟩ 0 _ _ _ _ _ _ _ _ _ _ _
        (ld_g arg2 harg2 x1 _ _ 1 ⟨k.val + 1, by omega⟩ 4 (k0_off15_eq k)) (ld_g arg2 harg2 x1 _ _ 1 ⟨k.val + 1, by omega⟩ _ (k0_off16_eq k))
        (ld_2 arg3 harg3 x2 _ _ 0 0 rfl) (ld_2 arg3 harg3 x2 _ _ 0 1 rfl) (ld_2 arg3 harg3 x2 _ _ 0 2 rfl) (ld_2 arg3 harg3 x2 _ _ 0 3 rfl)
        (ld_3 arg4 harg4 x3 _ _ 0 rfl)
        (ld_s arg5 harg5 x4 _ _ ⟨k.val + 1, by omega⟩ _ (k0_off3_eq k)) (ld_s arg6 harg6 x5 _ _ ⟨k.val + 1, by omega⟩ _ (k0_off3_eq k))
        (ld_s arg5 harg5 x4 _ _ ⟨k.val + 1, by omega⟩ _ (k0_off4_eq k)) (ld_s arg6 harg6 x5 _ _ ⟨k.val + 1, by omega⟩ _ (k0_off4_eq k)) hvg)
  · refine agree x1 x2 x3 x4 x5 0 ⟨k.val + 1, by omega⟩ 3 _ _ ((k0_off5_eq k 3).trans (row_off k.val 3 _)) _
      (regular_weight x1 x2 x3 x4 x5 0 ⟨k.val + 1, by omega⟩ 3 _ _ _ _ _ _ _ _ _ _ _
        (ld_g arg2 harg2 x1 _ _ 0 ⟨k.val + 1, by omega⟩ 4 (k0_off1_eq k)) (ld_g arg2 harg2 x1 _ _ 0 ⟨k.val + 1, by omega⟩ _ (k0_off12_eq k))
        (ld_2 arg3 harg3 x2 _ _ 3 0 rfl) (ld_2 arg3 harg3 x2 _ _ 3 1 rfl) (ld_2 arg3 harg3 x2 _ _ 3 2 rfl) (ld_2 arg3 harg3 x2 _ _ 3 3 rfl)
        (ld_3 arg4 harg4 x3 _ _ 3 rfl)
        (ld_s arg5 harg5 x4 _ _ ⟨k.val + 1, by omega⟩ _ (k0_off13_eq k)) (ld_s arg6 harg6 x5 _ _ ⟨k.val + 1, by omega⟩ _ (k0_off13_eq k))
        (ld_s arg5 harg5 x4 _ _ ⟨k.val + 1, by omega⟩ _ (k0_off14_eq k)) (ld_s arg6 harg6 x5 _ _ ⟨k.val + 1, by omega⟩ _ (k0_off14_eq k)) hvg)
  · refine agree x1 x2 x3 x4 x5 0 ⟨k.val + 1, by omega⟩ 2 _ _ ((k0_off5_eq k 2).trans (row_off k.val 2 _)) _
      (regular_weight x1 x2 x3 x4 x5 0 ⟨k.val + 1, by omega⟩ 2 _ _ _ _ _ _ _ _ _ _ _
        (ld_g arg2 harg2 x1 _ _ 0 ⟨k.val + 1, by omega⟩ 4 (k0_off1_eq k)) (ld_g arg2 harg2 x1 _ _ 0 ⟨k.val + 1, by omega⟩ _ (k0_off9_eq k))
        (ld_2 arg3 harg3 x2 _ _ 2 0 rfl) (ld_2 arg3 harg3 x2 _ _ 2 1 rfl) (ld_2 arg3 harg3 x2 _ _ 2 2 rfl) (ld_2 arg3 harg3 x2 _ _ 2 3 rfl)
        (ld_3 arg4 harg4 x3 _ _ 2 rfl)
        (ld_s arg5 harg5 x4 _ _ ⟨k.val + 1, by omega⟩ _ (k0_off10_eq k)) (ld_s arg6 harg6 x5 _ _ ⟨k.val + 1, by omega⟩ _ (k0_off10_eq k))
        (ld_s arg5 harg5 x4 _ _ ⟨k.val + 1, by omega⟩ _ (k0_off11_eq k)) (ld_s arg6 harg6 x5 _ _ ⟨k.val + 1, by omega⟩ _ (k0_off11_eq k)) hvg)
  · refine agree x1 x2 x3 x4 x5 0 ⟨k.val + 1, by omega⟩ 1 _ _ ((k0_off5_eq k 1).trans (row_off k.val 1 _)) _
      (regular_weight x1 x2 x3 x4 x5 0 ⟨k.val + 1, by omega⟩ 1 _ _ _ _ _ _ _ _ _ _ _
        (ld_g arg2 harg2 x1 _ _ 0 ⟨k.val + 1, by omega⟩ 4 (k0_off1_eq k)) (ld_g arg2 harg2 x1 _ _ 0 ⟨k.val + 1, by omega⟩ _ (k0_off6_eq k))
        (ld_2 arg3 harg3 x2 _ _ 1 0 rfl) (ld_2 arg3 harg3 x2 _ _ 1 1 rfl) (ld_2 arg3 harg3 x2 _ _ 1 2 rfl) (ld_2 arg3 harg3 x2 _ _ 1 3 rfl)
        (ld_3 arg4 harg4 x3 _ _ 1 rfl)
        (ld_s arg5 harg5 x4 _ _ ⟨k.val + 1, by omega⟩ _ (k0_off7_eq k)) (ld_s arg6 harg6 x5 _ _ ⟨k.val + 1, by omega⟩ _ (k0_off7_eq k))
        (ld_s arg5 harg5 x4 _ _ ⟨k.val + 1, by omega⟩ _ (k0_off8_eq k)) (ld_s arg6 harg6 x5 _ _ ⟨k.val + 1, by omega⟩ _ (k0_off8_eq k)) hvg)
  · refine agree x1 x2 x3 x4 x5 0 ⟨k.val + 1, by omega⟩ 0 _ _ ((k0_off5_eq k 0).trans (row_off k.val 0 _)) _
      (regular_weight x1 x2 x3 x4 x5 0 ⟨k.val + 1, by omega⟩ 0 _ _ _ _ _ _ _ _ _ _ _
        (ld_g arg2 harg2 x1 _ _ 0 ⟨k.val + 1, by omega⟩ 4 (k0_off1_eq k)) (ld_g arg2 harg2 x1 _ _ 0 ⟨k.val + 1, by omega⟩ _ (k0_off2_eq k))
        (ld_2 arg3 harg3 x2 _ _ 0 0 rfl) (ld_2 arg3 harg3 x2 _ _ 0 1 rfl) (ld_2 arg3 harg3 x2 _ _ 0 2 rfl) (ld_2 arg3 harg3 x2 _ _ 0 3 rfl)
        (ld_3 arg4 harg4 x3 _ _ 0 rfl)
        (ld_s arg5 harg5 x4 _ _ ⟨k.val + 1, by omega⟩ _ (k0_off3_eq k)) (ld_s arg6 harg6 x5 _ _ ⟨k.val + 1, by omega⟩ _ (k0_off3_eq k))
        (ld_s arg5 harg5 x4 _ _ ⟨k.val + 1, by omega⟩ _ (k0_off4_eq k)) (ld_s arg6 harg6 x5 _ _ ⟨k.val + 1, by omega⟩ _ (k0_off4_eq k)) hvg)

/-! ## The stores cover the buffer -/

theorem holds (off : Fin 2 → ℕ) (inb) (r c : ℕ) (hoff : off = ![r, c]) (y : S2560x256.Idx)
    (h0 : r ≤ (y 0).val ∧ (y 0).val < r + 16) (h1 : c ≤ (y 1).val ∧ (y 1).val < c + 128) :
    y ∈ (Rect.unit (s := S2560x256) off S16x128.size inb).set := by
  subst hoff
  rw [Rect.mem_set_unit]
  intro a
  match a with
  | 0 => exact h0
  | 1 => exact h1

theorem firstL_cover (arg2 : Memref sig .tc .vmem S2x40x5x8x128 .i32) (arg3 : Memref sig .tc .vmem S4x4x8x128 .i32) (arg4 : Memref sig .tc .vmem S4x8x128 .i32) (arg5 : Memref sig .tc .vmem S40x8x8x128 .f32) (arg6 : Memref sig .tc .vmem S40x8x8x128 .f32)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
    (y : S2560x256.Idx) (hy : (y 0).val < 64) :
    ∃ p ∈ firstL (F := Ideal) arg2 arg3 arg4 arg5 arg6 X_arg2 X_arg3 X_arg4 X_arg5 X_arg6, y ∈ p.1.set := by
  have h1 : (y 1).val < 256 := (y 1).isLt
  unfold firstL
  have hc : (y 1).val / 128 = 0 ∨ (y 1).val / 128 = 1 := by omega
  have hp : (y 0).val / 16 % 4 = 0 ∨ (y 0).val / 16 % 4 = 1 ∨ (y 0).val / 16 % 4 = 2 ∨ (y 0).val / 16 % 4 = 3 := by omega
  rcases hc with hc | hc <;> rcases hp with hp | hp | hp | hp
  · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    exact holds _ inb_S2560x256_S16x128_0_0 _ _ rfl y (by omega) (by omega)
  · refine ⟨_, (List.mem_cons_of_mem _ (List.mem_cons_of_mem _ (List.mem_cons_of_mem _ (List.mem_cons_of_mem _ (List.mem_cons_of_mem _ (List.mem_cons_of_mem _ List.mem_cons_self)))))), ?_⟩
    exact holds _ inb_S2560x256_S16x128_16_0 _ _ rfl y (by omega) (by omega)
  · refine ⟨_, (List.mem_cons_of_mem _ (List.mem_cons_of_mem _ (List.mem_cons_of_mem _ (List.mem_cons_of_mem _ (List.mem_cons_of_mem _ List.mem_cons_self))))), ?_⟩
    exact holds _ inb_S2560x256_S16x128_32_0 _ _ rfl y (by omega) (by omega)
  · refine ⟨_, (List.mem_cons_of_mem _ (List.mem_cons_of_mem _ (List.mem_cons_of_mem _ (List.mem_cons_of_mem _ List.mem_cons_self)))), ?_⟩
    exact holds _ inb_S2560x256_S16x128_48_0 _ _ rfl y (by omega) (by omega)
  · refine ⟨_, (List.mem_cons_of_mem _ (List.mem_cons_of_mem _ (List.mem_cons_of_mem _ List.mem_cons_self))), ?_⟩
    exact holds _ inb_S2560x256_S16x128_0_128 _ _ rfl y (by omega) (by omega)
  · refine ⟨_, (List.mem_cons_of_mem _ (List.mem_cons_of_mem _ List.mem_cons_self)), ?_⟩
    exact holds _ inb_S2560x256_S16x128_16_128 _ _ rfl y (by omega) (by omega)
  · refine ⟨_, (List.mem_cons_of_mem _ List.mem_cons_self), ?_⟩
    exact holds _ inb_S2560x256_S16x128_32_128 _ _ rfl y (by omega) (by omega)
  · refine ⟨_, List.mem_cons_self, ?_⟩
    exact holds _ inb_S2560x256_S16x128_48_128 _ _ rfl y (by omega) (by omega)

theorem tripL_cover (𝒱 : Variants) (c : Dev nD) (bd : Option 𝒱.V) (i : grid0.Coords)
    (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
    (k : Fin k0_t1_loop.trips) (y : S2560x256.Idx) (hy : (y 0).val / 64 = k.val + 1) :
    ∃ p ∈ tripL_k0_t1 (F := Ideal) 𝒱 c bd i arg1 harg1 arg2 harg2 arg3 harg3 arg4 harg4 arg5 harg5 arg6 harg6 arg7 harg7 arg8 harg8 X_arg2 X_arg3 X_arg4 X_arg5 X_arg6 k, y ∈ p.1.set := by
  have h1 : (y 1).val < 256 := (y 1).isLt
  rw [tripL_eq]
  have hc : (y 1).val / 128 = 0 ∨ (y 1).val / 128 = 1 := by omega
  have hp : (y 0).val / 16 % 4 = 0 ∨ (y 0).val / 16 % 4 = 1 ∨ (y 0).val / 16 % 4 = 2 ∨ (y 0).val / 16 % 4 = 3 := by omega
  rcases hc with hc | hc <;> rcases hp with hp | hp | hp | hp
  · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    exact holds _ (k0_off5_inb k 0) _ _ (k0_off5_eq k 0) y (by omega) (by omega)
  · refine ⟨_, (List.mem_cons_of_mem _ (List.mem_cons_of_mem _ (List.mem_cons_of_mem _ (List.mem_cons_of_mem _ (List.mem_cons_of_mem _ (List.mem_cons_of_mem _ List.mem_cons_self)))))), ?_⟩
    exact holds _ (k0_off5_inb k 1) _ _ (k0_off5_eq k 1) y (by omega) (by omega)
  · refine ⟨_, (List.mem_cons_of_mem _ (List.mem_cons_of_mem _ (List.mem_cons_of_mem _ (List.mem_cons_of_mem _ (List.mem_cons_of_mem _ List.mem_cons_self))))), ?_⟩
    exact holds _ (k0_off5_inb k 2) _ _ (k0_off5_eq k 2) y (by omega) (by omega)
  · refine ⟨_, (List.mem_cons_of_mem _ (List.mem_cons_of_mem _ (List.mem_cons_of_mem _ (List.mem_cons_of_mem _ List.mem_cons_self)))), ?_⟩
    exact holds _ (k0_off5_inb k 3) _ _ (k0_off5_eq k 3) y (by omega) (by omega)
  · refine ⟨_, (List.mem_cons_of_mem _ (List.mem_cons_of_mem _ (List.mem_cons_of_mem _ List.mem_cons_self))), ?_⟩
    exact holds _ (k0_off17_inb k 0) _ _ (k0_off17_eq k 0) y (by omega) (by omega)
  · refine ⟨_, (List.mem_cons_of_mem _ (List.mem_cons_of_mem _ List.mem_cons_self)), ?_⟩
    exact holds _ (k0_off17_inb k 1) _ _ (k0_off17_eq k 1) y (by omega) (by omega)
  · refine ⟨_, (List.mem_cons_of_mem _ List.mem_cons_self), ?_⟩
    exact holds _ (k0_off17_inb k 2) _ _ (k0_off17_eq k 2) y (by omega) (by omega)
  · refine ⟨_, List.mem_cons_self, ?_⟩
    exact holds _ (k0_off17_inb k 3) _ _ (k0_off17_eq k 3) y (by omega) (by omega)

/-- The stores of the first `k` trips agree with the decoded weights, -/
theorem pb_agree (𝒱 : Variants) (c : Dev nD) (bd : Option 𝒱.V) (i : grid0.Coords)
    (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole)
    (x1 : Vec Ideal S2x40x5x8x128 .i32) (x2 : Vec Ideal S4x4x8x128 .i32) (x3 : Vec Ideal S4x8x128 .i32)
    (x4 : Vec Ideal S40x8x8x128 .f32) (x5 : Vec Ideal S40x8x8x128 .f32) :
    ∀ k, k ≤ k0_t1_loop.trips → ∀ p ∈ pb_k0_t1 (F := Ideal) 𝒱 c bd i arg1 harg1 arg2 harg2 arg3 harg3 arg4 harg4 arg5 harg5 arg6 harg6 arg7 harg7 arg8 harg8 (harg2.unread x1) (harg3.unread x2) (harg4.unread x3) (harg5.unread x4) (harg6.unread x5) k,
      ∀ x : p.1.shape.Idx, p.2 x = decoded x1 x2 x3 x4 x5 (p.1.emb x)
  | 0, _ => by
    rw [pb_k0_t1.eq_1]
    intro p hp
    exact absurd hp List.not_mem_nil
  | k + 1, hk => by
    rw [pb_k0_t1_succ 𝒱 c bd i arg1 harg1 arg2 harg2 arg3 harg3 arg4 harg4 arg5 harg5 arg6 harg6 arg7 harg7 arg8 harg8 _ _ _ _ _ ⟨k, hk⟩]
    intro p hp
    rcases List.mem_append.mp hp with hp | hp
    · exact tripL_agree 𝒱 c bd i arg1 harg1 arg2 harg2 arg3 harg3 arg4 harg4 arg5 harg5 arg6 harg6 arg7 harg7 arg8 harg8 x1 x2 x3 x4 x5 ⟨k, hk⟩ p hp
    · exact pb_agree 𝒱 c bd i arg1 harg1 arg2 harg2 arg3 harg3 arg4 harg4 arg5 harg5 arg6 harg6 arg7 harg7 arg8 harg8 x1 x2 x3 x4 x5 k (Nat.le_of_succ_le hk) p hp

/-- and hold every row from 64 to `64 (k + 1)`. -/
theorem pb_cover (𝒱 : Variants) (c : Dev nD) (bd : Option 𝒱.V) (i : grid0.Coords)
    (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) :
    ∀ k, k ≤ k0_t1_loop.trips → ∀ y : S2560x256.Idx, 1 ≤ (y 0).val / 64 → (y 0).val / 64 ≤ k →
      ∃ p ∈ pb_k0_t1 (F := Ideal) 𝒱 c bd i arg1 harg1 arg2 harg2 arg3 harg3 arg4 harg4 arg5 harg5 arg6 harg6 arg7 harg7 arg8 harg8 X_arg2 X_arg3 X_arg4 X_arg5 X_arg6 k, y ∈ p.1.set
  | 0, _ => by
    intro y h h'
    omega
  | k + 1, hk => by
    intro y h h'
    rw [pb_k0_t1_succ 𝒱 c bd i arg1 harg1 arg2 harg2 arg3 harg3 arg4 harg4 arg5 harg5 arg6 harg6 arg7 harg7 arg8 harg8 _ _ _ _ _ ⟨k, hk⟩]
    by_cases e : (y 0).val / 64 = k + 1
    · obtain ⟨p, hp, hy⟩ := tripL_cover 𝒱 c bd i arg1 harg1 arg2 harg2 arg3 harg3 arg4 harg4 arg5 harg5 arg6 harg6 arg7 harg7 arg8 harg8 X_arg2 X_arg3 X_arg4 X_arg5 X_arg6 ⟨k, hk⟩ y e
      exact ⟨p, List.mem_append_left _ hp, hy⟩
    · obtain ⟨p, hp, hy⟩ := pb_cover 𝒱 c bd i arg1 harg1 arg2 harg2 arg3 harg3 arg4 harg4 arg5 harg5 arg6 harg6 arg7 harg7 arg8 harg8 X_arg2 X_arg3 X_arg4 X_arg5 X_arg6 k (Nat.le_of_succ_le hk) y h (by omega)
      exact ⟨p, List.mem_append_right _ hp, hy⟩

/-- After the loop the scratch buffer reads the decoded weights, whatever it held at the start. -/
theorem scratch_read (𝒱 : Variants) (c : Dev nD) (bd : Option 𝒱.V) (i : grid0.Coords)
    (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole)
    (x1 : Vec Ideal S2x40x5x8x128 .i32) (x2 : Vec Ideal S4x4x8x128 .i32) (x3 : Vec Ideal S4x8x128 .i32)
    (x4 : Vec Ideal S40x8x8x128 .f32) (x5 : Vec Ideal S40x8x8x128 .f32)
    (f : BufTy.Contents (Elt Ideal) arg8.view.ty) :
    arg8.view.read (Elt Ideal) (arg8.view.writes (Elt Ideal) f
      (pb_k0_t1 (F := Ideal) 𝒱 c bd i arg1 harg1 arg2 harg2 arg3 harg3 arg4 harg4 arg5 harg5 arg6 harg6 arg7 harg7 arg8 harg8 (harg2.unread x1) (harg3.unread x2) (harg4.unread x3) (harg5.unread x4) (harg6.unread x5) k0_t1_loop.trips
        ++ firstL (F := Ideal) arg2 arg3 arg4 arg5 arg6 (harg2.unread x1) (harg3.unread x2) (harg4.unread x3) (harg5.unread x4) (harg6.unread x5))) = decoded x1 x2 x3 x4 x5 := by
  funext y
  refine View.read_writes_apply_of_pieces arg8.view f (decoded x1 x2 x3 x4 x5) _ ?_ y ?_
  · intro p hp
    rcases List.mem_append.mp hp with hp | hp
    · exact pb_agree 𝒱 c bd i arg1 harg1 arg2 harg2 arg3 harg3 arg4 harg4 arg5 harg5 arg6 harg6 arg7 harg7 arg8 harg8 x1 x2 x3 x4 x5 _ (Nat.le_refl _) p hp
    · exact firstL_agree arg2 harg2 arg3 harg3 arg4 harg4 arg5 harg5 arg6 harg6 x1 x2 x3 x4 x5 p hp
  · have h0 : (y 0).val < 2560 := (y 0).isLt
    have ht : k0_t1_loop.trips = 39 := by decide +kernel
    by_cases e : (y 0).val < 64
    · obtain ⟨p, hp, hy⟩ := firstL_cover arg2 arg3 arg4 arg5 arg6 (harg2.unread x1) (harg3.unread x2) (harg4.unread x3) (harg5.unread x4) (harg6.unread x5) y e
      exact ⟨p, List.mem_append_right _ hp, hy⟩
    · obtain ⟨p, hp, hy⟩ := pb_cover 𝒱 c bd i arg1 harg1 arg2 harg2 arg3 harg3 arg4 harg4 arg5 harg5 arg6 harg6 arg7 harg7 arg8 harg8 (harg2.unread x1) (harg3.unread x2) (harg4.unread x3) (harg5.unread x4) (harg6.unread x5) _ (Nat.le_refl _) y (by omega) (by omega)
      exact ⟨p, List.mem_append_left _ hp, hy⟩

end Cert.KernelIdeal.Gen

end
-- ==== Proof.BodyRun.lean ====
/- The run of the kernel's body: from the six input blocks it leaves, in the output's block, the rows of `x` times the
   decoded weights, and the scratch at some contents. -/
module

public import proofs.«01_k».proof.Proof.Gen.KernelIdeal.Frame
public import proofs.«01_k».proof.Proof.Decode

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What the body stores: the product of the rows of `x` and the decoded weights. -/
abbrev product (x0 : Vec Ideal S96x2560 .bf16) (w : Vec Ideal S2560x256 .bf16) : Vec Ideal S96x256 .bf16 := k0_pay3 x0 w

/-- A load of a whole two-axis buffer reads it. -/
theorem readAt_whole {n₀ n₁ : ℕ} {e : EltTy} (m : Memref sig .tc .vmem ⟨2, ![n₀, n₁]⟩ e) (X : BufTy.Contents (Elt Ideal) m.view.ty) (inb) :
    View.readAt (Elt Ideal) m.view (Rect.unit (s := ⟨2, ![n₀, n₁]⟩) ![0, 0] ![n₀, n₁] inb).toLoadRect X = m.view.read (Elt Ideal) X := by
  funext y
  rw [View.readAt_apply]
  congr 1
  funext a
  apply Fin.ext
  match a with
  | 0 => show 0 + 1 * (y 0).val = (y 0).val; omega
  | 1 => show 0 + 1 * (y 1).val = (y 1).val; omega

/-- A store of a whole two-axis buffer, read back. -/
theorem read_stored {n₀ n₁ : ℕ} {e : EltTy} (m : Memref sig .tc .vmem ⟨2, ![n₀, n₁]⟩ e) (f : BufTy.Contents (Elt Ideal) m.view.ty) (inb)
    (w : Vec Ideal ⟨2, ![n₀, n₁]⟩ e) :
    m.view.read (Elt Ideal) (m.view.writes (Elt Ideal) f [⟨Rect.unit (s := ⟨2, ![n₀, n₁]⟩) ![0, 0] ![n₀, n₁] inb, w⟩]) = w := by
  funext y
  refine View.read_writes_cons_hit_of_coords m.view f (Rect.unit (s := ⟨2, ![n₀, n₁]⟩) ![0, 0] ![n₀, n₁] inb) w [] y y (fun a => ?_)
  match a with
  | 0 => show (y 0).val = 0 + 1 * (y 0).val; omega
  | 1 => show (y 1).val = 0 + 1 * (y 1).val; omega

/-- The one store of the output block, read back: what is stored is the product, since the scratch reads the decoded weights. -/
theorem stored (c : Dev nD) (i : grid0.Coords)
    (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole)
    (x0 : Vec Ideal S96x2560 .bf16)
    (x1 : Vec Ideal S2x40x5x8x128 .i32) (x2 : Vec Ideal S4x4x8x128 .i32) (x3 : Vec Ideal S4x8x128 .i32)
    (x4 : Vec Ideal S40x8x8x128 .f32) (x5 : Vec Ideal S40x8x8x128 .f32) (f6 : BufTy.Contents (Elt Ideal) arg7.view.ty) (fs0 : BufTy.Contents (Elt Ideal) arg8.view.ty) :
    View.read (Elt Ideal) arg7.view
      (arg7.view.writes (Elt Ideal) f6
        [⟨Rect.unit ![0, 0] ![96, 256] inb_S96x256_S96x256_0_0,
            k0_pay3
              (View.readAt (Elt Ideal) arg1.view (Rect.unit ![0, 0] ![96, 2560] inb_S96x2560_S96x2560_0_0).toLoadRect
                (harg1.unread x0))
              (View.readAt (Elt Ideal) arg8.view (Rect.unit ![0, 0] ![2560, 256] inb_S2560x256_S2560x256_0_0).toLoadRect
                (arg8.view.writes (Elt Ideal) fs0
                  (pb_k0_t1 (F := Ideal) Variants.none c none i arg1 harg1 arg2 harg2 arg3 harg3 arg4 harg4 arg5 harg5 arg6 harg6 arg7 harg7 arg8 harg8 (harg2.unread x1) (harg3.unread x2) (harg4.unread x3) (harg5.unread x4) (harg6.unread x5) k0_t1_loop.trips
                    ++ firstL (F := Ideal) arg2 arg3 arg4 arg5 arg6 (harg2.unread x1) (harg3.unread x2) (harg4.unread x3) (harg5.unread x4) (harg6.unread x5))))⟩])
      = product x0 (decoded x1 x2 x3 x4 x5) := by
  rw [read_stored arg7 f6 inb_S96x256_S96x256_0_0]
  refine congrArg₂ k0_pay3 ?_ ?_
  · exact (readAt_whole arg1 _ _).trans (harg1.read_unread x0)
  · exact (readAt_whole arg8 _ _).trans (scratch_read Variants.none c none i arg1 harg1 arg2 harg2 arg3 harg3 arg4 harg4 arg5 harg5 arg6 harg6 arg7 harg7 arg8 harg8 x1 x2 x3 x4 x5 fs0)

set_option maxHeartbeats 1000000 in
/-- The body's triple: the input blocks stay, the output's block ends at the product. -/
theorem body_run (c : Dev nD) (i : grid0.Coords) (arg1 : Memref sig .tc .vmem S96x2560 .bf16) (harg1 : arg1.IsWhole) (arg2 : Memref sig .tc .vmem S2x40x5x8x128 .i32) (harg2 : arg2.IsWhole) (arg3 : Memref sig .tc .vmem S4x4x8x128 .i32) (harg3 : arg3.IsWhole) (arg4 : Memref sig .tc .vmem S4x8x128 .i32) (harg4 : arg4.IsWhole) (arg5 : Memref sig .tc .vmem S40x8x8x128 .f32) (harg5 : arg5.IsWhole) (arg6 : Memref sig .tc .vmem S40x8x8x128 .f32) (harg6 : arg6.IsWhole) (arg7 : Memref sig .tc .vmem S96x256 .bf16) (harg7 : arg7.IsWhole) (arg8 : Memref sig .tc .vmem S2560x256 .bf16) (harg8 : arg8.IsWhole)
    (x0 : Vec Ideal S96x2560 .bf16) (x1 : Vec Ideal S2x40x5x8x128 .i32) (x2 : Vec Ideal S4x4x8x128 .i32) (x3 : Vec Ideal S4x8x128 .i32) (x4 : Vec Ideal S40x8x8x128 .f32) (x5 : Vec Ideal S40x8x8x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (product x0 (decoded x1 x2 x3 x4 x5)) ∗ (∃ d, owns (c : Thread nD τ) arg8 fullShare d)) -∗ K ⟨⟩))
          ⊢ wp frame (wpE (defs₀ (F := Ideal)) Variants.none c none) E (cc0_vptq_tc_decode_matmul i arg1 harg1 arg2 harg2 arg3 harg3 arg4 harg4 arg5 harg5 arg6 harg6 arg7 harg7 arg8 harg8) K := by
    intro E K
    simp only [cc0_vptq_tc_decode_matmul_eq_skeleton]; unfold cc0_vptq_tc_decode_matmul_skel
    simp only [k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_run_names
      exact stored c i arg1 harg1 arg2 harg2 arg3 harg3 arg4 harg4 arg5 harg5 arg6 harg6 arg7 harg7 arg8 harg8 x0 x1 x2 x3 x4 x5 f6 fs0
    iexists _, _; isplitr; swap; · iexact HS0
    ipureintro; rfl

end Cert.KernelIdeal.Gen

end
-- ==== Proof.Run.lean ====
/- The frame of the idealized kernel: the proof data of its one pipeline (every output block named), the body's
   obligation from the body's run, and the run of the whole program. -/
module

public import proofs.«01_k».proof.Proof.BodyRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- Each window's current staging memref at point `t`, spelled as the pipeline passes it (`bodyAt0`), and its wholeness. -/
abbrev ms0_0 (t : Fin cfg0.N) : Memref sig .tc .vmem S96x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x40x5x8x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4x8x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x8x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S40x8x8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S40x8x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x256 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2560x256 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- What a grid point's output block ends at: the rows of `x` times the weights decoded from the point's blocks. -/
def outAt (c : Dev nD) (t : Fin cfg0.N) : Vec Ideal S96x256 .bf16 :=
  product (iblk m c 0 t) (decoded (iblk m c 1 t) (iblk m c 2 t) (iblk m c 3 t) (iblk m c 4 t) (iblk m c 5 t))

/-- The proof data of the one pipeline on core `c`: the arrays as the region finds them (`V`); after the body at
    point `t` each input's buffer at its block and the output's at the product; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, H6, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Windows.lean ====
/- What the windows' blocks hold, in terms of the arguments: the activations permuted, the gathered words of two blocks of
   128 outputs, the residual codebooks' words spread over sublanes, the scales and the biases spread over lanes. -/
module

public import proofs.«01_k».proof.Proof.Run
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Model

variable (m : (ℓ : Loc nD τ sig) → Buf (Elt Ideal) ℓ)

theorem idx : ∀ t : Fin cfg0.N, win0_0.index t = ![0, 0] ∧ win0_1.index t = ![t.val, 0, 0, 0, 0] ∧ win0_2.index t = ![0, 0, 0, 0]
    ∧ win0_3.index t = ![0, 0, 0] ∧ win0_4.index t = ![0, 0, 0, 0] ∧ win0_5.index t = ![0, 0, 0, 0] ∧ win0_6.index t = ![0, t.val]
    ∧ t.val < 40 :=
  (by decide +kernel : ∀ t : Fin grid0.N, _)

theorem x_at (c : Dev nD) (t : Fin cfg0.N) (b : Fin 96) (vg : Fin 40) (p : Fin 4) (s : Fin 8) (h : Fin 2) :
    iblk m c 0 t (ix2 b ⟨64 * vg.val + 16 * p.val + 2 * s.val + h.val, by omega⟩)
      = m ((c : Thread nD τ).loc main_arg0) (ix3 b 0 ⟨64 * vg.val + 8 * s.val + 2 * p.val + h.val, by omega⟩) := by
  blk_simp [iblk, idx t]
  simp only [V, hostOps0, hostOps0_1, hostOps0_2, List.flatten_cons, List.flatten_nil, List.append_nil, List.cons_append,
    List.nil_append]
  entry_read
  pointwise
  blk_ext [idx t]

theorem g_at (c : Dev nD) (t : Fin cfg0.N) (ob : Fin 2) (vg : Fin 40) (q : Fin 5) (s : Fin 8) (l : Fin 128) :
    iblk m c 1 t (ix5 ob vg q s l)
      = m ((c : Thread nD τ).loc main_arg1) (ix5 ⟨2 * t.val + ob.val, by have := (idx t).2.2.2.2.2.2.2; omega⟩ vg q s l) := by
  blk_ext [iblk, V, idx t]

theorem res_at (c : Dev nD) (t : Fin cfg0.N) (p : Fin 4) (w : Fin 4) (s : Fin 8) (l : Fin 128) :
    iblk m c 2 t (ix4 p w s l) = m ((c : Thread nD τ).loc main_arg2) (ix2 ⟨128 * w.val + l.val, by omega⟩ p) := by
  blk_simp [iblk, idx t]
  simp only [V, hostOps0, hostOps0_1, hostOps0_2, List.flatten_cons, List.flatten_nil, List.append_nil, List.cons_append,
    List.nil_append]
  entry_read
  pointwise
  blk_ext [idx t]

theorem res2_at (c : Dev nD) (t : Fin cfg0.N) (p : Fin 4) (s : Fin 8) (l : Fin 128) (hl : l.val < 64) :
    iblk m c 3 t (ix3 p s l) = m ((c : Thread nD τ).loc main_arg3) (ix2 ⟨l.val, hl⟩ p) := by
  blk_simp [iblk, idx t]
  simp only [V, hostOps0, hostOps0_1, hostOps0_2, List.flatten_cons, List.flatten_nil, List.append_nil, List.cons_append,
    List.nil_append]
  entry_read
  have e : ∀ (y : S4x8x128.Idx), broadcastInDim S4x8x128 ![0, 1, 2] bcast_S4x1x128_S4x8x128_0_1_2
      (broadcastInDim S4x1x128 ![0, 2] bcast_S4x128_S4x1x128_0_2
        (pad S4x128 ![0, 0] ![0, 64] ![0, 0] (transpose S4x64 [1, 0] (m (c, Proc.tc.devRef main_arg3)) transposes_S64x4_S4x64_1_0)
          (constantI S_ 32 0#32) pads_S4x64_S4x128_000_0640 h_S_)) y = if h : (y 2).val < 64 then m (c, Proc.tc.devRef main_arg3) (ix2 ⟨(y 2).val, h⟩ ⟨(y 0).val, (y 0).isLt⟩) else 0#32 := by
    intro y
    pointwise
  refine (e _).trans ?_
  have h2 : (((View.whole main_v9).slice (win0_3.rect t)).emb (ix3 p s l) 2).val = l.val := by blk_simp [idx t]
  rw [dif_pos (by rw [h2]; exact hl)]
  blk_ext [idx t]

theorem scale_at (c : Dev nD) (t : Fin cfg0.N) (vg : Fin 40) (e : Fin 8) (s : Fin 8) (l : Fin 128) :
    iblk m c 4 t (ix4 vg e s l) = m ((c : Thread nD τ).loc main_arg4) (ix1 ⟨64 * vg.val + 8 * s.val + e.val, by omega⟩) := by
  blk_simp [iblk, idx t]
  simp only [V, hostOps0, hostOps0_1, hostOps0_2, List.flatten_cons, List.flatten_nil, List.append_nil, List.cons_append,
    List.nil_append]
  entry_read
  pointwise
  blk_ext [idx t]

theorem bias_at (c : Dev nD) (t : Fin cfg0.N) (vg : Fin 40) (e : Fin 8) (s : Fin 8) (l : Fin 128) :
    iblk m c 5 t (ix4 vg e s l) = m ((c : Thread nD τ).loc main_arg5) (ix1 ⟨64 * vg.val + 8 * s.val + e.val, by omega⟩) := by
  blk_simp [iblk, idx t]
  simp only [V, hostOps0, hostOps0_1, hostOps0_2, List.flatten_cons, List.flatten_nil, List.append_nil, List.cons_append,
    List.nil_append]
  entry_read
  pointwise
  blk_ext [idx t]

end Cert.KernelIdeal.Gen

end
-- ==== Proof.Value.lean ====
/- What the kernel's result array holds at the end of the run: at row `b` and output `o`, the sum over the 2560 input channels
   of the activation times the decoded weight `coef`, written over the arguments. -/
module

public import proofs.«01_k».proof.Proof.Windows

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Model
open scoped BigOperators

/-- The residual code of output `o` at the slot of input channel `i`. -/
def codeAt (G : IVec S80x40x5x8x128 32) (o : Fin 10240) (i : Fin 2560) : BitVec 32 :=
  G (ix5 ⟨o.val / 128, by omega⟩ ⟨i.val / 64, by omega⟩ 4 ⟨i.val / 8 % 8, by omega⟩ ⟨o.val % 128, by omega⟩)

/-- The row of the second residual codebook that the kernel reads for a code (below 64 for a code in range). -/
def high (c : BitVec 32) : ℕ := wrapped (IntOp.shrsi ArithUnit.vector c 9#32) % 64

theorem high_lt (c : BitVec 32) : high c < 64 := Nat.mod_lt _ (by decide)

/-- The decoded weight of output `o` at input channel `i`: main codebook entry, plus the two residual entries except on the
    first 32 channels, times the channel's scale plus the channel's bias. -/
def coef (G : IVec S80x40x5x8x128 32) (W : IVec S512x4 32) (R : IVec S64x4 32) (sc bi : FVec Ideal S2560 .f32)
    (o : Fin 10240) (i : Fin 2560) : EReal :=
  entry (i.val % 2)
    (G (ix5 ⟨o.val / 128, by omega⟩ ⟨i.val / 64, by omega⟩ ⟨i.val / 2 % 4, by omega⟩ ⟨i.val / 8 % 8, by omega⟩ ⟨o.val % 128, by omega⟩))
    (if i.val < 32 then 0#32 else W (ix2 ⟨low9 (codeAt G o i), low9_lt _⟩ ⟨i.val / 2 % 4, by omega⟩))
    (if i.val < 32 then 0#32 else R (ix2 ⟨high (codeAt G o i), high_lt _⟩ ⟨i.val / 2 % 4, by omega⟩))
    (sc (ix1 i)) (bi (ix1 i))

/-- The result at a row and an output. -/
def spec (X : FVec Ideal S96x1x2560 .bf16) (G : IVec S80x40x5x8x128 32) (W : IVec S512x4 32) (R : IVec S64x4 32)
    (sc bi : FVec Ideal S2560 .f32) (y : S96x10240.Idx) : EReal :=
  ∑ i : Fin 2560, X (ix3 ⟨(y 0).val, (y 0).isLt⟩ 0 i) * coef G W R sc bi ⟨(y 1).val, (y 1).isLt⟩ i

/-- Every code the kernel looks up has a second index below 64. -/
def InRange (G : IVec S80x40x5x8x128 32) : Prop :=
  ∀ (o : Fin 10240) (i : Fin 2560), 32 ≤ i.val → wrapped (IntOp.shrsi ArithUnit.vector (codeAt G o i) 9#32) < 64

/-- Row `k` of the scratch buffer belongs to input channel `channel k`: within a group of 64 rows, pair, slot and half are
    stored in the order pair, slot, half, and the channels come in the order slot, pair, half. -/
def channel : Fin 2560 ≃ Fin 2560 where
  toFun k := ⟨64 * (k.val / 64) + 8 * (k.val / 2 % 8) + 2 * (k.val / 16 % 4) + k.val % 2, by omega⟩
  invFun i := ⟨64 * (i.val / 64) + 16 * (i.val / 2 % 4) + 2 * (i.val / 8 % 8) + i.val % 2, by omega⟩
  left_inv := (by decide +kernel : ∀ k : Fin 2560,
    (⟨64 * ((64 * (k.val / 64) + 8 * (k.val / 2 % 8) + 2 * (k.val / 16 % 4) + k.val % 2) / 64)
      + 16 * ((64 * (k.val / 64) + 8 * (k.val / 2 % 8) + 2 * (k.val / 16 % 4) + k.val % 2) / 2 % 4)
      + 2 * ((64 * (k.val / 64) + 8 * (k.val / 2 % 8) + 2 * (k.val / 16 % 4) + k.val % 2) / 8 % 8)
      + (64 * (k.val / 64) + 8 * (k.val / 2 % 8) + 2 * (k.val / 16 % 4) + k.val % 2) % 2, by omega⟩ : Fin 2560) = k)
  right_inv := (by decide +kernel : ∀ i : Fin 2560,
    (⟨64 * ((64 * (i.val / 64) + 16 * (i.val / 2 % 4) + 2 * (i.val / 8 % 8) + i.val % 2) / 64)
      + 8 * ((64 * (i.val / 64) + 16 * (i.val / 2 % 4) + 2 * (i.val / 8 % 8) + i.val % 2) / 2 % 8)
      + 2 * ((64 * (i.val / 64) + 16 * (i.val / 2 % 4) + 2 * (i.val / 8 % 8) + i.val % 2) / 16 % 4)
      + (64 * (i.val / 64) + 16 * (i.val / 2 % 4) + 2 * (i.val / 8 % 8) + i.val % 2) % 2, by omega⟩ : Fin 2560) = i)

variable (m : (ℓ : Loc nD τ sig) → Buf (Elt Ideal) ℓ)

/-- The code and the decoded weight by coordinates. -/
theorem codeAt_coords (G : IVec S80x40x5x8x128 32) (o : Fin 10240) (i : Fin 2560) (OB : Fin 80) (l : Fin 128) (vg : Fin 40) (s : Fin 8)
    (p : Fin 4) (h : Fin 2) (ho : o.val = 128 * OB.val + l.val) (hi : i.val = 64 * vg.val + 8 * s.val + 2 * p.val + h.val) :
    codeAt G o i = G (ix5 OB vg 4 s l) := by
  have e1 : (⟨o.val / 128, by omega⟩ : Fin 80) = OB := Fin.ext (by show o.val / 128 = _; omega)
  have e2 : (⟨o.val % 128, by omega⟩ : Fin 128) = l := Fin.ext (by show o.val % 128 = _; omega)
  have e3 : (⟨i.val / 64, by omega⟩ : Fin 40) = vg := Fin.ext (by show i.val / 64 = _; omega)
  have e4 : (⟨i.val / 8 % 8, by omega⟩ : Fin 8) = s := Fin.ext (by show i.val / 8 % 8 = _; omega)
  simp only [codeAt, e1, e2, e3, e4]

theorem coef_coords (G : IVec S80x40x5x8x128 32) (W : IVec S512x4 32) (R : IVec S64x4 32) (sc bi : FVec Ideal S2560 .f32)
    (o : Fin 10240) (i : Fin 2560) (OB : Fin 80) (l : Fin 128) (vg : Fin 40) (s : Fin 8)
    (p : Fin 4) (h : Fin 2) (ho : o.val = 128 * OB.val + l.val) (hi : i.val = 64 * vg.val + 8 * s.val + 2 * p.val + h.val) :
    coef G W R sc bi o i = entry h.val (G (ix5 OB vg ⟨p.val, by omega⟩ s l))
      (if i.val < 32 then 0#32 else W (ix2 ⟨low9 (codeAt G o i), low9_lt _⟩ p))
      (if i.val < 32 then 0#32 else R (ix2 ⟨high (codeAt G o i), high_lt _⟩ p)) (sc (ix1 i)) (bi (ix1 i)) := by
  have e1 : (⟨o.val / 128, by omega⟩ : Fin 80) = OB := Fin.ext (by show o.val / 128 = _; omega)
  have e2 : (⟨o.val % 128, by omega⟩ : Fin 128) = l := Fin.ext (by show o.val % 128 = _; omega)
  have e3 : (⟨i.val / 64, by omega⟩ : Fin 40) = vg := Fin.ext (by show i.val / 64 = _; omega)
  have e4 : (⟨i.val / 8 % 8, by omega⟩ : Fin 8) = s := Fin.ext (by show i.val / 8 % 8 = _; omega)
  have e5 : (⟨i.val / 2 % 4, by omega⟩ : Fin 4) = p := Fin.ext (by show i.val / 2 % 4 = _; omega)
  have e6 : (⟨i.val / 2 % 4, by omega⟩ : Fin 5) = ⟨p.val, by omega⟩ := Fin.ext (by show i.val / 2 % 4 = p.val; omega)
  have e7 : i.val % 2 = h.val := by omega
  simp only [coef, e1, e2, e3, e4, e5, e6, e7]

theorem decoded_coords (c : Dev nD) (t : Fin cfg0.N) (hr : InRange (m ((c : Thread nD τ).loc main_arg1)))
    (o : Fin 10240) (i : Fin 2560) (ob : Fin 2) (l : Fin 128) (vg : Fin 40) (s : Fin 8)
    (p : Fin 4) (h : Fin 2) (ho : o.val = 256 * t.val + 128 * ob.val + l.val) (hi : i.val = 64 * vg.val + 8 * s.val + 2 * p.val + h.val) :
    weight (iblk m c 1 t) (iblk m c 2 t) (iblk m c 3 t) (iblk m c 4 t) (iblk m c 5 t) ob vg p s h l
      = coef (m ((c : Thread nD τ).loc main_arg1)) (m ((c : Thread nD τ).loc main_arg2)) (m ((c : Thread nD τ).loc main_arg3))
          (m ((c : Thread nD τ).loc main_arg4)) (m ((c : Thread nD τ).loc main_arg5)) o i := by
  have ht := (idx t).2.2.2.2.2.2.2
  have ho' : o.val = 128 * (⟨2 * t.val + ob.val, by omega⟩ : Fin 80).val + l.val := by show o.val = 128 * (2 * t.val + ob.val) + _; omega
  have hc := codeAt_coords (m ((c : Thread nD τ).loc main_arg1)) o i ⟨2 * t.val + ob.val, by omega⟩ l vg s p h ho' hi
  rw [coef_coords _ _ _ _ _ o i ⟨2 * t.val + ob.val, by omega⟩ l vg s p h ho' hi]
  unfold weight
  rw [g_at, g_at, ← hc, scale_at, bias_at]
  have ei : (⟨64 * vg.val + 8 * s.val + (2 * p.val + h.val), by omega⟩ : Fin 2560) = i := Fin.ext (by show 64 * vg.val + 8 * s.val + (2 * p.val + h.val) = _; omega)
  have hiff : (vg.val = 0 ∧ s.val < 4) ↔ i.val < 32 := by omega
  simp only [ei, hiff]
  by_cases h32 : i.val < 32
  · simp only [h32, if_true]
  · have hw := hr o i (by omega)
    simp only [h32, if_false, word2, word3]
    rw [res_at, res2_at _ _ _ _ _ _ hw]
    have e2 : (⟨128 * (low9 (codeAt (m ((c : Thread nD τ).loc main_arg1)) o i) / 128) + low9 (codeAt (m ((c : Thread nD τ).loc main_arg1)) o i) % 128, by have := low9_lt (codeAt (m ((c : Thread nD τ).loc main_arg1)) o i); omega⟩ : Fin 512)
        = ⟨low9 (codeAt (m ((c : Thread nD τ).loc main_arg1)) o i), low9_lt _⟩ := Fin.ext (Nat.div_add_mod _ _)
    have e3 : (⟨wrapped (IntOp.shrsi ArithUnit.vector (codeAt (m ((c : Thread nD τ).loc main_arg1)) o i) 9#32), hw⟩ : Fin 64)
        = ⟨high (codeAt (m ((c : Thread nD τ).loc main_arg1)) o i), high_lt _⟩ := Fin.ext (Nat.mod_eq_of_lt hw).symm
    simp only [e2, e3]

/-- The scratch buffer's row `k` holds the decoded weights of channel `channel k`. -/
theorem decoded_eq (c : Dev nD) (t : Fin cfg0.N) (hr : InRange (m ((c : Thread nD τ).loc main_arg1))) (k : Fin 2560) (j : Fin 256)
    (o : Fin 10240) (ho : o.val = 256 * t.val + j.val) :
    decoded (iblk m c 1 t) (iblk m c 2 t) (iblk m c 3 t) (iblk m c 4 t) (iblk m c 5 t) (ix2 k j)
      = coef (m ((c : Thread nD τ).loc main_arg1)) (m ((c : Thread nD τ).loc main_arg2)) (m ((c : Thread nD τ).loc main_arg3))
          (m ((c : Thread nD τ).loc main_arg4)) (m ((c : Thread nD τ).loc main_arg5)) o (channel k) := by
  rw [decoded_at _ _ _ _ _ ⟨j.val / 128, by omega⟩ ⟨k.val / 64, by omega⟩ ⟨k.val / 16 % 4, by omega⟩ ⟨k.val / 2 % 8, by omega⟩
    ⟨k.val % 2, by omega⟩ ⟨j.val % 128, by omega⟩ (ix2 k j)
    (by show k.val = 64 * (k.val / 64) + 16 * (k.val / 16 % 4) + (2 * (k.val / 2 % 8) + k.val % 2); omega)
    (by show j.val = 128 * (j.val / 128) + j.val % 128; omega)]
  exact decoded_coords m c t hr o (channel k) _ _ _ _ _ _ (by show o.val = 256 * t.val + 128 * (j.val / 128) + j.val % 128; omega)
    rfl

theorem x_eq (c : Dev nD) (t : Fin cfg0.N) (b : Fin 96) (k : Fin 2560) :
    iblk m c 0 t (ix2 b k) = m ((c : Thread nD τ).loc main_arg0) (ix3 b 0 (channel k)) := by
  have h := x_at m c t b ⟨k.val / 64, by omega⟩ ⟨k.val / 16 % 4, by omega⟩ ⟨k.val / 2 % 8, by omega⟩ ⟨k.val % 2, by omega⟩
  have hk : (⟨64 * (k.val / 64) + 16 * (k.val / 16 % 4) + 2 * (k.val / 2 % 8) + k.val % 2, by omega⟩ : Fin 2560) = k :=
    Fin.ext (by show 64 * (k.val / 64) + 16 * (k.val / 16 % 4) + 2 * (k.val / 2 % 8) + k.val % 2 = k.val; omega)
  exact (congrArg (fun k => iblk m c 0 t (ix2 b k)) hk).symm.trans h

/-- The product at a row and a column. -/
theorem product_at (x0 : Vec Ideal S96x2560 .bf16) (w : Vec Ideal S2560x256 .bf16) (b : Fin 96) (j : Fin 256) :
    product x0 w (ix2 b j) = ∑ k : Fin 2560, (x0 (ix2 b k) * w (ix2 k j) : EReal) := by
  pointwise [product, k0_pay3]

/-- What the body stores at a grid point is `spec` at the place of the block. -/
theorem point (c : Dev nD) (t : Fin cfg0.N) (hr : InRange (m ((c : Thread nD τ).loc main_arg1))) (b : Fin 96) (j : Fin 256)
    (y : S96x10240.Idx) (h0 : (y 0).val = b.val) (h1 : (y 1).val = 256 * t.val + j.val) : outAt m c t (ix2 b j)
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) y := by
  refine (product_at _ _ b j).trans ?_
  unfold spec
  refine Fintype.sum_equiv channel _ _ fun k => ?_
  rw [decoded_eq m c t hr k j ⟨(y 1).val, (y 1).isLt⟩ h1, x_eq,
    show (⟨(y 0).val, (y 0).isLt⟩ : Fin 96) = b from Fin.ext h0]

/-- The result array at the end of the run. -/
theorem final (c : Dev nD) (hr : InRange (m ((c : Thread nD τ).loc main_arg1))) : (dats m 0 c).arrAt 6 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨b, j, rfl⟩ : ∃ (b : Fin 96) (j : Fin 256), y = ix2 b j := ⟨y 0, y 1, eq_ix2 y⟩
  have ht := (idx t).2.2.2.2.2.2.2
  have h0 : ((win0_6.blk t).view.emb (ix2 b j) 0).val = b.val := by blk_simp [idx t]
  have h1 : ((win0_6.blk t).view.emb (ix2 b j) 1).val = 256 * t.val + j.val := by blk_simp [idx t]; omega
  exact point m c t hr b j _ h0 h1

end Cert.KernelIdeal.Gen

end
-- ==== Proof.Halves.lean ====
/- A half of a 32-bit word read as a bfloat16 value is the word with the other half cleared (and, for the low half, moved up)
   read as a float32 value. -/
module

public import proofs.«01_k».proof.Proof.Group

@[expose] public section

noncomputable section

namespace Cert.KernelIdeal.Model

open Idealize.ShloMosaic

/-- Sixteen zero bits after a bfloat16 pattern give the float32 pattern of the same value. -/
theorem ieee_widen (a : BitVec 16) (b : BitVec 32) (hs : b.extractLsb' 31 1 = a.extractLsb' 15 1)
    (he : b.extractLsb' 23 8 = a.extractLsb' 7 8) (hf : (b.extractLsb' 0 23).toNat = (a.extractLsb' 0 7).toNat * 2 ^ 16) :
    Ideal.ieee 8 7 a = Ideal.ieee 8 23 b := by
  unfold Ideal.ieee
  simp only [show 8 + 7 = 15 from rfl, show 8 + 23 = 31 from rfl, hs, he, hf]
  by_cases h1 : (a.extractLsb' 7 8).toNat = 2 ^ 8 - 1
  · simp [h1]
  · by_cases h2 : (a.extractLsb' 7 8).toNat = 0
    · rw [if_neg h1, if_neg h1, if_pos h2, if_pos h2]
      congr 1
      push_cast
      norm_num [zpow_neg]
      ring_nf
    · rw [if_neg h1, if_neg h1, if_neg h2, if_neg h2]
      congr 1
      have e : ∀ n : ℤ, (2 : ℝ) ^ (n - 7) = 2 ^ (n - 23) * 2 ^ 16 := fun n => by
        rw [← zpow_natCast, ← zpow_add₀ (by norm_num)]; congr 1; push_cast; ring
      push_cast
      rw [e]
      ring

theorem low_half (w : BitVec 32) : Ideal.ofBits .bf16 (w.extractLsb' 0 16) = Ideal.ofBits .f32 (w <<< 16) := by
  refine ieee_widen _ _ ?_ ?_ ?_
  · ext i hi; interval_cases i; simp [BitVec.getElem_extractLsb']
  · ext i hi; interval_cases i <;> simp [BitVec.getElem_extractLsb']
  · simp only [BitVec.extractLsb'_toNat, BitVec.toNat_shiftLeft, Nat.shiftLeft_eq, Nat.shiftRight_zero]
    have := w.isLt
    omega

/-- Clearing the low half is moving the high half down and up again. -/
theorem clear_low (w : BitVec 32) : w &&& 4294901760#32 = (w >>> 16) <<< 16 := by
  ext i hi
  interval_cases i <;> simp

theorem high_half (w : BitVec 32) : Ideal.ofBits .bf16 (w.extractLsb' 16 16) = Ideal.ofBits .f32 (w &&& 4294901760#32) := by
  rw [clear_low]
  refine ieee_widen _ _ ?_ ?_ ?_
  · ext i hi; interval_cases i; simp [BitVec.getElem_extractLsb']
  · ext i hi; interval_cases i <;> simp [BitVec.getElem_extractLsb']
  · simp only [BitVec.extractLsb'_toNat, BitVec.toNat_shiftLeft, BitVec.toNat_ushiftRight, Nat.shiftLeft_eq, Nat.shiftRight_eq_div_pow, Nat.shiftRight_zero]
    have := w.isLt
    omega

/-- Half `h` of a word as a bfloat16 value. -/
theorem part_eq (h : ℕ) (hh : h < 2) (w : BitVec 32) : Ideal.ofBits .bf16 (w.extractLsb' (h * 16) 16) = part h w := by
  unfold part
  split
  · next e => subst e; exact low_half w
  · next e => obtain rfl : h = 1 := by omega
              exact high_half w

/-- A half of the zero word is zero. -/
theorem part_zero (h : ℕ) : part h 0#32 = 0 := by
  unfold part
  split <;> simp [Ideal.ofBits, Ideal.ieee]

/-- Without residual an entry is value times scale plus bias. -/
theorem entry_zero (h : ℕ) (m : BitVec 32) (sc bi : EReal) : entry h m 0#32 0#32 sc bi = part h m * sc + bi := by
  unfold entry
  rw [part_zero, add_zero, add_zero]

end Cert.KernelIdeal.Model

end
-- ==== Proof.Codes.lean ====
/- Arithmetic of a residual code in range: its two indices, by the kernel's shift and mask and by the reference's column of the
   table of sums. -/
module

public import proofs.«01_k».proof.Proof.Group
public import Idealize.ShloMosaic.Lib.KernelVsHost

@[expose] public section

noncomputable section

namespace Cert.KernelIdeal.Model

open Idealize.ShloMosaic

/-- The arithmetic shift of a code in range. -/
theorem shift9 (c : BitVec 32) (h : c.toNat < 32768) : IntOp.shrsi ArithUnit.vector c 9#32 = BitVec.ofNat 32 (c.toNat / 512) := by
  have hm : c.msb = false := by rw [BitVec.msb_eq_decide]; simp; omega
  have e : IntOp.shrsi ArithUnit.vector c 9#32 = c >>> 9 := by
    unfold IntOp.shrsi
    simp [BitVec.sshiftRight_eq_of_msb_false hm]
  rw [e]
  apply BitVec.eq_of_toNat_eq
  rw [BitVec.toNat_ushiftRight, BitVec.toNat_ofNat, Nat.shiftRight_eq_div_pow]
  omega

theorem wrapped_small : ∀ n < 64, wrapped (BitVec.ofNat 32 n) = n := by decide +kernel

/-- The second index of a code in range. -/
theorem wrapped_shift (c : BitVec 32) (h : c.toNat < 32768) : wrapped (IntOp.shrsi ArithUnit.vector c 9#32) = c.toNat / 512 := by
  rw [shift9 c h, wrapped_small _ (by omega)]

/-- The first index of a code. -/
theorem low9_eq (c : BitVec 32) : low9 c = c.toNat % 512 := by
  unfold low9
  rw [BitVec.toNat_and]
  exact Nat.and_two_pow_sub_one_eq_mod c.toNat 9

/-- The column of the table of sums. -/
theorem column_toNat (c : BitVec 32) (h : c.toNat < 32768) :
    min (IntOp.addi (IntOp.muli (IntOp.andi c 511#32) 64#32) (IntOp.shrsi ArithUnit.vector c 9#32)).toInt.toNat 32767
      = c.toNat % 512 * 64 + c.toNat / 512 := by
  rw [andi_511, low9_eq, shift9 c h]
  have e : (IntOp.addi (IntOp.muli (BitVec.ofNat 32 (c.toNat % 512)) 64#32) (BitVec.ofNat 32 (c.toNat / 512)))
      = BitVec.ofNat 32 (c.toNat % 512 * 64 + c.toNat / 512) := by
    unfold IntOp.addi IntOp.muli
    apply BitVec.eq_of_toNat_eq
    simp [BitVec.toNat_add, BitVec.toNat_mul]
  have hb : c.toNat % 512 * 64 + c.toNat / 512 ≤ 32767 := by omega
  rw [e]
  generalize c.toNat % 512 * 64 + c.toNat / 512 = n at hb
  rw [BitVec.toInt_eq_toNat_cond, BitVec.toNat_ofNat]
  split <;> omega

/-- The two comparisons of the range say the code is below 32768. -/
theorem range_of_bits (c : BitVec 32) (h : IntOp.andi (IntOp.cmpi .sge c 0#32) (IntOp.cmpi .slt c 32768#32) = 1#1) :
    c.toNat < 32768 := by
  by_contra hc
  have hi : ¬ (0 ≤ c.toInt ∧ c.toInt < 32768) := by
    rw [BitVec.toInt_eq_toNat_cond]
    split <;> omega
  revert h
  unfold IntOp.andi IntOp.cmpi
  rw [not_and_or] at hi
  rcases hi with hi | hi
  · have : (0#32).sle c = false := by simp [BitVec.sle]; omega
    simp [this]
  · have : c.slt 32768#32 = false := by simp [BitVec.slt]; omega
    simp [this]

end Cert.KernelIdeal.Model

end
-- ==== Proof.Reference.lean ====
/- The reference's result read at an index: the values, the codes and the table of sums of residual entries, the table's
   gather, the two weight arrays, and the two products. -/
module

public import proofs.«01_k».proof.Proof.Gen.ReferenceIdeal.Run
public import Idealize.ShloMosaic.Lib.Pipeline.ValueKit
public import Idealize.ShloMosaic.Lib.Pointwise
public import Idealize.ShloMosaic.Lib.KernelVsHost
public import Idealize.ShloMosaic.Lib.BitcastConvert

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Tactic
open scoped BigOperators

/-- Half `h` of a word, as a bfloat16 value. -/
def half (h : ℕ) (w : BitVec 32) : EReal := Ideal.ofBits .bf16 (w.extractLsb' (h * 16) 16)

/-- The main codebook values by component, output and slot. -/
def values (G : IVec S80x40x5x8x128 32) : FVec Ideal S8x10240x320 .f32 :=
  extf .f32 (shapeCast S8x10240x320 (transpose S4x2x80x128x40x8 [2, 5, 0, 4, 1, 3] (bitcastToFloat (F := Ideal) .bf16 (Host.bitcastConvertNarrow S80x40x4x8x128x2 16 (extractStridedSlice S80x40x4x8x128 ![0, 0, 0, 0, 0] G slices_S80x40x5x8x128_S80x40x4x8x128_0_0_0_0_0) splits_S80x40x4x8x128_w32_S80x40x4x8x128x2_w16)) transposes_S80x40x4x8x128x2_S4x2x80x128x40x8_2_5_0_4_1_3) shapeCasts_S4x2x80x128x40x8_S8x10240x320) bitsLt_bf16_f32

/-- The residual codes by output and slot. -/
def codes (G : IVec S80x40x5x8x128 32) : IVec S10240x320 32 :=
  shapeCast S10240x320 (transpose S80x128x40x8 [0, 3, 1, 2] (shapeCast S80x40x8x128 (extractStridedSlice S80x40x1x8x128 ![0, 0, 4, 0, 0] G slices_S80x40x5x8x128_S80x40x1x8x128_0_0_4_0_0) shapeCasts_S80x40x1x8x128_S80x40x8x128) transposes_S80x40x8x128_S80x128x40x8_0_3_1_2) shapeCasts_S80x128x40x8_S10240x320

/-- The table of sums of residual entries. -/
def table (W : IVec S512x4 32) (R : IVec S64x4 32) : FVec Ideal S8x32768 .f32 :=
  transpose S8x32768 [1, 0] (shapeCast S32768x8 (addf (broadcastInDim S512x64x8 ![0, 1, 2] bcast_S512x1x8_S512x64x8_0_1_2 (broadcastInDim S512x1x8 ![0, 2] bcast_S512x8_S512x1x8_0_2 (extf .f32 (shapeCast S512x8 (bitcastToFloat (F := Ideal) .bf16 (Host.bitcastConvertNarrow S512x4x2 16 W splits_S512x4_w32_S512x4x2_w16)) shapeCasts_S512x4x2_S512x8) bitsLt_bf16_f32))) (broadcastInDim S512x64x8 ![0, 1, 2] bcast_S1x64x8_S512x64x8_0_1_2 (broadcastInDim S1x64x8 ![1, 2] bcast_S64x8_S1x64x8_1_2 (extf .f32 (shapeCast S64x8 (bitcastToFloat (F := Ideal) .bf16 (Host.bitcastConvertNarrow S64x4x2 16 R splits_S64x4_w32_S64x4x2_w16)) shapeCasts_S64x4x2_S64x8) bitsLt_bf16_f32)))) shapeCasts_S512x64x8_S32768x8) transposes_S32768x8_S8x32768_1_0

/-- The table's columns by output and slot. -/
def columns (C : IVec S10240x320 32) : IVec S10240x316x1 32 :=
  broadcastInDim S10240x316x1 ![0, 1] bcast_S10240x316_S10240x316x1_0_1 (extractStridedSlice S10240x316 ![0, 4] (addi (muli (andi C (broadcastInDim S10240x320 ![] bcast_S_S10240x320 (constantI S_ 32 511#32))) (broadcastInDim S10240x320 ![] bcast_S_S10240x320 (constantI S_ 32 64#32))) (Host.shrsi C (broadcastInDim S10240x320 ![] bcast_S_S10240x320 (constantI S_ 32 9#32)))) slices_S10240x320_S10240x316_0_4)

/-- The weights of the first four slots, without residual. -/
def firstWeights (V : FVec Ideal S8x10240x320 .f32) (sc bi : FVec Ideal S2560 .f32) : FVec Ideal S8x10240x4 .bf16 :=
  truncf .bf16 (addf (mulf (extractStridedSlice S8x10240x4 ![0, 0, 0] V slices_S8x10240x320_S8x10240x4_0_0_0) (broadcastInDim S8x10240x4 ![0, 1, 2] bcast_S8x1x4_S8x10240x4_0_1_2 (broadcastInDim S8x1x4 ![0, 2] bcast_S8x4_S8x1x4_0_2 (transpose S8x4 [1, 0] (shapeCast S4x8 (extractStridedSlice S32 ![0] sc slices_S2560_S32_0) shapeCasts_S32_S4x8) transposes_S4x8_S8x4_1_0)))) (broadcastInDim S8x10240x4 ![0, 1, 2] bcast_S8x1x4_S8x10240x4_0_1_2 (broadcastInDim S8x1x4 ![0, 2] bcast_S8x4_S8x1x4_0_2 (transpose S8x4 [1, 0] (shapeCast S4x8 (extractStridedSlice S32 ![0] bi slices_S2560_S32_0) shapeCasts_S32_S4x8) transposes_S4x8_S8x4_1_0)))) bitsLt_bf16_f32

/-- The weights of the other slots, over the gathered residual sums `T`. -/
def laterWeights (V : FVec Ideal S8x10240x320 .f32) (T : FVec Ideal S8x10240x316 .f32) (sc bi : FVec Ideal S2560 .f32) : FVec Ideal S8x10240x316 .bf16 :=
  truncf .bf16 (addf (mulf (addf (extractStridedSlice S8x10240x316 ![0, 0, 4] V slices_S8x10240x320_S8x10240x316_0_0_4) T) (broadcastInDim S8x10240x316 ![0, 1, 2] bcast_S8x1x316_S8x10240x316_0_1_2 (broadcastInDim S8x1x316 ![0, 2] bcast_S8x316_S8x1x316_0_2 (transpose S8x316 [1, 0] (shapeCast S316x8 (extractStridedSlice S2528 ![32] sc slices_S2560_S2528_32) shapeCasts_S2528_S316x8) transposes_S316x8_S8x316_1_0)))) (broadcastInDim S8x10240x316 ![0, 1, 2] bcast_S8x1x316_S8x10240x316_0_1_2 (broadcastInDim S8x1x316 ![0, 2] bcast_S8x316_S8x1x316_0_2 (transpose S8x316 [1, 0] (shapeCast S316x8 (extractStridedSlice S2528 ![32] bi slices_S2560_S2528_32) shapeCasts_S2528_S316x8) transposes_S316x8_S8x316_1_0)))) bitsLt_bf16_f32

/-- The result, over the two weight arrays. -/
def result (X : FVec Ideal S96x1x2560 .bf16) (A : FVec Ideal S8x10240x4 .bf16) (B : FVec Ideal S8x10240x316 .bf16) : FVec Ideal S96x10240 .bf16 :=
  shapeCast S96x10240 (truncf .bf16 (addf (Host.dotGeneral dot_S96x1x4x8_S8x10240x4_S96x1x10240_32_02_01_1_n_n none (shapeCast S96x1x4x8 (extractStridedSlice S96x1x32 ![0, 0, 0] X slices_S96x1x2560_S96x1x32_0_0_0) shapeCasts_S96x1x32_S96x1x4x8) A) (Host.dotGeneral dot_S96x1x316x8_S8x10240x316_S96x1x10240_32_02_01_1_n_n none (shapeCast S96x1x316x8 (extractStridedSlice S96x1x2528 ![0, 0, 32] X slices_S96x1x2560_S96x1x2528_0_0_32) shapeCasts_S96x1x2528_S96x1x316x8) B)) bitsLt_bf16_f32) shapeCasts_S96x1x10240_S96x10240

/-- The generated result is this composition. -/
theorem res_eq (m : (ℓ : Loc nD τ sig) → Buf (Elt Ideal) ℓ) (c : Dev nD) : res_main_v68 m c
    = result (m ((c.tc : Thread nD τ).loc main_arg0)) (firstWeights (values (m ((c.tc : Thread nD τ).loc main_arg1))) (m ((c.tc : Thread nD τ).loc main_arg4)) (m ((c.tc : Thread nD τ).loc main_arg5)))
        (laterWeights (values (m ((c.tc : Thread nD τ).loc main_arg1)))
          (Host.gather gather_S8x32768_S10240x316x1_S8x10240x316_0_1_n_n_1_2_81 (table (m ((c.tc : Thread nD τ).loc main_arg2)) (m ((c.tc : Thread nD τ).loc main_arg3))) (columns (codes (m ((c.tc : Thread nD τ).loc main_arg1)))))
          (m ((c.tc : Thread nD τ).loc main_arg4)) (m ((c.tc : Thread nD τ).loc main_arg5))) := rfl

/-- The values at an index. -/
theorem values_at (G : IVec S80x40x5x8x128 32) (e : Fin 8) (o : Fin 10240) (v : Fin 320) :
    values G (ix3 e o v) = half (e.val % 2)
      (G (ix5 ⟨o.val / 128, by omega⟩ ⟨v.val / 8, by omega⟩ ⟨e.val / 2, by omega⟩ ⟨v.val % 8, by omega⟩ ⟨o.val % 128, by omega⟩)) := by
  pointwise [values]
  rfl

/-- The codes at an index. -/
theorem codes_at (G : IVec S80x40x5x8x128 32) (o : Fin 10240) (v : Fin 320) :
    codes G (ix2 o v) = G (ix5 ⟨o.val / 128, by omega⟩ ⟨v.val / 8, by omega⟩ 4 ⟨v.val % 8, by omega⟩ ⟨o.val % 128, by omega⟩) := by
  pointwise [codes]

/-- The element a half word comes from. -/
theorem drop512 (a : Fin 512) (c : Fin 4) (f : Fin 2) : splits_S512x4_w32_S512x4x2_w16.drop (ix3 a c f) = ix2 a c := by
  funext k
  fin_cases k <;> rfl

/-- The same for the second codebook. -/
theorem drop64 (a : Fin 64) (c : Fin 4) (f : Fin 2) : splits_S64x4_w32_S64x4x2_w16.drop (ix3 a c f) = ix2 a c := by
  funext k
  fin_cases k <;> rfl

/-- The table at an index. -/
theorem table_at (W : IVec S512x4 32) (R : IVec S64x4 32) (e : Fin 8) (n : Fin 32768) :
    table W R (ix2 e n) = half (e.val % 2) (W (ix2 ⟨n.val / 64, by omega⟩ ⟨e.val / 2, by omega⟩))
      + half (e.val % 2) (R (ix2 ⟨n.val % 64, by omega⟩ ⟨e.val / 2, by omega⟩)) := by
  pointwise [table]
  simp only [drop512, drop64]
  rfl

/-- The columns at an index. -/
theorem columns_at (C : IVec S10240x320 32) (o : Fin 10240) (v : Fin 316) :
    columns C (ix3 o v 0) = IntOp.addi (IntOp.muli (IntOp.andi (C (ix2 o ⟨4 + v.val, by omega⟩)) 511#32) 64#32)
      (IntOp.shrsi ArithUnit.vector (C (ix2 o ⟨4 + v.val, by omega⟩)) 9#32) := by
  pointwise [columns]
  rw [shrsi_unit]

/-- The first weights at an index. -/
theorem firstWeights_at (V : FVec Ideal S8x10240x320 .f32) (sc bi : FVec Ideal S2560 .f32) (e : Fin 8) (o : Fin 10240) (v : Fin 4) :
    firstWeights V sc bi (ix3 e o v) = V (ix3 e o ⟨v.val, by omega⟩) * sc (ix1 ⟨8 * v.val + e.val, by omega⟩) + bi (ix1 ⟨8 * v.val + e.val, by omega⟩) := by
  pointwise [firstWeights]
  simp only [Nat.mul_comm]

/-- The other weights at an index. -/
theorem laterWeights_at (V : FVec Ideal S8x10240x320 .f32) (T : FVec Ideal S8x10240x316 .f32) (sc bi : FVec Ideal S2560 .f32) (e : Fin 8) (o : Fin 10240) (v : Fin 316) :
    laterWeights V T sc bi (ix3 e o v) = (V (ix3 e o ⟨4 + v.val, by omega⟩) + T (ix3 e o v)) * sc (ix1 ⟨32 + 8 * v.val + e.val, by omega⟩)
      + bi (ix1 ⟨32 + 8 * v.val + e.val, by omega⟩) := by
  pointwise [laterWeights]
  simp only [Nat.mul_comm, Nat.add_assoc]

/-- The result at an index. -/
theorem result_at (X : FVec Ideal S96x1x2560 .bf16) (A : FVec Ideal S8x10240x4 .bf16) (B : FVec Ideal S8x10240x316 .bf16) (b : Fin 96) (o : Fin 10240) :
    result X A B (ix2 b o) = (∑ v : Fin 4, ∑ e : Fin 8, X (ix3 b 0 ⟨8 * v.val + e.val, by omega⟩) * A (ix3 e o v) : EReal)
      + (∑ v : Fin 316, ∑ e : Fin 8, X (ix3 b 0 ⟨32 + 8 * v.val + e.val, by omega⟩) * B (ix3 e o v)) := by
  pointwise [result]
  rw [Finset.sum_comm, Finset.sum_comm (s := (Finset.univ : Finset (Fin 8)))]
  simp only [Nat.mul_comm, Nat.add_assoc]

/-- The gather of the table's columns: the column is the code's index, read signed and clamped into the table. -/
theorem gather_at (x : FVec Ideal S8x32768 .f32) (ix : IVec S10240x316x1 32) (e : Fin 8) (o : Fin 10240) (v : Fin 316) :
    Host.gather gather_S8x32768_S10240x316x1_S8x10240x316_0_1_n_n_1_2_81 x ix (ix3 e o v)
      = x (ix2 e ⟨min (ix (ix3 o v 0)).toInt.toNat 32767, by omega⟩) := by
  unfold Host.gather
  refine congrArg x ?_
  funext a
  refine Fin.ext ?_
  match a with
  | ⟨0, _⟩ =>
    show GatherDims.start _ (ix3 e o v) ix 0 + GatherDims.batchCoord _ (ix3 e o v) 0 + GatherDims.offCoord _ (ix3 e o v) 0 = _
    rw [GatherDims.batchCoord_eq_zero _ _ _ List.not_mem_nil]
    unfold GatherDims.start
    rw [dif_neg (by decide)]
    simp
    rfl
  | ⟨1, _⟩ =>
    show GatherDims.start _ (ix3 e o v) ix 1 + GatherDims.batchCoord _ (ix3 e o v) 1 + GatherDims.offCoord _ (ix3 e o v) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8x32768_S10240x316x1_S8x10240x316_0_1_n_n_1_2_81.startIndexMap from List.mem_singleton.mpr rfl)]
    have hsi : gather_S8x32768_S10240x316x1_S8x10240x316_0_1_n_n_1_2_81.siIdx (ix3 e o v)
        ⟨List.idxOf (1 : Fin 2) gather_S8x32768_S10240x316x1_S8x10240x316_0_1_n_n_1_2_81.startIndexMap,
          List.idxOf_lt_length_iff.2 (List.mem_singleton.mpr rfl)⟩ = ix3 o v 0 := by
      funext b; refine Fin.ext ?_
      match b with
      | ⟨0, _⟩ => rfl
      | ⟨1, _⟩ => rfl
      | ⟨2, _⟩ => rfl
    rw [hsi]
    rfl

end Cert.ReferenceIdeal.Value

end
-- ==== Proof.Agree.lean ====
/- The kernel's sum over the 2560 input channels is the reference's two sums, over the first four slots without residual and
   over the other 316 slots with it, for codes in range. -/
module

public import proofs.«01_k».proof.Proof.Value
public import proofs.«01_k».proof.Proof.Halves
public import proofs.«01_k».proof.Proof.Codes
public import proofs.«01_k».proof.Proof.Reference

@[expose] public section

set_option maxRecDepth 16384

noncomputable section

namespace Cert.KernelIdeal.Model

open Idealize.ShloMosaic Idealize.ShloMosaic.Tactic
open Cert.KernelIdeal.Gen
open Cert.ReferenceIdeal.Value (half values codes table columns firstWeights laterWeights result values_at codes_at table_at columns_at
  firstWeights_at laterWeights_at result_at gather_at)
open scoped BigOperators

/-- A sum over the channels, split at channel 32 and into slots and components. -/
theorem sum_split (f : Fin 2560 → EReal) :
    ∑ i : Fin 2560, f i = (∑ v : Fin 4, ∑ e : Fin 8, f ⟨8 * v.val + e.val, by omega⟩)
      + ∑ v : Fin 316, ∑ e : Fin 8, f ⟨32 + 8 * v.val + e.val, by omega⟩ := by
  have h1 : ∑ i : Fin 2560, f i = ∑ p : Fin 320 × Fin 8, f ⟨8 * p.1.val + p.2.val, by omega⟩ := by
    refine ((finProdFinEquiv (m := 320) (n := 8)).sum_comp (fun i : Fin (320 * 8) => f i)).symm.trans ?_
    refine Finset.sum_congr rfl fun p _ => congrArg f (Fin.ext ?_)
    show p.2.val + 8 * p.1.val = 8 * p.1.val + p.2.val
    omega
  rw [h1, Fintype.sum_prod_type]
  refine (Fin.sum_univ_add (a := 4) (b := 316) (fun v : Fin (4 + 316) => ∑ e : Fin 8, f ⟨8 * v.val + e.val, by omega⟩)).trans ?_
  refine congrArg₂ (· + ·) rfl (Finset.sum_congr rfl fun v _ => Finset.sum_congr rfl fun e _ => congrArg f (Fin.ext ?_))
  show 8 * (4 + v.val) + e.val = 32 + 8 * v.val + e.val
  omega

theorem half_eq (h : ℕ) (hh : h < 2) (w : BitVec 32) : half h w = part h w := part_eq h hh w

variable (G : IVec S80x40x5x8x128 32) (W : IVec S512x4 32) (R : IVec S64x4 32) (sc bi : FVec Ideal S2560 .f32)

/-- The code at the slot of a channel. -/
theorem code_slot (o : Fin 10240) (v : Fin 320) (e : Fin 8) (i : Fin 2560) (hi : i.val = 8 * v.val + e.val) :
    codeAt G o i = codes G (ix2 o v) := by
  have e1 : (⟨i.val / 64, by omega⟩ : Fin 40) = ⟨v.val / 8, by omega⟩ := Fin.ext (by show i.val / 64 = v.val / 8; omega)
  have e2 : (⟨i.val / 8 % 8, by omega⟩ : Fin 8) = ⟨v.val % 8, by omega⟩ := Fin.ext (by show i.val / 8 % 8 = v.val % 8; omega)
  rw [codes_at]
  simp only [codeAt, e1, e2]

/-- The decoded weight by slot and component. -/
theorem coef_slot (o : Fin 10240) (v : Fin 320) (e : Fin 8) (i : Fin 2560) (hi : i.val = 8 * v.val + e.val) :
    coef G W R sc bi o i
      = entry (e.val % 2) (G (ix5 ⟨o.val / 128, by omega⟩ ⟨v.val / 8, by omega⟩ ⟨e.val / 2, by omega⟩ ⟨v.val % 8, by omega⟩ ⟨o.val % 128, by omega⟩))
          (if i.val < 32 then 0#32 else W (ix2 ⟨low9 (codes G (ix2 o v)), low9_lt _⟩ ⟨e.val / 2, by omega⟩))
          (if i.val < 32 then 0#32 else R (ix2 ⟨high (codes G (ix2 o v)), high_lt _⟩ ⟨e.val / 2, by omega⟩))
          (sc (ix1 i)) (bi (ix1 i)) := by
  have e1 : (⟨i.val / 64, by omega⟩ : Fin 40) = ⟨v.val / 8, by omega⟩ := Fin.ext (by show i.val / 64 = v.val / 8; omega)
  have e2 : (⟨i.val / 8 % 8, by omega⟩ : Fin 8) = ⟨v.val % 8, by omega⟩ := Fin.ext (by show i.val / 8 % 8 = v.val % 8; omega)
  have e3 : (⟨i.val / 2 % 4, by omega⟩ : Fin 5) = ⟨e.val / 2, by omega⟩ := Fin.ext (by show i.val / 2 % 4 = e.val / 2; omega)
  have e4 : (⟨i.val / 2 % 4, by omega⟩ : Fin 4) = ⟨e.val / 2, by omega⟩ := Fin.ext (by show i.val / 2 % 4 = e.val / 2; omega)
  have e5 : i.val % 2 = e.val % 2 := by omega
  simp only [coef, code_slot G o v e i hi, e1, e2, e3, e4, e5]

/-- The reference's weight on the first four slots. -/
theorem outlier_coef (o : Fin 10240) (v : Fin 4) (e : Fin 8) :
    coef G W R sc bi o ⟨8 * v.val + e.val, by omega⟩ = firstWeights (values G) sc bi (ix3 e o v) := by
  rw [coef_slot G W R sc bi o ⟨v.val, by omega⟩ e _ rfl, if_pos (by show 8 * v.val + e.val < 32; omega),
    if_pos (by show 8 * v.val + e.val < 32; omega), entry_zero, firstWeights_at, values_at, half_eq _ (by omega)]

/-- The gathered residual sum of a code in range. -/
theorem gathered (o : Fin 10240) (v : Fin 316) (e : Fin 8) (h : (codes G (ix2 o ⟨4 + v.val, by omega⟩)).toNat < 32768) :
    Host.gather Cert.ReferenceIdeal.gather_S8x32768_S10240x316x1_S8x10240x316_0_1_n_n_1_2_81 (table W R) (columns (codes G)) (ix3 e o v)
      = part (e.val % 2) (W (ix2 ⟨low9 (codes G (ix2 o ⟨4 + v.val, by omega⟩)), low9_lt _⟩ ⟨e.val / 2, by omega⟩))
        + part (e.val % 2) (R (ix2 ⟨high (codes G (ix2 o ⟨4 + v.val, by omega⟩)), high_lt _⟩ ⟨e.val / 2, by omega⟩)) := by
  rw [gather_at, table_at, half_eq _ (by omega), half_eq _ (by omega)]
  generalize hc : codes G (ix2 o ⟨4 + v.val, by omega⟩) = c at h
  have hn : min (columns (codes G) (ix3 o v 0)).toInt.toNat 32767 = c.toNat % 512 * 64 + c.toNat / 512 := by
    rw [columns_at, hc, column_toNat c h]
  have hh : high c = c.toNat / 512 := by
    unfold high
    rw [wrapped_shift c h]
    omega
  have e1 : (⟨(min (columns (codes G) (ix3 o v 0)).toInt.toNat 32767) / 64, by omega⟩ : Fin 512) = ⟨low9 c, low9_lt _⟩ :=
    Fin.ext (by show (min (columns (codes G) (ix3 o v 0)).toInt.toNat 32767) / 64 = low9 c; rw [hn, low9_eq]; omega)
  have e2 : (⟨(min (columns (codes G) (ix3 o v 0)).toInt.toNat 32767) % 64, by omega⟩ : Fin 64) = ⟨high c, high_lt _⟩ :=
    Fin.ext (by show (min (columns (codes G) (ix3 o v 0)).toInt.toNat 32767) % 64 = high c; rw [hn, hh]; omega)
  simp only [e1, e2]

/-- The reference's weight on the other slots, for a code in range. -/
theorem regular_coef (o : Fin 10240) (v : Fin 316) (e : Fin 8) (h : (codes G (ix2 o ⟨4 + v.val, by omega⟩)).toNat < 32768) :
    coef G W R sc bi o ⟨32 + 8 * v.val + e.val, by omega⟩
      = laterWeights (values G) (Host.gather Cert.ReferenceIdeal.gather_S8x32768_S10240x316x1_S8x10240x316_0_1_n_n_1_2_81 (table W R) (columns (codes G)))
          sc bi (ix3 e o v) := by
  rw [coef_slot G W R sc bi o ⟨4 + v.val, by omega⟩ e _ (by show 32 + 8 * v.val + e.val = 8 * (4 + v.val) + e.val; omega),
    if_neg (by show ¬ 32 + 8 * v.val + e.val < 32; omega), if_neg (by show ¬ 32 + 8 * v.val + e.val < 32; omega),
    laterWeights_at, gathered G W R o v e h, values_at, half_eq _ (by omega)]
  rfl

/-- Codes in range have their second index below 64. -/
theorem inRange (h : ∀ (o : Fin 10240) (v : Fin 316), (codes G (ix2 o ⟨4 + v.val, by omega⟩)).toNat < 32768) : InRange G := by
  intro o i hi
  have hv := h o ⟨i.val / 8 - 4, by omega⟩
  rw [code_slot G o ⟨4 + (i.val / 8 - 4), by omega⟩ ⟨i.val % 8, by omega⟩ i (by show i.val = 8 * (4 + (i.val / 8 - 4)) + i.val % 8; omega),
    wrapped_shift _ hv]
  exact (Nat.div_lt_iff_lt_mul (by decide)).2 (lt_of_lt_of_eq hv (by decide))

/-- The kernel's result is the reference's. -/
theorem agree (X : FVec Ideal S96x1x2560 .bf16) (h : ∀ (o : Fin 10240) (v : Fin 316), (codes G (ix2 o ⟨4 + v.val, by omega⟩)).toNat < 32768) :
    spec X G W R sc bi
      = result X (firstWeights (values G) sc bi)
          (laterWeights (values G) (Host.gather Cert.ReferenceIdeal.gather_S8x32768_S10240x316x1_S8x10240x316_0_1_n_n_1_2_81 (table W R) (columns (codes G))) sc bi) := by
  funext y
  obtain ⟨b, o, rfl⟩ : ∃ (b : Fin 96) (o : Fin 10240), y = ix2 b o := ⟨y 0, y 1, eq_ix2 y⟩
  rw [result_at]
  refine (sum_split (fun i => X (ix3 b 0 i) * coef G W R sc bi o i)).trans ?_
  refine congrArg₂ (· + ·) (Finset.sum_congr rfl fun v _ => Finset.sum_congr rfl fun e _ => ?_)
    (Finset.sum_congr rfl fun v _ => Finset.sum_congr rfl fun e _ => ?_)
  · rw [outlier_coef]
  · rw [regular_coef G W R sc bi o v e (h o v)]

end Cert.KernelIdeal.Model

end
-- ==== Proof.Range.lean ====
/- The precondition read element by element: every residual code outside the first 32 input channels is below 32768. -/
module

public import proofs.«01_k».proof.Proof.Codes
public import proofs.«01_k».proof.Proof.Reference
public import proofs.«01_k».proof.Proof.Gen.Pre_codes_in_range

@[expose] public section

set_option maxRecDepth 16384

noncomputable section

namespace Cert.KernelIdeal.Model

open Idealize.ShloMosaic Idealize.ShloMosaic.Tactic
open Cert.ReferenceIdeal.Value

/-- The codes as the predicate reads them are the reference's. -/
theorem pre_bits (X : FVec Ideal Cert.Pre_codes_in_range.S96x1x2560 .bf16) (G : IVec Cert.Pre_codes_in_range.S80x40x5x8x128 32)
    (W : IVec Cert.Pre_codes_in_range.S512x4 32) (R : IVec Cert.Pre_codes_in_range.S64x4 32) (sc bi : FVec Ideal Cert.Pre_codes_in_range.S2560 .f32)
    (o : Fin 10240) (v : Fin 316) :
    Cert.Pre_codes_in_range.fn (F := Ideal) X G W R sc bi (ix2 o v)
      = IntOp.andi (IntOp.cmpi .sge (codes G (ix2 o ⟨4 + v.val, by omega⟩)) 0#32)
          (IntOp.cmpi .slt (codes G (ix2 o ⟨4 + v.val, by omega⟩)) 32768#32) := by
  rw [codes_at]
  pointwise [Cert.Pre_codes_in_range.fn]

/-- Under the precondition every code looked up is below 32768. -/
theorem codes_lt (X : FVec Ideal Cert.Pre_codes_in_range.S96x1x2560 .bf16) (G : IVec Cert.Pre_codes_in_range.S80x40x5x8x128 32)
    (W : IVec Cert.Pre_codes_in_range.S512x4 32) (R : IVec Cert.Pre_codes_in_range.S64x4 32) (sc bi : FVec Ideal Cert.Pre_codes_in_range.S2560 .f32)
    (hp : Cert.Pre_codes_in_range.fn (F := Ideal) X G W R sc bi = fun _ => 1#1) (o : Fin 10240) (v : Fin 316) :
    (codes G (ix2 o ⟨4 + v.val, by omega⟩)).toNat < 32768 :=
  range_of_bits _ ((pre_bits X G W R sc bi o v).symm.trans (congrFun hp _))

end Cert.KernelIdeal.Model

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_codes_in_range
public import proofs.«01_k».proof.Proof.Gen.Gather
public import proofs.«01_k».proof.Proof.Gen.Gather.Skeleton
public import proofs.«01_k».proof.Proof.Gen.GatherReference
public import proofs.«01_k».proof.Proof.GatherLaunch
public import proofs.«01_k».proof.Proof.GatherRef
public import proofs.«01_k».proof.Proof.KernelRun
public import proofs.«01_k».proof.Proof.Agree
public import proofs.«01_k».proof.Proof.Range
public import Idealize.ShloMosaic.Lib.Bf16Pair
public import Idealize.ShloMosaic.Lib.Claim
public import Idealize.ShloMosaic.Adequacy
public import Idealize.ShloMosaic.Init

@[expose] public section

noncomputable section

namespace Cert.Proof

open Idealize.ShloMosaic Idealize.SL.Sem Cert.Kernel Cert.KernelIdeal.Model

/-- Where the codes are in range, kernel and reference end with the same result. -/
theorem values_agree : Cert.algebraic_KernelIdeal_ReferenceIdeal_pre_codes_in_range := by
  pair_intro
  · run_from Cert.KernelIdeal.Gen.run_main m g
    all_goals
      simp only [Cert.KernelIdeal.Gen.hostOps0, Cert.KernelIdeal.Gen.hostOps0_1, Cert.KernelIdeal.Gen.hostOps0_2, List.flatten_cons,
        List.flatten_nil, List.append_nil, List.cons_append, List.nil_append]
      entry_read
      rfl
  · run_from Cert.ReferenceIdeal.Value.run m' g'
    have hc := codes_lt _ _ _ _ _ _ (hpre c)
    obtain ⟨h0, h1, h2, h3, h4, h5⟩ := hagree c
    refine Eq.trans ?_ (Cert.KernelIdeal.Gen.final m c (inRange _ hc)).symm
    rw [Cert.ReferenceIdeal.Value.res_eq, h0, h1, h2, h3, h4, h5]
    exact (agree _ _ _ _ _ _ hc).symm

/-- The gather and its reference end with the same words. -/
theorem gather_agrees : Cert.bitexact_Gather_GatherReference := fun m g m' g' _ hagree =>
  ⟨fun c => Cert.GatherProof.Gm m c,
    (θ_run Cert.Gather.defs _ _).mono (fun _ h => h.1) (Cert.GatherProof.run_main (F := Bits) m g),
    (θ_run Cert.GatherReference.defs _ _).mono
      (fun _ h c => ⟨(h c).1.trans (congrArg₂ Cert.GatherProof.G (hagree c).1 (congrArg₂ Cert.GatherProof.table (hagree c).2.1 (hagree c).2.2)), (h c).2⟩)
      (Cert.GatherProof.reference_run m' g')⟩

theorem claim : Cert.Claim := ⟨Cert.Kernel.Gen.facts, Cert.KernelIdeal.Gen.facts, Cert.ReferenceIdeal.Gen.facts, Cert.Gather.Gen.facts, Cert.GatherReference.Gen.facts, Cert.Pre_codes_in_range.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ),
  Cert.GatherProof.quiescent,
  fun m ρ _ => (θ_run Cert.GatherReference.defs _ _).mono
    (fun r h => ⟨fun c => (h c).2, Idealize.ShloMosaic.sem_eq_zero_of_no_sems (by decide) r.2⟩)
    (Cert.GatherProof.reference_run m ρ),
  ⟨IdealRules.bf16_pair.packStatement _, IdealRules.bf16_pair.statement _ _ (by decide)⟩,
  values_agree,
  gather_agrees⟩

end Cert.Proof

end
